-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_query [hPre_finite_query : Cert.Pre_finite_query.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_query.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite_query.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_finite_query.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.1 = (fun _ => 1#1)
    ∧ (Cert.Pre_finite_query.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_query [hPre_finite_query : Cert.Pre_finite_query.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_query.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite_query.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_finite_query.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.1 = (fun _ => 1#1)
    ∧ (Cert.Pre_finite_query.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_query [hKernel5Ideal : Cert.Kernel5Ideal.Facts] [hPre_finite_query : Cert.Pre_finite_query.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_query m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_query [hReference5Ideal : Cert.Reference5Ideal.Facts] [hPre_finite_query : Cert.Pre_finite_query.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_query m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "mask" .f32 0xF149F2CA#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v91) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite_query [hKernel5Ideal : Cert.Kernel5Ideal.Facts] [hReference5Ideal : Cert.Reference5Ideal.Facts] [hPre_finite_query : Cert.Pre_finite_query.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_query m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v6) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v45) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v17) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v17) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v9)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v9) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v18) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v5_0)) (v1 : (c : Dev Cert.Kernel14Ideal.nD) → Buf (Elt Ideal) ((c.tc : Thread Cert.Kernel14Ideal.nD Cert.Kernel14Ideal.τ).loc Cert.Kernel14Ideal.main_v7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5_0) = v0 c
          ∧ r.2.mem ((c.tc : Thread Cert.Kernel14Ideal.nD Cert.Kernel14Ideal.τ).loc Cert.Kernel14Ideal.main_v7) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v58) = v0 c
          ∧ r.2.mem ((c.tc : Thread Cert.Reference14Ideal.nD Cert.Reference14Ideal.τ).loc Cert.Reference14Ideal.main_v41) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite_query : Cert.Pre_finite_query.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_query (hKernel5Ideal := hKernel5Ideal) (hPre_finite_query := hPre_finite_query)
    ∧ quiescent_Reference5Ideal (hReference5Ideal := hReference5Ideal)
    ∧ quiescent_Reference5Ideal_pre_finite_query (hReference5Ideal := hReference5Ideal) (hPre_finite_query := hPre_finite_query)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_query (hKernel5Ideal := hKernel5Ideal) (hReference5Ideal := hReference5Ideal) (hPre_finite_query := hPre_finite_query)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S16x2048x14336 : Shape := ⟨3, ![16, 2048, 14336]⟩
abbrev S2x16x2048x1024 : Shape := ⟨4, ![2, 16, 2048, 1024]⟩
abbrev S4x64 : Shape := ⟨2, ![4, 64]⟩
abbrev S128 : Shape := ⟨1, ![128]⟩
abbrev S1x16x2048x1024 : Shape := ⟨4, ![1, 16, 2048, 1024]⟩
abbrev S16x2048x1024 : Shape := ⟨3, ![16, 2048, 1024]⟩
abbrev S_ : Shape := ⟨0, ![]⟩

class Facts : Prop where
  slices_S2x16x2048x1024_S1x16x2048x1024_0_0_0_0 : S2x16x2048x1024.Slices ![0, 0, 0, 0] S1x16x2048x1024
  shapeCasts_S1x16x2048x1024_S16x2048x1024 : S1x16x2048x1024.ShapeCasts S16x2048x1024
  bcast_S_S16x2048x1024 : S_.BroadcastsInDim S16x2048x1024 (![] : Fin 0 → Fin S16x2048x1024.rank)
  bcast_S_S4x64 : S_.BroadcastsInDim S4x64 (![] : Fin 0 → Fin S4x64.rank)

variable [Facts]

def fn {F : FTy → Type} [FloatOps F] (main_arg0 : FVec F S16x2048x14336 .f32) (main_arg1 : FVec F S2x16x2048x1024 .f32) (main_arg2 : FVec F S2x16x2048x1024 .f32) (main_arg3 : FVec F S4x64 .f32) (main_arg4 : FVec F S128 .f32) : IVec S16x2048x1024 1 × IVec S4x64 1 :=
  let main_v0 : FVec F S1x16x2048x1024 .f32 := (extractStridedSlice S1x16x2048x1024 ![0, 0, 0, 0] · slices_S2x16x2048x1024_S1x16x2048x1024_0_0_0_0) main_arg2
  let main_v1 : FVec F S16x2048x1024 .f32 := shapeCast S16x2048x1024 main_v0 shapeCasts_S1x16x2048x1024_S16x2048x1024
  let main_v2 : FVec F S16x2048x1024 .f32 := Host.absf main_v1
  let main_cst : FVec F S_ .f32 := constant S_ .f32 0x7F800000#32
  let main_v3 : FVec F S16x2048x1024 .f32 := broadcastInDim S16x2048x1024 ![] bcast_S_S16x2048x1024 main_cst
  let main_v4 : IVec S16x2048x1024 1 := cmpf .olt main_v2 main_v3
  let main_v5 : FVec F S4x64 .f32 := Host.absf main_arg3
  let main_cst_0 : FVec F S_ .f32 := constant S_ .f32 0x7F800000#32
  let main_v6 : FVec F S4x64 .f32 := broadcastInDim S4x64 ![] bcast_S_S4x64 main_cst_0
  let main_v7 : IVec S4x64 1 := cmpf .olt main_v5 main_v6
  (main_v4, main_v7)
-- ==== Pre_finite_query.lean ====
abbrev S16x2048x1024 : Shape := ⟨3, ![16, 2048, 1024]⟩
abbrev S16x256x1024 : Shape := ⟨3, ![16, 256, 1024]⟩
abbrev S1024 : Shape := ⟨1, ![1024]⟩
abbrev S1024x1024 : Shape := ⟨2, ![1024, 1024]⟩
abbrev S_ : Shape := ⟨0, ![]⟩

class Facts : Prop where
  bcast_S_S16x2048x1024 : S_.BroadcastsInDim S16x2048x1024 (![] : Fin 0 → Fin S16x2048x1024.rank)
  bcast_S_S16x256x1024 : S_.BroadcastsInDim S16x256x1024 (![] : Fin 0 → Fin S16x256x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S16x2048x1024 .f32) (main_arg1 : FVec F S16x256x1024 .f32) (main_arg2 : FVec F S16x256x1024 .f32) (main_arg3 : FVec F S1024 .f32) (main_arg4 : FVec F S1024x1024 .f32) (main_arg5 : FVec F S1024x1024 .f32) : IVec S16x2048x1024 1 × IVec S16x256x1024 1 × IVec S1024 1 × IVec S1024x1024 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : FVec F S16x256x1024 .f32 := Host.absf main_arg1
  let main_cst_0 : FVec F S_ .f32 := constant S_ .f32 0x7F800000#32
  let main_v4 : FVec F S16x256x1024 .f32 := broadcastInDim S16x256x1024 ![] bcast_S_S16x256x1024 main_cst_0
  let main_v5 : IVec S16x256x1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  (main_v2, main_v5, main_v8, main_v11)
-- ==== Kernel.lean ====
abbrev S16x2048x1024 : Shape := ⟨3, ![16, 2048, 1024]⟩
abbrev S1024 : Shape := ⟨1, ![1024]⟩
abbrev S1024x16416 : Shape := ⟨2, ![1024, 16416]⟩
abbrev S1024x5120 : Shape := ⟨2, ![1024, 5120]⟩
abbrev S1024x6144 : Shape := ⟨2, ![1024, 6144]⟩
abbrev S1024x3072 : Shape := ⟨2, ![1024, 3072]⟩
abbrev S1024x14336 : Shape := ⟨2, ![1024, 14336]⟩
abbrev S32768x1024 : Shape := ⟨2, ![32768, 1024]⟩
abbrev S1x1024 : Shape := ⟨2, ![1, 1024]⟩
abbrev S32768x14336 : Shape := ⟨2, ![32768, 14336]⟩
abbrev S1024x1024 : Shape := ⟨2, ![1024, 1024]⟩
abbrev S1024x1 : Shape := ⟨2, ![1024, 1]⟩

abbrev nBuf : Space → Nat
  | .hbm => 11
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x16416, .f32⟩
  | .hbm, ⟨3, _⟩ => ⟨S1024x5120, .f32⟩
  | .hbm, ⟨4, _⟩ => ⟨S1024x6144, .f32⟩
  | .hbm, ⟨5, _⟩ => ⟨S1024x3072, .f32⟩
  | .hbm, ⟨6, _⟩ => ⟨S1024x14336, .f32⟩
  | .hbm, ⟨7, _⟩ => ⟨S1024x14336, .bf16⟩
  | .hbm, ⟨8, _⟩ => ⟨S32768x1024, .f32⟩
  | .hbm, ⟨9, _⟩ => ⟨S1x1024, .f32⟩
  | .hbm, ⟨10, _⟩ => ⟨S32768x14336, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x2048x1024 : Shape := ⟨3, ![16, 2048, 1024]⟩
abbrev S1024 : Shape := ⟨1, ![1024]⟩
abbrev S1024x16416 : Shape := ⟨2, ![1024, 16416]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x16416 : Shape := ⟨3, ![16, 2048, 16416]⟩
abbrev S16x2048x2048 : Shape := ⟨3, ![16, 2048, 2048]⟩
abbrev S16x2048x4096 : Shape := ⟨3, ![16, 2048, 4096]⟩
abbrev S16x2048x32 : Shape := ⟨3, ![16, 2048, 32]⟩
abbrev S16x2048x3072 : Shape := ⟨3, ![16, 2048, 3072]⟩
abbrev S16x2048x14336 : Shape := ⟨3, ![16, 2048, 14336]⟩
abbrev S32768x14336 : Shape := ⟨2, ![32768, 14336]⟩

abbrev nBuf : Space → Nat
  | .hbm => 33
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x16416, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x16416, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x2048, .f32⟩
  | .hbm, ⟨28, _⟩ => ⟨S16x2048x4096, .f32⟩
  | .hbm, ⟨29, _⟩ => ⟨S16x2048x32, .f32⟩
  | .hbm, ⟨30, _⟩ => ⟨S16x2048x3072, .f32⟩
  | .hbm, ⟨31, _⟩ => ⟨S16x2048x14336, .f32⟩
  | .hbm, ⟨32, _⟩ => ⟨S32768x14336, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel2.lean ====
abbrev S16x2048x14336 : Shape := ⟨3, ![16, 2048, 14336]⟩
abbrev S2x16x2048x1024 : Shape := ⟨4, ![2, 16, 2048, 1024]⟩
abbrev S4x64 : Shape := ⟨2, ![4, 64]⟩
abbrev S128 : Shape := ⟨1, ![128]⟩
abbrev S8 : Shape := ⟨1, ![8]⟩
abbrev S_ : Shape := ⟨0, ![]⟩
abbrev S1x128 : Shape := ⟨2, ![1, 128]⟩
abbrev S16x2048x1024 : Shape := ⟨3, ![16, 2048, 1024]⟩
abbrev S1x512x128 : Shape := ⟨3, ![1, 512, 128]⟩
abbrev S1x1x2048x128 : Shape := ⟨4, ![1, 1, 2048, 128]⟩
abbrev S2048x128 : Shape := ⟨2, ![2048, 128]⟩
abbrev S2048x256 : Shape := ⟨2, ![2048, 256]⟩
abbrev S1024x512 : Shape := ⟨2, ![1024, 512]⟩
abbrev S4x1024x512 : Shape := ⟨3, ![4, 1024, 512]⟩
abbrev S1024x128 : Shape := ⟨2, ![1024, 128]⟩
abbrev S1024x256 : Shape := ⟨2, ![1024, 256]⟩
abbrev S1 : Shape := ⟨1, ![1]⟩
abbrev S512x128 : Shape := ⟨2, ![512, 128]⟩
abbrev S1x1024x512 : Shape := ⟨3, ![1, 1024, 512]⟩
abbrev S1024 : Shape := ⟨1, ![1024]⟩
abbrev S1024x1 : Shape := ⟨2, ![1024, 1]⟩
abbrev S512x256 : Shape := ⟨2, ![512, 256]⟩
abbrev S1x64 : Shape := ⟨2, ![1, 64]⟩
abbrev S1x1 : Shape := ⟨2, ![1, 1]⟩
abbrev S512 : Shape := ⟨1, ![512]⟩
abbrev S512x1 : Shape := ⟨2, ![512, 1]⟩

abbrev nBuf : Space → Nat
  | .hbm => 21
  | .vmem => 17
  | .smem => 1
  | _ => 0

abbrev bufTy : (tb : Table) → Fin (tcTables nBuf tb) → BufTy
  | .hbm, ⟨0, _⟩ => ⟨S16x2048x14336, .f32⟩
  | .hbm, ⟨1, _⟩ => ⟨S2x16x2048x1024, .f32⟩
  | .hbm, ⟨2, _⟩ => ⟨S2x16x2048x1024, .f32⟩
  | .hbm, ⟨3, _⟩ => ⟨S4x64, .f32⟩
  | .hbm, ⟨4, _⟩ => ⟨S128, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S1x128, .f32⟩
  | .hbm, ⟨20, _⟩ => ⟨S16x2048x1024, .f32⟩
  | .local _ .vmem, ⟨0, _⟩ => ⟨S1x512x128, .f32⟩
  | .local _ .vmem, ⟨1, _⟩ => ⟨S1x512x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S4x64, .f32⟩
  | .local _ .vmem, ⟨7, _⟩ => ⟨S1x128, .f32⟩
  | .local _ .vmem, ⟨8, _⟩ => ⟨S1x512x128, .f32⟩
  | .local _ .vmem, ⟨9, _⟩ => ⟨S1x512x128, .f32⟩
  | .local _ .vmem, ⟨10, _⟩ => ⟨S2048x128, .bf16⟩
  | .local _ .vmem, ⟨11, _⟩ => ⟨S2048x256, .bf16⟩
  | .local _ .vmem, ⟨12, _⟩ => ⟨S1024x512, .f32⟩
  | .local _ .vmem, ⟨13, _⟩ => ⟨S1024x512, .f32⟩
  | .local _ .vmem, ⟨14, _⟩ => ⟨S4x1024x512, .f32⟩
  | .local _ .vmem, ⟨15, _⟩ => ⟨S1024x128, .f32⟩
  | .local _ .vmem, ⟨16, _⟩ => ⟨S1024x256, .f32⟩
  | .local _ .smem, ⟨0, _⟩ => ⟨S8, .f32⟩
  | _, _ => ⟨S16x2048x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![16, 8, 4], ![false, false, false]⟩

def k0_off1 (i : grid0.Coords) : Fin 1 → Nat :=
  let arg1 : BitVec 32 := BitVec.ofNat 32 (i 1).val
  let v0 : Index := Scalar.indexCast arg1
  ![v0.toNat]
@[reducible] def k0_t1_loop (i : grid0.Coords) : Scf.Loop 32 :=
  let c0_i32_11 : BitVec 32 := 0#32
  let arg2 : BitVec 32 := BitVec.ofNat 32 (i 2).val
  let v25 : BitVec 32 := Scalar.subi arg2 c0_i32_11
  let c1_i32 : BitVec 32 := 1#32
  let v27 : BitVec 32 := Scalar.divsi v25 c1_i32
  let v28 : BitVec 32 := Scalar.muli v27 c1_i32
  let v29 : BitVec 32 := Scalar.addi c0_i32_11 v28
  let c1_i32_12 : BitVec 32 := 1#32
  ⟨c0_i32_11, v29, c1_i32_12⟩
def k0_mult1 (i : grid0.Coords) (k0_t1 : Fin (k0_t1_loop i).trips) : BitVec 32 :=
  let c0_i32_11 : BitVec 32 := 0#32
  let c1_i32_12 : BitVec 32 := 1#32
  let arg17 : BitVec 32 := Scf.iv c0_i32_11 c1_i32_12 k0_t1
  let c512_i32_56 : BitVec 32 := 512#32
  let v121 : BitVec 32 := Scalar.muli arg17 c512_i32_56
  v121
def k0_off2 (i : grid0.Coords) (k0_t1 : Fin (k0_t1_loop i).trips) : Fin 2 → Nat :=
  let c0_i32_11 : BitVec 32 := 0#32
  let c1_i32_12 : BitVec 32 := 1#32
  let arg17 : BitVec 32 := Scf.iv c0_i32_11 c1_i32_12 k0_t1
  let c512_i32_56 : BitVec 32 := 512#32
  let v121 : BitVec 32 := Scalar.muli arg17 c512_i32_56
  let v122 : BitVec 32 := v121
  let v123 : Index := Scalar.indexCast v122
  let c0_57 : Index := 0#32
  ![v123.toNat, 0]
def k0_off3 (i : grid0.Coords) (k0_t1 : Fin (k0_t1_loop i).trips) : Fin 3 → Nat :=
  let c0_i32_11 : BitVec 32 := 0#32
  let c1_i32_12 : BitVec 32 := 1#32
  let arg17 : BitVec 32 := Scf.iv c0_i32_11 c1_i32_12 k0_t1
  let v127 : Index := Scalar.indexCast arg17
  let c0_59 : Index := 0#32
  let c0_60 : Index := 0#32
  ![v127.toNat, 0, 0]
@[reducible] def k0_t2_loop (i : grid0.Coords) : Scf.Loop 32 :=
  let c0_i32_11 : BitVec 32 := 0#32
  let arg2 : BitVec 32 := BitVec.ofNat 32 (i 2).val
  let v25 : BitVec 32 := Scalar.subi arg2 c0_i32_11
  let c1_i32 : BitVec 32 := 1#32
  let v27 : BitVec 32 := Scalar.divsi v25 c1_i32
  let v28 : BitVec 32 := Scalar.muli v27 c1_i32
  let v29 : BitVec 32 := Scalar.addi c0_i32_11 v28
  let v26 : BitVec 32 := Scalar.addi c0_i32_11 v25
  let c1_i32_13 : BitVec 32 := 1#32
  ⟨v29, v26, c1_i32_13⟩
def k0_mult2 (i : grid0.Coords) (k0_t2 : Fin (k0_t2_loop i).trips) : BitVec 32 :=
  let c0_i32_11 : BitVec 32 := 0#32
  let arg2 : BitVec 32 := BitVec.ofNat 32 (i 2).val
  let v25 : BitVec 32 := Scalar.subi arg2 c0_i32_11
  let c1_i32 : BitVec 32 := 1#32
  let v27 : BitVec 32 := Scalar.divsi v25 c1_i32
  let v28 : BitVec 32 := Scalar.muli v27 c1_i32
  let v29 : BitVec 32 := Scalar.addi c0_i32_11 v28
  let c1_i32_13 : BitVec 32 := 1#32
  let arg17 : BitVec 32 := Scf.iv v29 c1_i32_13 k0_t2
  let c512_i32_56 : BitVec 32 := 512#32
  let v121 : BitVec 32 := Scalar.muli arg17 c512_i32_56
  v121
def k0_off4 (i : grid0.Coords) (k0_t2 : Fin (k0_t2_loop i).trips) : Fin 2 → Nat :=
  let c0_i32_11 : BitVec 32 := 0#32
  let arg2 : BitVec 32 := BitVec.ofNat 32 (i 2).val
  let v25 : BitVec 32 := Scalar.subi arg2 c0_i32_11
  let c1_i32 : BitVec 32 := 1#32
  let v27 : BitVec 32 := Scalar.divsi v25 c1_i32
  let v28 : BitVec 32 := Scalar.muli v27 c1_i32
  let v29 : BitVec 32 := Scalar.addi c0_i32_11 v28
  let c1_i32_13 : BitVec 32 := 1#32
  let arg17 : BitVec 32 := Scf.iv v29 c1_i32_13 k0_t2
  let c512_i32_56 : BitVec 32 := 512#32
  let v121 : BitVec 32 := Scalar.muli arg17 c512_i32_56
  let v122 : BitVec 32 := v121
  let v123 : Index := Scalar.indexCast v122
  let c0_57 : Index := 0#32
  ![v123.toNat, 0]
def k0_off5 (i : grid0.Coords) (k0_t2 : Fin (k0_t2_loop i).trips) : Fin 3 → Nat :=
  let c0_i32_11 : BitVec 32 := 0#32
  let arg2 : BitVec 32 := BitVec.ofNat 32 (i 2).val
  let v25 : BitVec 32 := Scalar.subi arg2 c0_i32_11
  let c1_i32 : BitVec 32 := 1#32
  let v27 : BitVec 32 := Scalar.divsi v25 c1_i32
  let v28 : BitVec 32 := Scalar.muli v27 c1_i32
  let v29 : BitVec 32 := Scalar.addi c0_i32_11 v28
  let c1_i32_13 : BitVec 32 := 1#32
  let arg17 : BitVec 32 := Scf.iv v29 c1_i32_13 k0_t2
  let v127 : Index := Scalar.indexCast arg17
  let c0_59 : Index := 0#32
  let c0_60 : Index := 0#32
  ![v127.toNat, 0, 0]
def k0_mult3 (i : grid0.Coords) : BitVec 32 :=
  let arg2 : BitVec 32 := BitVec.ofNat 32 (i 2).val
  let c512_i32 : BitVec 32 := 512#32
  let v31 : BitVec 32 := Scalar.muli arg2 c512_i32
  v31
def k0_off6 (i : grid0.Coords) : Fin 2 → Nat :=
  let arg2 : BitVec 32 := BitVec.ofNat 32 (i 2).val
  let c512_i32 : BitVec 32 := 512#32
  let v31 : BitVec 32 := Scalar.muli arg2 c512_i32
  let v32 : BitVec 32 := v31
  let v33 : Index := Scalar.indexCast v32
  let c0_16 : Index := 0#32
  ![v33.toNat, 0]
def k0_off7 (i : grid0.Coords) : Fin 3 → Nat :=
  let arg2 : BitVec 32 := BitVec.ofNat 32 (i 2).val
  let v37 : Index := Scalar.indexCast arg2
  let c0_18 : Index := 0#32
  let c0_19 : Index := 0#32
  ![v37.toNat, 0, 0]
@[reducible] def k0_t3_loop (i : grid0.Coords) : Scf.Loop 32 :=
  let c0_i32_32 : BitVec 32 := 0#32
  let arg2 : BitVec 32 := BitVec.ofNat 32 (i 2).val
  let c1_i32_30 : BitVec 32 := 1#32
  let v62 : BitVec 32 := Scalar.addi arg2 c1_i32_30
  let v63 : BitVec 32 := Scalar.subi v62 c0_i32_32
  let c1_i32_33 : BitVec 32 := 1#32
  let v65 : BitVec 32 := Scalar.divsi v63 c1_i32_33
  let v66 : BitVec 32 := Scalar.muli v65 c1_i32_33
  let v67 : BitVec 32 := Scalar.addi c0_i32_32 v66
  let c1_i32_34 : BitVec 32 := 1#32
  ⟨c0_i32_32, v67, c1_i32_34⟩
def k0_mult4 (i : grid0.Coords) (k0_t3 : Fin (k0_t3_loop i).trips) : BitVec 32 :=
  let c0_i32_32 : BitVec 32 := 0#32
  let c1_i32_34 : BitVec 32 := 1#32
  let arg17 : BitVec 32 := Scf.iv c0_i32_32 c1_i32_34 k0_t3
  let c512_i32_53 : BitVec 32 := 512#32
  let v114 : BitVec 32 := Scalar.muli arg17 c512_i32_53
  v114
def k0_off8 (i : grid0.Coords) (k0_t3 : Fin (k0_t3_loop i).trips) : Fin 3 → Nat :=
  let c0_i32_32 : BitVec 32 := 0#32
  let c1_i32_34 : BitVec 32 := 1#32
  let arg17 : BitVec 32 := Scf.iv c0_i32_32 c1_i32_34 k0_t3
  let v116 : Index := Scalar.indexCast arg17
  let c0_54 : Index := 0#32
  let c0_55 : Index := 0#32
  ![v116.toNat, 0, 0]
def k0_off9 (i : grid0.Coords) (k0_t3 : Fin (k0_t3_loop i).trips) : Fin 2 → Nat :=
  let c0_i32_32 : BitVec 32 := 0#32
  let c1_i32_34 : BitVec 32 := 1#32
  let arg17 : BitVec 32 := Scf.iv c0_i32_32 c1_i32_34 k0_t3
  let c512_i32_53 : BitVec 32 := 512#32
  let v114 : BitVec 32 := Scalar.muli arg17 c512_i32_53
  let v115 : BitVec 32 := v114
  let v137 : Index := Scalar.indexCast v115
  let c0_58 : Index := 0#32
  ![v137.toNat, 0]
@[reducible] def k0_t4_loop (i : grid0.Coords) : Scf.Loop 32 :=
  let c0_i32_32 : BitVec 32 := 0#32
  let arg2 : BitVec 32 := BitVec.ofNat 32 (i 2).val
  let c1_i32_30 : BitVec 32 := 1#32
  let v62 : BitVec 32 := Scalar.addi arg2 c1_i32_30
  let v63 : BitVec 32 := Scalar.subi v62 c0_i32_32
  let c1_i32_33 : BitVec 32 := 1#32
  let v65 : BitVec 32 := Scalar.divsi v63 c1_i32_33
  let v66 : BitVec 32 := Scalar.muli v65 c1_i32_33
  let v67 : BitVec 32 := Scalar.addi c0_i32_32 v66
  let v64 : BitVec 32 := Scalar.addi c0_i32_32 v63
  let c1_i32_35 : BitVec 32 := 1#32
  ⟨v67, v64, c1_i32_35⟩
def k0_mult5 (i : grid0.Coords) (k0_t4 : Fin (k0_t4_loop i).trips) : BitVec 32 :=
  let c0_i32_32 : BitVec 32 := 0#32
  let arg2 : BitVec 32 := BitVec.ofNat 32 (i 2).val
  let c1_i32_30 : BitVec 32 := 1#32
  let v62 : BitVec 32 := Scalar.addi arg2 c1_i32_30
  let v63 : BitVec 32 := Scalar.subi v62 c0_i32_32
  let c1_i32_33 : BitVec 32 := 1#32
  let v65 : BitVec 32 := Scalar.divsi v63 c1_i32_33
  let v66 : BitVec 32 := Scalar.muli v65 c1_i32_33
  let v67 : BitVec 32 := Scalar.addi c0_i32_32 v66
  let c1_i32_35 : BitVec 32 := 1#32
  let arg17 : BitVec 32 := Scf.iv v67 c1_i32_35 k0_t4
  let c512_i32_53 : BitVec 32 := 512#32
  let v114 : BitVec 32 := Scalar.muli arg17 c512_i32_53
  v114
def k0_off10 (i : grid0.Coords) (k0_t4 : Fin (k0_t4_loop i).trips) : Fin 3 → Nat :=
  let c0_i32_32 : BitVec 32 := 0#32
  let arg2 : BitVec 32 := BitVec.ofNat 32 (i 2).val
  let c1_i32_30 : BitVec 32 := 1#32
  let v62 : BitVec 32 := Scalar.addi arg2 c1_i32_30
  let v63 : BitVec 32 := Scalar.subi v62 c0_i32_32
  let c1_i32_33 : BitVec 32 := 1#32
  let v65 : BitVec 32 := Scalar.divsi v63 c1_i32_33
  let v66 : BitVec 32 := Scalar.muli v65 c1_i32_33
  let v67 : BitVec 32 := Scalar.addi c0_i32_32 v66
  let c1_i32_35 : BitVec 32 := 1#32
  let arg17 : BitVec 32 := Scf.iv v67 c1_i32_35 k0_t4
  let v116 : Index := Scalar.indexCast arg17
  let c0_54 : Index := 0#32
  let c0_55 : Index := 0#32
  ![v116.toNat, 0, 0]
def k0_off11 (i : grid0.Coords) (k0_t4 : Fin (k0_t4_loop i).trips) : Fin 2 → Nat :=
  let c0_i32_32 : BitVec 32 := 0#32
  let arg2 : BitVec 32 := BitVec.ofNat 32 (i 2).val
  let c1_i32_30 : BitVec 32 := 1#32
  let v62 : BitVec 32 := Scalar.addi arg2 c1_i32_30
  let v63 : BitVec 32 := Scalar.subi v62 c0_i32_32
  let c1_i32_33 : BitVec 32 := 1#32
  let v65 : BitVec 32 := Scalar.divsi v63 c1_i32_33
  let v66 : BitVec 32 := Scalar.muli v65 c1_i32_33
  let v67 : BitVec 32 := Scalar.addi c0_i32_32 v66
  let c1_i32_35 : BitVec 32 := 1#32
  let arg17 : BitVec 32 := Scf.iv v67 c1_i32_35 k0_t4
  let c512_i32_53 : BitVec 32 := 512#32
  let v114 : BitVec 32 := Scalar.muli arg17 c512_i32_53
  let v115 : BitVec 32 := v114
  let v137 : Index := Scalar.indexCast v115
  let c0_58 : Index := 0#32
  ![v137.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, arg2.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel2Ideal.lean ====
variable {F : FTy → Type} [FloatOps F] [Named F]
def κ : String → Option EReal := fun
  | "mask" => some ⊥
  | _ => none
-- ==== Reference2Ideal.lean ====
abbrev S16x2048x14336 : Shape := ⟨3, ![16, 2048, 14336]⟩
abbrev S2x16x2048x1024 : Shape := ⟨4, ![2, 16, 2048, 1024]⟩
abbrev S4x64 : Shape := ⟨2, ![4, 64]⟩
abbrev S128 : Shape := ⟨1, ![128]⟩
abbrev S8 : Shape := ⟨1, ![8]⟩
abbrev S_ : Shape := ⟨0, ![]⟩
abbrev S1x64 : Shape := ⟨2, ![1, 64]⟩
abbrev S64 : Shape := ⟨1, ![64]⟩
abbrev S16x2048x1024 : Shape := ⟨3, ![16, 2048, 1024]⟩
abbrev S16x2048x8x2x64 : Shape := ⟨5, ![16, 2048, 8, 2, 64]⟩
abbrev S1x16x2048x1024 : Shape := ⟨4, ![1, 16, 2048, 1024]⟩
abbrev S16x2048x8x128 : Shape := ⟨4, ![16, 2048, 8, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x8x2x2048x2048 : Shape := ⟨5, ![16, 8, 2, 2048, 2048]⟩
abbrev S8x1x1 : Shape := ⟨3, ![8, 1, 1]⟩
abbrev S1x2048x2048 : Shape := ⟨3, ![1, 2048, 2048]⟩
abbrev S8x2048x2048 : Shape := ⟨3, ![8, 2048, 2048]⟩
abbrev S1x8x1x2048x2048 : Shape := ⟨5, ![1, 8, 1, 2048, 2048]⟩
abbrev S16x8x2x2048 : Shape := ⟨4, ![16, 8, 2, 2048]⟩
abbrev S16x8x2x2048x1 : Shape := ⟨5, ![16, 8, 2, 2048, 1]⟩
abbrev S16x8x1x2048x2048 : Shape := ⟨5, ![16, 8, 1, 2048, 2048]⟩
abbrev S16x8x2048x2048 : Shape := ⟨4, ![16, 8, 2048, 2048]⟩
abbrev S16x8x128x2048 : Shape := ⟨4, ![16, 8, 128, 2048]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩

abbrev nBuf : Space → Nat
  | .hbm => 117
  | .vmem => 0
  | .smem => 0
  | _ => 0

abbrev bufTy : (tb : Table) → Fin (tcTables nBuf tb) → BufTy
  | .hbm, ⟨0, _⟩ => ⟨S16x2048x14336, .f32⟩
  | .hbm, ⟨1, _⟩ => ⟨S2x16x2048x1024, .f32⟩
  | .hbm, ⟨2, _⟩ => ⟨S2x16x2048x1024, .f32⟩
  | .hbm, ⟨3, _⟩ => ⟨S4x64, .f32⟩
  | .hbm, ⟨4, _⟩ => ⟨S128, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S16x2048x1024, .f32⟩
  | .hbm, ⟨39, _⟩ => ⟨S16x2048x8x2x64, .f32⟩
  | .hbm, ⟨40, _⟩ => ⟨S1x16x2048x1024, .f32⟩
  | .hbm, ⟨41, _⟩ => ⟨S16x2048x1024, .f32⟩
  | .hbm, ⟨42, _⟩ => ⟨S16x2048x8x2x64, .f32⟩
  | .hbm, ⟨43, _⟩ => ⟨S1x16x2048x1024, .f32⟩
  | .hbm, ⟨44, _⟩ => ⟨S16x2048x1024, .f32⟩
  | .hbm, ⟨45, _⟩ => ⟨S16x2048x8x128, .f32⟩
  | .hbm, ⟨46, _⟩ => ⟨S2048, .i32⟩
  | .hbm, ⟨47, _⟩ => ⟨S2048x1, .i32⟩
  | .hbm, ⟨48, _⟩ => ⟨S1x2048, .i32⟩
  | .hbm, ⟨49, _⟩ => ⟨S2048x2048, .i32⟩
  | .hbm, ⟨50, _⟩ => ⟨S2048x2048, .i32⟩
  | .hbm, ⟨51, _⟩ => ⟨S2048x2048, .i32⟩
  | .hbm, ⟨52, _⟩ => ⟨S16x8x2x2048x2048, .f32⟩
  | .hbm, ⟨53, _⟩ => ⟨S_, .f32⟩
  | .hbm, ⟨54, _⟩ => ⟨S16x8x2x2048x2048, .f32⟩
  | .hbm, ⟨55, _⟩ => ⟨S16x8x2x2048x2048, .f32⟩
  | .hbm, ⟨56, _⟩ => ⟨S_, .i32⟩
  | .hbm, ⟨57, _⟩ => ⟨S2048x2048, .i32⟩
  | .hbm, ⟨58, _⟩ => ⟨S2048x2048, .i1⟩
  | .hbm, ⟨59, _⟩ => ⟨S8x1x1, .f32⟩
  | .hbm, ⟨60, _⟩ => ⟨S8x1x1, .f32⟩
  | .hbm, ⟨61, _⟩ => ⟨S2048x2048, .f32⟩
  | .hbm, ⟨62, _⟩ => ⟨S1x2048x2048, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S_, .f32⟩
  | .hbm, ⟨67, _⟩ => ⟨S_, .f32⟩
  | .hbm, ⟨68, _⟩ => ⟨S8x2048x2048, .i1⟩
  | .hbm, ⟨69, _⟩ => ⟨S8x2048x2048, .f32⟩
  | .hbm, ⟨70, _⟩ => ⟨S8x2048x2048, .f32⟩
  | .hbm, ⟨71, _⟩ => ⟨S1x8x1x2048x2048, .f32⟩
  | .hbm, ⟨72, _⟩ => ⟨S16x8x2x2048x2048, .f32⟩
  | .hbm, ⟨73, _⟩ => ⟨S16x8x2x2048x2048, .f32⟩
  | .hbm, ⟨74, _⟩ => ⟨S_, .f32⟩
  | .hbm, ⟨75, _⟩ => ⟨S16x8x2x2048, .f32⟩
  | .hbm, ⟨76, _⟩ => ⟨S_, .f32⟩
  | .hbm, ⟨77, _⟩ => ⟨S16x8x2x2048, .f32⟩
  | .hbm, ⟨78, _⟩ => ⟨S16x8x2x2048, .f32⟩
  | .hbm, ⟨79, _⟩ => ⟨S16x8x2x2048x1, .f32⟩
  | .hbm, ⟨80, _⟩ => ⟨S16x8x2x2048x2048, .f32⟩
  | .hbm, ⟨81, _⟩ => ⟨S16x8x2x2048x2048, .f32⟩
  | .hbm, ⟨82, _⟩ => ⟨S16x8x2x2048x2048, .f32⟩
  | .hbm, ⟨83, _⟩ => ⟨S_, .f32⟩
  | .hbm, ⟨84, _⟩ => ⟨S16x8x2x2048, .f32⟩
  | .hbm, ⟨85, _⟩ => ⟨S16x8x2x2048x1, .f32⟩
  | .hbm, ⟨86, _⟩ => ⟨S16x8x2x2048x2048, .f32⟩
  | .hbm, ⟨87, _⟩ => ⟨S16x8x2x2048x2048, .f32⟩
  | .hbm, ⟨88, _⟩ => ⟨S16x8x1x2048x2048, .f32⟩
  | .hbm, ⟨89, _⟩ => ⟨S16x8x2048x2048, .f32⟩
  | .hbm, ⟨90, _⟩ => ⟨S16x8x1x2048x2048, .f32⟩
  | .hbm, ⟨91, _⟩ => ⟨S16x8x2048x2048, .f32⟩
  | .hbm, ⟨92, _⟩ => ⟨S16x8x2048x2048, .f32⟩
  | .hbm, ⟨93, _⟩ => ⟨S16x8x2048x2048, .f32⟩
  | .hbm, ⟨94, _⟩ => ⟨S16x8x2048x2048, .f32⟩
  | .hbm, ⟨95, _⟩ => ⟨S16x8x128x2048, .f32⟩
  | .hbm, ⟨96, _⟩ => ⟨S16x2048x8x128, .f32⟩
  | .hbm, ⟨97, _⟩ => ⟨S16x2048x8x128, .f32⟩
  | .hbm, ⟨98, _⟩ => ⟨S_, .f32⟩
  | .hbm, ⟨99, _⟩ => ⟨S16x2048x8, .f32⟩
  | .hbm, ⟨100, _⟩ => ⟨S16x2048x8x1, .f32⟩
  | .hbm, ⟨101, _⟩ => ⟨S_, .f32⟩
  | .hbm, ⟨102, _⟩ => ⟨S16x2048x8x1, .f32⟩
  | .hbm, ⟨103, _⟩ => ⟨S16x2048x8x1, .f32⟩
  | .hbm, ⟨104, _⟩ => ⟨S_, .f32⟩
  | .hbm, ⟨105, _⟩ => ⟨S16x2048x8x1, .f32⟩
  | .hbm, ⟨106, _⟩ => ⟨S16x2048x8x1, .f32⟩
  | .hbm, ⟨107, _⟩ => ⟨S16x2048x8x1, .f32⟩
  | .hbm, ⟨108, _⟩ => ⟨S16x2048x8x128, .f32⟩
  | .hbm, ⟨109, _⟩ => ⟨S16x2048x8x128, .f32⟩
  | .hbm, ⟨110, _⟩ => ⟨S1x1x1x128, .f32⟩
  | .hbm, ⟨111, _⟩ => ⟨S16x2048x8x128, .f32⟩
  | .hbm, ⟨112, _⟩ => ⟨S16x2048x8x128, .f32⟩
  | .hbm, ⟨113, _⟩ => ⟨S_, .f32⟩
  | .hbm, ⟨114, _⟩ => ⟨S16x2048x8x128, .f32⟩
  | .hbm, ⟨115, _⟩ => ⟨S16x2048x8x128, .f32⟩
  | .hbm, ⟨116, _⟩ => ⟨S16x2048x1024, .f32⟩
  | _, _ => ⟨S16x2048x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_c : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_11 : Ref sig .tc := ⟨.hbm, 98, rfl⟩
abbrev main_v77 : Ref sig .tc := ⟨.hbm, 99, rfl⟩
abbrev main_v78 : Ref sig .tc := ⟨.hbm, 100, rfl⟩
abbrev main_cst_12 : Ref sig .tc := ⟨.hbm, 101, rfl⟩
abbrev main_v79 : Ref sig .tc := ⟨.hbm, 102, rfl⟩
abbrev main_v80 : Ref sig .tc := ⟨.hbm, 103, rfl⟩
abbrev main_cst_13 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_14 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x2048 : Shape := ⟨3, ![16, 2048, 2048]⟩
abbrev S16x2048x14336 : Shape := ⟨3, ![16, 2048, 14336]⟩
abbrev S1024x1024 : Shape := ⟨2, ![1024, 1024]⟩
abbrev S2048x1024 : Shape := ⟨2, ![2048, 1024]⟩
abbrev S32768x1024 : Shape := ⟨2, ![32768, 1024]⟩
abbrev S32768x2048 : Shape := ⟨2, ![32768, 2048]⟩
abbrev S32768x14336 : Shape := ⟨2, ![32768, 14336]⟩
abbrev S256x1024 : Shape := ⟨2, ![256, 1024]⟩
abbrev S256x2048 : Shape := ⟨2, ![256, 2048]⟩

abbrev nBuf : Space → Nat
  | .hbm => 19
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x2048, .f32⟩
  | .hbm, ⟨4, _⟩ => ⟨S16x2048x14336, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S1024x1024, .bf16⟩
  | .hbm, ⟨10, _⟩ => ⟨S1024x1024, .bf16⟩
  | .hbm, ⟨11, _⟩ => ⟨S2048x1024, .bf16⟩
  | .hbm, ⟨12, _⟩ => ⟨S1024x1024, .bf16⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x2048, .f32⟩
  | .hbm, ⟨17, _⟩ => ⟨S32768x14336, .f32⟩
  | .hbm, ⟨18, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1024x1024, .bf16⟩
  | .local _ .vmem, ⟨15, _⟩ => ⟨S1024x1024, .bf16⟩
  | .local _ .vmem, ⟨16, _⟩ => ⟨S2048x1024, .bf16⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16x2048x1024 : Shape := ⟨3, ![16, 2048, 1024]⟩
abbrev S16x2048x2048 : Shape := ⟨3, ![16, 2048, 2048]⟩
abbrev S16x2048x14336 : Shape := ⟨3, ![16, 2048, 14336]⟩
abbrev S1024x1024 : Shape := ⟨2, ![1024, 1024]⟩
abbrev S2048x1024 : Shape := ⟨2, ![2048, 1024]⟩
abbrev S16x2048x3072 : Shape := ⟨3, ![16, 2048, 3072]⟩
abbrev S_ : Shape := ⟨0, ![]⟩
abbrev S16x2048x3x1024 : Shape := ⟨4, ![16, 2048, 3, 1024]⟩
abbrev S16x2048x1x1024 : Shape := ⟨4, ![16, 2048, 1, 1024]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S16x2048x2048, .f32⟩
  | .hbm, ⟨4, _⟩ => ⟨S16x2048x14336, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S16x2048x3072, .f32⟩
  | .hbm, ⟨10, _⟩ => ⟨S16x2048x3072, .f32⟩
  | .hbm, ⟨11, _⟩ => ⟨S16x2048x3072, .f32⟩
  | .hbm, ⟨12, _⟩ => ⟨S_, .f32⟩
  | .hbm, ⟨13, _⟩ => ⟨S16x2048x3072, .f32⟩
  | .hbm, ⟨14, _⟩ => ⟨S16x2048x3072, .f32⟩
  | .hbm, ⟨15, _⟩ => ⟨S_, .f32⟩
  | .hbm, ⟨16, _⟩ => ⟨S16x2048x3072, .f32⟩
  | .hbm, ⟨17, _⟩ => ⟨S16x2048x3072, .f32⟩
  | .hbm, ⟨18, _⟩ => ⟨S16x2048x3x1024, .f32⟩
  | .hbm, ⟨19, _⟩ => ⟨S16x2048x1x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x1x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel4.lean ====
abbrev S16x256x1024 : Shape := ⟨3, ![16, 256, 1024]⟩
abbrev S1024 : Shape := ⟨1, ![1024]⟩
abbrev S1024x1024 : Shape := ⟨2, ![1024, 1024]⟩
abbrev S4096x1024 : Shape := ⟨2, ![4096, 1024]⟩
abbrev S1x1024 : Shape := ⟨2, ![1, 1024]⟩
abbrev S1024x1 : Shape := ⟨2, ![1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S1024x1024, .bf16⟩
  | .hbm, ⟨5, _⟩ => ⟨S1x1024, .f32⟩
  | .hbm, ⟨6, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16x256x1024 : Shape := ⟨3, ![16, 256, 1024]⟩
abbrev S1024 : Shape := ⟨1, ![1024]⟩
abbrev S1024x1024 : Shape := ⟨2, ![1024, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S4096x1024 : Shape := ⟨2, ![4096, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S16x256x1024, .f32⟩
  | .hbm, ⟨4, _⟩ => ⟨S_, .f32⟩
  | .hbm, ⟨5, _⟩ => ⟨S16x256, .f32⟩
  | .hbm, ⟨6, _⟩ => ⟨S16x256x1, .f32⟩
  | .hbm, ⟨7, _⟩ => ⟨S_, .f32⟩
  | .hbm, ⟨8, _⟩ => ⟨S16x256x1, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x1, .f32⟩
  | .hbm, ⟨14, _⟩ => ⟨S16x256x1024, .f32⟩
  | .hbm, ⟨15, _⟩ => ⟨S16x256x1024, .f32⟩
  | .hbm, ⟨16, _⟩ => ⟨S1x1x1024, .f32⟩
  | .hbm, ⟨17, _⟩ => ⟨S16x256x1024, .f32⟩
  | .hbm, ⟨18, _⟩ => ⟨S16x256x1024, .f32⟩
  | .hbm, ⟨19, _⟩ => ⟨S16x256x1024, .f32⟩
  | .hbm, ⟨20, _⟩ => ⟨S4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S16x2048x1024 : Shape := ⟨3, ![16, 2048, 1024]⟩
abbrev S16x256x1024 : Shape := ⟨3, ![16, 256, 1024]⟩
abbrev S1024 : Shape := ⟨1, ![1024]⟩
abbrev S1024x1024 : Shape := ⟨2, ![1024, 1024]⟩
abbrev S1x1024 : Shape := ⟨2, ![1, 1024]⟩
abbrev S1x512x1024 : Shape := ⟨3, ![1, 512, 1024]⟩
abbrev S1x256x1024 : Shape := ⟨3, ![1, 256, 1024]⟩
abbrev S512x1024 : Shape := ⟨2, ![512, 1024]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S512x256 : Shape := ⟨2, ![512, 256]⟩

abbrev nBuf : Space → Nat
  | .hbm => 10
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S16x256x1024, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S16x2048x1024 : Shape := ⟨3, ![16, 2048, 1024]⟩
abbrev S16x256x1024 : Shape := ⟨3, ![16, 256, 1024]⟩
abbrev S1024 : Shape := ⟨1, ![1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4x256 : Shape := ⟨4, ![16, 2048, 4, 256]⟩
abbrev S16x256x4x256 : Shape := ⟨4, ![16, 256, 4, 256]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩

abbrev nBuf : Space → Nat
  | .hbm => 49
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S16x256x1024, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x4x256, .f32⟩
  | .hbm, ⟨24, _⟩ => ⟨S16x256x4x256, .f32⟩
  | .hbm, ⟨25, _⟩ => ⟨S16x256x4x256, .f32⟩
  | .hbm, ⟨26, _⟩ => ⟨S16x4x2048x256, .f32⟩
  | .hbm, ⟨27, _⟩ => ⟨S_, .f32⟩
  | .hbm, ⟨28, _⟩ => ⟨S16x4x2048x256, .f32⟩
  | .hbm, ⟨29, _⟩ => ⟨S16x4x2048x256, .f32⟩
  | .hbm, ⟨30, _⟩ => ⟨S_, .f32⟩
  | .hbm, ⟨31, _⟩ => ⟨S16x4x2048, .f32⟩
  | .hbm, ⟨32, _⟩ => ⟨S_, .f32⟩
  | .hbm, ⟨33, _⟩ => ⟨S16x4x2048, .f32⟩
  | .hbm, ⟨34, _⟩ => ⟨S16x4x2048, .f32⟩
  | .hbm, ⟨35, _⟩ => ⟨S16x4x2048x1, .f32⟩
  | .hbm, ⟨36, _⟩ => ⟨S16x4x2048x256, .f32⟩
  | .hbm, ⟨37, _⟩ => ⟨S16x4x2048x256, .f32⟩
  | .hbm, ⟨38, _⟩ => ⟨S16x4x2048x256, .f32⟩
  | .hbm, ⟨39, _⟩ => ⟨S_, .f32⟩
  | .hbm, ⟨40, _⟩ => ⟨S16x4x2048, .f32⟩
  | .hbm, ⟨41, _⟩ => ⟨S16x4x2048x1, .f32⟩
  | .hbm, ⟨42, _⟩ => ⟨S16x4x2048x256, .f32⟩
  | .hbm, ⟨43, _⟩ => ⟨S16x4x2048x256, .f32⟩
  | .hbm, ⟨44, _⟩ => ⟨S16x4x256x2048, .f32⟩
  | .hbm, ⟨45, _⟩ => ⟨S16x2048x4x256, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel6.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S3x2816 : Shape := ⟨2, ![3, 2816]⟩
abbrev S2816 : Shape := ⟨1, ![2816]⟩
abbrev S1x1024 : Shape := ⟨2, ![1, 1024]⟩
abbrev S1x2816 : Shape := ⟨2, ![1, 2816]⟩
abbrev S16x4x2x2816 : Shape := ⟨4, ![16, 4, 2, 2816]⟩
abbrev S1x512x1024 : Shape := ⟨3, ![1, 512, 1024]⟩
abbrev S1024x1408 : Shape := ⟨2, ![1024, 1408]⟩
abbrev S1408x1024 : Shape := ⟨2, ![1408, 1024]⟩
abbrev S3x1408 : Shape := ⟨2, ![3, 1408]⟩
abbrev S1x1408 : Shape := ⟨2, ![1, 1408]⟩
abbrev S1x1x2x1408 : Shape := ⟨4, ![1, 1, 2, 1408]⟩
abbrev S512x1024 : Shape := ⟨2, ![512, 1024]⟩
abbrev S520x1408 : Shape := ⟨2, ![520, 1408]⟩
abbrev S2x8x1408 : Shape := ⟨3, ![2, 8, 1408]⟩
abbrev S512 : Shape := ⟨1, ![512]⟩
abbrev S512x1 : Shape := ⟨2, ![512, 1]⟩
abbrev S8x1408 : Shape := ⟨2, ![8, 1408]⟩
abbrev S1x8x1408 : Shape := ⟨3, ![1, 8, 1408]⟩
abbrev S512x1408 : Shape := ⟨2, ![512, 1408]⟩
abbrev S2x1408 : Shape := ⟨2, ![2, 1408]⟩
abbrev S16x1x2x2816 : Shape := ⟨4, ![16, 1, 2, 2816]⟩
abbrev S16x2x2816 : Shape := ⟨3, ![16, 2, 2816]⟩

abbrev nBuf : Space → Nat
  | .hbm => 14
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S3x2816, .f32⟩
  | .hbm, ⟨5, _⟩ => ⟨S2816, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x2816, .f32⟩
  | .hbm, ⟨10, _⟩ => ⟨S16x2048x1024, .f32⟩
  | .hbm, ⟨11, _⟩ => ⟨S16x4x2x2816, .f32⟩
  | .hbm, ⟨12, _⟩ => ⟨S16x1x2x2816, .f32⟩
  | .hbm, ⟨13, _⟩ => ⟨S16x2x2816, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S3x1408, .f32⟩
  | .local _ .vmem, ⟨10, _⟩ => ⟨S3x1408, .f32⟩
  | .local _ .vmem, ⟨11, _⟩ => ⟨S1x1408, .f32⟩
  | .local _ .vmem, ⟨12, _⟩ => ⟨S1x1408, .f32⟩
  | .local _ .vmem, ⟨13, _⟩ => ⟨S1x512x1024, .f32⟩
  | .local _ .vmem, ⟨14, _⟩ => ⟨S1x512x1024, .f32⟩
  | .local _ .vmem, ⟨15, _⟩ => ⟨S1x1x2x1408, .f32⟩
  | .local _ .vmem, ⟨16, _⟩ => ⟨S1x1x2x1408, .f32⟩
  | .local _ .vmem, ⟨17, _⟩ => ⟨S512x1024, .bf16⟩
  | .local _ .vmem, ⟨18, _⟩ => ⟨S512x1024, .f32⟩
  | .local _ .vmem, ⟨19, _⟩ => ⟨S520x1408, .f32⟩
  | .local _ .vmem, ⟨20, _⟩ => ⟨S2x8x1408, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg2 : BitVec 32 := BitVec.ofNat 32 (i 2).val
  let v66 : Index := Scalar.indexCast arg2
  let c0_39 : Index := 0#32
  let c0_40 : Index := 0#32
  ![v66.toNat, 0, 0]
def k0_off2 (i : grid0.Coords) : Fin 3 → Nat :=
  let arg2 : BitVec 32 := BitVec.ofNat 32 (i 2).val
  let v13 : Index := Scalar.indexCast arg2
  let c0_9 : Index := 0#32
  let c0_10 : Index := 0#32
  ![v13.toNat, 0, 0]
def k0_cond3 (i : grid0.Coords) : BitVec 1 :=
  let arg2 : BitVec 32 := BitVec.ofNat 32 (i 2).val
  let c1_i32 : BitVec 32 := 1#32
  let v62 : BitVec 1 := Scalar.cmpi .eq arg2 c1_i32
  let v63 : BitVec 32 := Scalar.extui v62
  let c0_i32_37 : BitVec 32 := 0#32
  let v64 : BitVec 1 := Scalar.cmpi .ne v63 c0_i32_37
  v64

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x2x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference6Ideal.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S3x2816 : Shape := ⟨2, ![3, 2816]⟩
abbrev S2816 : Shape := ⟨1, ![2816]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S16x2x2816 : Shape := ⟨3, ![16, 2, 2816]⟩
abbrev S16x2050x2816 : Shape := ⟨3, ![16, 2050, 2816]⟩
abbrev S1x2816 : Shape := ⟨2, ![1, 2816]⟩
abbrev S1x1x2816 : Shape := ⟨3, ![1, 1, 2816]⟩

abbrev nBuf : Space → Nat
  | .hbm => 64
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S3x2816, .f32⟩
  | .hbm, ⟨5, _⟩ => ⟨S2816, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S16x2048x5632, .f32⟩
  | .hbm, ⟨23, _⟩ => ⟨S16x2048x2816, .f32⟩
  | .hbm, ⟨24, _⟩ => ⟨S16x2048x2816, .f32⟩
  | .hbm, ⟨25, _⟩ => ⟨S_, .f32⟩
  | .hbm, ⟨26, _⟩ => ⟨S16x2x2816, .f32⟩
  | .hbm, ⟨27, _⟩ => ⟨S16x2050x2816, .f32⟩
  | .hbm, ⟨28, _⟩ => ⟨S1x2816, .f32⟩
  | .hbm, ⟨29, _⟩ => ⟨S2816, .f32⟩
  | .hbm, ⟨30, _⟩ => ⟨S16x2048x2816, .f32⟩
  | .hbm, ⟨31, _⟩ => ⟨S1x1x2816, .f32⟩
  | .hbm, ⟨32, _⟩ => ⟨S16x2048x2816, .f32⟩
  | .hbm, ⟨33, _⟩ => ⟨S16x2048x2816, .f32⟩
  | .hbm, ⟨34, _⟩ => ⟨S1x1x2816, .f32⟩
  | .hbm, ⟨35, _⟩ => ⟨S16x2048x2816, .f32⟩
  | .hbm, ⟨36, _⟩ => ⟨S16x2048x2816, .f32⟩
  | .hbm, ⟨37, _⟩ => ⟨S1x2816, .f32⟩
  | .hbm, ⟨38, _⟩ => ⟨S2816, .f32⟩
  | .hbm, ⟨39, _⟩ => ⟨S16x2048x2816, .f32⟩
  | .hbm, ⟨40, _⟩ => ⟨S1x1x2816, .f32⟩
  | .hbm, ⟨41, _⟩ => ⟨S16x2048x2816, .f32⟩
  | .hbm, ⟨42, _⟩ => ⟨S16x2048x2816, .f32⟩
  | .hbm, ⟨43, _⟩ => ⟨S16x2048x2816, .f32⟩
  | .hbm, ⟨44, _⟩ => ⟨S1x2816, .f32⟩
  | .hbm, ⟨45, _⟩ => ⟨S2816, .f32⟩
  | .hbm, ⟨46, _⟩ => ⟨S16x2048x2816, .f32⟩
  | .hbm, ⟨47, _⟩ => ⟨S1x1x2816, .f32⟩
  | .hbm, ⟨48, _⟩ => ⟨S16x2048x2816, .f32⟩
  | .hbm, ⟨49, _⟩ => ⟨S16x2048x2816, .f32⟩
  | .hbm, ⟨50, _⟩ => ⟨S16x2048x2816, .f32⟩
  | .hbm, ⟨51, _⟩ => ⟨S16x2x2816, .f32⟩
  | .hbm, ⟨52, _⟩ => ⟨S16x2048x2816, .f32⟩
  | .hbm, ⟨53, _⟩ => ⟨S16x2048x2816, .f32⟩
  | .hbm, ⟨54, _⟩ => ⟨S_, .f32⟩
  | .hbm, ⟨55, _⟩ => ⟨S16x2048x2816, .f32⟩
  | .hbm, ⟨56, _⟩ => ⟨S16x2048x2816, .f32⟩
  | .hbm, ⟨57, _⟩ => ⟨S_, .f32⟩
  | .hbm, ⟨58, _⟩ => ⟨S16x2048x2816, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S16x2048x1024, .f32⟩
  | .hbm, ⟨63, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Kernel7.lean ====
abbrev S16x2048x1024 : Shape := ⟨3, ![16, 2048, 1024]⟩
abbrev S1024 : Shape := ⟨1, ![1024]⟩
abbrev S1024x16416 : Shape := ⟨2, ![1024, 16416]⟩
abbrev S1024x1024 : Shape := ⟨2, ![1024, 1024]⟩
abbrev S32768x1024 : Shape := ⟨2, ![32768, 1024]⟩
abbrev S1x1024 : Shape := ⟨2, ![1, 1024]⟩
abbrev S2x32768x1024 : Shape := ⟨3, ![2, 32768, 1024]⟩
abbrev S1x1024x1024 : Shape := ⟨3, ![1, 1024, 1024]⟩
abbrev S1024x1 : Shape := ⟨2, ![1024, 1]⟩
abbrev S1x32768x1024 : Shape := ⟨3, ![1, 32768, 1024]⟩

abbrev nBuf : Space → Nat
  | .hbm => 10
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x16416, .f32⟩
  | .hbm, ⟨3, _⟩ => ⟨S1024x1024, .f32⟩
  | .hbm, ⟨4, _⟩ => ⟨S1024x1024, .bf16⟩
  | .hbm, ⟨5, _⟩ => ⟨S32768x1024, .f32⟩
  | .hbm, ⟨6, _⟩ => ⟨S1x1024, .f32⟩
  | .hbm, ⟨7, _⟩ => ⟨S2x32768x1024, .f32⟩
  | .hbm, ⟨8, _⟩ => ⟨S1x32768x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16x2048x1024 : Shape := ⟨3, ![16, 2048, 1024]⟩
abbrev S1024 : Shape := ⟨1, ![1024]⟩
abbrev S1024x16416 : Shape := ⟨2, ![1024, 16416]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x16416 : Shape := ⟨3, ![16, 2048, 16416]⟩
abbrev S16x2048x5120 : Shape := ⟨3, ![16, 2048, 5120]⟩
abbrev S16x2048x10272 : Shape := ⟨3, ![16, 2048, 10272]⟩
abbrev S32768x1024 : Shape := ⟨2, ![32768, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x16416, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x16416, .f32⟩
  | .hbm, ⟨20, _⟩ => ⟨S16x2048x5120, .f32⟩
  | .hbm, ⟨21, _⟩ => ⟨S16x2048x1024, .f32⟩
  | .hbm, ⟨22, _⟩ => ⟨S16x2048x10272, .f32⟩
  | .hbm, ⟨23, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel8.lean ====
abbrev S16x2048x1024 : Shape := ⟨3, ![16, 2048, 1024]⟩
abbrev S1024 : Shape := ⟨1, ![1024]⟩
abbrev S1024x16416 : Shape := ⟨2, ![1024, 16416]⟩
abbrev S1024x1024 : Shape := ⟨2, ![1024, 1024]⟩
abbrev S32768x1024 : Shape := ⟨2, ![32768, 1024]⟩
abbrev S1x1024 : Shape := ⟨2, ![1, 1024]⟩
abbrev S2x32768x1024 : Shape := ⟨3, ![2, 32768, 1024]⟩
abbrev S1x1024x1024 : Shape := ⟨3, ![1, 1024, 1024]⟩
abbrev S1024x1 : Shape := ⟨2, ![1024, 1]⟩
abbrev S1x32768x1024 : Shape := ⟨3, ![1, 32768, 1024]⟩

abbrev nBuf : Space → Nat
  | .hbm => 10
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x16416, .f32⟩
  | .hbm, ⟨3, _⟩ => ⟨S1024x1024, .f32⟩
  | .hbm, ⟨4, _⟩ => ⟨S1024x1024, .bf16⟩
  | .hbm, ⟨5, _⟩ => ⟨S32768x1024, .f32⟩
  | .hbm, ⟨6, _⟩ => ⟨S1x1024, .f32⟩
  | .hbm, ⟨7, _⟩ => ⟨S2x32768x1024, .f32⟩
  | .hbm, ⟨8, _⟩ => ⟨S1x32768x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S16x2048x1024 : Shape := ⟨3, ![16, 2048, 1024]⟩
abbrev S1024 : Shape := ⟨1, ![1024]⟩
abbrev S1024x16416 : Shape := ⟨2, ![1024, 16416]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x16416 : Shape := ⟨3, ![16, 2048, 16416]⟩
abbrev S16x2048x6144 : Shape := ⟨3, ![16, 2048, 6144]⟩
abbrev S16x2048x9248 : Shape := ⟨3, ![16, 2048, 9248]⟩
abbrev S32768x1024 : Shape := ⟨2, ![32768, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x16416, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x16416, .f32⟩
  | .hbm, ⟨20, _⟩ => ⟨S16x2048x6144, .f32⟩
  | .hbm, ⟨21, _⟩ => ⟨S16x2048x1024, .f32⟩
  | .hbm, ⟨22, _⟩ => ⟨S16x2048x9248, .f32⟩
  | .hbm, ⟨23, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel9.lean ====
abbrev S16x2048x1024 : Shape := ⟨3, ![16, 2048, 1024]⟩
abbrev S1024 : Shape := ⟨1, ![1024]⟩
abbrev S1024x16416 : Shape := ⟨2, ![1024, 16416]⟩
abbrev S1024x32 : Shape := ⟨2, ![1024, 32]⟩
abbrev S_ : Shape := ⟨0, ![]⟩
abbrev S1024x128 : Shape := ⟨2, ![1024, 128]⟩
abbrev S32768x1024 : Shape := ⟨2, ![32768, 1024]⟩
abbrev S1x1024 : Shape := ⟨2, ![1, 1024]⟩
abbrev S32768x128 : Shape := ⟨2, ![32768, 128]⟩
abbrev S1024x1024 : Shape := ⟨2, ![1024, 1024]⟩
abbrev S1024x1 : Shape := ⟨2, ![1024, 1]⟩
abbrev S32768x32 : Shape := ⟨2, ![32768, 32]⟩

abbrev nBuf : Space → Nat
  | .hbm => 12
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x16416, .f32⟩
  | .hbm, ⟨3, _⟩ => ⟨S1024x32, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x128, .bf16⟩
  | .hbm, ⟨8, _⟩ => ⟨S32768x1024, .f32⟩
  | .hbm, ⟨9, _⟩ => ⟨S1x1024, .f32⟩
  | .hbm, ⟨10, _⟩ => ⟨S32768x128, .f32⟩
  | .hbm, ⟨11, _⟩ => ⟨S32768x32, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | .local _ .vmem, ⟨6, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S16x2048x1024 : Shape := ⟨3, ![16, 2048, 1024]⟩
abbrev S1024 : Shape := ⟨1, ![1024]⟩
abbrev S1024x16416 : Shape := ⟨2, ![1024, 16416]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x16416 : Shape := ⟨3, ![16, 2048, 16416]⟩
abbrev S16x2048x13312 : Shape := ⟨3, ![16, 2048, 13312]⟩
abbrev S16x2048x32 : Shape := ⟨3, ![16, 2048, 32]⟩
abbrev S16x2048x3072 : Shape := ⟨3, ![16, 2048, 3072]⟩
abbrev S32768x32 : Shape := ⟨2, ![32768, 32]⟩

abbrev nBuf : Space → Nat
  | .hbm => 24
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x16416, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x16416, .f32⟩
  | .hbm, ⟨20, _⟩ => ⟨S16x2048x13312, .f32⟩
  | .hbm, ⟨21, _⟩ => ⟨S16x2048x32, .f32⟩
  | .hbm, ⟨22, _⟩ => ⟨S16x2048x3072, .f32⟩
  | .hbm, ⟨23, _⟩ => ⟨S32768x32, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel10.lean ====
abbrev S16x2048x1024 : Shape := ⟨3, ![16, 2048, 1024]⟩
abbrev S1024 : Shape := ⟨1, ![1024]⟩
abbrev S1024x16416 : Shape := ⟨2, ![1024, 16416]⟩
abbrev S1024x5120 : Shape := ⟨2, ![1024, 5120]⟩
abbrev S1024x6144 : Shape := ⟨2, ![1024, 6144]⟩
abbrev S1024x3072 : Shape := ⟨2, ![1024, 3072]⟩
abbrev S1024x14336 : Shape := ⟨2, ![1024, 14336]⟩
abbrev S32768x1024 : Shape := ⟨2, ![32768, 1024]⟩
abbrev S1x1024 : Shape := ⟨2, ![1, 1024]⟩
abbrev S32768x14336 : Shape := ⟨2, ![32768, 14336]⟩
abbrev S1024x1024 : Shape := ⟨2, ![1024, 1024]⟩
abbrev S1024x1 : Shape := ⟨2, ![1024, 1]⟩
abbrev S16x2048x14336 : Shape := ⟨3, ![16, 2048, 14336]⟩
abbrev S16x3x4096 : Shape := ⟨3, ![16, 3, 4096]⟩

abbrev nBuf : Space → Nat
  | .hbm => 13
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x16416, .f32⟩
  | .hbm, ⟨3, _⟩ => ⟨S1024x5120, .f32⟩
  | .hbm, ⟨4, _⟩ => ⟨S1024x6144, .f32⟩
  | .hbm, ⟨5, _⟩ => ⟨S1024x3072, .f32⟩
  | .hbm, ⟨6, _⟩ => ⟨S1024x14336, .f32⟩
  | .hbm, ⟨7, _⟩ => ⟨S1024x14336, .bf16⟩
  | .hbm, ⟨8, _⟩ => ⟨S32768x1024, .f32⟩
  | .hbm, ⟨9, _⟩ => ⟨S1x1024, .f32⟩
  | .hbm, ⟨10, _⟩ => ⟨S32768x14336, .f32⟩
  | .hbm, ⟨11, _⟩ => ⟨S16x2048x14336, .f32⟩
  | .hbm, ⟨12, _⟩ => ⟨S16x3x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S16x2048x1024 : Shape := ⟨3, ![16, 2048, 1024]⟩
abbrev S1024 : Shape := ⟨1, ![1024]⟩
abbrev S1024x16416 : Shape := ⟨2, ![1024, 16416]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x16416 : Shape := ⟨3, ![16, 2048, 16416]⟩
abbrev S16x2048x9216 : Shape := ⟨3, ![16, 2048, 9216]⟩
abbrev S16x2048x4096 : Shape := ⟨3, ![16, 2048, 4096]⟩
abbrev S16x2048x3104 : Shape := ⟨3, ![16, 2048, 3104]⟩
abbrev S16x3x4096 : Shape := ⟨3, ![16, 3, 4096]⟩
abbrev S16x2051x4096 : Shape := ⟨3, ![16, 2051, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x16416, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x16416, .f32⟩
  | .hbm, ⟨20, _⟩ => ⟨S16x2048x9216, .f32⟩
  | .hbm, ⟨21, _⟩ => ⟨S16x2048x4096, .f32⟩
  | .hbm, ⟨22, _⟩ => ⟨S16x2048x3104, .f32⟩
  | .hbm, ⟨23, _⟩ => ⟨S_, .f32⟩
  | .hbm, ⟨24, _⟩ => ⟨S16x3x4096, .f32⟩
  | .hbm, ⟨25, _⟩ => ⟨S16x2051x4096, .f32⟩
  | .hbm, ⟨26, _⟩ => ⟨S16x3x4096, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel11.lean ====
abbrev S32x8x1024 : Shape := ⟨3, ![32, 8, 1024]⟩
abbrev S1024 : Shape := ⟨1, ![1024]⟩
abbrev S1024x16416 : Shape := ⟨2, ![1024, 16416]⟩
abbrev S1024x1024 : Shape := ⟨2, ![1024, 1024]⟩
abbrev S256x1024 : Shape := ⟨2, ![256, 1024]⟩
abbrev S1x1024 : Shape := ⟨2, ![1, 1024]⟩
abbrev S2x256x1024 : Shape := ⟨3, ![2, 256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 10
  | .vmem => 5
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x16416, .f32⟩
  | .hbm, ⟨3, _⟩ => ⟨S1024x1024, .f32⟩
  | .hbm, ⟨4, _⟩ => ⟨S1024x1024, .bf16⟩
  | .hbm, ⟨5, _⟩ => ⟨S256x1024, .f32⟩
  | .hbm, ⟨6, _⟩ => ⟨S1x1024, .f32⟩
  | .hbm, ⟨7, _⟩ => ⟨S2x256x1024, .f32⟩
  | .hbm, ⟨8, _⟩ => ⟨S1x256x1024, .f32⟩
  | .hbm, ⟨9, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1x256x1024, .f32⟩
  | .local _ .vmem, ⟨4, _⟩ => ⟨S256x1024, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference11Ideal.lean ====
abbrev S32x8x1024 : Shape := ⟨3, ![32, 8, 1024]⟩
abbrev S1024 : Shape := ⟨1, ![1024]⟩
abbrev S1024x16416 : Shape := ⟨2, ![1024, 16416]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x16416 : Shape := ⟨3, ![32, 8, 16416]⟩
abbrev S32x8x5120 : Shape := ⟨3, ![32, 8, 5120]⟩
abbrev S32x8x10272 : Shape := ⟨3, ![32, 8, 10272]⟩
abbrev S256x1024 : Shape := ⟨2, ![256, 1024]⟩

abbrev nBuf : Space → Nat
  | .hbm => 24
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x16416, .f32⟩
  | .hbm, ⟨3, _⟩ => ⟨S32x8x1024, .f32⟩
  | .hbm, ⟨4, _⟩ => ⟨S_, .f32⟩
  | .hbm, ⟨5, _⟩ => ⟨S32x8, .f32⟩
  | .hbm, ⟨6, _⟩ => ⟨S32x8x1, .f32⟩
  | .hbm, ⟨7, _⟩ => ⟨S_, .f32⟩
  | .hbm, ⟨8, _⟩ => ⟨S32x8x1, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S32x8x1, .f32⟩
  | .hbm, ⟨14, _⟩ => ⟨S32x8x1024, .f32⟩
  | .hbm, ⟨15, _⟩ => ⟨S32x8x1024, .f32⟩
  | .hbm, ⟨16, _⟩ => ⟨S1x1x1024, .f32⟩
  | .hbm, ⟨17, _⟩ => ⟨S32x8x1024, .f32⟩
  | .hbm, ⟨18, _⟩ => ⟨S32x8x1024, .f32⟩
  | .hbm, ⟨19, _⟩ => ⟨S32x8x16416, .f32⟩
  | .hbm, ⟨20, _⟩ => ⟨S32x8x5120, .f32⟩
  | .hbm, ⟨21, _⟩ => ⟨S32x8x1024, .f32⟩
  | .hbm, ⟨22, _⟩ => ⟨S32x8x10272, .f32⟩
  | .hbm, ⟨23, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel12.lean ====
abbrev S32x8x1024 : Shape := ⟨3, ![32, 8, 1024]⟩
abbrev S1024 : Shape := ⟨1, ![1024]⟩
abbrev S1024x16416 : Shape := ⟨2, ![1024, 16416]⟩
abbrev S1024x1024 : Shape := ⟨2, ![1024, 1024]⟩
abbrev S256x1024 : Shape := ⟨2, ![256, 1024]⟩
abbrev S1x1024 : Shape := ⟨2, ![1, 1024]⟩
abbrev S2x256x1024 : Shape := ⟨3, ![2, 256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 10
  | .vmem => 5
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x16416, .f32⟩
  | .hbm, ⟨3, _⟩ => ⟨S1024x1024, .f32⟩
  | .hbm, ⟨4, _⟩ => ⟨S1024x1024, .bf16⟩
  | .hbm, ⟨5, _⟩ => ⟨S256x1024, .f32⟩
  | .hbm, ⟨6, _⟩ => ⟨S1x1024, .f32⟩
  | .hbm, ⟨7, _⟩ => ⟨S2x256x1024, .f32⟩
  | .hbm, ⟨8, _⟩ => ⟨S1x256x1024, .f32⟩
  | .hbm, ⟨9, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1x256x1024, .f32⟩
  | .local _ .vmem, ⟨4, _⟩ => ⟨S256x1024, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference12Ideal.lean ====
abbrev S32x8x1024 : Shape := ⟨3, ![32, 8, 1024]⟩
abbrev S1024 : Shape := ⟨1, ![1024]⟩
abbrev S1024x16416 : Shape := ⟨2, ![1024, 16416]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x16416 : Shape := ⟨3, ![32, 8, 16416]⟩
abbrev S32x8x6144 : Shape := ⟨3, ![32, 8, 6144]⟩
abbrev S32x8x9248 : Shape := ⟨3, ![32, 8, 9248]⟩
abbrev S256x1024 : Shape := ⟨2, ![256, 1024]⟩

abbrev nBuf : Space → Nat
  | .hbm => 24
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x16416, .f32⟩
  | .hbm, ⟨3, _⟩ => ⟨S32x8x1024, .f32⟩
  | .hbm, ⟨4, _⟩ => ⟨S_, .f32⟩
  | .hbm, ⟨5, _⟩ => ⟨S32x8, .f32⟩
  | .hbm, ⟨6, _⟩ => ⟨S32x8x1, .f32⟩
  | .hbm, ⟨7, _⟩ => ⟨S_, .f32⟩
  | .hbm, ⟨8, _⟩ => ⟨S32x8x1, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S32x8x1, .f32⟩
  | .hbm, ⟨14, _⟩ => ⟨S32x8x1024, .f32⟩
  | .hbm, ⟨15, _⟩ => ⟨S32x8x1024, .f32⟩
  | .hbm, ⟨16, _⟩ => ⟨S1x1x1024, .f32⟩
  | .hbm, ⟨17, _⟩ => ⟨S32x8x1024, .f32⟩
  | .hbm, ⟨18, _⟩ => ⟨S32x8x1024, .f32⟩
  | .hbm, ⟨19, _⟩ => ⟨S32x8x16416, .f32⟩
  | .hbm, ⟨20, _⟩ => ⟨S32x8x6144, .f32⟩
  | .hbm, ⟨21, _⟩ => ⟨S32x8x1024, .f32⟩
  | .hbm, ⟨22, _⟩ => ⟨S32x8x9248, .f32⟩
  | .hbm, ⟨23, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel13.lean ====
abbrev S32x8x1024 : Shape := ⟨3, ![32, 8, 1024]⟩
abbrev S32x3x4096 : Shape := ⟨3, ![32, 3, 4096]⟩
abbrev S1024 : Shape := ⟨1, ![1024]⟩
abbrev S1024x16416 : Shape := ⟨2, ![1024, 16416]⟩
abbrev S1024x5120 : Shape := ⟨2, ![1024, 5120]⟩
abbrev S1024x6144 : Shape := ⟨2, ![1024, 6144]⟩
abbrev S1024x3072 : Shape := ⟨2, ![1024, 3072]⟩
abbrev S1024x14336 : Shape := ⟨2, ![1024, 14336]⟩
abbrev S256x1024 : Shape := ⟨2, ![256, 1024]⟩
abbrev S1x1024 : Shape := ⟨2, ![1, 1024]⟩
abbrev S256x14336 : Shape := ⟨2, ![256, 14336]⟩
abbrev S1024x1024 : Shape := ⟨2, ![1024, 1024]⟩
abbrev S256 : Shape := ⟨1, ![256]⟩
abbrev S256x1 : Shape := ⟨2, ![256, 1]⟩
abbrev S32x8x14336 : Shape := ⟨3, ![32, 8, 14336]⟩

abbrev nBuf : Space → Nat
  | .hbm => 14
  | .vmem => 7
  | .smem => 0
  | _ => 0

abbrev bufTy : (tb : Table) → Fin (tcTables nBuf tb) → BufTy
  | .hbm, ⟨0, _⟩ => ⟨S32x8x1024, .f32⟩
  | .hbm, ⟨1, _⟩ => ⟨S32x3x4096, .f32⟩
  | .hbm, ⟨2, _⟩ => ⟨S1024, .f32⟩
  | .hbm, ⟨3, _⟩ => ⟨S1024x16416, .f32⟩
  | .hbm, ⟨4, _⟩ => ⟨S1024x5120, .f32⟩
  | .hbm, ⟨5, _⟩ => ⟨S1024x6144, .f32⟩
  | .hbm, ⟨6, _⟩ => ⟨S1024x3072, .f32⟩
  | .hbm, ⟨7, _⟩ => ⟨S1024x14336, .f32⟩
  | .hbm, ⟨8, _⟩ => ⟨S1024x14336, .bf16⟩
  | .hbm, ⟨9, _⟩ => ⟨S256x1024, .f32⟩
  | .hbm, ⟨10, _⟩ => ⟨S1x1024, .f32⟩
  | .hbm, ⟨11, _⟩ => ⟨S256x14336, .f32⟩
  | .hbm, ⟨12, _⟩ => ⟨S32x8x14336, .f32⟩
  | .hbm, ⟨13, _⟩ => ⟨S32x3x4096, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S32x8x1024 : Shape := ⟨3, ![32, 8, 1024]⟩
abbrev S32x3x4096 : Shape := ⟨3, ![32, 3, 4096]⟩
abbrev S1024 : Shape := ⟨1, ![1024]⟩
abbrev S1024x16416 : Shape := ⟨2, ![1024, 16416]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x16416 : Shape := ⟨3, ![32, 8, 16416]⟩
abbrev S32x8x9216 : Shape := ⟨3, ![32, 8, 9216]⟩
abbrev S32x8x4096 : Shape := ⟨3, ![32, 8, 4096]⟩
abbrev S32x8x3104 : Shape := ⟨3, ![32, 8, 3104]⟩
abbrev S32x11x4096 : Shape := ⟨3, ![32, 11, 4096]⟩

abbrev nBuf : Space → Nat
  | .hbm => 26
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x3x4096, .f32⟩
  | .hbm, ⟨2, _⟩ => ⟨S1024, .f32⟩
  | .hbm, ⟨3, _⟩ => ⟨S1024x16416, .f32⟩
  | .hbm, ⟨4, _⟩ => ⟨S32x8x1024, .f32⟩
  | .hbm, ⟨5, _⟩ => ⟨S_, .f32⟩
  | .hbm, ⟨6, _⟩ => ⟨S32x8, .f32⟩
  | .hbm, ⟨7, _⟩ => ⟨S32x8x1, .f32⟩
  | .hbm, ⟨8, _⟩ => ⟨S_, .f32⟩
  | .hbm, ⟨9, _⟩ => ⟨S32x8x1, .f32⟩
  | .hbm, ⟨10, _⟩ => ⟨S32x8x1, .f32⟩
  | .hbm, ⟨11, _⟩ => ⟨S_, .f32⟩
  | .hbm, ⟨12, _⟩ => ⟨S32x8x1, .f32⟩
  | .hbm, ⟨13, _⟩ => ⟨S32x8x1, .f32⟩
  | .hbm, ⟨14, _⟩ => ⟨S32x8x1, .f32⟩
  | .hbm, ⟨15, _⟩ => ⟨S32x8x1024, .f32⟩
  | .hbm, ⟨16, _⟩ => ⟨S32x8x1024, .f32⟩
  | .hbm, ⟨17, _⟩ => ⟨S1x1x1024, .f32⟩
  | .hbm, ⟨18, _⟩ => ⟨S32x8x1024, .f32⟩
  | .hbm, ⟨19, _⟩ => ⟨S32x8x1024, .f32⟩
  | .hbm, ⟨20, _⟩ => ⟨S32x8x16416, .f32⟩
  | .hbm, ⟨21, _⟩ => ⟨S32x8x9216, .f32⟩
  | .hbm, ⟨22, _⟩ => ⟨S32x8x4096, .f32⟩
  | .hbm, ⟨23, _⟩ => ⟨S32x8x3104, .f32⟩
  | .hbm, ⟨24, _⟩ => ⟨S32x11x4096, .f32⟩
  | .hbm, ⟨25, _⟩ => ⟨S32x3x4096, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel14.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S3x2816 : Shape := ⟨2, ![3, 2816]⟩
abbrev S2816 : Shape := ⟨1, ![2816]⟩
abbrev S1x1024 : Shape := ⟨2, ![1, 1024]⟩
abbrev S1x2816 : Shape := ⟨2, ![1, 2816]⟩
abbrev S16x4x2x2816 : Shape := ⟨4, ![16, 4, 2, 2816]⟩
abbrev S1x512x1024 : Shape := ⟨3, ![1, 512, 1024]⟩
abbrev S1024x1408 : Shape := ⟨2, ![1024, 1408]⟩
abbrev S1408x1024 : Shape := ⟨2, ![1408, 1024]⟩
abbrev S3x1408 : Shape := ⟨2, ![3, 1408]⟩
abbrev S1x1408 : Shape := ⟨2, ![1, 1408]⟩
abbrev S1x1x2x1408 : Shape := ⟨4, ![1, 1, 2, 1408]⟩
abbrev S512x1024 : Shape := ⟨2, ![512, 1024]⟩
abbrev S520x1408 : Shape := ⟨2, ![520, 1408]⟩
abbrev S2x8x1408 : Shape := ⟨3, ![2, 8, 1408]⟩
abbrev S512 : Shape := ⟨1, ![512]⟩
abbrev S512x1 : Shape := ⟨2, ![512, 1]⟩
abbrev S8x1408 : Shape := ⟨2, ![8, 1408]⟩
abbrev S1x8x1408 : Shape := ⟨3, ![1, 8, 1408]⟩
abbrev S512x1408 : Shape := ⟨2, ![512, 1408]⟩
abbrev S2x1408 : Shape := ⟨2, ![2, 1408]⟩
abbrev S16x1x2x2816 : Shape := ⟨4, ![16, 1, 2, 2816]⟩
abbrev S16x2x2816 : Shape := ⟨3, ![16, 2, 2816]⟩

abbrev nBuf : Space → Nat
  | .hbm => 16
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S3x2816, .f32⟩
  | .hbm, ⟨5, _⟩ => ⟨S2816, .f32⟩
  | .hbm, ⟨6, _⟩ => ⟨S1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S1x2816, .f32⟩
  | .hbm, ⟨11, _⟩ => ⟨S1x1024, .f32⟩
  | .hbm, ⟨12, _⟩ => ⟨S16x2048x1024, .f32⟩
  | .hbm, ⟨13, _⟩ => ⟨S16x4x2x2816, .f32⟩
  | .hbm, ⟨14, _⟩ => ⟨S16x1x2x2816, .f32⟩
  | .hbm, ⟨15, _⟩ => ⟨S16x2x2816, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S3x1408, .f32⟩
  | .local _ .vmem, ⟨10, _⟩ => ⟨S3x1408, .f32⟩
  | .local _ .vmem, ⟨11, _⟩ => ⟨S1x1408, .f32⟩
  | .local _ .vmem, ⟨12, _⟩ => ⟨S1x1408, .f32⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x1x2x1408, .f32⟩
  | .local _ .vmem, ⟨17, _⟩ => ⟨S1x1x2x1408, .f32⟩
  | .local _ .vmem, ⟨18, _⟩ => ⟨S512x1024, .bf16⟩
  | .local _ .vmem, ⟨19, _⟩ => ⟨S512x1024, .f32⟩
  | .local _ .vmem, ⟨20, _⟩ => ⟨S520x1408, .f32⟩
  | .local _ .vmem, ⟨21, _⟩ => ⟨S2x8x1408, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg2 : BitVec 32 := BitVec.ofNat 32 (i 2).val
  let v66 : Index := Scalar.indexCast arg2
  let c0_39 : Index := 0#32
  let c0_40 : Index := 0#32
  ![v66.toNat, 0, 0]
def k0_off2 (i : grid0.Coords) : Fin 3 → Nat :=
  let arg2 : BitVec 32 := BitVec.ofNat 32 (i 2).val
  let v13 : Index := Scalar.indexCast arg2
  let c0_9 : Index := 0#32
  let c0_10 : Index := 0#32
  ![v13.toNat, 0, 0]
def k0_cond3 (i : grid0.Coords) : BitVec 1 :=
  let arg2 : BitVec 32 := BitVec.ofNat 32 (i 2).val
  let c1_i32 : BitVec 32 := 1#32
  let v62 : BitVec 1 := Scalar.cmpi .eq arg2 c1_i32
  let v63 : BitVec 32 := Scalar.extui v62
  let c0_i32_37 : BitVec 32 := 0#32
  let v64 : BitVec 1 := Scalar.cmpi .ne v63 c0_i32_37
  v64

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x2x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Reference14Ideal.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S3x2816 : Shape := ⟨2, ![3, 2816]⟩
abbrev S2816 : Shape := ⟨1, ![2816]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S16x2x2816 : Shape := ⟨3, ![16, 2, 2816]⟩
abbrev S16x2050x2816 : Shape := ⟨3, ![16, 2050, 2816]⟩
abbrev S1x2816 : Shape := ⟨2, ![1, 2816]⟩
abbrev S1x1x2816 : Shape := ⟨3, ![1, 1, 2816]⟩

abbrev nBuf : Space → Nat
  | .hbm => 81
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S3x2816, .f32⟩
  | .hbm, ⟨5, _⟩ => ⟨S2816, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x5632, .f32⟩
  | .hbm, ⟨24, _⟩ => ⟨S16x2048x2816, .f32⟩
  | .hbm, ⟨25, _⟩ => ⟨S16x2048x2816, .f32⟩
  | .hbm, ⟨26, _⟩ => ⟨S_, .f32⟩
  | .hbm, ⟨27, _⟩ => ⟨S16x2x2816, .f32⟩
  | .hbm, ⟨28, _⟩ => ⟨S16x2050x2816, .f32⟩
  | .hbm, ⟨29, _⟩ => ⟨S1x2816, .f32⟩
  | .hbm, ⟨30, _⟩ => ⟨S2816, .f32⟩
  | .hbm, ⟨31, _⟩ => ⟨S16x2048x2816, .f32⟩
  | .hbm, ⟨32, _⟩ => ⟨S1x1x2816, .f32⟩
  | .hbm, ⟨33, _⟩ => ⟨S16x2048x2816, .f32⟩
  | .hbm, ⟨34, _⟩ => ⟨S16x2048x2816, .f32⟩
  | .hbm, ⟨35, _⟩ => ⟨S1x1x2816, .f32⟩
  | .hbm, ⟨36, _⟩ => ⟨S16x2048x2816, .f32⟩
  | .hbm, ⟨37, _⟩ => ⟨S16x2048x2816, .f32⟩
  | .hbm, ⟨38, _⟩ => ⟨S1x2816, .f32⟩
  | .hbm, ⟨39, _⟩ => ⟨S2816, .f32⟩
  | .hbm, ⟨40, _⟩ => ⟨S16x2048x2816, .f32⟩
  | .hbm, ⟨41, _⟩ => ⟨S1x1x2816, .f32⟩
  | .hbm, ⟨42, _⟩ => ⟨S16x2048x2816, .f32⟩
  | .hbm, ⟨43, _⟩ => ⟨S16x2048x2816, .f32⟩
  | .hbm, ⟨44, _⟩ => ⟨S16x2048x2816, .f32⟩
  | .hbm, ⟨45, _⟩ => ⟨S1x2816, .f32⟩
  | .hbm, ⟨46, _⟩ => ⟨S2816, .f32⟩
  | .hbm, ⟨47, _⟩ => ⟨S16x2048x2816, .f32⟩
  | .hbm, ⟨48, _⟩ => ⟨S1x1x2816, .f32⟩
  | .hbm, ⟨49, _⟩ => ⟨S16x2048x2816, .f32⟩
  | .hbm, ⟨50, _⟩ => ⟨S16x2048x2816, .f32⟩
  | .hbm, ⟨51, _⟩ => ⟨S16x2048x2816, .f32⟩
  | .hbm, ⟨52, _⟩ => ⟨S16x2x2816, .f32⟩
  | .hbm, ⟨53, _⟩ => ⟨S16x2048x2816, .f32⟩
  | .hbm, ⟨54, _⟩ => ⟨S16x2048x2816, .f32⟩
  | .hbm, ⟨55, _⟩ => ⟨S_, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S16x2048x2816, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S_, .f32⟩
  | .hbm, ⟨67, _⟩ => ⟨S16x2048, .f32⟩
  | .hbm, ⟨68, _⟩ => ⟨S16x2048x1, .f32⟩
  | .hbm, ⟨69, _⟩ => ⟨S_, .f32⟩
  | .hbm, ⟨70, _⟩ => ⟨S16x2048x1, .f32⟩
  | .hbm, ⟨71, _⟩ => ⟨S16x2048x1, .f32⟩
  | .hbm, ⟨72, _⟩ => ⟨S_, .f32⟩
  | .hbm, ⟨73, _⟩ => ⟨S16x2048x1, .f32⟩
  | .hbm, ⟨74, _⟩ => ⟨S16x2048x1, .f32⟩
  | .hbm, ⟨75, _⟩ => ⟨S16x2048x1, .f32⟩
  | .hbm, ⟨76, _⟩ => ⟨S16x2048x1024, .f32⟩
  | .hbm, ⟨77, _⟩ => ⟨S16x2048x1024, .f32⟩
  | .hbm, ⟨78, _⟩ => ⟨S1x1x1024, .f32⟩
  | .hbm, ⟨79, _⟩ => ⟨S16x2048x1024, .f32⟩
  | .hbm, ⟨80, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_3 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Proof.InProj.lean ====
/-
  The in-projection: an RMS norm of the layer's input and its product with the in-projection's weights.
  The kernel walks a grid of 32 row blocks by 14 column blocks; the first column block of a row block leaves the
  normed rows in a scratch, which the row block's other points read.
-/
module

public import proofs.«01_k».proof.Proof.Gen.KernelIdeal.Value
public import proofs.«01_k».proof.Proof.Gen.ReferenceIdeal.Run
public import Idealize.ShloMosaic.Lib.Pointwise
public import Idealize.ShloMosaic.Lib.Tactic.CleanTypes
public import Idealize.ShloMosaic.Lib.Pipeline.ValueKit
public import Idealize.ShloMosaic.Lib.Pipeline.ReadBack

@[expose] public section

set_option maxRecDepth 16384

noncomputable section

/-! ## The projection in plain mathematics -/

namespace Cert.InProj

open Idealize.ShloMosaic

/-- The source column in the weights of column `j` of the projection: the key and value columns and the step
    columns are left out. -/
def srcCol (j : ℕ) : ℕ := if j < 5120 then j else if j < 11264 then j + 2048 else j + 2080

theorem srcCol_lt (j : ℕ) (h : j < 14336) : srcCol j < 16416 := by unfold srcCol; split_ifs <;> omega

/-- A case distinction both of whose cases are `v` is `v`. -/
theorem dite_eq_of {α : Type} {p : Prop} [Decidable p] {a : p → α} {b : ¬p → α} {v : α} (ha : ∀ h, a h = v) (hb : ∀ h, b h = v) :
    dite p a b = v := by
  by_cases h : p
  · rw [dif_pos h, ha]
  · rw [dif_neg h, hb]

/-- Row `r` of the input, of 16 sequences of 2048 rows, at lane `k`. -/
abbrev row (X : (⟨3, ![16, 2048, 1024]⟩ : Shape).Idx → EReal) (r : Fin 32768) (k : Fin 1024) : EReal :=
  X (ix3 ⟨r.val / 2048, by omega⟩ ⟨r.val % 2048, by omega⟩ k)

/-- The normed row at lane `k`. -/
def normed (X : (⟨3, ![16, 2048, 1024]⟩ : Shape).Idx → EReal) (g : (⟨1, ![1024]⟩ : Shape).Idx → EReal)
    (r : Fin 32768) (k : Fin 1024) : EReal :=
  row X r k * Ideal.rsqrt (Ideal.div (∑ l, row X r l * row X r l) (Ideal.ofBits FTy.f32 1149239296#32)
    + Ideal.ofBits FTy.f32 897988541#32) * g (ix1 k)

/-- The projection at row `r` and column `j`. -/
def proj (X : (⟨3, ![16, 2048, 1024]⟩ : Shape).Idx → EReal) (g : (⟨1, ![1024]⟩ : Shape).Idx → EReal)
    (W : (⟨2, ![1024, 16416]⟩ : Shape).Idx → EReal) (r : Fin 32768) (j : Fin 14336) : EReal :=
  ∑ k, normed X g r k * W (ix2 k ⟨srcCol j.val, srcCol_lt _ j.isLt⟩)

end Cert.InProj

/-! ## What the kernel leaves -/

namespace Cert.KernelIdeal.InProj

open Cert.KernelIdeal Cert.KernelIdeal.Gen Cert.InProj Idealize.ShloMosaic Idealize.ShloMosaic.TcCoe Idealize.SL.Sem

variable (m : (ℓ : Loc nD τ sig) → Buf (Elt Ideal) ℓ)

/-- The three input windows' index maps. -/
theorem idx_facts : ∀ t : Fin cfg0.N, win0_0.index t = ![t.val / 14, 0] ∧ win0_1.index t = ![0, 0] ∧ win0_2.index t = ![0, t.val % 14] :=
  (by decide +kernel : ∀ t : Fin grid0.N, _)

/-- A row block's first point norms the rows, keeps them and multiplies them. -/
theorem case_A (c : Dev nD) (t : Fin cfg0.N) (h : t.val % 14 = 0) :
    outsAt0 m c t.val t.isLt = (k0_pay2 (k0_pay1 (iblk m c 0 t) (iblk m c 1 t)) (iblk m c 2 t), k0_pay1 (iblk m c 0 t) (iblk m c 1 t)) := by
  rw [outsAt0_A m c t h]
  refine Prod.ext ?_ ?_ <;> (funext y; frame_out)

/-- Every other point multiplies the rows that the point before left. -/
theorem case_B (c : Dev nD) (t : Fin cfg0.N) (h : ¬ t.val % 14 = 0) :
    outsAt0 m c t.val t.isLt = (k0_pay2 (outsAt0 m c (t.val - 1) (Nat.lt_of_le_of_lt (Nat.sub_le _ _) t.isLt)).2 (iblk m c 2 t), (outsAt0 m c (t.val - 1) (Nat.lt_of_le_of_lt (Nat.sub_le _ _) t.isLt)).2) := by
  rw [outsAt0_B m c t h]
  refine Prod.ext ?_ rfl
  funext y
  frame_out
  simp only [read_unread_whole]

/-- The region's first operand is the input with its rows numbered through. -/
theorem V5_apply (c : Dev nD) (r : Fin 32768) (k : Fin 1024) :
    V m c main_v5 (ix2 r k) = row (m ((c : Thread nD τ).loc main_arg0)) r k := by
  entry_read
  pointwise

/-- The region's third operand is the weights' columns that the projection takes, side by side. -/
theorem V4_eq (c : Dev nD) : (V m c main_v4 : Vec Ideal S1024x14336 .bf16) = (truncf (F := Ideal) .bf16 (concatenate S1024x14336 1 [⟨S1024x5120, extractStridedSlice S1024x5120 ![0, 0] (m ((c : Thread nD τ).loc main_arg2)) slices_S1024x16416_S1024x5120_0_0⟩, ⟨S1024x6144, extractStridedSlice S1024x6144 ![0, 7168] (m ((c : Thread nD τ).loc main_arg2)) slices_S1024x16416_S1024x6144_0_7168⟩, ⟨S1024x3072, extractStridedSlice S1024x3072 ![0, 13344] (m ((c : Thread nD τ).loc main_arg2)) slices_S1024x16416_S1024x3072_0_13344⟩] concatenates_S1024x5120_S1024x6144_S1024x3072_S1024x14336_d1 : Vec Ideal S1024x14336 .f32) bitsLt_bf16_f32 : FVec Ideal S1024x14336 .bf16) := by
  unfold V
  after_results
  rfl

theorem V4_apply (c : Dev nD) (k : Fin 1024) (j : Fin 14336) : V m c main_v4 (ix2 k j) =
    m ((c : Thread nD τ).loc main_arg2) (ix2 k ⟨srcCol j.val, srcCol_lt _ j.isLt⟩) := by
  have hj := j.isLt
  rw [V4_eq]
  pointwise
  split_ifs
  all_goals
    refine congrArg _ (congrArg (ix2 k) (Fin.ext ?_))
    simp only [srcCol]
    split_ifs <;> omega

theorem row_lt (t : Fin cfg0.N) (r : Fin 1024) : t.val / 14 * 1024 + r.val < 32768 := by
  have := lt_of_lt_of_eq t.isLt N_0
  omega

theorem col_lt (t : Fin cfg0.N) (j : Fin 1024) : t.val % 14 * 1024 + j.val < 14336 := by
  omega

theorem iblk0_apply (c : Dev nD) (t : Fin cfg0.N) (r k : Fin 1024) :
    iblk m c 0 t (ix2 r k) = row (m ((c : Thread nD τ).loc main_arg0)) ⟨t.val / 14 * 1024 + r.val, row_lt t r⟩ k := by
  obtain ⟨e0, -, -⟩ := idx_facts t
  rw [← V5_apply]
  blk_ext [iblk, e0]

theorem iblk1_apply (c : Dev nD) (t : Fin cfg0.N) (k : Fin 1024) :
    iblk m c 1 t (ix2 0 k) = m ((c : Thread nD τ).loc main_arg1) (ix1 k) := by
  obtain ⟨-, e1, -⟩ := idx_facts t
  blk_simp [iblk, e1]
  entry_read
  pointwise
  blk_ext [e1]

theorem iblk2_apply (c : Dev nD) (t : Fin cfg0.N) (k j : Fin 1024) :
    iblk m c 2 t (ix2 k j) = m ((c : Thread nD τ).loc main_arg2)
      (ix2 k ⟨srcCol (t.val % 14 * 1024 + j.val), srcCol_lt _ (col_lt t j)⟩) := by
  obtain ⟨-, -, e2⟩ := idx_facts t
  rw [← V4_apply m c k ⟨t.val % 14 * 1024 + j.val, col_lt t j⟩]
  blk_ext [iblk, e2]

/-- The norm's payload at an index. -/
theorem pay1_apply (c : Dev nD) (t : Fin cfg0.N) (r k : Fin 1024) :
    k0_pay1 (iblk m c 0 t) (iblk m c 1 t) (ix2 r k)
      = normed (m ((c : Thread nD τ).loc main_arg0)) (m ((c : Thread nD τ).loc main_arg1)) ⟨t.val / 14 * 1024 + r.val, row_lt t r⟩ k := by
  pointwise [k0_pay1]
  simp only [iblk0_apply, iblk1_apply]
  rfl

/-- The scratch after any point: the row block's normed rows. -/
theorem scratch_apply (c : Dev nD) (n : ℕ) (hn : n < cfg0.N) (r k : Fin 1024) :
    (outsAt0 m c n hn).2 (ix2 r k)
      = normed (m ((c : Thread nD τ).loc main_arg0)) (m ((c : Thread nD τ).loc main_arg1)) ⟨n / 14 * 1024 + r.val, row_lt ⟨n, hn⟩ r⟩ k := by
  induction n with
  | zero => rw [case_A m c ⟨0, hn⟩ (Nat.zero_mod _)]; exact pay1_apply m c ⟨0, hn⟩ r k
  | succ n ih =>
    by_cases h : (n + 1) % 14 = 0
    · rw [case_A m c ⟨n + 1, hn⟩ h]; exact pay1_apply m c ⟨n + 1, hn⟩ r k
    · rw [case_B m c ⟨n + 1, hn⟩ h]
      refine (ih (Nat.lt_of_succ_lt hn)).trans ?_
      have e : n / 14 = (n + 1) / 14 := by omega
      congr 2
      rw [e]

/-- The output block after any point: the product of the scratch and the point's weight block. -/
theorem out_eq (c : Dev nD) (t : Fin cfg0.N) :
    (outsAt0 m c t.val t.isLt).1 = k0_pay2 (outsAt0 m c t.val t.isLt).2 (iblk m c 2 t) := by
  by_cases h : t.val % 14 = 0
  · rw [case_A m c t h]
  · rw [case_B m c t h]

theorem out_apply (c : Dev nD) (t : Fin cfg0.N) (r j : Fin 1024) :
    (outsAt0 m c t.val t.isLt).1 (ix2 r j)
      = proj (m ((c : Thread nD τ).loc main_arg0)) (m ((c : Thread nD τ).loc main_arg1)) (m ((c : Thread nD τ).loc main_arg2))
          ⟨t.val / 14 * 1024 + r.val, row_lt t r⟩ ⟨t.val % 14 * 1024 + j.val, col_lt t j⟩ := by
  rw [out_eq]
  pointwise [k0_pay2]
  refine Finset.sum_congr rfl fun k _ => ?_
  rw [scratch_apply, iblk2_apply]

/-- The array after the run is the projection. -/
theorem G3_apply (c : Dev nD) (r : Fin 32768) (j : Fin 14336) :
    Value.G3 m c (ix2 r j)
      = proj (m ((c : Thread nD τ).loc main_arg0)) (m ((c : Thread nD τ).loc main_arg1)) (m ((c : Thread nD τ).loc main_arg2)) r j := by
  have hr := r.isLt
  have hj := j.isLt
  have hp : Value.pt3Of (ix2 r j) = 14 * (r.val / 1024) + j.val / 1024 := by
    show 14 * (r.val / 1024 - 0) + 1 * (j.val / 1024 - 0) = _
    omega
  have hlt : Value.pt3Of (ix2 r j) < cfg0.N := by
    rw [hp, show cfg0.N = 448 from N_0]; omega
  have hloc : Value.loc3Of (ix2 r j) = ix2 (⟨r.val % 1024, by omega⟩ : Fin 1024) (⟨j.val % 1024, by omega⟩ : Fin 1024) := by
    funext a
    match a with
    | ⟨0, _⟩ => rfl
    | ⟨1, _⟩ => rfl
  unfold Value.G3
  rw [dif_pos hlt, ← Value.outsAt0_sweep, hloc]
  refine (out_apply m c ⟨Value.pt3Of (ix2 r j), hlt⟩ _ _).trans ?_
  congr 1
  · apply Fin.ext; show Value.pt3Of (ix2 r j) / 14 * 1024 + r.val % 1024 = r.val; rw [hp]; omega
  · apply Fin.ext; show Value.pt3Of (ix2 r j) % 14 * 1024 + j.val % 1024 = j.val; rw [hp]; omega

end Cert.KernelIdeal.InProj

/-! ## What the reference computes -/

namespace Cert.ReferenceIdeal.InProj

open Cert.ReferenceIdeal Cert.InProj Idealize.ShloMosaic Idealize.ShloMosaic.TcCoe Idealize.SL.Sem

theorem out_apply (m : (ℓ : Loc nD τ sig) → Buf (Elt Ideal) ℓ) (c : Dev nD) (r : Fin 32768) (j : Fin 14336) :
    Value.res_out0 m c (ix2 r j)
      = proj (m ((c : Thread nD τ).loc main_arg0)) (m ((c : Thread nD τ).loc main_arg1)) (m ((c : Thread nD τ).loc main_arg2)) r j := by
  have hj := j.isLt
  unfold Value.res_out0 Value.res_main_v26
  clean_types
  pointwise
  repeat' refine dite_eq_of (fun h => ?_) (fun h => ?_)
  all_goals
    refine Finset.sum_congr rfl fun k _ => ?_
    refine congrArg (normed _ _ _ _ * ·) (congrArg _ (congrArg (ix2 k) (Fin.ext ?_)))
    simp only [srcCol]
    split_ifs <;> omega

end Cert.ReferenceIdeal.InProj

end
-- ==== Proof.AttnLoops.lean ====
/- The two passes of the attention body, trip by trip. -/
module

public import proofs.«01_k».proof.Proof.Gen.Kernel2Ideal.Frame
public import proofs.«01_k».proof.Proof.Gen.Kernel2Ideal.Skeleton
public import Idealize.ShloMosaic.Lib.VecWindow

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Idealize.ShloMosaic.Pipeline (Dat Cfg Window BodyObligation cellOf)

variable {F : FTy → Type} [FloatOps F] [Named F]

/-- The logic's resources at this program. -/
local notation "𝕄" => MT nD τ sig Unit (Elt F) ℕ (UR sig nD τ) ℕ

/-- The running row maximum of pass 1 before trip `k`: four lane groups per block folded in. -/
def mRun (i : grid0.Coords) (v1 : Elt F .f32) (v6 : Vec F S1x512x128 .f32) (X10 : Vec F S2048x128 .bf16)
    (X12 : Vec F S1024x512 .f32) : ℕ → Vec F S1024x128 .f32
  | 0 => k0_pay12
  | k + 1 => if h : k < (k0_t1_loop i).trips then
      k0_pay15 i v1 v6 ⟨k, h⟩ X12 (window X10 (k0_off2 i ⟨k, h⟩) S512x128.size (k0_off2_inb i ⟨k, h⟩)) (mRun i v1 v6 X10 X12 k)
    else mRun i v1 v6 X10 X12 k

theorem mRun_succ (i : grid0.Coords) (v1 : Elt F .f32) (v6 : Vec F S1x512x128 .f32) (X10 : Vec F S2048x128 .bf16)
    (X12 : Vec F S1024x512 .f32) (k : Fin (k0_t1_loop i).trips) :
    mRun i v1 v6 X10 X12 (k.val + 1)
      = k0_pay15 i v1 v6 k X12 (window X10 (k0_off2 i k) S512x128.size (k0_off2_inb i k)) (mRun i v1 v6 X10 X12 k.val) := by
  rw [mRun, dif_pos k.isLt]

/-- The block of scores trip `k` of pass 1 stores. -/
def sBlk (i : grid0.Coords) (v1 : Elt F .f32) (v6 : Vec F S1x512x128 .f32) (X10 : Vec F S2048x128 .bf16)
    (X12 : Vec F S1024x512 .f32) (k : Fin (k0_t1_loop i).trips) : Vec F S1x1024x512 .f32 :=
  k0_pay14 i v1 v6 k X12 (window X10 (k0_off2 i k) S512x128.size (k0_off2_inb i k))

/-- Before trip `k` of pass 1 the score buffer holds the blocks of the trips before. -/
def SDone (i : grid0.Coords) (v1 : Elt F .f32) (v6 : Vec F S1x512x128 .f32) (X10 : Vec F S2048x128 .bf16)
    (X12 : Vec F S1024x512 .f32) (k : ℕ) (Y : Vec F S4x1024x512 .f32) : Prop :=
  ∀ j : Fin (k0_t1_loop i).trips, j.val < k →
    window Y (k0_off3 i j) S1x1024x512.size (k0_off3_inb i j) = sBlk i v1 v6 X10 X12 j

theorem SDone_put (i : grid0.Coords) (v1 : Elt F .f32) (v6 : Vec F S1x512x128 .f32) (X10 : Vec F S2048x128 .bf16)
    (X12 : Vec F S1024x512 .f32) (k : Fin (k0_t1_loop i).trips) (Y : Vec F S4x1024x512 .f32)
    (h : SDone i v1 v6 X10 X12 k.val Y) :
    SDone i v1 v6 X10 X12 (k.val + 1) (put Y (k0_off3 i k) S1x1024x512.size (sBlk i v1 v6 X10 X12 k)) := by
  intro j hj
  by_cases e : j = k
  · subst e; exact window_put_same _ _ _ _ _
  · have hne : j.val ≠ k.val := fun h => e (Fin.ext h)
    rw [window_put_of_disjoint Y (k0_off3 i k) S1x1024x512.size (k0_off3 i j) S1x1024x512.size (k0_off3_inb i j) _ (0 : Fin 3) ?_]
    · exact h j (by omega)
    · left
      rw [k0_off3_eq, k0_off3_eq]
      show j.val + 1 ≤ k.val
      omega

set_option maxHeartbeats 1000000 in
/-- One trip of pass 1. -/
theorem trip1 (c : Dev nD) (E : Set ℕ) (i : grid0.Coords) (arg3 : Memref sig .tc .smem S8 .f32) (harg3 : arg3.IsWhole)
    (arg4 : Memref sig .tc .vmem S1x512x128 .f32) (harg4 : arg4.IsWhole)
    (arg5 : Memref sig .tc .vmem S1x1x2048x128 .f32) (harg5 : arg5.IsWhole)
    (arg6 : Memref sig .tc .vmem S1x1x2048x128 .f32) (harg6 : arg6.IsWhole)
    (arg7 : Memref sig .tc .vmem S4x64 .f32) (harg7 : arg7.IsWhole)
    (arg8 : Memref sig .tc .vmem S1x128 .f32) (harg8 : arg8.IsWhole)
    (arg9 : Memref sig .tc .vmem S1x512x128 .f32) (harg9 : arg9.IsWhole)
    (arg10 : Memref sig .tc .vmem S2048x128 .bf16) (harg10 : arg10.IsWhole)
    (arg11 : Memref sig .tc .vmem S2048x256 .bf16) (harg11 : arg11.IsWhole)
    (arg12 : Memref sig .tc .vmem S1024x512 .f32) (harg12 : arg12.IsWhole)
    (arg13 : Memref sig .tc .vmem S1024x512 .f32) (harg13 : arg13.IsWhole)
    (arg14 : Memref sig .tc .vmem S4x1024x512 .f32) (harg14 : arg14.IsWhole)
    (arg15 : Memref sig .tc .vmem S1024x128 .f32) (harg15 : arg15.IsWhole)
    (arg16 : Memref sig .tc .vmem S1024x256 .f32) (harg16 : arg16.IsWhole) (v1 : Elt F .f32) (v6 : Vec F S1x512x128 .f32)
    (k : Fin (k0_t1_loop i).trips) (acc : Unit) (X10 : Vec F S2048x128 .bf16) (X12 : Vec F S1024x512 .f32)
    (Y14 : Vec F S4x1024x512 .f32) (Y15 : Vec F S1024x128 .f32) :
    (iprop(owns (c : Thread nD τ) arg10 fullShare X10 ∗ owns (c : Thread nD τ) arg12 fullShare X12 ∗ owns (c : Thread nD τ) arg14 fullShare Y14 ∗ owns (c : Thread nD τ) arg15 fullShare Y15) : sProp 𝕄)
      ⊢ wp frame (wpE (defs₀ (F := F)) Variants.none c none) E (k0_t1_body i arg3 harg3 arg4 harg4 arg5 harg5 arg6 harg6 arg7 harg7 arg8 harg8 arg9 harg9 arg10 harg10 arg11 harg11 arg12 harg12 arg13 harg13 arg14 harg14 arg15 harg15 arg16 harg16 v1 v6 k acc)
        (fun _ => iprop(owns (c : Thread nD τ) arg10 fullShare X10 ∗ owns (c : Thread nD τ) arg12 fullShare X12
          ∗ owns (c : Thread nD τ) arg14 fullShare (put Y14 (k0_off3 i k) S1x1024x512.size (sBlk i v1 v6 X10 X12 k))
          ∗ owns (c : Thread nD τ) arg15 fullShare (k0_pay15 i v1 v6 k X12 (window X10 (k0_off2 i k) S512x128.size (k0_off2_inb i k)) Y15))) := by
  unfold k0_t1_body owns
  iintro ⟨⟨%f10, %h10, H10⟩, ⟨%f12, %h12, H12⟩, ⟨%f14, %h14, H14⟩, ⟨%f15, %h15, H15⟩⟩
  sl_exec
  sl_step
  isplitl [H10]
  · iexists _; isplitr; · ipureintro; exact h10
    iexact H10
  isplitl [H12]
  · iexists _; isplitr; · ipureintro; exact h12
    iexact H12
  isplitl [H14]
  · iexists _; isplitr
    rotate_left
    · iexact H14
    · ipureintro
      rw [← h14]
      refine (View.read_writes_cons_put _ _ _ _ _ rfl).trans ?_
      rw [View.writes_nil]
      refine congrArg _ ?_
      unfold sBlk
      rw [View.readAt_full, View.readAt_unit _ _ _ rfl (k0_off2_inb i k), h10, h12]
  iexists _; isplitr
  rotate_left
  · iexact H15
  · ipureintro
    refine (View.read_writes_full _ _ _ _ _).trans ?_
    rw [View.readAt_full, View.readAt_full, View.readAt_unit _ _ _ rfl (k0_off2_inb i k), h10, h12, h15]

/-- Pass 1 runs once per key block before the query block. -/
theorem trips_t1 (i : grid0.Coords) : (k0_t1_loop i).trips = (i 2).val := by
  have h : ∀ q : Fin 4, Scf.trips 0#32 (Scalar.addi 0#32 (Scalar.muli (Scalar.divsi (Scalar.subi (BitVec.ofNat 32 q.val) 0#32) 1#32) 1#32)) 1#32 = q.val := by
    decide +kernel
  exact h (i 2)

/-- Pass 2 runs once per key block up to the query block's own. -/
theorem trips_t3 (i : grid0.Coords) : (k0_t3_loop i).trips = (i 2).val + 1 := by
  have h : ∀ q : Fin 4, Scf.trips 0#32 (Scalar.addi 0#32 (Scalar.muli (Scalar.divsi (Scalar.subi (Scalar.addi (BitVec.ofNat 32 q.val) 1#32) 0#32) 1#32) 1#32)) 1#32 = q.val + 1 := by
    decide +kernel
  exact h (i 2)

/-- The remainder of pass 1's trips is empty. -/
theorem trips_t2 (i : grid0.Coords) : (k0_t2_loop i).trips = 0 := Nat.le_zero.mp (k0_t2_abs i).2.1

/-- The remainder of pass 2's trips is empty. -/
theorem trips_t4 (i : grid0.Coords) : (k0_t4_loop i).trips = 0 := Nat.le_zero.mp (k0_t4_abs i).2.1

/-- Pass 1: the score buffer holds every block's scores, the maximum buffer the running maximum. -/
theorem loop1 (c : Dev nD) (E : Set ℕ) (i : grid0.Coords) (arg3 : Memref sig .tc .smem S8 .f32) (harg3 : arg3.IsWhole)
    (arg4 : Memref sig .tc .vmem S1x512x128 .f32) (harg4 : arg4.IsWhole)
    (arg5 : Memref sig .tc .vmem S1x1x2048x128 .f32) (harg5 : arg5.IsWhole)
    (arg6 : Memref sig .tc .vmem S1x1x2048x128 .f32) (harg6 : arg6.IsWhole)
    (arg7 : Memref sig .tc .vmem S4x64 .f32) (harg7 : arg7.IsWhole)
    (arg8 : Memref sig .tc .vmem S1x128 .f32) (harg8 : arg8.IsWhole)
    (arg9 : Memref sig .tc .vmem S1x512x128 .f32) (harg9 : arg9.IsWhole)
    (arg10 : Memref sig .tc .vmem S2048x128 .bf16) (harg10 : arg10.IsWhole)
    (arg11 : Memref sig .tc .vmem S2048x256 .bf16) (harg11 : arg11.IsWhole)
    (arg12 : Memref sig .tc .vmem S1024x512 .f32) (harg12 : arg12.IsWhole)
    (arg13 : Memref sig .tc .vmem S1024x512 .f32) (harg13 : arg13.IsWhole)
    (arg14 : Memref sig .tc .vmem S4x1024x512 .f32) (harg14 : arg14.IsWhole)
    (arg15 : Memref sig .tc .vmem S1024x128 .f32) (harg15 : arg15.IsWhole)
    (arg16 : Memref sig .tc .vmem S1024x256 .f32) (harg16 : arg16.IsWhole) (v1 : Elt F .f32) (v6 : Vec F S1x512x128 .f32)
    (X10 : Vec F S2048x128 .bf16) (X12 : Vec F S1024x512 .f32) (Y14 : Vec F S4x1024x512 .f32) :
    (iprop(owns (c : Thread nD τ) arg10 fullShare X10 ∗ owns (c : Thread nD τ) arg12 fullShare X12 ∗ owns (c : Thread nD τ) arg14 fullShare Y14 ∗ owns (c : Thread nD τ) arg15 fullShare (k0_pay12 (F := F))) : sProp 𝕄)
      ⊢ wp frame (wpE (defs₀ (F := F)) Variants.none c none) E (Scf.Loop.for (k0_t1_loop i) (k0_t1_ok i) ⟨⟩ (k0_t1_body i arg3 harg3 arg4 harg4 arg5 harg5 arg6 harg6 arg7 harg7 arg8 harg8 arg9 harg9 arg10 harg10 arg11 harg11 arg12 harg12 arg13 harg13 arg14 harg14 arg15 harg15 arg16 harg16 v1 v6))
        (fun _ => iprop(owns (c : Thread nD τ) arg10 fullShare X10 ∗ owns (c : Thread nD τ) arg12 fullShare X12
          ∗ (∃ Y, ⌜SDone i v1 v6 X10 X12 (k0_t1_loop i).trips Y⌝ ∗ owns (c : Thread nD τ) arg14 fullShare Y)
          ∗ owns (c : Thread nD τ) arg15 fullShare (mRun i v1 v6 X10 X12 (k0_t1_loop i).trips))) := by
  iintro ⟨H10, H12, H14, H15⟩
  iapply (Scf.wp_for frame (wpE (defs₀ (F := F)) Variants.none c none) E _ _ _ (k0_t1_ok i) _ _
    (fun k _ => iprop(owns (c : Thread nD τ) arg10 fullShare X10 ∗ owns (c : Thread nD τ) arg12 fullShare X12
          ∗ (∃ Y, ⌜SDone i v1 v6 X10 X12 k Y⌝ ∗ owns (c : Thread nD τ) arg14 fullShare Y)
          ∗ owns (c : Thread nD τ) arg15 fullShare (mRun i v1 v6 X10 X12 k))) ?_)
  · intro k acc
    iintro ⟨H10, H12, ⟨%Y, %hY, H14⟩, H15⟩
    iapply (wp_wand_r frame (wpE (defs₀ (F := F)) Variants.none c none) E)
    isplitl
    · iapply (trip1 c E i arg3 harg3 arg4 harg4 arg5 harg5 arg6 harg6 arg7 harg7 arg8 harg8 arg9 harg9 arg10 harg10 arg11 harg11 arg12 harg12 arg13 harg13 arg14 harg14 arg15 harg15 arg16 harg16 v1 v6 k acc X10 X12 Y (mRun i v1 v6 X10 X12 k.val))
      isplitl [H10]; · iexact H10
      isplitl [H12]; · iexact H12
      isplitl [H14]; · iexact H14
      iexact H15
    · iintro %u ⟨H10, H12, H14, H15⟩
      isplitl [H10]; · iexact H10
      isplitl [H12]; · iexact H12
      isplitl [H14]
      · iexists _; isplitr
        rotate_left
        · iexact H14
        · ipureintro; exact SDone_put i v1 v6 X10 X12 k Y hY
      rw [mRun_succ]
      iexact H15
  · isplitl
    · isplitl [H10]; · iexact H10
      isplitl [H12]; · iexact H12
      isplitl [H14]
      · iexists Y14; isplitr
        · ipureintro; intro j hj; exact absurd hj (Nat.not_lt_zero _)
        iexact H14
      iexact H15
    · iintro %u H; iexact H

/-- The weighted values of pass 2 before trip `k`, over the blocks of scores `sl`. -/
def aRun (i : grid0.Coords) (v53 : Vec F S1024x128 .f32) (X11 : Vec F S2048x256 .bf16)
    (sl : Fin (k0_t3_loop i).trips → Vec F S1x1024x512 .f32) : ℕ → Vec F S1024x256 .f32
  | 0 => k0_pay23
  | k + 1 => if h : k < (k0_t3_loop i).trips then
      k0_pay24 v53 (sl ⟨k, h⟩) (aRun i v53 X11 sl k) (window X11 (k0_off9 i ⟨k, h⟩) S512x256.size (k0_off9_inb i ⟨k, h⟩))
    else aRun i v53 X11 sl k

theorem aRun_succ (i : grid0.Coords) (v53 : Vec F S1024x128 .f32) (X11 : Vec F S2048x256 .bf16)
    (sl : Fin (k0_t3_loop i).trips → Vec F S1x1024x512 .f32) (k : Fin (k0_t3_loop i).trips) :
    aRun i v53 X11 sl (k.val + 1)
      = k0_pay24 v53 (sl k) (aRun i v53 X11 sl k.val) (window X11 (k0_off9 i k) S512x256.size (k0_off9_inb i k)) := by
  rw [aRun, dif_pos k.isLt]

set_option maxHeartbeats 1000000 in
/-- One trip of pass 2. -/
theorem trip3 (c : Dev nD) (E : Set ℕ) (i : grid0.Coords) (arg3 : Memref sig .tc .smem S8 .f32) (harg3 : arg3.IsWhole)
    (arg4 : Memref sig .tc .vmem S1x512x128 .f32) (harg4 : arg4.IsWhole)
    (arg5 : Memref sig .tc .vmem S1x1x2048x128 .f32) (harg5 : arg5.IsWhole)
    (arg6 : Memref sig .tc .vmem S1x1x2048x128 .f32) (harg6 : arg6.IsWhole)
    (arg7 : Memref sig .tc .vmem S4x64 .f32) (harg7 : arg7.IsWhole)
    (arg8 : Memref sig .tc .vmem S1x128 .f32) (harg8 : arg8.IsWhole)
    (arg9 : Memref sig .tc .vmem S1x512x128 .f32) (harg9 : arg9.IsWhole)
    (arg10 : Memref sig .tc .vmem S2048x128 .bf16) (harg10 : arg10.IsWhole)
    (arg11 : Memref sig .tc .vmem S2048x256 .bf16) (harg11 : arg11.IsWhole)
    (arg12 : Memref sig .tc .vmem S1024x512 .f32) (harg12 : arg12.IsWhole)
    (arg13 : Memref sig .tc .vmem S1024x512 .f32) (harg13 : arg13.IsWhole)
    (arg14 : Memref sig .tc .vmem S4x1024x512 .f32) (harg14 : arg14.IsWhole)
    (arg15 : Memref sig .tc .vmem S1024x128 .f32) (harg15 : arg15.IsWhole)
    (arg16 : Memref sig .tc .vmem S1024x256 .f32) (harg16 : arg16.IsWhole) (arg2 : BitVec 32) (v20 : FVec F S1024x128 .bf16)
    (v30 : Vec F S1024x512 .f32) (c512_i32 : BitVec 32) (v53 : Vec F S1024x128 .f32)
    (k : Fin (k0_t3_loop i).trips) (acc : Unit) (X11 : Vec F S2048x256 .bf16) (Y14 : Vec F S4x1024x512 .f32)
    (Y16 : Vec F S1024x256 .f32) :
    (iprop(owns (c : Thread nD τ) arg11 fullShare X11 ∗ owns (c : Thread nD τ) arg14 fullShare Y14 ∗ owns (c : Thread nD τ) arg16 fullShare Y16) : sProp 𝕄)
      ⊢ wp frame (wpE (defs₀ (F := F)) Variants.none c none) E (k0_t3_body i arg3 harg3 arg4 harg4 arg5 harg5 arg6 harg6 arg7 harg7 arg8 harg8 arg9 harg9 arg10 harg10 arg11 harg11 arg12 harg12 arg13 harg13 arg14 harg14 arg15 harg15 arg16 harg16 arg2 v20 v30 c512_i32 v53 k acc)
        (fun _ => iprop(owns (c : Thread nD τ) arg11 fullShare X11 ∗ owns (c : Thread nD τ) arg14 fullShare Y14
          ∗ owns (c : Thread nD τ) arg16 fullShare (k0_pay24 v53 (window Y14 (k0_off8 i k) S1x1024x512.size (k0_off8_inb i k)) Y16 (window X11 (k0_off9 i k) S512x256.size (k0_off9_inb i k))))) := by
  unfold k0_t3_body owns
  iintro ⟨⟨%f11, %h11, H11⟩, ⟨%f14, %h14, H14⟩, ⟨%f16, %h16, H16⟩⟩
  sl_exec
  sl_step
  isplitl [H11]
  · iexists _; isplitr; · ipureintro; exact h11
    iexact H11
  isplitl [H14]
  · iexists _; isplitr; · ipureintro; exact h14
    iexact H14
  iexists _; isplitr
  rotate_left
  · iexact H16
  · ipureintro
    refine (View.read_writes_full _ _ _ _ _).trans ?_
    rw [View.readAt_full, View.readAt_unit _ _ _ rfl (k0_off8_inb i k), View.readAt_unit _ _ _ rfl (k0_off9_inb i k), h11, h14, h16]

/-- Pass 2: the accumulator holds the weighted values over all the blocks of scores `sl` the score buffer holds. -/
theorem loop3 (c : Dev nD) (E : Set ℕ) (i : grid0.Coords) (arg3 : Memref sig .tc .smem S8 .f32) (harg3 : arg3.IsWhole)
    (arg4 : Memref sig .tc .vmem S1x512x128 .f32) (harg4 : arg4.IsWhole)
    (arg5 : Memref sig .tc .vmem S1x1x2048x128 .f32) (harg5 : arg5.IsWhole)
    (arg6 : Memref sig .tc .vmem S1x1x2048x128 .f32) (harg6 : arg6.IsWhole)
    (arg7 : Memref sig .tc .vmem S4x64 .f32) (harg7 : arg7.IsWhole)
    (arg8 : Memref sig .tc .vmem S1x128 .f32) (harg8 : arg8.IsWhole)
    (arg9 : Memref sig .tc .vmem S1x512x128 .f32) (harg9 : arg9.IsWhole)
    (arg10 : Memref sig .tc .vmem S2048x128 .bf16) (harg10 : arg10.IsWhole)
    (arg11 : Memref sig .tc .vmem S2048x256 .bf16) (harg11 : arg11.IsWhole)
    (arg12 : Memref sig .tc .vmem S1024x512 .f32) (harg12 : arg12.IsWhole)
    (arg13 : Memref sig .tc .vmem S1024x512 .f32) (harg13 : arg13.IsWhole)
    (arg14 : Memref sig .tc .vmem S4x1024x512 .f32) (harg14 : arg14.IsWhole)
    (arg15 : Memref sig .tc .vmem S1024x128 .f32) (harg15 : arg15.IsWhole)
    (arg16 : Memref sig .tc .vmem S1024x256 .f32) (harg16 : arg16.IsWhole) (arg2 : BitVec 32) (v20 : FVec F S1024x128 .bf16)
    (v30 : Vec F S1024x512 .f32) (c512_i32 : BitVec 32) (v53 : Vec F S1024x128 .f32)
    (X11 : Vec F S2048x256 .bf16) (Y14 : Vec F S4x1024x512 .f32) (sl : Fin (k0_t3_loop i).trips → Vec F S1x1024x512 .f32)
    (hsl : ∀ j, window Y14 (k0_off8 i j) S1x1024x512.size (k0_off8_inb i j) = sl j) :
    (iprop(owns (c : Thread nD τ) arg11 fullShare X11 ∗ owns (c : Thread nD τ) arg14 fullShare Y14 ∗ owns (c : Thread nD τ) arg16 fullShare (k0_pay23 (F := F))) : sProp 𝕄)
      ⊢ wp frame (wpE (defs₀ (F := F)) Variants.none c none) E (Scf.Loop.for (k0_t3_loop i) (k0_t3_ok i) ⟨⟩ (k0_t3_body i arg3 harg3 arg4 harg4 arg5 harg5 arg6 harg6 arg7 harg7 arg8 harg8 arg9 harg9 arg10 harg10 arg11 harg11 arg12 harg12 arg13 harg13 arg14 harg14 arg15 harg15 arg16 harg16 arg2 v20 v30 c512_i32 v53))
        (fun _ => iprop(owns (c : Thread nD τ) arg11 fullShare X11 ∗ owns (c : Thread nD τ) arg14 fullShare Y14 ∗ owns (c : Thread nD τ) arg16 fullShare (aRun i v53 X11 sl (k0_t3_loop i).trips))) := by
  iintro H
  iapply (Scf.wp_for frame (wpE (defs₀ (F := F)) Variants.none c none) E _ _ _ (k0_t3_ok i) _ _
    (fun k _ => iprop(owns (c : Thread nD τ) arg11 fullShare X11 ∗ owns (c : Thread nD τ) arg14 fullShare Y14 ∗ owns (c : Thread nD τ) arg16 fullShare (aRun i v53 X11 sl k))) ?_)
  · intro k acc
    rw [aRun_succ, ← hsl k]
    exact trip3 c E i arg3 harg3 arg4 harg4 arg5 harg5 arg6 harg6 arg7 harg7 arg8 harg8 arg9 harg9 arg10 harg10 arg11 harg11 arg12 harg12 arg13 harg13 arg14 harg14 arg15 harg15 arg16 harg16 arg2 v20 v30 c512_i32 v53 k acc X11 Y14 (aRun i v53 X11 sl k.val)
  · isplitl
    · iexact H
    · iintro %u H; iexact H

/-- No trip: what is held stays held. -/
theorem loop2 (c : Dev nD) (E : Set ℕ) (i : grid0.Coords) (arg3 : Memref sig .tc .smem S8 .f32) (harg3 : arg3.IsWhole)
    (arg4 : Memref sig .tc .vmem S1x512x128 .f32) (harg4 : arg4.IsWhole)
    (arg5 : Memref sig .tc .vmem S1x1x2048x128 .f32) (harg5 : arg5.IsWhole)
    (arg6 : Memref sig .tc .vmem S1x1x2048x128 .f32) (harg6 : arg6.IsWhole)
    (arg7 : Memref sig .tc .vmem S4x64 .f32) (harg7 : arg7.IsWhole)
    (arg8 : Memref sig .tc .vmem S1x128 .f32) (harg8 : arg8.IsWhole)
    (arg9 : Memref sig .tc .vmem S1x512x128 .f32) (harg9 : arg9.IsWhole)
    (arg10 : Memref sig .tc .vmem S2048x128 .bf16) (harg10 : arg10.IsWhole)
    (arg11 : Memref sig .tc .vmem S2048x256 .bf16) (harg11 : arg11.IsWhole)
    (arg12 : Memref sig .tc .vmem S1024x512 .f32) (harg12 : arg12.IsWhole)
    (arg13 : Memref sig .tc .vmem S1024x512 .f32) (harg13 : arg13.IsWhole)
    (arg14 : Memref sig .tc .vmem S4x1024x512 .f32) (harg14 : arg14.IsWhole)
    (arg15 : Memref sig .tc .vmem S1024x128 .f32) (harg15 : arg15.IsWhole)
    (arg16 : Memref sig .tc .vmem S1024x256 .f32) (harg16 : arg16.IsWhole) (v1 : Elt F .f32) (v6 : Vec F S1x512x128 .f32) (R : sProp 𝕄) :
    R ⊢ wp frame (wpE (defs₀ (F := F)) Variants.none c none) E (Scf.Loop.for (k0_t2_loop i) (k0_t2_ok i) ⟨⟩ (k0_t2_body i arg3 harg3 arg4 harg4 arg5 harg5 arg6 harg6 arg7 harg7 arg8 harg8 arg9 harg9 arg10 harg10 arg11 harg11 arg12 harg12 arg13 harg13 arg14 harg14 arg15 harg15 arg16 harg16 v1 v6)) (fun _ => R) := by
  iintro H
  iapply (Scf.wp_for frame (wpE (defs₀ (F := F)) Variants.none c none) E _ _ _ (k0_t2_ok i) _ _ (fun _ _ => R) ?_)
  · intro k acc; exact absurd (lt_of_lt_of_eq k.isLt (trips_t2 i)) (Nat.not_lt_zero _)
  · isplitl
    · iexact H
    · iintro %u H; iexact H

/-- No trip: what is held stays held. -/
theorem loop4 (c : Dev nD) (E : Set ℕ) (i : grid0.Coords) (arg3 : Memref sig .tc .smem S8 .f32) (harg3 : arg3.IsWhole)
    (arg4 : Memref sig .tc .vmem S1x512x128 .f32) (harg4 : arg4.IsWhole)
    (arg5 : Memref sig .tc .vmem S1x1x2048x128 .f32) (harg5 : arg5.IsWhole)
    (arg6 : Memref sig .tc .vmem S1x1x2048x128 .f32) (harg6 : arg6.IsWhole)
    (arg7 : Memref sig .tc .vmem S4x64 .f32) (harg7 : arg7.IsWhole)
    (arg8 : Memref sig .tc .vmem S1x128 .f32) (harg8 : arg8.IsWhole)
    (arg9 : Memref sig .tc .vmem S1x512x128 .f32) (harg9 : arg9.IsWhole)
    (arg10 : Memref sig .tc .vmem S2048x128 .bf16) (harg10 : arg10.IsWhole)
    (arg11 : Memref sig .tc .vmem S2048x256 .bf16) (harg11 : arg11.IsWhole)
    (arg12 : Memref sig .tc .vmem S1024x512 .f32) (harg12 : arg12.IsWhole)
    (arg13 : Memref sig .tc .vmem S1024x512 .f32) (harg13 : arg13.IsWhole)
    (arg14 : Memref sig .tc .vmem S4x1024x512 .f32) (harg14 : arg14.IsWhole)
    (arg15 : Memref sig .tc .vmem S1024x128 .f32) (harg15 : arg15.IsWhole)
    (arg16 : Memref sig .tc .vmem S1024x256 .f32) (harg16 : arg16.IsWhole) (v57 : FVec F S1024x128 .f32) (v67 : BitVec 32) (R : sProp 𝕄) :
    R ⊢ wp frame (wpE (defs₀ (F := F)) Variants.none c none) E (Scf.Loop.for (k0_t4_loop i) (k0_t4_ok i) ⟨⟩ (k0_t4_body i arg3 harg3 arg4 harg4 arg5 harg5 arg6 harg6 arg7 harg7 arg8 harg8 arg9 harg9 arg10 harg10 arg11 harg11 arg12 harg12 arg13 harg13 arg14 harg14 arg15 harg15 arg16 harg16 v57 v67)) (fun _ => R) := by
  iintro H
  iapply (Scf.wp_for frame (wpE (defs₀ (F := F)) Variants.none c none) E _ _ _ (k0_t4_ok i) _ _ (fun _ _ => R) ?_)
  · intro k acc; exact absurd (lt_of_lt_of_eq k.isLt (trips_t4 i)) (Nat.not_lt_zero _)
  · isplitl
    · iexact H
    · iintro %u H; iexact H

end Cert.Kernel2Ideal.Gen

end
-- ==== Proof.AttnParts.lean ====
/- The attention body, part by part. -/
module

public import proofs.«01_k».proof.Proof.AttnLoops

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Idealize.ShloMosaic.Pipeline (Dat Cfg Window BodyObligation cellOf)

variable {F : FTy → Type} [FloatOps F] [Named F]

/-- The logic's resources at this program. -/
local notation "𝕄" => MT nD τ sig Unit (Elt F) ℕ (UR sig nD τ) ℕ

/-- The body refills the four buffers it keeps between points exactly at the first query block of a head. -/
abbrev cond0_0 (i : grid0.Coords) : Prop := (Scalar.cmpi .ne (Scalar.extui (Scalar.cmpi .eq (BitVec.ofNat 32 (i 2).val) 0#32)) 0#32) = 1#1

/-- The head's slope. -/
def slopeOf (i : grid0.Coords) (x0 : Vec F S8 .f32) : Elt F .f32 :=
  window x0 (k0_off1 i) S1.size (k0_off1_inb i) (Shape.Idx.first (by decide : 0 < S1.numel))

/-- The keys a head's first query block leaves. -/
def kbOf (x2 : Vec F S1x1x2048x128 .f32) : Vec F S2048x128 .bf16 := k0_pay2 x2

/-- The values, with columns of ones beside them, a head's first query block leaves. -/
def vbOf (x3 : Vec F S1x1x2048x128 .f32) : Vec F S2048x256 .bf16 :=
  put (put (fun _ => Scalar.ofBits .bf16 0#16) ![0, 0] S2048x128.size (k0_pay3 x3)) ![0, 128] S2048x128.size (k0_pay4 (F := F))

/-- The bias within a block below the diagonal a head's first query block leaves. -/
def biasOf (i : grid0.Coords) (x0 : Vec F S8 .f32) : Vec F S1024x512 .f32 := k0_pay7 (k0_pay9 (slopeOf i x0))

/-- The bias, masked above the diagonal, a head's first query block leaves. -/
def bdiagOf (i : grid0.Coords) (x0 : Vec F S8 .f32) : Vec F S1024x512 .f32 := k0_pay10 (k0_pay8 (k0_pay9 (slopeOf i x0)))

/-- The two halves cover the buffer, whatever it held. -/
theorem vbOf_eq (x3 : Vec F S1x1x2048x128 .f32) (g : Vec F S2048x256 .bf16) :
    put (put g ![0, 0] S2048x128.size (k0_pay3 x3)) ![0, 128] S2048x128.size (k0_pay4 (F := F)) = vbOf x3 := by
  funext y
  unfold vbOf
  unfold put
  by_cases h : ∀ a, (![0, 128] : Fin 2 → ℕ) a ≤ (y a).val ∧ (y a).val < (![0, 128] : Fin 2 → ℕ) a + S2048x128.size a
  · rw [dif_pos h, dif_pos h]
  · rw [dif_neg h, dif_neg h]
    have h' : ∀ a, (![0, 0] : Fin 2 → ℕ) a ≤ (y a).val ∧ (y a).val < (![0, 0] : Fin 2 → ℕ) a + S2048x128.size a := by
      have h0 : (y 0).val < 2048 := (y 0).isLt
      have h1 : (y 1).val < 256 := (y 1).isLt
      have hn : (y 1).val < 128 := by
        by_contra hc
        refine h fun a => ?_
        match a with
        | 0 => exact ⟨Nat.zero_le _, by show (y 0).val < 0 + 2048; omega⟩
        | 1 => exact ⟨by show 128 ≤ (y 1).val; omega, by show (y 1).val < 128 + 128; omega⟩
      intro a
      match a with
      | 0 => exact ⟨Nat.zero_le _, by show (y 0).val < 0 + 2048; omega⟩
      | 1 => exact ⟨Nat.zero_le _, by show (y 1).val < 0 + 128; omega⟩
    rw [dif_pos h', dif_pos h']

/-- The second part of the body from its first pass on. -/
abbrev tail2 (i : grid0.Coords) (arg3 : Memref sig .tc .smem S8 .f32) (harg3 : arg3.IsWhole)
    (arg4 : Memref sig .tc .vmem S1x512x128 .f32) (harg4 : arg4.IsWhole)
    (arg5 : Memref sig .tc .vmem S1x1x2048x128 .f32) (harg5 : arg5.IsWhole)
    (arg6 : Memref sig .tc .vmem S1x1x2048x128 .f32) (harg6 : arg6.IsWhole)
    (arg7 : Memref sig .tc .vmem S4x64 .f32) (harg7 : arg7.IsWhole)
    (arg8 : Memref sig .tc .vmem S1x128 .f32) (harg8 : arg8.IsWhole)
    (arg9 : Memref sig .tc .vmem S1x512x128 .f32) (harg9 : arg9.IsWhole)
    (arg10 : Memref sig .tc .vmem S2048x128 .bf16) (harg10 : arg10.IsWhole)
    (arg11 : Memref sig .tc .vmem S2048x256 .bf16) (harg11 : arg11.IsWhole)
    (arg12 : Memref sig .tc .vmem S1024x512 .f32) (harg12 : arg12.IsWhole)
    (arg13 : Memref sig .tc .vmem S1024x512 .f32) (harg13 : arg13.IsWhole)
    (arg14 : Memref sig .tc .vmem S4x1024x512 .f32) (harg14 : arg14.IsWhole)
    (arg15 : Memref sig .tc .vmem S1024x128 .f32) (harg15 : arg15.IsWhole)
    (arg16 : Memref sig .tc .vmem S1024x256 .f32) (harg16 : arg16.IsWhole) (v1 : Elt F .f32) (v6 : Vec F S1x512x128 .f32) :
    Prog (TpuEff nD τ sig (Elt F) Λ₀ .tc) (Σ' (arg2 : BitVec 32) (v20 : FVec F S1024x128 .bf16) (v30 : Vec F S1024x512 .f32), BitVec 32) := do
  Scf.Loop.for (k0_t1_loop i) (k0_t1_ok i) ⟨⟩ (k0_t1_body i arg3 harg3 arg4 harg4 arg5 harg5 arg6 harg6 arg7 harg7 arg8 harg8 arg9 harg9 arg10 harg10 arg11 harg11 arg12 harg12 arg13 harg13 arg14 harg14 arg15 harg15 arg16 harg16 v1 v6)
  Scf.Loop.for (k0_t2_loop i) (k0_t2_ok i) ⟨⟩ (k0_t2_body i arg3 harg3 arg4 harg4 arg5 harg5 arg6 harg6 arg7 harg7 arg8 harg8 arg9 harg9 arg10 harg10 arg11 harg11 arg12 harg12 arg13 harg13 arg14 harg14 arg15 harg15 arg16 harg16 v1 v6)
  let v30 : Vec F S1024x512 .f32 ← Prog.lift (.load arg13 (Rect.unit (s := S1024x512) ![0, 0] S1024x512.size inb_S1024x512_S1024x512_0_0).toLoadRect (View.loadsAt_vmem h_S1024x512))
  pure ⟨BitVec.ofNat 32 (i 2).val, k0_pay11 v6, v30, 512#32⟩

theorem tail2_run (c : Dev nD) (E : Set ℕ) (i : grid0.Coords) (arg3 : Memref sig .tc .smem S8 .f32) (harg3 : arg3.IsWhole)
    (arg4 : Memref sig .tc .vmem S1x512x128 .f32) (harg4 : arg4.IsWhole)
    (arg5 : Memref sig .tc .vmem S1x1x2048x128 .f32) (harg5 : arg5.IsWhole)
    (arg6 : Memref sig .tc .vmem S1x1x2048x128 .f32) (harg6 : arg6.IsWhole)
    (arg7 : Memref sig .tc .vmem S4x64 .f32) (harg7 : arg7.IsWhole)
    (arg8 : Memref sig .tc .vmem S1x128 .f32) (harg8 : arg8.IsWhole)
    (arg9 : Memref sig .tc .vmem S1x512x128 .f32) (harg9 : arg9.IsWhole)
    (arg10 : Memref sig .tc .vmem S2048x128 .bf16) (harg10 : arg10.IsWhole)
    (arg11 : Memref sig .tc .vmem S2048x256 .bf16) (harg11 : arg11.IsWhole)
    (arg12 : Memref sig .tc .vmem S1024x512 .f32) (harg12 : arg12.IsWhole)
    (arg13 : Memref sig .tc .vmem S1024x512 .f32) (harg13 : arg13.IsWhole)
    (arg14 : Memref sig .tc .vmem S4x1024x512 .f32) (harg14 : arg14.IsWhole)
    (arg15 : Memref sig .tc .vmem S1024x128 .f32) (harg15 : arg15.IsWhole)
    (arg16 : Memref sig .tc .vmem S1024x256 .f32) (harg16 : arg16.IsWhole) (v1 : Elt F .f32) (v6 : Vec F S1x512x128 .f32)
    (X10 : Vec F S2048x128 .bf16) (X12 X13 : Vec F S1024x512 .f32) (Y14 : Vec F S4x1024x512 .f32)
    (Q : (Σ' (arg2 : BitVec 32) (v20 : FVec F S1024x128 .bf16) (v30 : Vec F S1024x512 .f32), BitVec 32) → sProp 𝕄) :
    (iprop(owns (c : Thread nD τ) arg10 fullShare X10 ∗ owns (c : Thread nD τ) arg12 fullShare X12 ∗ owns (c : Thread nD τ) arg13 fullShare X13 ∗ owns (c : Thread nD τ) arg14 fullShare Y14 ∗ owns (c : Thread nD τ) arg15 fullShare (k0_pay12 (F := F))
      ∗ (iprop(owns (c : Thread nD τ) arg10 fullShare X10 ∗ owns (c : Thread nD τ) arg12 fullShare X12 ∗ owns (c : Thread nD τ) arg13 fullShare X13
          ∗ (∃ Y, ⌜SDone i v1 v6 X10 X12 (k0_t1_loop i).trips Y⌝ ∗ owns (c : Thread nD τ) arg14 fullShare Y)
          ∗ owns (c : Thread nD τ) arg15 fullShare (mRun i v1 v6 X10 X12 (k0_t1_loop i).trips)) -∗ Q ⟨BitVec.ofNat 32 (i 2).val, k0_pay11 v6, X13, 512#32⟩)) : sProp 𝕄)
      ⊢ wp frame (wpE (defs₀ (F := F)) Variants.none c none) E (tail2 i arg3 harg3 arg4 harg4 arg5 harg5 arg6 harg6 arg7 harg7 arg8 harg8 arg9 harg9 arg10 harg10 arg11 harg11 arg12 harg12 arg13 harg13 arg14 harg14 arg15 harg15 arg16 harg16 v1 v6) Q := by
  iintro ⟨H10, H12, H13, H14, H15, HQ⟩
  unfold tail2
  rw [wp_bind]
  iapply (wp_wand_r frame (wpE (defs₀ (F := F)) Variants.none c none) E)
  isplitl [H10 H12 H14 H15]
  · iapply (loop1 c E i arg3 harg3 arg4 harg4 arg5 harg5 arg6 harg6 arg7 harg7 arg8 harg8 arg9 harg9 arg10 harg10 arg11 harg11 arg12 harg12 arg13 harg13 arg14 harg14 arg15 harg15 arg16 harg16 v1 v6 X10 X12 Y14)
    isplitl [H10]; · iexact H10
    isplitl [H12]; · iexact H12
    isplitl [H14]; · iexact H14
    iexact H15
  iintro %u ⟨H10, H12, H14, H15⟩
  rw [wp_bind]
  iapply (wp_wand_r frame (wpE (defs₀ (F := F)) Variants.none c none) E)
  isplitl [H10 H12 H14 H15]
  · iapply (loop2 c E i arg3 harg3 arg4 harg4 arg5 harg5 arg6 harg6 arg7 harg7 arg8 harg8 arg9 harg9 arg10 harg10 arg11 harg11 arg12 harg12 arg13 harg13 arg14 harg14 arg15 harg15 arg16 harg16 v1 v6 iprop(owns (c : Thread nD τ) arg10 fullShare X10 ∗ owns (c : Thread nD τ) arg12 fullShare X12
          ∗ (∃ Y, ⌜SDone i v1 v6 X10 X12 (k0_t1_loop i).trips Y⌝ ∗ owns (c : Thread nD τ) arg14 fullShare Y)
          ∗ owns (c : Thread nD τ) arg15 fullShare (mRun i v1 v6 X10 X12 (k0_t1_loop i).trips)))
    isplitl [H10]; · iexact H10
    isplitl [H12]; · iexact H12
    isplitl [H14]; · iexact H14
    iexact H15
  iintro %u ⟨H10, H12, H14, H15⟩
  unfold owns
  icases H13 with ⟨%f13, %h13, H13⟩
  sl_exec
  sl_step
  rw [View.readAt_full, h13]
  iapply HQ
  isplitl [H10]; · iexact H10
  isplitl [H12]; · iexact H12
  isplitl [H13]
  · iexists _; isplitr; · ipureintro; exact h13
    iexact H13
  isplitl [H14]; · iexact H14
  iexact H15

set_option maxHeartbeats 1000000 in
/-- The second part at a query block that is not a head's first. -/
theorem part2B (c : Dev nD) (E : Set ℕ) (i : grid0.Coords) (arg3 : Memref sig .tc .smem S8 .f32) (harg3 : arg3.IsWhole)
    (arg4 : Memref sig .tc .vmem S1x512x128 .f32) (harg4 : arg4.IsWhole)
    (arg5 : Memref sig .tc .vmem S1x1x2048x128 .f32) (harg5 : arg5.IsWhole)
    (arg6 : Memref sig .tc .vmem S1x1x2048x128 .f32) (harg6 : arg6.IsWhole)
    (arg7 : Memref sig .tc .vmem S4x64 .f32) (harg7 : arg7.IsWhole)
    (arg8 : Memref sig .tc .vmem S1x128 .f32) (harg8 : arg8.IsWhole)
    (arg9 : Memref sig .tc .vmem S1x512x128 .f32) (harg9 : arg9.IsWhole)
    (arg10 : Memref sig .tc .vmem S2048x128 .bf16) (harg10 : arg10.IsWhole)
    (arg11 : Memref sig .tc .vmem S2048x256 .bf16) (harg11 : arg11.IsWhole)
    (arg12 : Memref sig .tc .vmem S1024x512 .f32) (harg12 : arg12.IsWhole)
    (arg13 : Memref sig .tc .vmem S1024x512 .f32) (harg13 : arg13.IsWhole)
    (arg14 : Memref sig .tc .vmem S4x1024x512 .f32) (harg14 : arg14.IsWhole)
    (arg15 : Memref sig .tc .vmem S1024x128 .f32) (harg15 : arg15.IsWhole)
    (arg16 : Memref sig .tc .vmem S1024x256 .f32) (harg16 : arg16.IsWhole) (hc : ¬ cond0_0 i)
    (x0 : Vec F S8 .f32) (x1 : Vec F S1x512x128 .f32) (X10 : Vec F S2048x128 .bf16) (X12 X13 : Vec F S1024x512 .f32)
    (Y14 : Vec F S4x1024x512 .f32) (Y15 : Vec F S1024x128 .f32)
    (Q : (Σ' (arg2 : BitVec 32) (v20 : FVec F S1024x128 .bf16) (v30 : Vec F S1024x512 .f32), BitVec 32) → sProp 𝕄) :
    (iprop(owns (c : Thread nD τ) arg3 fullShare x0 ∗ owns (c : Thread nD τ) arg4 fullShare x1 ∗ owns (c : Thread nD τ) arg10 fullShare X10 ∗ owns (c : Thread nD τ) arg12 fullShare X12 ∗ owns (c : Thread nD τ) arg13 fullShare X13 ∗ owns (c : Thread nD τ) arg14 fullShare Y14 ∗ owns (c : Thread nD τ) arg15 fullShare Y15
      ∗ (iprop(owns (c : Thread nD τ) arg3 fullShare x0 ∗ owns (c : Thread nD τ) arg4 fullShare x1 ∗ owns (c : Thread nD τ) arg10 fullShare X10 ∗ owns (c : Thread nD τ) arg12 fullShare X12 ∗ owns (c : Thread nD τ) arg13 fullShare X13
          ∗ (∃ Y, ⌜SDone i (slopeOf i x0) x1 X10 X12 (k0_t1_loop i).trips Y⌝ ∗ owns (c : Thread nD τ) arg14 fullShare Y)
          ∗ owns (c : Thread nD τ) arg15 fullShare (mRun i (slopeOf i x0) x1 X10 X12 (k0_t1_loop i).trips)) -∗ Q ⟨BitVec.ofNat 32 (i 2).val, k0_pay11 x1, X13, 512#32⟩)) : sProp 𝕄)
      ⊢ wp frame (wpE (defs₀ (F := F)) Variants.none c none) E (k0_part2 i arg3 harg3 arg4 harg4 arg5 harg5 arg6 harg6 arg7 harg7 arg8 harg8 arg9 harg9 arg10 harg10 arg11 harg11 arg12 harg12 arg13 harg13 arg14 harg14 arg15 harg15 arg16 harg16) Q := by
  rw [k0_part2_eq_skeleton]
  unfold k0_part2_skel
  unfold owns
  iintro ⟨⟨%f3, %h3, H3⟩, ⟨%f4, %h4, H4⟩, ⟨%f10, %h10, H10⟩, ⟨%f12, %h12, H12⟩, ⟨%f13, %h13, H13⟩, ⟨%f14, %h14, H14⟩, ⟨%f15, %h15, H15⟩, HQ⟩
  sl_exec (disch := first | sl_exact hc)
  have e1 : part2B.sl.r c i arg3 f3 = slopeOf i x0 := by
    subst h3
    unfold part2B.sl.r
    rfl
  have e6 : View.readAt (Elt F) arg4.view (Rect.unit (s := S1x512x128) ![0, 0, 0] S1x512x128.size inb_S1x512x128_S1x512x128_0_0_0).toLoadRect f4 = x1 := by
    rw [View.readAt_full, h4]
  rw [e1, e6]
  iapply (tail2_run c E i arg3 harg3 arg4 harg4 arg5 harg5 arg6 harg6 arg7 harg7 arg8 harg8 arg9 harg9 arg10 harg10 arg11 harg11 arg12 harg12 arg13 harg13 arg14 harg14 arg15 harg15 arg16 harg16 (slopeOf i x0) x1 X10 X12 X13 Y14 Q)
  isplitl [H10]
  · try unfold owns
    iexists _; isplitr; · ipureintro; exact h10
    iexact H10
  isplitl [H12]
  · try unfold owns
    iexists _; isplitr; · ipureintro; exact h12
    iexact H12
  isplitl [H13]
  · try unfold owns
    iexists _; isplitr; · ipureintro; exact h13
    iexact H13
  isplitl [H14]
  · try unfold owns
    iexists _; isplitr; · ipureintro; exact h14
    iexact H14
  isplitl [H15]
  · unfold owns; iexists _; isplitr
    rotate_left
    · iexact H15
    · ipureintro; sl_unfold_words; exact View.read_writes_full _ _ _ _ _
  iintro H
  iapply HQ
  isplitl [H3]
  · try unfold owns
    iexists _; isplitr; · ipureintro; exact h3
    iexact H3
  isplitl [H4]
  · try unfold owns
    iexists _; isplitr; · ipureintro; exact h4
    iexact H4
  iexact H

set_option maxHeartbeats 1000000 in
/-- The second part at a head's first query block: it fills the four kept buffers first. -/
theorem part2A (c : Dev nD) (E : Set ℕ) (i : grid0.Coords) (arg3 : Memref sig .tc .smem S8 .f32) (harg3 : arg3.IsWhole)
    (arg4 : Memref sig .tc .vmem S1x512x128 .f32) (harg4 : arg4.IsWhole)
    (arg5 : Memref sig .tc .vmem S1x1x2048x128 .f32) (harg5 : arg5.IsWhole)
    (arg6 : Memref sig .tc .vmem S1x1x2048x128 .f32) (harg6 : arg6.IsWhole)
    (arg7 : Memref sig .tc .vmem S4x64 .f32) (harg7 : arg7.IsWhole)
    (arg8 : Memref sig .tc .vmem S1x128 .f32) (harg8 : arg8.IsWhole)
    (arg9 : Memref sig .tc .vmem S1x512x128 .f32) (harg9 : arg9.IsWhole)
    (arg10 : Memref sig .tc .vmem S2048x128 .bf16) (harg10 : arg10.IsWhole)
    (arg11 : Memref sig .tc .vmem S2048x256 .bf16) (harg11 : arg11.IsWhole)
    (arg12 : Memref sig .tc .vmem S1024x512 .f32) (harg12 : arg12.IsWhole)
    (arg13 : Memref sig .tc .vmem S1024x512 .f32) (harg13 : arg13.IsWhole)
    (arg14 : Memref sig .tc .vmem S4x1024x512 .f32) (harg14 : arg14.IsWhole)
    (arg15 : Memref sig .tc .vmem S1024x128 .f32) (harg15 : arg15.IsWhole)
    (arg16 : Memref sig .tc .vmem S1024x256 .f32) (harg16 : arg16.IsWhole) (hc : cond0_0 i)
    (x0 : Vec F S8 .f32) (x1 : Vec F S1x512x128 .f32) (x2 x3 : Vec F S1x1x2048x128 .f32)
    (Y10 : Vec F S2048x128 .bf16) (Y11 : Vec F S2048x256 .bf16) (Y12 Y13 : Vec F S1024x512 .f32)
    (Y14 : Vec F S4x1024x512 .f32) (Y15 : Vec F S1024x128 .f32)
    (Q : (Σ' (arg2 : BitVec 32) (v20 : FVec F S1024x128 .bf16) (v30 : Vec F S1024x512 .f32), BitVec 32) → sProp 𝕄) :
    (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14 ∗ owns (c : Thread nD τ) arg15 fullShare Y15
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg11 fullShare (vbOf x3) ∗ owns (c : Thread nD τ) arg10 fullShare (kbOf x2) ∗ owns (c : Thread nD τ) arg12 fullShare (biasOf i x0) ∗ owns (c : Thread nD τ) arg13 fullShare (bdiagOf i x0)
          ∗ (∃ Y, ⌜SDone i (slopeOf i x0) x1 (kbOf x2) (biasOf i x0) (k0_t1_loop i).trips Y⌝ ∗ owns (c : Thread nD τ) arg14 fullShare Y)
          ∗ owns (c : Thread nD τ) arg15 fullShare (mRun i (slopeOf i x0) x1 (kbOf x2) (biasOf i x0) (k0_t1_loop i).trips)) -∗ Q ⟨BitVec.ofNat 32 (i 2).val, k0_pay11 x1, (bdiagOf i x0), 512#32⟩)) : sProp 𝕄)
      ⊢ wp frame (wpE (defs₀ (F := F)) Variants.none c none) E (k0_part2 i arg3 harg3 arg4 harg4 arg5 harg5 arg6 harg6 arg7 harg7 arg8 harg8 arg9 harg9 arg10 harg10 arg11 harg11 arg12 harg12 arg13 harg13 arg14 harg14 arg15 harg15 arg16 harg16) Q := by
  rw [k0_part2_eq_skeleton]
  unfold k0_part2_skel
  rw [k0_part1_eq_skeleton]
  unfold k0_part1_skel
  unfold owns
  iintro ⟨⟨%f3, %h3, H3⟩, ⟨%f4, %h4, H4⟩, ⟨%f5, %h5, H5⟩, ⟨%f6, %h6, H6⟩, ⟨%f10, %h10, H10⟩, ⟨%f11, %h11, H11⟩, ⟨%f12, %h12, H12⟩, ⟨%f13, %h13, H13⟩, ⟨%f14, %h14, H14⟩, ⟨%f15, %h15, H15⟩, HQ⟩
  sl_exec (disch := first | sl_exact hc)
  have e1 : part2A.sl.r c i arg3 f3 = slopeOf i x0 := by
    subst h3
    unfold part2A.sl.r
    rfl
  have e6 : View.readAt (Elt F) arg4.view (Rect.unit (s := S1x512x128) ![0, 0, 0] S1x512x128.size inb_S1x512x128_S1x512x128_0_0_0).toLoadRect f4 = x1 := by
    rw [View.readAt_full, h4]
  rw [e1, e6]
  iapply (tail2_run c E i arg3 harg3 arg4 harg4 arg5 harg5 arg6 harg6 arg7 harg7 arg8 harg8 arg9 harg9 arg10 harg10 arg11 harg11 arg12 harg12 arg13 harg13 arg14 harg14 arg15 harg15 arg16 harg16 (slopeOf i x0) x1 (kbOf x2) (biasOf i x0) (bdiagOf i x0) Y14 Q)
  isplitl [H10]
  · try unfold owns
    iexists _; isplitr
    rotate_left
    · iexact H10
    · ipureintro
      unfold part2A.sl.H10_1
      refine (View.read_writes_full _ _ _ _ _).trans ?_
      unfold kbOf
      rw [View.readAt_full, h5]
  isplitl [H12]
  · try unfold owns
    iexists _; isplitr
    rotate_left
    · iexact H12
    · ipureintro
      unfold part2A.sl.H12_1
      refine (View.read_writes_full _ _ _ _ _).trans ?_
      rw [e1]; rfl
  isplitl [H13]
  · try unfold owns
    iexists _; isplitr
    rotate_left
    · iexact H13
    · ipureintro
      unfold part2A.sl.H13_1
      refine (View.read_writes_full _ _ _ _ _).trans ?_
      rw [e1]; rfl
  isplitl [H14]
  · try unfold owns
    iexists _; isplitr; · ipureintro; exact h14
    iexact H14
  isplitl [H15]
  · try unfold owns
    iexists _; isplitr
    rotate_left
    · iexact H15
    · ipureintro; unfold part2A.sl.H15_1; exact View.read_writes_full _ _ _ _ _
  iintro H
  iapply HQ
  isplitl [H3]
  · try unfold owns
    iexists _; isplitr; · ipureintro; exact h3
    iexact H3
  isplitl [H4]
  · try unfold owns
    iexists _; isplitr; · ipureintro; exact h4
    iexact H4
  isplitl [H5]
  · try unfold owns
    iexists _; isplitr; · ipureintro; exact h5
    iexact H5
  isplitl [H6]
  · try unfold owns
    iexists _; isplitr; · ipureintro; exact h6
    iexact H6
  isplitl [H11]
  · try unfold owns
    iexists _; isplitr
    rotate_left
    · iexact H11
    · ipureintro
      unfold part2A.sl.H11_2
      sl_unfold_words
      refine (View.read_writes_cons_put _ _ _ _ _ rfl).trans ?_
      rw [View.read_writes_cons_put _ _ _ _ _ rfl]
      rw [View.readAt_full, h6]
      exact vbOf_eq x3 _
  iexact H

/-- A window depends on the offsets' values only. -/
theorem window_congr {α : Type} {s : Shape} (x : s.Idx → α) {off off' size : Fin s.rank → ℕ} (h : off = off')
    (inb : ∀ a, off a + size a ≤ s.size a) (inb' : ∀ a, off' a + size a ≤ s.size a) :
    (window x off size inb : ((a : Fin s.rank) → Fin (size a)) → α) = window x off' size inb' := by
  subst h; rfl

/-- Block `j` of the scores pass 2 reads: pass 1's, and the diagonal block's. -/
def sAll (i : grid0.Coords) (v1 : Elt F .f32) (v6 : Vec F S1x512x128 .f32) (X10 : Vec F S2048x128 .bf16)
    (X12 X13 : Vec F S1024x512 .f32) (j : Fin (k0_t3_loop i).trips) : Vec F S1x1024x512 .f32 :=
  if h : j.val < (k0_t1_loop i).trips then sBlk i v1 v6 X10 X12 ⟨j.val, h⟩
  else k0_pay20 (k0_pay11 v6) X13 (window X10 (k0_off6 i) S512x128.size (k0_off6_inb i))

theorem sAll_put (i : grid0.Coords) (v1 : Elt F .f32) (v6 : Vec F S1x512x128 .f32) (X10 : Vec F S2048x128 .bf16)
    (X12 X13 : Vec F S1024x512 .f32) (Y : Vec F S4x1024x512 .f32)
    (h : SDone i v1 v6 X10 X12 (k0_t1_loop i).trips Y) (j : Fin (k0_t3_loop i).trips) :
    window (put Y (k0_off7 i) S1x1024x512.size (k0_pay20 (k0_pay11 v6) X13 (window X10 (k0_off6 i) S512x128.size (k0_off6_inb i))))
      (k0_off8 i j) S1x1024x512.size (k0_off8_inb i j) = sAll i v1 v6 X10 X12 X13 j := by
  have hj : j.val < (i 2).val + 1 := lt_of_lt_of_eq j.isLt (trips_t3 i)
  unfold sAll
  by_cases e : j.val < (k0_t1_loop i).trips
  · rw [dif_pos e]
    have e' : j.val < (i 2).val := lt_of_lt_of_eq e (trips_t1 i)
    refine (window_put_of_disjoint Y (k0_off7 i) S1x1024x512.size (k0_off8 i j) S1x1024x512.size (k0_off8_inb i j) _ (0 : Fin 3) ?_).trans ?_
    · left
      rw [k0_off7_eq, k0_off8_eq]
      show j.val + 1 ≤ (i 2).val
      omega
    · have e2 : k0_off8 i j = k0_off3 i ⟨j.val, e⟩ := by rw [k0_off8_eq, k0_off3_eq]
      exact (window_congr Y e2 (k0_off8_inb i j) (k0_off3_inb i ⟨j.val, e⟩)).trans (h ⟨j.val, e⟩ e)
  · rw [dif_neg e]
    have e' : j.val = (i 2).val := by
      have : ¬ j.val < (i 2).val := fun h' => e (lt_of_lt_of_eq h' (trips_t1 i).symm)
      omega
    have e2 : k0_off8 i j = k0_off7 i := by rw [k0_off8_eq, k0_off7_eq, e']
    refine (window_congr (s := S4x1024x512) (size := S1x1024x512.size) (off := k0_off8 i j) (off' := k0_off7 i) _ e2 (k0_off8_inb i j) (k0_off7_inb i)).trans ?_
    exact window_put_same _ _ _ _ _

/-- The row maximum once the diagonal block is folded in. -/
def mAll (i : grid0.Coords) (v1 : Elt F .f32) (v6 : Vec F S1x512x128 .f32) (X10 : Vec F S2048x128 .bf16)
    (X12 X13 : Vec F S1024x512 .f32) : Vec F S1024x128 .f32 :=
  k0_pay21 (k0_pay11 v6) X13 (window X10 (k0_off6 i) S512x128.size (k0_off6_inb i)) (mRun i v1 v6 X10 X12 (k0_t1_loop i).trips)

/-- The weighted values over all blocks. -/
def aAll (i : grid0.Coords) (v1 : Elt F .f32) (v6 : Vec F S1x512x128 .f32) (X10 : Vec F S2048x128 .bf16) (X11 : Vec F S2048x256 .bf16)
    (X12 X13 : Vec F S1024x512 .f32) : Vec F S1024x256 .f32 :=
  aRun i (mAll i v1 v6 X10 X12 X13) X11 (sAll i v1 v6 X10 X12 X13) (k0_t3_loop i).trips

set_option maxHeartbeats 1000000 in
/-- The third part: the diagonal block, the row maximum, and the second pass. -/
theorem part3 (c : Dev nD) (E : Set ℕ) (i : grid0.Coords) (arg3 : Memref sig .tc .smem S8 .f32) (harg3 : arg3.IsWhole)
    (arg4 : Memref sig .tc .vmem S1x512x128 .f32) (harg4 : arg4.IsWhole)
    (arg5 : Memref sig .tc .vmem S1x1x2048x128 .f32) (harg5 : arg5.IsWhole)
    (arg6 : Memref sig .tc .vmem S1x1x2048x128 .f32) (harg6 : arg6.IsWhole)
    (arg7 : Memref sig .tc .vmem S4x64 .f32) (harg7 : arg7.IsWhole)
    (arg8 : Memref sig .tc .vmem S1x128 .f32) (harg8 : arg8.IsWhole)
    (arg9 : Memref sig .tc .vmem S1x512x128 .f32) (harg9 : arg9.IsWhole)
    (arg10 : Memref sig .tc .vmem S2048x128 .bf16) (harg10 : arg10.IsWhole)
    (arg11 : Memref sig .tc .vmem S2048x256 .bf16) (harg11 : arg11.IsWhole)
    (arg12 : Memref sig .tc .vmem S1024x512 .f32) (harg12 : arg12.IsWhole)
    (arg13 : Memref sig .tc .vmem S1024x512 .f32) (harg13 : arg13.IsWhole)
    (arg14 : Memref sig .tc .vmem S4x1024x512 .f32) (harg14 : arg14.IsWhole)
    (arg15 : Memref sig .tc .vmem S1024x128 .f32) (harg15 : arg15.IsWhole)
    (arg16 : Memref sig .tc .vmem S1024x256 .f32) (harg16 : arg16.IsWhole) (arg2 c512_i32 : BitVec 32)
    (v1 : Elt F .f32) (v6 : Vec F S1x512x128 .f32) (X10 : Vec F S2048x128 .bf16) (X11 : Vec F S2048x256 .bf16) (X12 X13 : Vec F S1024x512 .f32)
    (Y14 : Vec F S4x1024x512 .f32) (Y16 : Vec F S1024x256 .f32) (hS : SDone i v1 v6 X10 X12 (k0_t1_loop i).trips Y14)
    (Q : (Σ' (v57 : FVec F S1024x128 .f32), BitVec 32) → sProp 𝕄) :
    (iprop(owns (c : Thread nD τ) arg10 fullShare X10 ∗ owns (c : Thread nD τ) arg11 fullShare X11 ∗ owns (c : Thread nD τ) arg14 fullShare Y14 ∗ owns (c : Thread nD τ) arg15 fullShare (mRun i v1 v6 X10 X12 (k0_t1_loop i).trips) ∗ owns (c : Thread nD τ) arg16 fullShare Y16
      ∗ (∀ w, iprop(owns (c : Thread nD τ) arg10 fullShare X10 ∗ owns (c : Thread nD τ) arg11 fullShare X11 ∗ (∃ Y, owns (c : Thread nD τ) arg14 fullShare Y) ∗ owns (c : Thread nD τ) arg15 fullShare (mAll i v1 v6 X10 X12 X13) ∗ owns (c : Thread nD τ) arg16 fullShare (aAll i v1 v6 X10 X11 X12 X13)) -∗ Q ⟨k0_pay22 (mAll i v1 v6 X10 X12 X13), w⟩)) : sProp 𝕄)
      ⊢ wp frame (wpE (defs₀ (F := F)) Variants.none c none) E (k0_part3 i arg3 harg3 arg4 harg4 arg5 harg5 arg6 harg6 arg7 harg7 arg8 harg8 arg9 harg9 arg10 harg10 arg11 harg11 arg12 harg12 arg13 harg13 arg14 harg14 arg15 harg15 arg16 harg16 arg2 (k0_pay11 v6) X13 c512_i32) Q := by
  rw [k0_part3_eq_skeleton]
  unfold k0_part3_skel
  unfold owns
  iintro ⟨⟨%f10, %h10, H10⟩, ⟨%f11, %h11, H11⟩, ⟨%f14, %h14, H14⟩, ⟨%f15, %h15, H15⟩, ⟨%f16, %h16, H16⟩, HQ⟩
  sl_exec
  have e1 : part3.sl.v53 c i arg10 arg15 v6 X13 f10 f15 = mAll i v1 v6 X10 X12 X13 := by
    unfold part3.sl.v53 part3.sl.H15_1
    rw [View.readCov_full, View.readAt_full, View.readAt_unit _ _ _ rfl (k0_off6_inb i), h10, h15]
    rfl
  rw [e1]
  rw [wp_bind]
  iapply (wp_wand_r frame (wpE (defs₀ (F := F)) Variants.none c none) E)
  isplitl [H11 H14 H16]
  · iapply (loop3 c E i arg3 harg3 arg4 harg4 arg5 harg5 arg6 harg6 arg7 harg7 arg8 harg8 arg9 harg9 arg10 harg10 arg11 harg11 arg12 harg12 arg13 harg13 arg14 harg14 arg15 harg15 arg16 harg16 arg2 (k0_pay11 v6) X13 c512_i32 (mAll i v1 v6 X10 X12 X13) X11
      (put Y14 (k0_off7 i) S1x1024x512.size (k0_pay20 (k0_pay11 v6) X13 (window X10 (k0_off6 i) S512x128.size (k0_off6_inb i))))
      (sAll i v1 v6 X10 X12 X13) (sAll_put i v1 v6 X10 X12 X13 Y14 hS))
    isplitl [H11]; · unfold owns; iexists _; isplitr; · ipureintro; exact h11
                     iexact H11
    isplitl [H14]
    · try unfold owns
      iexists _; isplitr
      rotate_left
      · iexact H14
      · ipureintro
        refine (View.read_writes_cons_put _ _ _ _ _ rfl).trans ?_
        rw [View.writes_nil, h14, View.readAt_unit _ _ _ rfl (k0_off6_inb i), h10]
    try unfold owns
    iexists _; isplitr
    rotate_left
    · iexact H16
    · ipureintro; unfold part3.sl.H16_1; exact View.read_writes_full _ _ _ _ _
  iintro %u ⟨H11, H14, H16⟩
  sl_step
  iapply HQ
  isplitl [H10]
  · try unfold owns
    iexists _; isplitr; · ipureintro; exact h10
    iexact H10
  isplitl [H11]; · unfold owns; iexact H11
  isplitl [H14]
  · iexists _; unfold owns; iexact H14
  isplitl [H15]
  · iexists _; isplitr
    rotate_left
    · iexact H15
    · ipureintro
      have e2 : View.readCov arg15.view (part3.sl.H15_1 c i arg10 arg15 v6 X13 f10 f15) (Rect.unit (s := S1024x128) ![0, 0] S1024x128.size inb_S1024x128_S1024x128_0_0).toLoadRect = mAll i v1 v6 X10 X12 X13 := by
        rw [← e1]; unfold part3.sl.v53; rfl
      rw [← e2]
      unfold part3.sl.H15_1
      rw [View.readCov_full]
      exact View.read_writes_full _ _ _ _ _
  unfold owns
  iexact H16

/-- The block the body stores, of the head's prepared buffers and the point's other operands. -/
def outOf (i : grid0.Coords) (x0 : Vec F S8 .f32) (x1 : Vec F S1x512x128 .f32) (x4 : Vec F S4x64 .f32) (x5 : Vec F S1x128 .f32)
    (X10 : Vec F S2048x128 .bf16) (X11 : Vec F S2048x256 .bf16) (X12 X13 : Vec F S1024x512 .f32) : Vec F S1x512x128 .f32 :=
  k0_pay1 (k0_pay26 x4
    (window (aAll i (slopeOf i x0) x1 X10 X11 X12 X13) ![0, 0] S1024x128.size inb_S1024x256_S1024x128_0_0)
    (window (aAll i (slopeOf i x0) x1 X10 X11 X12 X13) ![0, 128] S1024x128.size inb_S1024x256_S1024x128_0_128) x5)

set_option maxHeartbeats 1000000 in
/-- The last part: the two softmaxes' quotients, their difference, and its normalisation. -/
theorem part4 (c : Dev nD) (E : Set ℕ) (i : grid0.Coords) (arg3 : Memref sig .tc .smem S8 .f32) (harg3 : arg3.IsWhole)
    (arg4 : Memref sig .tc .vmem S1x512x128 .f32) (harg4 : arg4.IsWhole)
    (arg5 : Memref sig .tc .vmem S1x1x2048x128 .f32) (harg5 : arg5.IsWhole)
    (arg6 : Memref sig .tc .vmem S1x1x2048x128 .f32) (harg6 : arg6.IsWhole)
    (arg7 : Memref sig .tc .vmem S4x64 .f32) (harg7 : arg7.IsWhole)
    (arg8 : Memref sig .tc .vmem S1x128 .f32) (harg8 : arg8.IsWhole)
    (arg9 : Memref sig .tc .vmem S1x512x128 .f32) (harg9 : arg9.IsWhole)
    (arg10 : Memref sig .tc .vmem S2048x128 .bf16) (harg10 : arg10.IsWhole)
    (arg11 : Memref sig .tc .vmem S2048x256 .bf16) (harg11 : arg11.IsWhole)
    (arg12 : Memref sig .tc .vmem S1024x512 .f32) (harg12 : arg12.IsWhole)
    (arg13 : Memref sig .tc .vmem S1024x512 .f32) (harg13 : arg13.IsWhole)
    (arg14 : Memref sig .tc .vmem S4x1024x512 .f32) (harg14 : arg14.IsWhole)
    (arg15 : Memref sig .tc .vmem S1024x128 .f32) (harg15 : arg15.IsWhole)
    (arg16 : Memref sig .tc .vmem S1024x256 .f32) (harg16 : arg16.IsWhole) (v57 : FVec F S1024x128 .f32) (v67 : BitVec 32)
    (x4 : Vec F S4x64 .f32) (x5 : Vec F S1x128 .f32) (Y16 : Vec F S1024x256 .f32)
    (Q : FVec F S512x128 .f32 → sProp 𝕄) :
    (iprop(owns (c : Thread nD τ) arg7 fullShare x4 ∗ owns (c : Thread nD τ) arg8 fullShare x5 ∗ owns (c : Thread nD τ) arg16 fullShare Y16
      ∗ (iprop(owns (c : Thread nD τ) arg7 fullShare x4 ∗ owns (c : Thread nD τ) arg8 fullShare x5 ∗ owns (c : Thread nD τ) arg16 fullShare Y16) -∗ Q (k0_pay26 x4
    (window Y16 ![0, 0] S1024x128.size inb_S1024x256_S1024x128_0_0)
    (window Y16 ![0, 128] S1024x128.size inb_S1024x256_S1024x128_0_128) x5))) : sProp 𝕄)
      ⊢ wp frame (wpE (defs₀ (F := F)) Variants.none c none) E (k0_part4 i arg3 harg3 arg4 harg4 arg5 harg5 arg6 harg6 arg7 harg7 arg8 harg8 arg9 harg9 arg10 harg10 arg11 harg11 arg12 harg12 arg13 harg13 arg14 harg14 arg15 harg15 arg16 harg16 v57 v67) Q := by
  rw [k0_part4_eq_skeleton]
  unfold k0_part4_skel
  iintro ⟨H7, H8, H16, HQ⟩
  rw [wp_bind]
  iapply (wp_wand_r frame (wpE (defs₀ (F := F)) Variants.none c none) E)
  isplitl [H16]
  · iapply (loop4 c E i arg3 harg3 arg4 harg4 arg5 harg5 arg6 harg6 arg7 harg7 arg8 harg8 arg9 harg9 arg10 harg10 arg11 harg11 arg12 harg12 arg13 harg13 arg14 harg14 arg15 harg15 arg16 harg16 v57 v67 iprop(owns (c : Thread nD τ) arg16 fullShare Y16)) $$ H16
  iintro %u H16
  unfold owns
  icases H7 with ⟨%f7, %h7, H7⟩
  icases H8 with ⟨%f8, %h8, H8⟩
  icases H16 with ⟨%f16, %h16, H16⟩
  sl_exec
  sl_step
  rw [View.readAt_full, View.readAt_full, View.readAt_unit _ _ _ rfl inb_S1024x256_S1024x128_0_0, View.readAt_unit _ _ _ rfl inb_S1024x256_S1024x128_0_128, h7, h8, h16]
  iapply HQ
  isplitl [H7]
  · try unfold owns
    iexists _; isplitr; · ipureintro; exact h7
    iexact H7
  isplitl [H8]
  · try unfold owns
    iexists _; isplitr; · ipureintro; exact h8
    iexact H8
  iexists _; isplitr; · ipureintro; exact h16
  iexact H16

set_option maxHeartbeats 1000000 in
/-- The body at a query block that is not a head's first: the kept buffers are read and left alone. -/
theorem bodyB (c : Dev nD) (E : Set ℕ) (i : grid0.Coords) (arg3 : Memref sig .tc .smem S8 .f32) (harg3 : arg3.IsWhole)
    (arg4 : Memref sig .tc .vmem S1x512x128 .f32) (harg4 : arg4.IsWhole)
    (arg5 : Memref sig .tc .vmem S1x1x2048x128 .f32) (harg5 : arg5.IsWhole)
    (arg6 : Memref sig .tc .vmem S1x1x2048x128 .f32) (harg6 : arg6.IsWhole)
    (arg7 : Memref sig .tc .vmem S4x64 .f32) (harg7 : arg7.IsWhole)
    (arg8 : Memref sig .tc .vmem S1x128 .f32) (harg8 : arg8.IsWhole)
    (arg9 : Memref sig .tc .vmem S1x512x128 .f32) (harg9 : arg9.IsWhole)
    (arg10 : Memref sig .tc .vmem S2048x128 .bf16) (harg10 : arg10.IsWhole)
    (arg11 : Memref sig .tc .vmem S2048x256 .bf16) (harg11 : arg11.IsWhole)
    (arg12 : Memref sig .tc .vmem S1024x512 .f32) (harg12 : arg12.IsWhole)
    (arg13 : Memref sig .tc .vmem S1024x512 .f32) (harg13 : arg13.IsWhole)
    (arg14 : Memref sig .tc .vmem S4x1024x512 .f32) (harg14 : arg14.IsWhole)
    (arg15 : Memref sig .tc .vmem S1024x128 .f32) (harg15 : arg15.IsWhole)
    (arg16 : Memref sig .tc .vmem S1024x256 .f32) (harg16 : arg16.IsWhole) (hc : ¬ cond0_0 i)
    (x0 : Vec F S8 .f32) (x1 : Vec F S1x512x128 .f32) (x4 : Vec F S4x64 .f32) (x5 : Vec F S1x128 .f32)
    (X10 : Vec F S2048x128 .bf16) (X11 : Vec F S2048x256 .bf16) (X12 X13 : Vec F S1024x512 .f32)
    (Q : PUnit → sProp 𝕄) :
    (iprop(owns (c : Thread nD τ) arg3 fullShare x0 ∗ owns (c : Thread nD τ) arg4 fullShare x1 ∗ owns (c : Thread nD τ) arg7 fullShare x4 ∗ owns (c : Thread nD τ) arg8 fullShare x5 ∗ (∃ d, owns (c : Thread nD τ) arg9 fullShare d)
      ∗ owns (c : Thread nD τ) arg10 fullShare X10 ∗ owns (c : Thread nD τ) arg11 fullShare X11 ∗ owns (c : Thread nD τ) arg12 fullShare X12 ∗ owns (c : Thread nD τ) arg13 fullShare X13 ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg3 fullShare x0 ∗ owns (c : Thread nD τ) arg4 fullShare x1 ∗ owns (c : Thread nD τ) arg7 fullShare x4 ∗ owns (c : Thread nD τ) arg8 fullShare x5 ∗ owns (c : Thread nD τ) arg9 fullShare (outOf i x0 x1 x4 x5 X10 X11 X12 X13)
      ∗ owns (c : Thread nD τ) arg10 fullShare X10 ∗ owns (c : Thread nD τ) arg11 fullShare X11 ∗ owns (c : Thread nD τ) arg12 fullShare X12 ∗ owns (c : Thread nD τ) arg13 fullShare X13 ∗ (∃ d, owns (c : Thread nD τ) arg14 fullShare d) ∗ (∃ d, owns (c : Thread nD τ) arg15 fullShare d) ∗ (∃ d, owns (c : Thread nD τ) arg16 fullShare d)) -∗ Q ⟨⟩)) : sProp 𝕄)
      ⊢ wp frame (wpE (defs₀ (F := F)) Variants.none c none) E (cc0_attn_prompt i arg3 harg3 arg4 harg4 arg5 harg5 arg6 harg6 arg7 harg7 arg8 harg8 arg9 harg9 arg10 harg10 arg11 harg11 arg12 harg12 arg13 harg13 arg14 harg14 arg15 harg15 arg16 harg16) Q := by
  rw [cc0_attn_prompt_eq_skeleton]
  unfold cc0_attn_prompt_skel
  iintro ⟨H3, H4, H7, H8, ⟨%Y9, H9⟩, H10, H11, H12, H13, ⟨%Y14, H14⟩, ⟨%Y15, H15⟩, ⟨%Y16, H16⟩, HQ⟩
  rw [wp_bind]
  iapply (part2B c E i arg3 harg3 arg4 harg4 arg5 harg5 arg6 harg6 arg7 harg7 arg8 harg8 arg9 harg9 arg10 harg10 arg11 harg11 arg12 harg12 arg13 harg13 arg14 harg14 arg15 harg15 arg16 harg16 hc x0 x1 X10 X12 X13 Y14 Y15)
  isplitl [H3]; · iexact H3
  isplitl [H4]; · iexact H4
  isplitl [H10]; · iexact H10
  isplitl [H12]; · iexact H12
  isplitl [H13]; · iexact H13
  isplitl [H14]; · iexact H14
  isplitl [H15]; · iexact H15
  iintro ⟨H3, H4, H10, H12, H13, ⟨%Y, %hY, H14⟩, H15⟩
  rw [wp_bind]
  iapply (part3 c E i arg3 harg3 arg4 harg4 arg5 harg5 arg6 harg6 arg7 harg7 arg8 harg8 arg9 harg9 arg10 harg10 arg11 harg11 arg12 harg12 arg13 harg13 arg14 harg14 arg15 harg15 arg16 harg16 _ _ (slopeOf i x0) x1 X10 X11 X12 X13 Y Y16 hY)
  isplitl [H10]; · iexact H10
  isplitl [H11]; · iexact H11
  isplitl [H14]; · iexact H14
  isplitl [H15]; · iexact H15
  isplitl [H16]; · iexact H16
  iintro %w ⟨H10, H11, H14, H15, H16⟩
  rw [wp_bind]
  iapply (part4 c E i arg3 harg3 arg4 harg4 arg5 harg5 arg6 harg6 arg7 harg7 arg8 harg8 arg9 harg9 arg10 harg10 arg11 harg11 arg12 harg12 arg13 harg13 arg14 harg14 arg15 harg15 arg16 harg16 _ _ x4 x5 _)
  isplitl [H7]; · iexact H7
  isplitl [H8]; · iexact H8
  isplitl [H16]; · iexact H16
  iintro ⟨H7, H8, H16⟩
  unfold owns
  icases H9 with ⟨%f9, %h9, H9⟩
  sl_exec
  sl_step
  iapply HQ
  isplitl [H3]; · iexact H3
  isplitl [H4]; · iexact H4
  isplitl [H7]; · iexact H7
  isplitl [H8]; · iexact H8
  isplitl [H9]
  · iexists _; isplitr
    rotate_left
    · iexact H9
    · ipureintro
      refine (View.read_writes_full _ _ _ _ _).trans ?_
      rfl
  isplitl [H10]; · iexact H10
  isplitl [H11]; · iexact H11
  isplitl [H12]; · iexact H12
  isplitl [H13]; · iexact H13
  isplitl [H14]; · iexact H14
  isplitl [H15]; · iexists _; iexact H15
  iexists _; iexact H16

set_option maxHeartbeats 1000000 in
/-- The body at a head's first query block: it fills the kept buffers and reads them. -/
theorem bodyA (c : Dev nD) (E : Set ℕ) (i : grid0.Coords) (arg3 : Memref sig .tc .smem S8 .f32) (harg3 : arg3.IsWhole)
    (arg4 : Memref sig .tc .vmem S1x512x128 .f32) (harg4 : arg4.IsWhole)
    (arg5 : Memref sig .tc .vmem S1x1x2048x128 .f32) (harg5 : arg5.IsWhole)
    (arg6 : Memref sig .tc .vmem S1x1x2048x128 .f32) (harg6 : arg6.IsWhole)
    (arg7 : Memref sig .tc .vmem S4x64 .f32) (harg7 : arg7.IsWhole)
    (arg8 : Memref sig .tc .vmem S1x128 .f32) (harg8 : arg8.IsWhole)
    (arg9 : Memref sig .tc .vmem S1x512x128 .f32) (harg9 : arg9.IsWhole)
    (arg10 : Memref sig .tc .vmem S2048x128 .bf16) (harg10 : arg10.IsWhole)
    (arg11 : Memref sig .tc .vmem S2048x256 .bf16) (harg11 : arg11.IsWhole)
    (arg12 : Memref sig .tc .vmem S1024x512 .f32) (harg12 : arg12.IsWhole)
    (arg13 : Memref sig .tc .vmem S1024x512 .f32) (harg13 : arg13.IsWhole)
    (arg14 : Memref sig .tc .vmem S4x1024x512 .f32) (harg14 : arg14.IsWhole)
    (arg15 : Memref sig .tc .vmem S1024x128 .f32) (harg15 : arg15.IsWhole)
    (arg16 : Memref sig .tc .vmem S1024x256 .f32) (harg16 : arg16.IsWhole) (hc : cond0_0 i)
    (x0 : Vec F S8 .f32) (x1 : Vec F S1x512x128 .f32) (x2 x3 : Vec F S1x1x2048x128 .f32) (x4 : Vec F S4x64 .f32) (x5 : Vec F S1x128 .f32)
    (Q : PUnit → sProp 𝕄) :
    (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
      ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outOf i x0 x1 x4 x5 (kbOf x2) (vbOf x3) (biasOf i x0) (bdiagOf i x0))
      ∗ owns (c : Thread nD τ) arg10 fullShare (kbOf x2) ∗ owns (c : Thread nD τ) arg11 fullShare (vbOf x3) ∗ owns (c : Thread nD τ) arg12 fullShare (biasOf i x0) ∗ owns (c : Thread nD τ) arg13 fullShare (bdiagOf i x0) ∗ (∃ d, owns (c : Thread nD τ) arg14 fullShare d) ∗ (∃ d, owns (c : Thread nD τ) arg15 fullShare d) ∗ (∃ d, owns (c : Thread nD τ) arg16 fullShare d)) -∗ Q ⟨⟩)) : sProp 𝕄)
      ⊢ wp frame (wpE (defs₀ (F := F)) Variants.none c none) E (cc0_attn_prompt i arg3 harg3 arg4 harg4 arg5 harg5 arg6 harg6 arg7 harg7 arg8 harg8 arg9 harg9 arg10 harg10 arg11 harg11 arg12 harg12 arg13 harg13 arg14 harg14 arg15 harg15 arg16 harg16) Q := by
  rw [cc0_attn_prompt_eq_skeleton]
  unfold cc0_attn_prompt_skel
  iintro ⟨H3, H4, H5, H6, H7, H8, ⟨%Y9, H9⟩, ⟨%Y10, H10⟩, ⟨%Y11, H11⟩, ⟨%Y12, H12⟩, ⟨%Y13, H13⟩, ⟨%Y14, H14⟩, ⟨%Y15, H15⟩, ⟨%Y16, H16⟩, HQ⟩
  rw [wp_bind]
  iapply (part2A c E i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 Y10 Y11 Y12 Y13 Y14 Y15)
  isplitl [H3]; · iexact H3
  isplitl [H4]; · iexact H4
  isplitl [H5]; · iexact H5
  isplitl [H6]; · iexact H6
  isplitl [H10]; · iexact H10
  isplitl [H11]; · iexact H11
  isplitl [H12]; · iexact H12
  isplitl [H13]; · iexact H13
  isplitl [H14]; · iexact H14
  isplitl [H15]; · iexact H15
  iintro ⟨H3, H4, H5, H6, H11, H10, H12, H13, ⟨%Y, %hY, H14⟩, H15⟩
  rw [wp_bind]
  iapply (part3 c E i arg3 harg3 arg4 harg4 arg5 harg5 arg6 harg6 arg7 harg7 arg8 harg8 arg9 harg9 arg10 harg10 arg11 harg11 arg12 harg12 arg13 harg13 arg14 harg14 arg15 harg15 arg16 harg16 _ _ (slopeOf i x0) x1 (kbOf x2) (vbOf x3) (biasOf i x0) (bdiagOf i x0) Y Y16 hY)
  isplitl [H10]; · iexact H10
  isplitl [H11]; · iexact H11
  isplitl [H14]; · iexact H14
  isplitl [H15]; · iexact H15
  isplitl [H16]; · iexact H16
  iintro %w ⟨H10, H11, H14, H15, H16⟩
  rw [wp_bind]
  iapply (part4 c E i arg3 harg3 arg4 harg4 arg5 harg5 arg6 harg6 arg7 harg7 arg8 harg8 arg9 harg9 arg10 harg10 arg11 harg11 arg12 harg12 arg13 harg13 arg14 harg14 arg15 harg15 arg16 harg16 _ _ x4 x5 _)
  isplitl [H7]; · iexact H7
  isplitl [H8]; · iexact H8
  isplitl [H16]; · iexact H16
  iintro ⟨H7, H8, H16⟩
  unfold owns
  icases H9 with ⟨%f9, %h9, H9⟩
  sl_exec
  sl_step
  iapply HQ
  isplitl [H3]; · iexact H3
  isplitl [H4]; · iexact H4
  isplitl [H5]; · iexact H5
  isplitl [H6]; · iexact H6
  isplitl [H7]; · iexact H7
  isplitl [H8]; · iexact H8
  isplitl [H9]
  · iexists _; isplitr
    rotate_left
    · iexact H9
    · ipureintro
      refine (View.read_writes_full _ _ _ _ _).trans ?_
      rfl
  isplitl [H10]; · iexact H10
  isplitl [H11]; · iexact H11
  isplitl [H12]; · iexact H12
  isplitl [H13]; · iexact H13
  isplitl [H14]; · iexact H14
  isplitl [H15]; · iexists _; iexact H15
  iexists _; iexact H16

end Cert.Kernel2Ideal.Gen

end
-- ==== Proof.AttnFrame.lean ====
/-
  The attention call, run over its whole grid: what each kept buffer holds before each point, the body at a generic
  point, and the run of @main (every fair execution ends, the arguments unchanged, the output at what the pipeline leaves).
-/
module

public import proofs.«01_k».proof.Proof.AttnParts
public import proofs.«01_k».proof.Proof.Gen.Kernel2Ideal.Frame
public import Idealize.ShloMosaic.Lib.Claim
public import Idealize.ShloMosaic.Lib.Pipeline.ValueKit

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Idealize.ShloMosaic.Pipeline (Dat Cfg Window BodyObligation cellOf)

variable {F : FTy → Type} [FloatOps F] [Named F]

/-- The logic's resources at this program. -/
local notation "𝕄" => MT nD τ sig Unit (Elt F) ℕ (UR sig nD τ) ℕ

variable (m : (ℓ : Loc nD τ sig) → Buf (Elt F) ℓ) (ρ : Dev nD → PrngReg)

/-- The buffer window 0's block lies in at point `t`. -/
abbrev ms0 (t : Fin cfg0.N) : Memref sig .tc .smem S8 .f32 := win0_0.stage (cfg0.slots t 0)
theorem hs0 (t : Fin cfg0.N) : (ms0 t).IsWhole := hstage0_0 ((cfg0.slots t 0).cast nbuf0_0)
/-- The buffer window 1's block lies in at point `t`. -/
abbrev ms1 (t : Fin cfg0.N) : Memref sig .tc .vmem S1x512x128 .f32 := win0_1.stage (cfg0.slots t 1)
theorem hs1 (t : Fin cfg0.N) : (ms1 t).IsWhole := hstage0_1 ((cfg0.slots t 1).cast nbuf0_1)
/-- The buffer window 2's block lies in at point `t`. -/
abbrev ms2 (t : Fin cfg0.N) : Memref sig .tc .vmem S1x1x2048x128 .f32 := win0_2.stage (cfg0.slots t 2)
theorem hs2 (t : Fin cfg0.N) : (ms2 t).IsWhole := hstage0_2 ((cfg0.slots t 2).cast nbuf0_2)
/-- The buffer window 3's block lies in at point `t`. -/
abbrev ms3 (t : Fin cfg0.N) : Memref sig .tc .vmem S1x1x2048x128 .f32 := win0_3.stage (cfg0.slots t 3)
theorem hs3 (t : Fin cfg0.N) : (ms3 t).IsWhole := hstage0_3 ((cfg0.slots t 3).cast nbuf0_3)
/-- The buffer window 4's block lies in at point `t`. -/
abbrev ms4 (t : Fin cfg0.N) : Memref sig .tc .vmem S4x64 .f32 := win0_4.stage (cfg0.slots t 4)
theorem hs4 (t : Fin cfg0.N) : (ms4 t).IsWhole := hstage0_4 ((cfg0.slots t 4).cast nbuf0_4)
/-- The buffer window 5's block lies in at point `t`. -/
abbrev ms5 (t : Fin cfg0.N) : Memref sig .tc .vmem S1x128 .f32 := win0_5.stage (cfg0.slots t 5)
theorem hs5 (t : Fin cfg0.N) : (ms5 t).IsWhole := hstage0_5 ((cfg0.slots t 5).cast nbuf0_5)
/-- The buffer window 6's block lies in at point `t`. -/
abbrev ms6 (t : Fin cfg0.N) : Memref sig .tc .vmem S1x512x128 .f32 := win0_6.stage (cfg0.slots t 6)
theorem hs6 (t : Fin cfg0.N) : (ms6 t).IsWhole := hstage0_6 ((cfg0.slots t 6).cast nbuf0_6)
/-- Kept buffer 0. -/
abbrev scM0 : Memref sig .tc .vmem S2048x128 .bf16 := Memref.whole cc0_scratch0
/-- Kept buffer 1. -/
abbrev scM1 : Memref sig .tc .vmem S2048x256 .bf16 := Memref.whole cc0_scratch1
/-- Kept buffer 2. -/
abbrev scM2 : Memref sig .tc .vmem S1024x512 .f32 := Memref.whole cc0_scratch2
/-- Kept buffer 3. -/
abbrev scM3 : Memref sig .tc .vmem S1024x512 .f32 := Memref.whole cc0_scratch3
/-- Kept buffer 4. -/
abbrev scM4 : Memref sig .tc .vmem S4x1024x512 .f32 := Memref.whole cc0_scratch4
/-- Kept buffer 5. -/
abbrev scM5 : Memref sig .tc .vmem S1024x128 .f32 := Memref.whole cc0_scratch5
/-- Kept buffer 6. -/
abbrev scM6 : Memref sig .tc .vmem S1024x256 .f32 := Memref.whole cc0_scratch6

/-- The kept buffers are filled at the points divisible by 4: a head's first query block. -/
theorem hcond : ∀ t : Fin cfg0.N, cond0_0 (grid0.coords t) ↔ t.val % 4 = 0 :=
  (fun t => by
    have ht : t.val < 512 := Nat.lt_of_lt_of_eq t.isLt N_0
    have e2 : (grid0.coords t 2).val = t.val / 1 % 4 := Pipeline.Grid.coords_val t 2 (by decide) rfl
    simp only [cond0_0, e2]
    word_cmp
   : ∀ t : Fin grid0.N, cond0_0 (grid0.coords t) ↔ t.val % 4 = 0)

/-- The point before `t` (itself at the first). -/
def prev (t : Fin cfg0.N) : Fin cfg0.N := ⟨t.val - 1, Nat.lt_of_le_of_lt (Nat.sub_le _ _) t.isLt⟩

/-- Within a head the key window does not move, -/
theorem index2_prev : ∀ t : Fin cfg0.N, t.val % 4 ≠ 0 → win0_2.index (prev t) = win0_2.index t :=
  (by decide +kernel : ∀ t : Fin grid0.N, t.val % 4 ≠ 0 → win0_2.index (prev t) = win0_2.index t)
/-- nor the value window, -/
theorem index3_prev : ∀ t : Fin cfg0.N, t.val % 4 ≠ 0 → win0_3.index (prev t) = win0_3.index t :=
  (by decide +kernel : ∀ t : Fin grid0.N, t.val % 4 ≠ 0 → win0_3.index (prev t) = win0_3.index t)
/-- nor the slopes' window, ever, -/
theorem index0_prev : ∀ t : Fin cfg0.N, win0_0.index (prev t) = win0_0.index t :=
  (by decide +kernel : ∀ t : Fin grid0.N, win0_0.index (prev t) = win0_0.index t)
/-- and the head is the same. -/
theorem head_prev (t : Fin cfg0.N) (h : t.val % 4 ≠ 0) : (grid0.coords (prev t) 1).val = (grid0.coords t 1).val := by
  have e1 : (grid0.coords t 1).val = t.val / 4 % 8 := Pipeline.Grid.coords_val t 1 (by decide) rfl
  have e1' : (grid0.coords (prev t) 1).val = (prev t).val / 4 % 8 := Pipeline.Grid.coords_val (prev t) 1 (by decide) rfl
  rw [e1, e1']; simp only [prev]; omega

theorem iblk2_prev (c : Dev nD) (t : Fin cfg0.N) (h : t.val % 4 ≠ 0) : iblk m c 2 (prev t) = iblk m c 2 t := by
  have e := index2_prev t h
  funext y; unfold iblk; blk_simp [e]
  refine congrArg (V m c main_arg1) (funext fun a => Fin.ext ?_)
  fin_cases a <;> blk_simp [e]
theorem iblk3_prev (c : Dev nD) (t : Fin cfg0.N) (h : t.val % 4 ≠ 0) : iblk m c 3 (prev t) = iblk m c 3 t := by
  have e := index3_prev t h
  funext y; unfold iblk; blk_simp [e]
  refine congrArg (V m c main_arg2) (funext fun a => Fin.ext ?_)
  fin_cases a <;> blk_simp [e]
theorem iblk0_prev (c : Dev nD) (t : Fin cfg0.N) : iblk m c 0 (prev t) = iblk m c 0 t := by
  have e := index0_prev t
  funext y; unfold iblk; blk_simp [e]
  refine congrArg (V m c main_v9) (funext fun a => Fin.ext ?_)
  fin_cases a <;> blk_simp [e]

/-- The keys kept at point `t`. -/
def kbA (c : Dev nD) (t : Fin cfg0.N) : Vec F S2048x128 .bf16 := kbOf (iblk m c 2 t)
/-- The values (and ones) kept at point `t`. -/
def vbA (c : Dev nD) (t : Fin cfg0.N) : Vec F S2048x256 .bf16 := vbOf (iblk m c 3 t)
/-- The position bias kept at point `t`. -/
def biasA (c : Dev nD) (t : Fin cfg0.N) : Vec F S1024x512 .f32 := biasOf (grid0.coords t) (iblk m c 0 t)
/-- The diagonal block's position bias kept at point `t`. -/
def bdiagA (c : Dev nD) (t : Fin cfg0.N) : Vec F S1024x512 .f32 := bdiagOf (grid0.coords t) (iblk m c 0 t)
/-- What point `t` leaves in the output's block. -/
def outA (c : Dev nD) (t : Fin cfg0.N) : Vec F S1x512x128 .f32 :=
  outOf (grid0.coords t) (iblk m c 0 t) (iblk m c 1 t) (iblk m c 4 t) (iblk m c 5 t) (kbA m c t) (vbA m c t) (biasA m c t) (bdiagA m c t)

theorem slopeOf_congr {i i' : grid0.Coords} (e : (i 1).val = (i' 1).val) (x0 : Vec F S8 .f32) : slopeOf i x0 = slopeOf i' x0 := by
  unfold slopeOf
  exact congrFun (window_congr (s := S8) (size := S1.size) (off := k0_off1 i) (off' := k0_off1 i') x0
    (by rw [k0_off1_eq, k0_off1_eq, e]) (k0_off1_inb i) (k0_off1_inb i')) _

theorem kbA_prev (c : Dev nD) (t : Fin cfg0.N) (h : t.val % 4 ≠ 0) : kbA m c (prev t) = kbA m c t :=
  congrArg kbOf (iblk2_prev m c t h)
theorem vbA_prev (c : Dev nD) (t : Fin cfg0.N) (h : t.val % 4 ≠ 0) : vbA m c (prev t) = vbA m c t :=
  congrArg vbOf (iblk3_prev m c t h)
theorem slope_prev (c : Dev nD) (t : Fin cfg0.N) (h : t.val % 4 ≠ 0) :
    slopeOf (grid0.coords (prev t)) (iblk m c 0 (prev t)) = slopeOf (grid0.coords t) (iblk m c 0 t) :=
  (slopeOf_congr (head_prev t h) _).trans (congrArg (slopeOf (grid0.coords t)) (iblk0_prev m c t))
theorem biasA_prev (c : Dev nD) (t : Fin cfg0.N) (h : t.val % 4 ≠ 0) : biasA m c (prev t) = biasA m c t :=
  congrArg (fun s => k0_pay7 (k0_pay9 s)) (slope_prev m c t h)
theorem bdiagA_prev (c : Dev nD) (t : Fin cfg0.N) (h : t.val % 4 ≠ 0) : bdiagA m c (prev t) = bdiagA m c t :=
  congrArg (fun s => k0_pay10 (k0_pay8 (k0_pay9 s))) (slope_prev m c t h)

/-- The launch's invariant with the scratch as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d)) ∗ (∃ r, prngReg c r)) := by
  unfold Pipeline.ΦA; rw [scopedRest0_eq]; simp only [scM0, scM1, scM2, scM3, scM4, scM5, scM6, owns_whole]; try rfl

/-- The invariant before position `n`: at the start every scratch at anything; after point `n` the kept buffers at that
    point's head's contents. -/
def PhiS (c : Dev nD) : (n : ℕ) → n ≤ cfg0.N → sProp 𝕄
  | 0, _ => Pipeline.ΦA spec0 c
  | n + 1, hn => iprop(iprop(owns (c : Thread nD τ) scM0 fullShare (kbA m c ⟨n, hn⟩) ∗ owns (c : Thread nD τ) scM1 fullShare (vbA m c ⟨n, hn⟩) ∗ owns (c : Thread nD τ) scM2 fullShare (biasA m c ⟨n, hn⟩) ∗ owns (c : Thread nD τ) scM3 fullShare (bdiagA m c ⟨n, hn⟩) ∗ (∃ d, owns (c : Thread nD τ) scM4 fullShare d) ∗ (∃ d, owns (c : Thread nD τ) scM5 fullShare d) ∗ (∃ d, owns (c : Thread nD τ) scM6 fullShare d)) ∗ (∃ r, prngReg c r))

theorem PhiS_succ (c : Dev nD) (t : Fin cfg0.N) :
    PhiS m c (t.val + 1) t.isLt = iprop(iprop(owns (c : Thread nD τ) scM0 fullShare (kbA m c t) ∗ owns (c : Thread nD τ) scM1 fullShare (vbA m c t) ∗ owns (c : Thread nD τ) scM2 fullShare (biasA m c t) ∗ owns (c : Thread nD τ) scM3 fullShare (bdiagA m c t) ∗ (∃ d, owns (c : Thread nD τ) scM4 fullShare d) ∗ (∃ d, owns (c : Thread nD τ) scM5 fullShare d) ∗ (∃ d, owns (c : Thread nD τ) scM6 fullShare d)) ∗ (∃ r, prngReg c r)) := rfl

/-- Within a head the kept buffers hold what this point's own blocks say. -/
theorem PhiS_kept (c : Dev nD) (t : Fin cfg0.N) (h : t.val % 4 ≠ 0) (hn : t.val ≤ cfg0.N) :
    PhiS m c t.val hn = iprop(iprop(owns (c : Thread nD τ) scM0 fullShare (kbA m c t) ∗ owns (c : Thread nD τ) scM1 fullShare (vbA m c t) ∗ owns (c : Thread nD τ) scM2 fullShare (biasA m c t) ∗ owns (c : Thread nD τ) scM3 fullShare (bdiagA m c t) ∗ (∃ d, owns (c : Thread nD τ) scM4 fullShare d) ∗ (∃ d, owns (c : Thread nD τ) scM5 fullShare d) ∗ (∃ d, owns (c : Thread nD τ) scM6 fullShare d)) ∗ (∃ r, prngReg c r)) := by
  rw [← kbA_prev m c t h, ← vbA_prev m c t h, ← biasA_prev m c t h, ← bdiagA_prev m c t h]
  obtain ⟨n, hn'⟩ := t
  cases n with
  | zero => exact absurd (Nat.zero_mod 4) h
  | succ n => rfl

/-- The invariant with the named contents forgotten. -/
theorem PhiS_any (c : Dev nD) (n : ℕ) (h : n ≤ cfg0.N) : PhiS m c n h ⊢ (iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d)) ∗ (∃ r, prngReg c r)) : sProp 𝕄) := by
  cases n with
  | zero => rw [← PhiA0_eq]; exact Idealize.SL.BI.Entails.refl _
  | succ n =>
    show iprop(iprop(owns (c : Thread nD τ) scM0 fullShare (kbA m c ⟨n, h⟩) ∗ owns (c : Thread nD τ) scM1 fullShare (vbA m c ⟨n, h⟩) ∗ owns (c : Thread nD τ) scM2 fullShare (biasA m c ⟨n, h⟩) ∗ owns (c : Thread nD τ) scM3 fullShare (bdiagA m c ⟨n, h⟩) ∗ (∃ d, owns (c : Thread nD τ) scM4 fullShare d) ∗ (∃ d, owns (c : Thread nD τ) scM5 fullShare d) ∗ (∃ d, owns (c : Thread nD τ) scM6 fullShare d)) ∗ (∃ r, prngReg c r)) ⊢ _
    iintro ⟨⟨H0, H1, H2, H3, H4, H5, H6⟩, Hg⟩
    isplitl [H0 H1 H2 H3 H4 H5 H6]
    · isplitl [H0]; · iexists _; iexact H0
      isplitl [H1]; · iexists _; iexact H1
      isplitl [H2]; · iexists _; iexact H2
      isplitl [H3]; · iexists _; iexact H3
      isplitl [H4]; · iexact H4
      isplitl [H5]; · iexact H5
      iexact H6
    iexact Hg

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outA m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
/-- What the body leaves in the output. -/
theorem after0_6 (c : Dev nD) (t : Fin cfg0.N) : (dats m 0 c).after 6 t = outA m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))
/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ, PhiS_castSucc m c t]
  by_cases h0 : t.val % 4 = 0
  · refine (Laws.sep_mono_left (PhiS_any m c _ _)).trans ?_
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
    iapply (bodyA c Set.univ (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) ((hcond t).mpr h0) (iblk m c 0 t) (iblk m c 1 t) (iblk m c 2 t) (iblk m c 3 t) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_kept m c t h0]
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
    iapply (bodyB c Set.univ (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) (fun h => h0 ((hcond t).mp h)) (iblk m c 0 t) (iblk m c 1 t) (iblk m c 4 t) (iblk m c 5 t) (kbA m c t) (vbA m c t) (biasA m c t) (bdiagA m c t) _)
    isplitl [H0]; · iexact H0
    isplitl [H1]; · iexact H1
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H4, H5, H6, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl]
  exact Idealize.SL.BI.Entails.refl _

/-- After the last point the invariant gives the scratch back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_any m c _ _

-- `θ_run_frame_track`'s implicit arguments are found by unifying its conclusion with this one
set_option backward.isDefEq.respectTransparency.types false in
/-- The launch: every fair execution of @main ends, the arrays at what the pipeline leaves, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel2Ideal.Gen

end
-- ==== Proof.Attn.lean ====
/-
  The prompt attention's frames: the run at any float semantics (`AttnFrame`) is the kernel's at the bits and the
  idealized kernel's at the extended reals; the reference's run weakened.
-/
module

public import proofs.«01_k».proof.Defs
public import proofs.«01_k».proof.Proof.Gen.Kernel2.Frame
public import proofs.«01_k».proof.Proof.Gen.Kernel2Ideal.Frame
public import proofs.«01_k».proof.Proof.Gen.Kernel2Ideal.Skeleton
public import proofs.«01_k».proof.Proof.Gen.Reference2Ideal.Run
public import proofs.«01_k».proof.Proof.AttnFrame
public import Idealize.ShloMosaic.Lib.Quiescent

@[expose] public section

noncomputable section

namespace Cert.Proof

open Idealize.ShloMosaic Idealize.SL.Sem

theorem quiescent_Kernel2Ideal : Cert.quiescent_Kernel2Ideal := fun m ρ _ => Cert.Kernel2Ideal.Gen.frame (F := Ideal) m ρ

/-- At the bits a named constant is the pattern it is printed from. -/
local instance namedBits : Named Bits where
  named _ _ b := FloatOps.ofBits b

set_option maxRecDepth 100000
set_option maxHeartbeats 4000000

section
variable [Cert.Kernel2.Facts] [Cert.Kernel2Ideal.Facts]

/-- The printed body at the bits is the idealized one's, its named mask the pattern. -/
theorem body_eq : ∀ i arg3 harg3 arg4 harg4 arg5 harg5 arg6 harg6 arg7 harg7 arg8 harg8 arg9 harg9 arg10 harg10 arg11 harg11 arg12 harg12 arg13 harg13 arg14 harg14 arg15 harg15 arg16 harg16, Cert.Kernel2Ideal.cc0_attn_prompt (F := Bits) i arg3 harg3 arg4 harg4 arg5 harg5 arg6 harg6 arg7 harg7 arg8 harg8 arg9 harg9 arg10 harg10 arg11 harg11 arg12 harg12 arg13 harg13 arg14 harg14 arg15 harg15 arg16 harg16 = Cert.Kernel2.cc0_attn_prompt (F := Bits) i arg3 harg3 arg4 harg4 arg5 harg5 arg6 harg6 arg7 harg7 arg8 harg8 arg9 harg9 arg10 harg10 arg11 harg11 arg12 harg12 arg13 harg13 arg14 harg14 arg15 harg15 arg16 harg16 := fun i arg3 harg3 arg4 harg4 arg5 harg5 arg6 harg6 arg7 harg7 arg8 harg8 arg9 harg9 arg10 harg10 arg11 harg11 arg12 harg12 arg13 harg13 arg14 harg14 arg15 harg15 arg16 harg16 => rfl
theorem main_eq : Cert.Kernel2Ideal.main (F := Bits) = Cert.Kernel2.main (F := Bits) := by rfl
theorem defs0_eq : Cert.Kernel2Ideal.defs₀ (F := Bits) = Cert.Kernel2.defs₀ (F := Bits) := by
  unfold Cert.Kernel2Ideal.defs₀ Cert.Kernel2.defs₀
  refine congrArg (Defs.onTc (nD := Cert.Kernel2.nD) (τ := Cert.Kernel2.τ) (sig := Cert.Kernel2.sig) (Λ := Cert.Kernel2.Λ₀)) (funext fun l => ?_)
  match l with
  | 0 =>
    refine funext fun ⟨t, s⟩ => ?_
    exact body_eq _ _ _ _ _ _ _ _ _ _ _ _ _ _ _ _ _ _ _ _ _ _ _ _ _ _ _ _ _
theorem pcfgs_eq : Cert.Kernel2Ideal.pcfgs (F := Bits) = Cert.Kernel2.pcfgs (F := Bits) := by rfl
theorem defs_eq : Cert.Kernel2Ideal.defs (F := Bits) = Cert.Kernel2.defs (F := Bits) := congrArg (Pipeline.defs Cert.Kernel2.pcfgs) defs0_eq

end

theorem quiescent_Kernel2 : Cert.quiescent_Kernel2 := fun m ρ _ => by
  rw [← defs_eq, ← main_eq]
  exact Cert.Kernel2Ideal.Gen.frame (F := Bits) m ρ

theorem quiescent_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves_Kernel2_Kernel2Ideal : Cert.preserves_Kernel2_Kernel2Ideal :=
  IdealRules.named_const.statement Cert.Kernel2Ideal.κ "mask" .f32 0xF149F2CA#32 ⊥ rfl

end Cert.Proof

end
-- ==== Proof.AttnAlg.lean ====
/-
  The differential attention's arithmetic on the extended reals: one row of scores per softmax, its weights, and the
  difference of the two softmaxes' products with the values, taken before or after the division by the weights' sums.
-/
module

public import Idealize.ShloMosaic.PureOps.Ideal
public import Idealize.ShloMosaic.Lib.Pointwise

@[expose] public section

noncomputable section

namespace Cert.DiffAttn

open Idealize.ShloMosaic

/-- A score row's weights: the exponentials of the scores less their largest. -/
def wt {n : ℕ} (s : Fin n → EReal) (k : Fin n) : EReal := Ideal.exp (s k - Finset.univ.sup s)

/-- Either every weight is zero, or the weights are real and their sum is a positive real. -/
theorem wt_cases {n : ℕ} (hn : 0 < n) (s : Fin n → EReal) :
    (∀ k, wt s k = 0) ∨ ∃ p : Fin n → ℝ, (∀ k, wt s k = (p k : EReal)) ∧ 0 < ∑ k, p k := by
  haveI : Nonempty (Fin n) := ⟨⟨0, hn⟩⟩
  obtain ⟨k0, -, h0⟩ := Finset.exists_mem_eq_sup Finset.univ Finset.univ_nonempty s
  have hle : ∀ k, s k ≤ Finset.univ.sup s := fun k => Finset.le_sup (Finset.mem_univ k)
  unfold wt
  generalize Finset.univ.sup s = M at *
  induction M using EReal.rec with
  | bot =>
    left
    intro k
    rw [le_bot_iff.mp (hle k)]
    simp [sub_eq_add_neg]
  | top =>
    left
    intro k
    simp [sub_eq_add_neg]
  | coe M =>
    right
    have hr : ∀ k, ∃ p : ℝ, 0 ≤ p ∧ Ideal.exp (s k - (M : EReal)) = (p : EReal) := by
      intro k
      have := hle k
      generalize s k = x at this
      induction x using EReal.rec with
      | bot => exact ⟨0, le_rfl, by simp [sub_eq_add_neg]⟩
      | top => exact absurd (top_le_iff.mp this) (EReal.coe_ne_top M)
      | coe x => exact ⟨Real.exp (x - M), (Real.exp_pos _).le, by rw [← EReal.coe_sub, Ideal.exp_coe]⟩
    choose p hp hpe using hr
    refine ⟨p, hpe, ?_⟩
    have h1 : p k0 = 1 := by
      have := hpe k0
      rw [← h0, ← EReal.coe_sub, sub_self, Ideal.exp_coe, Real.exp_zero] at this
      exact_mod_cast this.symm
    calc (0 : ℝ) < p k0 := by rw [h1]; exact one_pos
      _ ≤ ∑ k, p k := Finset.single_le_sum (fun k _ => hp k) (Finset.mem_univ k0)

/-- The attention's row before the norm, the quotients taken of whole sums. -/
def rowK (s0 s1 : Fin 2048 → EReal) (lam : EReal) (v : Fin 2048 → Fin 128 → EReal) (e : Fin 128) : EReal :=
  Ideal.div (∑ k, wt s0 k * v k e) (∑ k, wt s0 k) - lam * Ideal.div (∑ k, wt s1 k * v k e) (∑ k, wt s1 k)

/-- The attention's row before the norm, the quotients taken weight by weight. -/
def rowR (s0 s1 : Fin 2048 → EReal) (lam : EReal) (v : Fin 2048 → Fin 128 → EReal) (e : Fin 128) : EReal :=
  ∑ k, v k e * (Ideal.div (wt s0 k) (∑ l, wt s0 l) - lam * Ideal.div (wt s1 k) (∑ l, wt s1 l))

/-- The norm of a row: each entry times the reciprocal root of the mean square. -/
def nrm (d eps : EReal) (o : Fin 128 → EReal) (e : Fin 128) : EReal :=
  o e * Ideal.rsqrt (Ideal.div (∑ l, o l * o l) d + eps)

/-- A row of infinities and zeros has norm zero. -/
theorem nrm_bad (d eps : ℝ) (hd : 0 < d) (o : Fin 128 → EReal) (ho : ∀ e, o e = ⊥ ∨ o e = ⊤ ∨ o e = 0) (e : Fin 128) :
    nrm d eps o e = 0 := by
  unfold nrm
  by_cases h : ∀ l, o l = 0
  · rw [h e, zero_mul]
  · have hsq : ∀ l, 0 ≤ o l * o l := fun l => by
      rcases ho l with h | h | h <;> rw [h] <;> simp
    have : ∑ l, o l * o l = ⊤ := by
      obtain ⟨l, hl⟩ := not_forall.mp h
      refine top_le_iff.mp (le_trans ?_ (Finset.single_le_sum (fun l _ => hsq l) (Finset.mem_univ l)))
      rcases ho l with h | h | h
      · rw [h]; simp
      · rw [h]; simp
      · exact absurd h hl
    rw [this]
    have h1 : Ideal.div ⊤ (d : EReal) = ⊤ := by
      rw [Ideal.div_coe hd.ne', EReal.top_mul_coe_of_pos (by positivity)]
    rw [h1, EReal.top_add_coe]
    simp

/-- A finite sum of infinities of both signs and zeros is one of them. -/
theorem sum_bad {ι : Type} (s : Finset ι) (f : ι → EReal) (h : ∀ k, f k = ⊥ ∨ f k = ⊤ ∨ f k = 0) :
    ∑ k ∈ s, f k = ⊥ ∨ ∑ k ∈ s, f k = ⊤ ∨ ∑ k ∈ s, f k = 0 := by
  classical
  induction s using Finset.induction_on with
  | empty => right; right; rfl
  | insert a s ha ih =>
    rw [Finset.sum_insert ha]
    rcases h a with h | h | h <;> rcases ih with g | g | g <;> rw [h, g] <;> simp

/-- A real times an infinity is an infinity or zero. -/
theorem mul_bad (v : ℝ) (x : EReal) (hx : x = ⊥ ∨ x = ⊤) : (v : EReal) * x = ⊥ ∨ (v : EReal) * x = ⊤ ∨ (v : EReal) * x = 0 := by
  rcases lt_trichotomy v 0 with h | h | h
  · rcases hx with rfl | rfl
    · right; left; exact EReal.coe_mul_bot_of_neg h
    · left; exact EReal.coe_mul_top_of_neg h
  · right; right; rw [h]; simp
  · rcases hx with rfl | rfl
    · left; exact EReal.coe_mul_bot_of_pos h
    · right; left; exact EReal.coe_mul_top_of_pos h

theorem coe_sum {ι : Type} (s : Finset ι) (f : ι → ℝ) : ((∑ k ∈ s, f k : ℝ) : EReal) = ∑ k ∈ s, (f k : EReal) := by
  classical
  induction s using Finset.induction_on with
  | empty => rfl
  | insert a s ha ih => rw [Finset.sum_insert ha, Finset.sum_insert ha, EReal.coe_add, ih]

/-- Zero over zero is negative infinity. -/
theorem div_zero_zero : Ideal.div 0 0 = ⊥ := by simp [Ideal.div]

/-- For real values and a real factor the two rows have one norm. -/
theorem nrm_rowK (d eps : ℝ) (hd : 0 < d) (s0 s1 : Fin 2048 → EReal) (lam : ℝ) (v : Fin 2048 → Fin 128 → ℝ) (e : Fin 128) :
    nrm d eps (rowK s0 s1 lam fun k e => v k e) e = nrm d eps (rowR s0 s1 lam fun k e => v k e) e := by
  have bad : (∀ e, rowK s0 s1 lam (fun k e => v k e) e = ⊥ ∨ rowK s0 s1 lam (fun k e => v k e) e = ⊤ ∨ rowK s0 s1 lam (fun k e => v k e) e = 0) →
      (∀ e, rowR s0 s1 lam (fun k e => v k e) e = ⊥ ∨ rowR s0 s1 lam (fun k e => v k e) e = ⊤ ∨ rowR s0 s1 lam (fun k e => v k e) e = 0) →
      nrm d eps (rowK s0 s1 lam fun k e => v k e) e = nrm d eps (rowR s0 s1 lam fun k e => v k e) e := fun h h' => by
    rw [nrm_bad d eps hd _ h, nrm_bad d eps hd _ h']
  have good : (∀ e, rowK s0 s1 lam (fun k e => v k e) e = rowR s0 s1 lam (fun k e => v k e) e) →
      nrm d eps (rowK s0 s1 lam fun k e => v k e) e = nrm d eps (rowR s0 s1 lam fun k e => v k e) e := fun h => by
    rw [show (rowK s0 s1 lam fun k e => v k e) = rowR s0 s1 lam fun k e => v k e from funext h]
  unfold rowK rowR at *
  rcases wt_cases (by decide) s0 with h0 | ⟨p0, h0, l0⟩
  · refine bad (fun e => ?_) fun e => ?_
    · left
      simp only [h0, zero_mul, Finset.sum_const_zero, div_zero_zero]
      simp [sub_eq_add_neg]
    · refine sum_bad _ _ fun k => ?_
      simp only [h0, Finset.sum_const_zero, div_zero_zero]
      rw [sub_eq_add_neg, EReal.bot_add]
      exact mul_bad _ _ (Or.inl rfl)
  · have hd0 : ∀ x : ℝ, Ideal.div (x : EReal) (∑ k, wt s0 k) = ((x * (1 / ∑ k, p0 k) : ℝ) : EReal) := fun x => by
      simp only [h0]
      rw [← coe_sum, Ideal.div_coe l0.ne', EReal.coe_mul]
    rcases wt_cases (by decide) s1 with h1 | ⟨p1, h1, l1⟩
    · rcases eq_or_ne lam 0 with hl | hl
      · refine good fun e => ?_
        subst hl
        simp only [EReal.coe_zero, zero_mul, sub_zero]
        rw [show ∑ k, wt s0 k * (v k e : EReal) = ((∑ k, p0 k * v k e : ℝ) : EReal) by
          rw [coe_sum]; exact Finset.sum_congr rfl fun k _ => by rw [h0, EReal.coe_mul]]
        rw [hd0, Finset.sum_mul, coe_sum]
        refine Finset.sum_congr rfl fun k _ => ?_
        rw [h0 k, hd0, ← EReal.coe_mul]
        congr 1
        ring
      · have hb : (lam : EReal) * ⊥ = ⊥ ∨ (lam : EReal) * ⊥ = ⊤ := by
          rcases lt_or_gt_of_ne hl with h | h
          · right; exact EReal.coe_mul_bot_of_neg h
          · left; exact EReal.coe_mul_bot_of_pos h
        have hx : ∀ x : ℝ, (x : EReal) - lam * ⊥ = ⊥ ∨ (x : EReal) - lam * ⊥ = ⊤ := fun x => by
          rcases hb with h | h <;> rw [h] <;> simp [sub_eq_add_neg]
        refine bad (fun e => ?_) fun e => ?_
        · rw [show ∑ k, wt s0 k * (v k e : EReal) = ((∑ k, p0 k * v k e : ℝ) : EReal) by
            rw [coe_sum]; exact Finset.sum_congr rfl fun k _ => by rw [h0, EReal.coe_mul]]
          rw [hd0]
          simp only [h1, zero_mul, Finset.sum_const_zero, div_zero_zero]
          rcases hx (_ * _) with h | h
          · left; exact h
          · right; left; exact h
        · refine sum_bad _ _ fun k => ?_
          rw [h0 k, hd0]
          simp only [h1, Finset.sum_const_zero, div_zero_zero]
          exact mul_bad _ _ (hx _)
    · have hd1 : ∀ x : ℝ, Ideal.div (x : EReal) (∑ k, wt s1 k) = ((x * (1 / ∑ k, p1 k) : ℝ) : EReal) := fun x => by
        simp only [h1]
        rw [← coe_sum, Ideal.div_coe l1.ne', EReal.coe_mul]
      refine good fun e => ?_
      rw [show ∑ k, wt s0 k * (v k e : EReal) = ((∑ k, p0 k * v k e : ℝ) : EReal) by
        rw [coe_sum]; exact Finset.sum_congr rfl fun k _ => by rw [h0, EReal.coe_mul]]
      rw [show ∑ k, wt s1 k * (v k e : EReal) = ((∑ k, p1 k * v k e : ℝ) : EReal) by
        rw [coe_sum]; exact Finset.sum_congr rfl fun k _ => by rw [h1, EReal.coe_mul]]
      rw [hd0, hd1, ← EReal.coe_mul, ← EReal.coe_sub, Finset.sum_mul, Finset.sum_mul, Finset.mul_sum, ← Finset.sum_sub_distrib, coe_sum]
      refine Finset.sum_congr rfl fun k _ => ?_
      rw [h0 k, h1 k, hd0, hd1, ← EReal.coe_mul, ← EReal.coe_sub, ← EReal.coe_mul]
      congr 1
      ring

end Cert.DiffAttn

end
-- ==== Proof.AttnSpec.lean ====
/-
  The differential attention in plain mathematics, over the arrays it reads: the projection, of which it takes the
  queries' columns, the keys, the values, the four vectors of the factor, and the norm's weights.
-/
module

public import proofs.«01_k».proof.Proof.AttnAlg

@[expose] public section

noncomputable section

namespace Cert.DiffAttn

open Idealize.ShloMosaic

/-- The slope of head `h`. -/
def slope (h : ℕ) : EReal :=
  Ideal.exp (Ideal.ofBits FTy.f32 1060205080#32 * Ideal.div
    (Ideal.ofBits FTy.f32 3238002688#32 * (1 + FloatOps.sitofp (F := Ideal) FTy.f32 (BitVec.ofNat 32 h))) (Ideal.ofBits FTy.f32 1090519040#32))

/-- What is added to the score of query `n` and key `k`: the slope times the distance back, negative infinity ahead. -/
def bias (h n k : ℕ) : EReal :=
  Scalar.select (IntOp.cmpi CmpIPredicate.sge (IntOp.subi (BitVec.ofNat 32 n) (BitVec.ofNat 32 k)) 0#32)
    (-slope h * FloatOps.sitofp (F := Ideal) FTy.f32 (IntOp.subi (BitVec.ofNat 32 n) (BitVec.ofNat 32 k))) ⊥

/-- The score of query `n` and key `k` in head `h` of sequence `b`, over the 64 lanes from `o` of the head's 128. -/
def score (X0 : (⟨3, ![16, 2048, 14336]⟩ : Shape).Idx → EReal) (X1 : (⟨4, ![2, 16, 2048, 1024]⟩ : Shape).Idx → EReal)
    (b : Fin 16) (h : Fin 8) (o : ℕ) (ho : o ≤ 64) (n k : Fin 2048) : EReal :=
  (∑ e : Fin 64, X0 (ix3 b n ⟨4096 + (h.val * 128 + o + e.val), by omega⟩) * X1 (ix4 0 b k ⟨h.val * 128 + o + e.val, by omega⟩))
    * Ideal.ofBits FTy.f32 1040187392#32 + bias h.val n.val k.val

/-- The factor of the second softmax. -/
def lam (X3 : (⟨2, ![4, 64]⟩ : Shape).Idx → EReal) : EReal :=
  Ideal.exp (∑ x : Fin 64, X3 (ix2 0 x) * X3 (ix2 1 x)) - Ideal.exp (∑ x : Fin 64, X3 (ix2 2 x) * X3 (ix2 3 x))
    + Ideal.ofBits FTy.f32 1045220557#32

/-- The values' entries for head `h` of sequence `b`. -/
def vals (X2 : (⟨4, ![2, 16, 2048, 1024]⟩ : Shape).Idx → EReal) (b : Fin 16) (h : Fin 8) (k : Fin 2048) (e : Fin 128) : EReal :=
  X2 (ix4 0 b k ⟨h.val * 128 + e.val, by omega⟩)

/-- The norm's divisor and the number added under its root. -/
abbrev lanes : EReal := Ideal.ofBits FTy.f32 1124073472#32
abbrev eps : EReal := Ideal.ofBits FTy.f32 897988541#32

end Cert.DiffAttn

end
-- ==== Proof.AttnPays.lean ====
/- What each step of the attention's body computes, entry by entry. -/
module

public import proofs.«01_k».proof.Proof.AttnFrame
public import proofs.«01_k».proof.Proof.AttnSpec

@[expose] public section

set_option maxRecDepth 16384

noncomputable section

namespace Cert.Kernel2Ideal.Attn

open Idealize.ShloMosaic Idealize.ShloMosaic.TcCoe Idealize.ShloMosaic.Tactic
open Idealize.ShloMosaic.VecWindow
open Cert.DiffAttn
open Cert.Kernel2Ideal.Gen

/-- The mask is negative infinity. -/
theorem mask_bot : Named.named (F := Ideal) Cert.Kernel2Ideal.κ "mask" (φ := .f32) 0xF149F2CA#32 = (⊥ : EReal) :=
  IdealRules.named_const.ideal_named_scalar _ _ _ _ rfl

/-- The word of negative infinity. -/
theorem neg_inf : Ideal.ofBits FTy.f32 4286578688#32 = (⊥ : EReal) := by
  simp [Ideal.ofBits, Ideal.ieee]

/-- The scale of the scores: an eighth. -/
theorem eighth : Ideal.ofBits FTy.f32 1040187392#32 = ((1 / 8 : ℝ) : EReal) := by
  simp [Ideal.ofBits, Ideal.ieee, -EReal.coe_mul]
  norm_num

/-- A nonnegative real factor comes out of a sum. -/
theorem sum_mul_real {ι : Type} (s : Finset ι) (f : ι → EReal) (a : ℝ) (ha : 0 ≤ a) : ∑ k ∈ s, f k * (a : EReal) = (∑ k ∈ s, f k) * (a : EReal) := by
  classical
  induction s using Finset.induction_on with
  | empty => simp
  | insert k s hk ih =>
    rw [Finset.sum_insert hk, Finset.sum_insert hk, ih,
      EReal.right_distrib_of_nonneg_of_ne_top (EReal.coe_nonneg.mpr ha) (EReal.coe_ne_top a)]

theorem low_lane : ∀ x : Fin 128, (IntOp.cmpi CmpIPredicate.slt (BitVec.ofNat 32 x.val) 64#32) = if x.val < 64 then 1#1 else 0#1 := by decide +kernel
theorem high_lane : ∀ x : Fin 128, (IntOp.cmpi CmpIPredicate.sge (BitVec.ofNat 32 x.val) 64#32) = if x.val < 64 then 0#1 else 1#1 := by decide +kernel

set_option maxHeartbeats 1000000 in
/-- The scaled queries, each component's lanes alone. -/
theorem pay11_apply (x1 : Vec Ideal S1x512x128 .f32) (R : Fin 1024) (x : Fin 128) :
    k0_pay11 (F := Ideal) x1 (ix2 R x) = if R.val / 512 = x.val / 64 then x1 (ix3 0 ⟨R.val % 512, by omega⟩ x) * ((1 / 8 : ℝ) : EReal) else 0 := by
  pointwise [k0_pay11]
  rw [low_lane, high_lane, eighth]
  by_cases hR : R.val < 512
  · refine (dif_pos hR).trans ?_
    rw [show (⟨R.val, _⟩ : Fin 512) = ⟨R.val % 512, by omega⟩ from Fin.ext (Nat.mod_eq_of_lt hR).symm]
    by_cases hx : x.val < 64
    · rw [if_pos hx, if_pos (by omega)]; rfl
    · rw [if_neg hx, if_neg (by omega)]; rfl
  · refine (dif_neg hR).trans ?_
    have hlt : R.val - 512 < 512 := by omega
    rw [show (⟨R.val - 512, hlt⟩ : Fin 512) = ⟨R.val % 512, by omega⟩ from Fin.ext (by show R.val - 512 = R.val % 512; omega)]
    by_cases hx : x.val < 64
    · rw [if_pos hx, if_neg (by omega)]; rfl
    · rw [if_neg hx, if_pos (by omega)]; rfl

/-- The product of a block of queries and a block of keys: row `R` takes the 64 lanes of its component. -/
theorem dot_apply (x1 : Vec Ideal S1x512x128 .f32) (K : Fin 128 → EReal) (R : Fin 1024) :
    ∑ x : Fin 128, k0_pay11 (F := Ideal) x1 (ix2 R x) * K x
      = (∑ y : Fin 64, x1 (ix3 0 ⟨R.val % 512, by omega⟩ ⟨R.val / 512 * 64 + y.val, by omega⟩) * K ⟨R.val / 512 * 64 + y.val, by omega⟩)
        * ((1 / 8 : ℝ) : EReal) := by
  rw [← sum_mul_real _ _ _ (by norm_num)]
  refine (Fin.sum_univ_add (a := 64) (b := 64) _).trans ?_
  simp only [pay11_apply]
  by_cases hR : R.val / 512 = 0
  · refine (congrArg₂ (fun x y : EReal => x + y) (Finset.sum_congr rfl fun y _ => ?_) (Finset.sum_eq_zero fun y _ => ?_)).trans (add_zero _)
    · rw [if_pos (by simp only [Fin.val_castAdd]; omega), mul_right_comm]
      have e : (Fin.castAdd 64 y : Fin 128) = ⟨R.val / 512 * 64 + y.val, by omega⟩ := Fin.ext (by simp only [Fin.val_castAdd]; omega)
      rw [e]
    · rw [if_neg (by simp only [Fin.val_natAdd]; omega), zero_mul]
  · refine (congrArg₂ (fun x y : EReal => x + y) (Finset.sum_eq_zero fun y _ => ?_) (Finset.sum_congr rfl fun y _ => ?_)).trans (zero_add _)
    · rw [if_neg (by simp only [Fin.val_castAdd]; omega), zero_mul]
    · rw [if_pos (by simp only [Fin.val_natAdd]; omega), mul_right_comm]
      have e : (Fin.natAdd 64 y : Fin 128) = ⟨R.val / 512 * 64 + y.val, by omega⟩ := Fin.ext (by simp only [Fin.val_natAdd]; omega)
      rw [e]

/-- A choice by a decided bit. -/
theorem select_decide {α : Type} (p : Prop) [Decidable p] (a b : α) : Scalar.select (BitVec.ofBool (decide p)) a b = if p then a else b := by
  by_cases h : p <;> simp [Scalar.select, h]

theorem toInt_small (n : ℕ) (hn : n < 2048) : (BitVec.ofNat 32 n).toInt = (n : ℤ) := by
  rw [BitVec.toInt_eq_toNat_bmod, BitVec.toNat_ofNat]
  simp only [Int.bmod]
  omega

/-- The difference of two positions, as an integer. -/
theorem sub_toInt (n k : ℕ) (hn : n < 2048) (hk : k < 2048) : (IntOp.subi (BitVec.ofNat 32 n) (BitVec.ofNat 32 k)).toInt = (n : ℤ) - k := by
  show (BitVec.ofNat 32 n - BitVec.ofNat 32 k).toInt = _
  rw [BitVec.toInt_sub, toInt_small n hn, toInt_small k hk]
  simp only [Int.bmod]
  omega

theorem sub_sitofp (n k : ℕ) (hn : n < 2048) (hk : k < 2048) :
    FloatOps.sitofp (F := Ideal) FTy.f32 (IntOp.subi (BitVec.ofNat 32 n) (BitVec.ofNat 32 k)) = (((n : ℝ) - k : ℝ) : EReal) := by
  show (((IntOp.subi (BitVec.ofNat 32 n) (BitVec.ofNat 32 k)).toInt : ℝ) : EReal) = _
  rw [sub_toInt n k hn hk]
  push_cast
  rfl

/-- The position bias with a slope `a`. -/
def biasR (a : ℝ) (n k : ℕ) : EReal := if k ≤ n then ((-a * ((n : ℝ) - k) : ℝ) : EReal) else ⊥

theorem bias_eq (a : ℝ) (h n k : ℕ) (ha : slope h = (a : EReal)) (hn : n < 2048) (hk : k < 2048) : bias h n k = biasR a n k := by
  unfold bias biasR
  rw [sub_sitofp n k hn hk, ha, WordCmp.cmpi_sge_eq, select_decide, sub_toInt n k hn hk, ← EReal.coe_neg, ← EReal.coe_mul]
  refine if_congr ?_ rfl rfl
  show (0 : ℤ) ≤ (n : ℤ) - k ↔ k ≤ n
  omega

/-- A row's position within its component's block. -/
theorem row_word : ∀ R : Fin 1024, Scalar.select (IntOp.cmpi CmpIPredicate.sge (BitVec.ofNat 32 R.val) 512#32)
    (IntOp.subi (BitVec.ofNat 32 R.val) 512#32) (BitVec.ofNat 32 R.val) = BitVec.ofNat 32 (R.val % 512) := by decide +kernel

/-- The distance of two blocks, in positions. -/
theorem block_word : ∀ p j : Fin 4, (Scalar.muli (Scalar.subi (BitVec.ofNat 32 p.val) (Scf.iv 0#32 1#32 j.val)) 512#32).toInt = ((p.val : ℤ) - j.val) * 512 := by
  decide +kernel

theorem bias_apply (a : ℝ) (R : Fin 1024) (e : Fin 512) :
    k0_pay7 (F := Ideal) (k0_pay9 (F := Ideal) (a : EReal)) (ix2 R e) = ((-a * (((R.val % 512 : ℕ) : ℝ) - e.val) : ℝ) : EReal) := by
  pointwise [k0_pay7, k0_pay9, k0_pay6, k0_pay5]
  rw [row_word, sub_sitofp _ _ (by omega) (by omega), zero_sub, ← EReal.coe_neg, ← EReal.coe_mul]

theorem bdiag_apply (a : ℝ) (R : Fin 1024) (e : Fin 512) :
    k0_pay10 (F := Ideal) (k0_pay8 (F := Ideal) (k0_pay9 (F := Ideal) (a : EReal))) (ix2 R e) = biasR a (R.val % 512) e.val := by
  pointwise [k0_pay10, k0_pay8, k0_pay9, k0_pay6, k0_pay5]
  rw [mask_bot, row_word, sub_sitofp _ _ (by omega) (by omega), zero_sub, ← EReal.coe_neg, ← EReal.coe_mul]
  rw [WordCmp.cmpi_sle_eq, select_decide, toInt_small _ (by omega), toInt_small _ (by omega)]
  exact if_congr Nat.cast_le rfl rfl

/-- A block of scores left of the diagonal. -/
theorem pay13_apply (i : grid0.Coords) (a : ℝ) (x1 : Vec Ideal S1x512x128 .f32) (k : Fin (k0_t1_loop i).trips) (hk : k.val < 4)
    (K : Vec Ideal S512x128 .bf16) (R : Fin 1024) (e : Fin 512) :
    k0_pay13 (F := Ideal) i (a : EReal) x1 k (k0_pay7 (F := Ideal) (k0_pay9 (F := Ideal) (a : EReal))) K (ix2 R e)
      = (∑ y : Fin 64, x1 (ix3 0 ⟨R.val % 512, by omega⟩ ⟨R.val / 512 * 64 + y.val, by omega⟩) * K (ix2 e ⟨R.val / 512 * 64 + y.val, by omega⟩))
        * ((1 / 8 : ℝ) : EReal) + ((-a * ((512 * (i 2).val + R.val % 512 : ℕ) - (512 * k.val + e.val : ℕ) : ℝ) : ℝ) : EReal) := by
  have hb := bias_apply a R e
  generalize k0_pay7 (F := Ideal) (k0_pay9 (F := Ideal) (a : EReal)) = B at hb
  pointwise [k0_pay13, k0_pay9]
  rw [dot_apply x1 (fun x => K (ix2 e x)) R, hb, block_word (i 2) ⟨k.val, hk⟩]
  generalize (∑ y : Fin 64, x1 (ix3 0 ⟨R.val % 512, by omega⟩ ⟨R.val / 512 * 64 + y.val, by omega⟩) * K (ix2 e ⟨R.val / 512 * 64 + y.val, by omega⟩))
        * ((1 / 8 : ℝ) : EReal) = S
  refine congrArg (fun z : EReal => S + z) ?_
  rw [zero_sub, ← EReal.coe_neg, ← EReal.coe_mul, ← EReal.coe_add]
  refine congrArg Real.toEReal ?_
  push_cast
  ring

/-- The block of scores on the diagonal. -/
theorem pay19_apply (a : ℝ) (x1 : Vec Ideal S1x512x128 .f32) (K : Vec Ideal S512x128 .bf16) (R : Fin 1024) (e : Fin 512) :
    k0_pay19 (F := Ideal) (k0_pay11 (F := Ideal) x1) (k0_pay10 (F := Ideal) (k0_pay8 (F := Ideal) (k0_pay9 (F := Ideal) (a : EReal)))) K (ix2 R e)
      = (∑ y : Fin 64, x1 (ix3 0 ⟨R.val % 512, by omega⟩ ⟨R.val / 512 * 64 + y.val, by omega⟩) * K (ix2 e ⟨R.val / 512 * 64 + y.val, by omega⟩))
        * ((1 / 8 : ℝ) : EReal) + biasR a (R.val % 512) e.val := by
  have hb := bdiag_apply a R e
  generalize k0_pay10 (F := Ideal) (k0_pay8 (F := Ideal) (k0_pay9 (F := Ideal) (a : EReal))) = B at hb
  have hd := dot_apply x1 (fun x => K (ix2 e x)) R
  generalize k0_pay11 (F := Ideal) x1 = Q at hd
  pointwise [k0_pay19]
  rw [hd, hb]

theorem pay14_apply (i : grid0.Coords) (v1 : Elt Ideal .f32) (x1 : Vec Ideal S1x512x128 .f32) (k : Fin (k0_t1_loop i).trips)
    (B : Vec Ideal S1024x512 .f32) (K : Vec Ideal S512x128 .bf16) (R : Fin 1024) (e : Fin 512) :
    k0_pay14 i v1 x1 k B K (ix3 0 R e) = k0_pay13 i v1 x1 k B K (ix2 R e) := by
  unfold k0_pay14
  generalize k0_pay13 i v1 x1 k B K = M
  pointwise

theorem pay20_apply (Q : Vec Ideal S1024x128 .bf16) (B : Vec Ideal S1024x512 .f32) (K : Vec Ideal S512x128 .bf16) (R : Fin 1024) (e : Fin 512) :
    k0_pay20 (F := Ideal) Q B K (ix3 0 R e) = k0_pay19 (F := Ideal) Q B K (ix2 R e) := by
  unfold k0_pay20
  generalize k0_pay19 (F := Ideal) Q B K = M
  pointwise

/-- The maximum of a buffer's lane and the four lanes of a block that fold onto it. -/
theorem max4_le (m a0 a1 a2 a3 y : EReal) : max (max (max (max m a0) a1) a2) a3 ≤ y ↔ m ≤ y ∧ a0 ≤ y ∧ a1 ≤ y ∧ a2 ≤ y ∧ a3 ≤ y := by
  simp only [max_le_iff, and_assoc]

theorem pay15_le (i : grid0.Coords) (v1 : Elt Ideal .f32) (x1 : Vec Ideal S1x512x128 .f32) (k : Fin (k0_t1_loop i).trips)
    (B : Vec Ideal S1024x512 .f32) (K : Vec Ideal S512x128 .bf16) (m : Vec Ideal S1024x128 .f32) (R : Fin 1024) (e : Fin 128) (y : EReal) :
    k0_pay15 i v1 x1 k B K m (ix2 R e) ≤ y ↔ m (ix2 R e) ≤ y ∧ ∀ g : Fin 4, k0_pay13 i v1 x1 k B K (ix2 R ⟨128 * g.val + e.val, by omega⟩) ≤ y := by
  unfold k0_pay15
  generalize k0_pay13 i v1 x1 k B K = M
  pointwise
  exact max4_le _ _ _ _ _ y

theorem pay21_le (Q : Vec Ideal S1024x128 .bf16) (B : Vec Ideal S1024x512 .f32) (K : Vec Ideal S512x128 .bf16) (m : Vec Ideal S1024x128 .f32)
    (R : Fin 1024) (e : Fin 128) (y : EReal) :
    k0_pay21 (F := Ideal) Q B K m (ix2 R e) ≤ y ↔ m (ix2 R e) ≤ y ∧ ∀ g : Fin 4, k0_pay19 (F := Ideal) Q B K (ix2 R ⟨128 * g.val + e.val, by omega⟩) ≤ y := by
  unfold k0_pay21
  generalize k0_pay19 (F := Ideal) Q B K = M
  pointwise
  exact max4_le _ _ _ _ _ y

theorem pay12_apply (R : Fin 1024) (e : Fin 128) : k0_pay12 (F := Ideal) (ix2 R e) = (⊥ : EReal) := by
  pointwise [k0_pay12]
  exact mask_bot

theorem pay23_apply (R : Fin 1024) (e : Fin 256) : k0_pay23 (F := Ideal) (ix2 R e) = (0 : EReal) := by
  pointwise [k0_pay23]

/-- The row's maximum over its lanes. -/
theorem pay22_apply (m : Vec Ideal S1024x128 .f32) (R : Fin 1024) (e : Fin 128) :
    k0_pay22 (F := Ideal) m (ix2 R e) = Finset.univ.sup fun x : Fin 128 => m (ix2 R x) := by
  pointwise [k0_pay22]
  rw [neg_inf]
  rfl

/-- One key block's weighted values. -/
theorem pay24_apply (m : Vec Ideal S1024x128 .f32) (s : Vec Ideal S1x1024x512 .f32) (acc : Vec Ideal S1024x256 .f32) (v : Vec Ideal S512x256 .bf16)
    (R : Fin 1024) (e : Fin 256) :
    k0_pay24 (F := Ideal) m s acc v (ix2 R e)
      = acc (ix2 R e) + ∑ x : Fin 512, Ideal.exp (s (ix3 0 R x) - Finset.univ.sup fun x : Fin 128 => m (ix2 R x)) * v (ix2 x e) := by
  unfold k0_pay24
  generalize hM : k0_pay22 (F := Ideal) m = M
  have h : ∀ x, M (ix2 R x) = Finset.univ.sup fun x : Fin 128 => m (ix2 R x) := fun x => by rw [← hM]; exact pay22_apply m R x
  clear hM
  pointwise
  simp only [h]
  refine congrArg (fun z : EReal => acc (ix2 R e) + z) (Finset.sum_congr rfl fun x _ => congrArg (fun z : EReal => z * v (ix2 x e)) ?_)
  have e1 : ∀ (j : Fin 512), j = x → Ideal.exp (s (ix3 0 R j) - Finset.univ.sup fun x : Fin 128 => m (ix2 R x))
      = Ideal.exp (s (ix3 0 R x) - Finset.univ.sup fun x : Fin 128 => m (ix2 R x)) := fun j h => by rw [h]
  by_cases h1 : x.val < 128
  · exact dif_pos h1
  by_cases h2 : x.val - 128 < 128
  · exact (dif_neg h1).trans ((dif_pos h2).trans (e1 _ (Fin.ext (by show 128 + (x.val - 128) = x.val; omega))))
  by_cases h3 : x.val - 128 - 128 < 128
  · exact (dif_neg h1).trans ((dif_neg h2).trans ((dif_pos h3).trans (e1 _ (Fin.ext (by show 256 + (x.val - 128 - 128) = x.val; omega)))))
  · exact (dif_neg h1).trans ((dif_neg h2).trans ((dif_neg h3).trans (e1 _ (Fin.ext (by show 384 + (x.val - 128 - 128 - 128) = x.val; omega)))))

theorem kb_apply (x2 : Vec Ideal S1x1x2048x128 .f32) (k : Fin 2048) (e : Fin 128) :
    kbOf (F := Ideal) x2 (ix2 k e) = x2 (ix4 0 0 k e) := by
  pointwise [kbOf, k0_pay2]

theorem pay3_apply (x3 : Vec Ideal S1x1x2048x128 .f32) (k : Fin 2048) (e : Fin 128) :
    k0_pay3 (F := Ideal) x3 (ix2 k e) = x3 (ix4 0 0 k e) := by
  pointwise [k0_pay3]

theorem pay4_apply (k : Fin 2048) (e : Fin 128) : k0_pay4 (F := Ideal) (ix2 k e) = (1 : EReal) := by
  pointwise [k0_pay4]

/-- The kept values: the head's own, and ones beside them. -/
theorem vb_low (x3 : Vec Ideal S1x1x2048x128 .f32) (k : Fin 2048) (e : Fin 128) :
    vbOf (F := Ideal) x3 (ix2 k ⟨e.val, by omega⟩) = x3 (ix4 0 0 k e) := by
  unfold vbOf
  refine (dif_neg fun h => ?_).trans ((dif_pos fun a => ?_).trans ?_)
  · have h1 := (h 1).1
    have h2 : 128 ≤ e.val := h1
    omega
  · fin_cases a
    · exact ⟨Nat.zero_le _, (Nat.zero_add 2048).symm ▸ k.isLt⟩
    · exact ⟨Nat.zero_le _, (Nat.zero_add 128).symm ▸ e.isLt⟩
  · refine Eq.trans (congrArg (k0_pay3 (F := Ideal) x3) (funext fun a => ?_)) (pay3_apply x3 k e)
    fin_cases a <;> rfl

theorem vb_high (x3 : Vec Ideal S1x1x2048x128 .f32) (k : Fin 2048) (e : Fin 128) :
    vbOf (F := Ideal) x3 (ix2 k ⟨128 + e.val, by omega⟩) = (1 : EReal) := by
  unfold vbOf
  refine (dif_pos fun a => ?_).trans ?_
  · fin_cases a
    · exact ⟨Nat.zero_le _, (Nat.zero_add 2048).symm ▸ k.isLt⟩
    · exact ⟨Nat.le_add_right _ _, Nat.add_lt_add_left e.isLt 128⟩
  · refine Eq.trans (congrArg (k0_pay4 (F := Ideal)) (funext fun a => ?_)) (pay4_apply k e)
    fin_cases a
    · rfl
    · exact Fin.ext (Nat.add_sub_cancel_left 128 e.val)

/-- A block of rows of a kept buffer. -/
theorem rows_apply {w : ℕ} (X : (⟨2, ![2048, w]⟩ : Shape).Idx → EReal) (off : Fin 2 → ℕ) (k : ℕ) (hk : k < 4) (ho : off = ![512 * k, 0])
    (inb : ∀ a, off a + (⟨2, ![512, w]⟩ : Shape).size a ≤ (⟨2, ![2048, w]⟩ : Shape).size a) (x : Fin 512) (e : Fin w) :
    window (s := ⟨2, ![2048, w]⟩) X off (⟨2, ![512, w]⟩ : Shape).size inb (ix2 x e) = X (ix2 ⟨512 * k + x.val, by omega⟩ e) := by
  subst ho
  refine congrArg X (funext fun a => Fin.ext ?_)
  fin_cases a
  · show 512 * k + 1 * x.val = 512 * k + x.val; omega
  · show 0 + 1 * e.val = e.val; omega

end Cert.Kernel2Ideal.Attn

end
-- ==== Proof.AttnBlock.lean ====
/-
  What one point of the attention's grid computes: the blocks of scores, the largest score of a row, the weighted values
  summed over the key blocks up to the query block's own, and the normalised difference of the two quotients.
-/
module

public import proofs.«01_k».proof.Proof.AttnPays

@[expose] public section

set_option maxRecDepth 16384

noncomputable section

namespace Cert.Kernel2Ideal.Attn

open Idealize.ShloMosaic Idealize.ShloMosaic.TcCoe Idealize.ShloMosaic.Tactic
open Idealize.ShloMosaic.VecWindow
open Cert.DiffAttn
open Cert.Kernel2Ideal.Gen

/-- The score of row `R` (its component, then its position within query block `p`) and key `k`. -/
def sc (a : ℝ) (p : ℕ) (x1 : Vec Ideal S1x512x128 .f32) (x2 : Vec Ideal S1x1x2048x128 .f32) (R : Fin 1024) (k : Fin 2048) : EReal :=
  (∑ y : Fin 64, x1 (ix3 0 ⟨R.val % 512, by omega⟩ ⟨R.val / 512 * 64 + y.val, by omega⟩) * x2 (ix4 0 0 k ⟨R.val / 512 * 64 + y.val, by omega⟩))
    * ((1 / 8 : ℝ) : EReal) + biasR a (512 * p + R.val % 512) k.val

variable (i : grid0.Coords) (a : ℝ) (x1 : Vec Ideal S1x512x128 .f32) (x2 : Vec Ideal S1x1x2048x128 .f32)

/-- The kept bias of the blocks left of the diagonal, and of the block on it. -/
abbrev B12 : Vec Ideal S1024x512 .f32 := k0_pay7 (F := Ideal) (k0_pay9 (F := Ideal) (a : EReal))
abbrev B13 : Vec Ideal S1024x512 .f32 := k0_pay10 (F := Ideal) (k0_pay8 (F := Ideal) (k0_pay9 (F := Ideal) (a : EReal)))

theorem qlt : (i 2).val < 4 := (i 2).isLt

/-- The rows of keys trip `k` loads. -/
theorem keys_rows (k : Fin (k0_t1_loop i).trips) (hk : k.val < 4) (x : Fin 512) (e : Fin 128) :
    window (kbOf (F := Ideal) x2) (k0_off2 i k) S512x128.size (k0_off2_inb i k) (ix2 x e) = x2 (ix4 0 0 ⟨512 * k.val + x.val, by omega⟩ e) :=
  (rows_apply (kbOf (F := Ideal) x2) (k0_off2 i k) k.val hk (k0_off2_eq i k) (k0_off2_inb i k) x e).trans (kb_apply x2 _ e)

/-- The rows of keys of the query block's own. -/
theorem keys_own (x : Fin 512) (e : Fin 128) :
    window (kbOf (F := Ideal) x2) (k0_off6 i) S512x128.size (k0_off6_inb i) (ix2 x e)
      = x2 (ix4 0 0 ⟨512 * (i 2).val + x.val, by have := qlt i; omega⟩ e) :=
  (rows_apply (kbOf (F := Ideal) x2) (k0_off6 i) (i 2).val (qlt i) (k0_off6_eq i) (k0_off6_inb i) x e).trans (kb_apply x2 _ e)

/-- A block of scores left of the diagonal. -/
theorem blk_left (k : Fin (k0_t1_loop i).trips) (hk : k.val < (i 2).val) (R : Fin 1024) (e : Fin 512) :
    k0_pay13 (F := Ideal) i (a : EReal) x1 k (B12 a) (window (kbOf (F := Ideal) x2) (k0_off2 i k) S512x128.size (k0_off2_inb i k)) (ix2 R e)
      = sc a (i 2).val x1 x2 R ⟨512 * k.val + e.val, by have := qlt i; omega⟩ := by
  have hq := qlt i
  refine (pay13_apply i a x1 k (by omega) _ R e).trans ?_
  unfold sc biasR
  rw [if_pos (by show 512 * k.val + e.val ≤ 512 * (i 2).val + R.val % 512; omega)]
  simp only [keys_rows i x2 k (by omega)]

/-- The block of scores on the diagonal. -/
theorem blk_own (R : Fin 1024) (e : Fin 512) :
    k0_pay19 (F := Ideal) (k0_pay11 (F := Ideal) x1) (B13 a) (window (kbOf (F := Ideal) x2) (k0_off6 i) S512x128.size (k0_off6_inb i)) (ix2 R e)
      = sc a (i 2).val x1 x2 R ⟨512 * (i 2).val + e.val, by have := qlt i; omega⟩ := by
  have hq := qlt i
  refine (pay19_apply a x1 _ R e).trans ?_
  unfold sc biasR
  simp only [keys_own i x2]
  refine congrArg₂ (fun x y : EReal => x + y) rfl ?_
  refine if_congr (by show e.val ≤ R.val % 512 ↔ 512 * (i 2).val + e.val ≤ 512 * (i 2).val + R.val % 512; omega) ?_ rfl
  refine congrArg Real.toEReal ?_
  push_cast
  ring

/-- A key ahead of the query scores negative infinity. -/
theorem sc_ahead (R : Fin 1024) (p : ℕ) (k : Fin 2048) (h : 512 * p + R.val % 512 < k.val) : sc a p x1 x2 R k = ⊥ := by
  unfold sc biasR
  rw [if_neg (by omega), EReal.add_bot]

/-- The block of scores key block `j` of the second pass reads. -/
theorem sAll_apply (j : Fin (k0_t3_loop i).trips) (hj : j.val ≤ (i 2).val) (R : Fin 1024) (x : Fin 512) :
    sAll (F := Ideal) i (a : EReal) x1 (kbOf (F := Ideal) x2) (B12 a) (B13 a) j (ix3 0 R x)
      = sc a (i 2).val x1 x2 R ⟨512 * j.val + x.val, by have := qlt i; omega⟩ := by
  unfold sAll
  by_cases h : j.val < (k0_t1_loop i).trips
  · rw [dif_pos h]
    have h' : j.val < (i 2).val := by rw [← trips_t1 i]; exact h
    unfold sBlk
    exact (pay14_apply i _ x1 ⟨j.val, h⟩ _ _ R x).trans (blk_left i a x1 x2 ⟨j.val, h⟩ h' R x)
  · rw [dif_neg h]
    have h' : j.val = (i 2).val := by rw [trips_t1 i] at h; omega
    refine ((pay20_apply _ _ _ R x).trans (blk_own i a x1 x2 R x)).trans ?_
    exact congrArg (sc a (i 2).val x1 x2 R) (Fin.ext (by show 512 * (i 2).val + x.val = 512 * j.val + x.val; rw [h']))

/-- The running maximum bounds the scores of the trips before, lane by lane. -/
theorem mRun_le (R : Fin 1024) (e : Fin 128) (y : EReal) : ∀ k : ℕ, (hk : k ≤ (i 2).val) →
    (mRun (F := Ideal) i (a : EReal) x1 (kbOf (F := Ideal) x2) (B12 a) k (ix2 R e) ≤ y
      ↔ ∀ j : Fin 4, j.val < k → ∀ g : Fin 4, sc a (i 2).val x1 x2 R ⟨512 * j.val + (128 * g.val + e.val), by omega⟩ ≤ y) := by
  intro k
  induction k with
  | zero =>
    intro _
    rw [show mRun (F := Ideal) i (a : EReal) x1 (kbOf (F := Ideal) x2) (B12 a) 0 = k0_pay12 (F := Ideal) from rfl, pay12_apply]
    exact ⟨fun _ j hj => absurd hj (Nat.not_lt_zero _), fun _ => bot_le⟩
  | succ k ih =>
    intro hk
    have hq := qlt i
    have ht : k < (k0_t1_loop i).trips := by rw [trips_t1 i]; omega
    rw [mRun_succ i (a : EReal) x1 (kbOf (F := Ideal) x2) (B12 a) ⟨k, ht⟩]
    refine (pay15_le i _ x1 ⟨k, ht⟩ _ _ _ R e y).trans ((and_congr (ih (by omega)) Iff.rfl).trans ?_)
    simp only [blk_left i a x1 x2 ⟨k, ht⟩ (show k < (i 2).val by omega)]
    constructor
    · intro h j hj g
      rcases Nat.lt_succ_iff_lt_or_eq.mp hj with h' | h'
      · exact h.1 j h' g
      · have := h.2 g
        rw [show (⟨512 * j.val + (128 * g.val + e.val), _⟩ : Fin 2048) = ⟨512 * k + (128 * g.val + e.val), by omega⟩ from Fin.ext (by show 512 * j.val + _ = 512 * k + _; rw [h'])]
        exact this
    · intro h
      exact ⟨fun j hj g => h j (Nat.lt_succ_of_lt hj) g, fun g => h ⟨k, by omega⟩ (Nat.lt_succ_self k) g⟩

/-- The largest score of a row. -/
theorem mAll_sup (R : Fin 1024) :
    (Finset.univ.sup fun x : Fin 128 => (mAll (F := Ideal) i (a : EReal) x1 (kbOf (F := Ideal) x2) (B12 a) (B13 a) (ix2 R x) : EReal))
      = Finset.univ.sup (sc a (i 2).val x1 x2 R) := by
  have hq := qlt i
  have ht : (k0_t1_loop i).trips = (i 2).val := trips_t1 i
  refine eq_of_forall_ge_iff fun y => ?_
  rw [Finset.sup_le_iff, Finset.sup_le_iff]
  have e : ∀ x : Fin 128, mAll (F := Ideal) i (a : EReal) x1 (kbOf (F := Ideal) x2) (B12 a) (B13 a) (ix2 R x) ≤ y
      ↔ (∀ j : Fin 4, j.val < (i 2).val → ∀ g : Fin 4, sc a (i 2).val x1 x2 R ⟨512 * j.val + (128 * g.val + x.val), by omega⟩ ≤ y)
        ∧ ∀ g : Fin 4, sc a (i 2).val x1 x2 R ⟨512 * (i 2).val + (128 * g.val + x.val), by omega⟩ ≤ y := fun x => by
    unfold mAll
    refine (pay21_le _ _ _ _ R x y).trans (and_congr ?_ ?_)
    · have h := mRun_le i a x1 x2 R x y (k0_t1_loop i).trips (le_of_eq ht)
      rw [h, ht]
    · simp only [blk_own i a x1 x2]
  constructor
  · intro h k _
    by_cases hk : k.val < 512 * ((i 2).val + 1)
    · have h1 := (e ⟨k.val % 128, by omega⟩).mp (h _ (Finset.mem_univ _))
      by_cases hj : k.val < 512 * (i 2).val
      · have := h1.1 ⟨k.val / 512, by omega⟩ (by show k.val / 512 < _; omega) ⟨k.val % 512 / 128, by omega⟩
        rw [show k = ⟨512 * (k.val / 512) + (128 * (k.val % 512 / 128) + k.val % 128), by omega⟩ from Fin.ext (by show k.val = 512 * (k.val / 512) + (128 * (k.val % 512 / 128) + k.val % 128); omega)]
        exact this
      · have := h1.2 ⟨k.val % 512 / 128, by omega⟩
        rw [show k = ⟨512 * (i 2).val + (128 * (k.val % 512 / 128) + k.val % 128), by omega⟩ from Fin.ext (by show k.val = 512 * (i 2).val + (128 * (k.val % 512 / 128) + k.val % 128); omega)]
        exact this
    · rw [sc_ahead a x1 x2 R (i 2).val k (by omega)]
      exact bot_le
  · intro h x _
    exact (e x).mpr ⟨fun j _ g => h _ (Finset.mem_univ _), fun g => h _ (Finset.mem_univ _)⟩

variable (x3 : Vec Ideal S1x1x2048x128 .f32)

/-- One key's weighted value, and nothing past the last key. -/
def term (R : Fin 1024) (e : Fin 256) (k : ℕ) : EReal :=
  if h : k < 2048 then wt (sc a (i 2).val x1 x2 R) ⟨k, h⟩ * vbOf (F := Ideal) x3 (ix2 ⟨k, h⟩ e) else 0

/-- After `k` key blocks the accumulator holds the weighted values of their keys. -/
theorem aRun_apply (R : Fin 1024) (e : Fin 256) : ∀ k : ℕ, (hk : k ≤ (i 2).val + 1) →
    (aRun (F := Ideal) i (mAll (F := Ideal) i (a : EReal) x1 (kbOf (F := Ideal) x2) (B12 a) (B13 a)) (vbOf (F := Ideal) x3)
      (sAll (F := Ideal) i (a : EReal) x1 (kbOf (F := Ideal) x2) (B12 a) (B13 a)) k (ix2 R e) : EReal)
      = ∑ n ∈ Finset.range (512 * k), term i a x1 x2 x3 R e n := by
  intro k
  induction k with
  | zero =>
    intro _
    exact (pay23_apply R e).trans (by simp)
  | succ k ih =>
    intro hk
    have hq := qlt i
    have ht : k < (k0_t3_loop i).trips := by rw [trips_t3 i]; omega
    rw [aRun_succ i _ (vbOf (F := Ideal) x3) (sAll (F := Ideal) i (a : EReal) x1 (kbOf (F := Ideal) x2) (B12 a) (B13 a)) ⟨k, ht⟩]
    refine (pay24_apply _ _ _ _ R e).trans ?_
    rw [Nat.mul_succ, Finset.sum_range_add, ← Fin.sum_univ_eq_sum_range (fun x => term i a x1 x2 x3 R e (512 * k + x)) 512]
    refine congrArg₂ (fun x y : EReal => x + y) (ih (by omega)) (Finset.sum_congr rfl fun x _ => ?_)
    rw [mAll_sup, sAll_apply i a x1 x2 ⟨k, ht⟩ (show k ≤ (i 2).val by omega) R x]
    unfold term
    rw [dif_pos (by omega)]
    refine congrArg₂ (fun x y : EReal => x * y) rfl ?_
    exact rows_apply (vbOf (F := Ideal) x3) (k0_off9 i ⟨k, ht⟩) k (by omega) (k0_off9_eq i ⟨k, ht⟩) (k0_off9_inb i ⟨k, ht⟩) x e

/-- All the key blocks: every key of the sequence, those ahead of the query weighing nothing. -/
theorem aAll_apply (R : Fin 1024) (e : Fin 256) :
    (aAll (F := Ideal) i (a : EReal) x1 (kbOf (F := Ideal) x2) (vbOf (F := Ideal) x3) (B12 a) (B13 a) (ix2 R e) : EReal)
      = ∑ k : Fin 2048, wt (sc a (i 2).val x1 x2 R) k * vbOf (F := Ideal) x3 (ix2 k e) := by
  have hq := qlt i
  unfold aAll
  rw [aRun_apply i a x1 x2 x3 R e (k0_t3_loop i).trips (le_of_eq (trips_t3 i)), trips_t3 i]
  have h1 : ∑ k : Fin 2048, wt (sc a (i 2).val x1 x2 R) k * vbOf (F := Ideal) x3 (ix2 k e) = ∑ n ∈ Finset.range 2048, term i a x1 x2 x3 R e n := by
    rw [← Fin.sum_univ_eq_sum_range]
    refine Finset.sum_congr rfl fun k _ => ?_
    unfold term
    rw [dif_pos k.isLt]
  rw [h1]
  refine Finset.sum_subset (fun n hn => Finset.mem_range.mpr (by have := Finset.mem_range.mp hn; omega)) fun n hn hn' => ?_
  have hn := Finset.mem_range.mp hn
  have hn' : ¬ n < 512 * ((i 2).val + 1) := fun h => hn' (Finset.mem_range.mpr h)
  unfold term
  rw [dif_pos hn]
  unfold wt
  rw [sc_ahead a x1 x2 R (i 2).val ⟨n, hn⟩ (by show 512 * (i 2).val + R.val % 512 < n; omega), EReal.bot_sub, Ideal.exp_bot, zero_mul]

/-- The weighted values of a row. -/
theorem aAll_val (R : Fin 1024) (e : Fin 128) :
    (window (aAll (F := Ideal) i (a : EReal) x1 (kbOf (F := Ideal) x2) (vbOf (F := Ideal) x3) (B12 a) (B13 a)) ![0, 0] S1024x128.size
      inb_S1024x256_S1024x128_0_0 (ix2 R e) : EReal) = ∑ k : Fin 2048, wt (sc a (i 2).val x1 x2 R) k * x3 (ix4 0 0 k e) := by
  refine Eq.trans (congrArg (aAll (F := Ideal) i (a : EReal) x1 (kbOf (F := Ideal) x2) (vbOf (F := Ideal) x3) (B12 a) (B13 a)) (funext fun d => ?_))
    ((aAll_apply i a x1 x2 x3 R ⟨e.val, by omega⟩).trans ?_)
  · fin_cases d
    · exact Fin.ext (by show 0 + 1 * R.val = R.val; omega)
    · exact Fin.ext (by show 0 + 1 * e.val = e.val; omega)
  · simp only [vb_low]

/-- The weights of a row, summed. -/
theorem aAll_sum (R : Fin 1024) (e : Fin 128) :
    (window (aAll (F := Ideal) i (a : EReal) x1 (kbOf (F := Ideal) x2) (vbOf (F := Ideal) x3) (B12 a) (B13 a)) ![0, 128] S1024x128.size
      inb_S1024x256_S1024x128_0_128 (ix2 R e) : EReal) = ∑ k : Fin 2048, wt (sc a (i 2).val x1 x2 R) k := by
  refine Eq.trans (congrArg (aAll (F := Ideal) i (a : EReal) x1 (kbOf (F := Ideal) x2) (vbOf (F := Ideal) x3) (B12 a) (B13 a)) (funext fun d => ?_))
    ((aAll_apply i a x1 x2 x3 R ⟨128 + e.val, by omega⟩).trans ?_)
  · fin_cases d
    · exact Fin.ext (by show 0 + 1 * R.val = R.val; omega)
    · exact Fin.ext (by show 128 + 1 * e.val = 128 + e.val; omega)
  · simp only [vb_high, mul_one]

/-- What a point of the grid leaves in the output's block. -/
theorem outOf_apply (x0 : Vec Ideal S8 .f32) (x4 : Vec Ideal S4x64 .f32) (x5 : Vec Ideal S1x128 .f32) (hs : slopeOf (F := Ideal) i x0 = (a : EReal))
    (r : Fin 512) (e : Fin 128) :
    (outOf (F := Ideal) i x0 x1 x4 x5 (kbOf (F := Ideal) x2) (vbOf (F := Ideal) x3) (biasOf (F := Ideal) i x0) (bdiagOf (F := Ideal) i x0) (ix3 0 r e) : EReal)
      = nrm lanes eps (rowK (sc a (i 2).val x1 x2 ⟨r.val, by omega⟩) (sc a (i 2).val x1 x2 ⟨512 + r.val, by omega⟩) (lam x4)
          fun k e => x3 (ix4 0 0 k e)) e * x5 (ix2 0 e) * Ideal.ofBits FTy.f32 1061997773#32 := by
  unfold outOf biasOf bdiagOf
  rw [hs]
  have h1 := aAll_val i a x1 x2 x3
  have h2 := aAll_sum i a x1 x2 x3
  generalize window (aAll (F := Ideal) i (a : EReal) x1 (kbOf (F := Ideal) x2) (vbOf (F := Ideal) x3) (B12 a) (B13 a)) ![0, 0] S1024x128.size
      inb_S1024x256_S1024x128_0_0 = A at h1
  generalize window (aAll (F := Ideal) i (a : EReal) x1 (kbOf (F := Ideal) x2) (vbOf (F := Ideal) x3) (B12 a) (B13 a)) ![0, 128] S1024x128.size
      inb_S1024x256_S1024x128_0_128 = D at h2
  pointwise [k0_pay1, k0_pay26]
  simp only [h1, h2]
  rfl

end Cert.Kernel2Ideal.Attn

end
-- ==== Proof.AttnArray.lean ====
/-
  The array the attention's kernel leaves: the blocks a point reads are the argument arrays' entries at their places, the
  slope is the head's, and the written blocks tile the output.
-/
module

public import proofs.«01_k».proof.Proof.AttnBlock

@[expose] public section

set_option maxRecDepth 16384

noncomputable section

namespace Cert.Kernel2Ideal.Attn

open Idealize.ShloMosaic Idealize.ShloMosaic.TcCoe Idealize.ShloMosaic.Tactic
open Idealize.ShloMosaic.VecWindow
open Cert.DiffAttn
open Cert.Kernel2Ideal.Gen

/-- A slope is a real. -/
theorem slope_real (h : ℕ) : ∃ a : ℝ, DiffAttn.slope h = (a : EReal) := by
  unfold DiffAttn.slope
  have h1 : ∃ a : ℝ, Ideal.ofBits FTy.f32 1060205080#32 = (a : EReal) := by simp [Ideal.ofBits, Ideal.ieee, -EReal.coe_mul]
  have h2 : ∃ a : ℝ, Ideal.ofBits FTy.f32 3238002688#32 = (a : EReal) := by
    simp only [Ideal.ofBits, Ideal.ieee]
    norm_num
    exact ⟨_, (EReal.coe_neg _).symm⟩
  have h3 : Ideal.ofBits FTy.f32 1090519040#32 = ((8 : ℝ) : EReal) := by simp [Ideal.ofBits, Ideal.ieee, -EReal.coe_mul]; norm_num
  obtain ⟨a1, h1⟩ := h1
  obtain ⟨a2, h2⟩ := h2
  rw [h1, h2, h3]
  have h4 : ∃ z : ℝ, FloatOps.sitofp (F := Ideal) FTy.f32 (BitVec.ofNat 32 h) = (z : EReal) := ⟨_, rfl⟩
  obtain ⟨z, h4⟩ := h4
  rw [h4]
  exact ⟨Real.exp (a1 * (a2 * (1 + z) * (1 / 8))), by
    rw [← EReal.coe_one, ← EReal.coe_add, ← EReal.coe_mul, Ideal.div_coe (by norm_num), ← EReal.coe_mul, ← EReal.coe_mul]; rfl⟩

variable (m : (ℓ : Loc nD τ sig) → Buf (Elt Ideal) ℓ) (c : Dev nD)

abbrev A0 : Vec Ideal S16x2048x14336 .f32 := m ((c : Thread nD τ).loc main_arg0)
abbrev A1 : Vec Ideal S2x16x2048x1024 .f32 := m ((c : Thread nD τ).loc main_arg1)
abbrev A2 : Vec Ideal S2x16x2048x1024 .f32 := m ((c : Thread nD τ).loc main_arg2)
abbrev A3 : Vec Ideal S4x64 .f32 := m ((c : Thread nD τ).loc main_arg3)
abbrev A4 : Vec Ideal S128 .f32 := m ((c : Thread nD τ).loc main_arg4)

/-- The host's slopes. -/
theorem V_slope (h : Fin 8) : (V m c main_v9 : Vec Ideal S8 .f32) (ix1 h) = DiffAttn.slope h.val := by
  entry_read
  pointwise
  rfl

/-- The norm's weights as a row. -/
theorem V_norm (e : Fin 128) : (V m c main_v10 : Vec Ideal S1x128 .f32) (ix2 0 e) = A4 m c (ix1 e) := by
  entry_read
  pointwise

theorem t_lt (t : Fin grid0.N) : t.val / 32 < 16 := by
  have h : t.val < 512 := lt_of_lt_of_eq t.isLt N_0
  omega

abbrev tb (t : Fin grid0.N) : Fin 16 := ⟨t.val / 32, t_lt t⟩
abbrev th (t : Fin grid0.N) : Fin 8 := ⟨t.val / 4 % 8, by omega⟩
abbrev tq (t : Fin grid0.N) : Fin 4 := ⟨t.val % 4, by omega⟩

theorem ix_1 : ∀ t : Fin grid0.N, win0_1.index t = ![t.val / 32, t.val % 4, 32 + t.val / 4 % 8] := by decide +kernel
theorem ix_2 : ∀ t : Fin grid0.N, win0_2.index t = ![0, t.val / 32, 0, t.val / 4 % 8] := by decide +kernel
theorem ix_3 : ∀ t : Fin grid0.N, win0_3.index t = ![0, t.val / 32, 0, t.val / 4 % 8] := by decide +kernel
theorem ix_0 : ∀ t : Fin grid0.N, win0_0.index t = ![0] := by decide +kernel
theorem ix_4 : ∀ t : Fin grid0.N, win0_4.index t = ![0, 0] := by decide +kernel
theorem ix_5 : ∀ t : Fin grid0.N, win0_5.index t = ![0, 0] := by decide +kernel
theorem ix_6 : ∀ t : Fin grid0.N, win0_6.index t = ![t.val / 32, t.val % 4, t.val / 4 % 8] := by decide +kernel

theorem blk_1 (t : Fin grid0.N) (r : Fin 512) (x : Fin 128) :
    (iblk m c 1 t : Vec Ideal S1x512x128 .f32) (ix3 0 r x)
      = A0 m c (ix3 (tb t) ⟨512 * (t.val % 4) + r.val, by omega⟩ ⟨4096 + ((th t).val * 128 + x.val), by omega⟩) := by
  blk_ext [iblk, ix_1 t]

theorem blk_2 (t : Fin grid0.N) (k : Fin 2048) (x : Fin 128) :
    (iblk m c 2 t : Vec Ideal S1x1x2048x128 .f32) (ix4 0 0 k x) = A1 m c (ix4 0 (tb t) k ⟨(th t).val * 128 + x.val, by omega⟩) := by
  blk_ext [iblk, ix_2 t]

theorem blk_3 (t : Fin grid0.N) (k : Fin 2048) (x : Fin 128) :
    (iblk m c 3 t : Vec Ideal S1x1x2048x128 .f32) (ix4 0 0 k x) = A2 m c (ix4 0 (tb t) k ⟨(th t).val * 128 + x.val, by omega⟩) := by
  blk_ext [iblk, ix_3 t]

theorem blk_4 (t : Fin grid0.N) : (iblk m c 4 t : Vec Ideal S4x64 .f32) = A3 m c := by
  funext y
  idx_vars y
  blk_ext [iblk, ix_4 t]

theorem blk_5 (t : Fin grid0.N) (e : Fin 128) : (iblk m c 5 t : Vec Ideal S1x128 .f32) (ix2 0 e) = A4 m c (ix1 e) := by
  refine Eq.trans ?_ (V_norm m c e)
  blk_ext [iblk, ix_5 t]

/-- The slope the body reads is its head's. -/
theorem slope_at (t : Fin grid0.N) : slopeOf (F := Ideal) (grid0.coords t) (iblk m c 0 t) = DiffAttn.slope (t.val / 4 % 8) := by
  have e1 : (grid0.coords t 1).val = t.val / 4 % 8 := Pipeline.Grid.coords_val t 1 (by decide) rfl
  refine Eq.trans ?_ (V_slope m c (th t))
  have e2 : ∀ q : Fin 8, (iblk m c 0 t : Vec Ideal S8 .f32) (ix1 q) = (V m c main_v9 : Vec Ideal S8 .f32) (ix1 q) := fun q => by
    blk_ext [iblk, ix_0 t]
  refine Eq.trans ?_ (e2 (th t))
  refine congrArg (iblk m c 0 t : Vec Ideal S8 .f32) (funext fun x => Fin.ext ?_)
  have e3 := congrFun (k0_off1_eq (grid0.coords t)) 0
  fin_cases x
  show k0_off1 (grid0.coords t) 0 + 1 * 0 = t.val / 4 % 8
  rw [e3]
  show (grid0.coords t 1).val + 1 * 0 = _
  omega

/-- The output array, in the blocked order of the sums. -/
def G : Vec Ideal S16x2048x1024 .f32 := fun i =>
  nrm lanes eps (rowK (score (A0 m c) (A1 m c) (i 0) ⟨(i 2).val / 128, Nat.div_lt_of_lt_mul (i 2).isLt⟩ 0 (by omega) (i 1))
      (score (A0 m c) (A1 m c) (i 0) ⟨(i 2).val / 128, Nat.div_lt_of_lt_mul (i 2).isLt⟩ 64 (by omega) (i 1)) (lam (A3 m c))
      (vals (A2 m c) (i 0) ⟨(i 2).val / 128, Nat.div_lt_of_lt_mul (i 2).isLt⟩)) ⟨(i 2).val % 128, Nat.mod_lt _ (by omega)⟩
    * A4 m c (ix1 ⟨(i 2).val % 128, Nat.mod_lt _ (by omega)⟩) * Ideal.ofBits FTy.f32 1061997773#32

theorem tq_eq (t : Fin grid0.N) : (grid0.coords t 2).val = t.val % 4 := by
  have e2 : (grid0.coords t 2).val = t.val / 1 % 4 := Pipeline.Grid.coords_val t 2 (by decide) rfl
  omega

/-- A row of a point's scores is a query's, in the first component and in the second. -/
theorem sc_low (t : Fin grid0.N) (a : ℝ) (ha : DiffAttn.slope (t.val / 4 % 8) = (a : EReal)) (r : Fin 512) :
    sc a (grid0.coords t 2).val (iblk m c 1 t) (iblk m c 2 t) ⟨r.val, by omega⟩
      = score (A0 m c) (A1 m c) (tb t) (th t) 0 (by omega) ⟨512 * (t.val % 4) + r.val, by omega⟩ := by
  funext k
  unfold sc score
  rw [bias_eq a _ _ _ ha (by show 512 * (t.val % 4) + r.val < 2048; omega) k.isLt, tq_eq, eighth]
  have em : r.val % 512 = r.val := Nat.mod_eq_of_lt r.isLt
  have ed : r.val / 512 = 0 := Nat.div_eq_of_lt r.isLt
  refine congrArg₂ (· + ·) (congrArg (· * _) (Finset.sum_congr rfl fun y _ => ?_)) ?_
  · rw [blk_1, blk_2]
    refine congrArg₂ (· * ·) (congrArg (A0 m c) ?_) (congrArg (A1 m c) ?_)
    · refine congrArg₂ (ix3 (tb t)) (Fin.ext ?_) (Fin.ext ?_)
      · show 512 * (t.val % 4) + r.val % 512 = 512 * (t.val % 4) + r.val; omega
      · show 4096 + (t.val / 4 % 8 * 128 + (r.val / 512 * 64 + y.val)) = 4096 + (t.val / 4 % 8 * 128 + 0 + y.val); omega
    · refine congrArg (ix4 0 (tb t) k) (Fin.ext ?_)
      show t.val / 4 % 8 * 128 + (r.val / 512 * 64 + y.val) = t.val / 4 % 8 * 128 + 0 + y.val; omega
  · show biasR a (512 * (t.val % 4) + r.val % 512) k.val = biasR a (512 * (t.val % 4) + r.val) k.val
    rw [em]

theorem sc_high (t : Fin grid0.N) (a : ℝ) (ha : DiffAttn.slope (t.val / 4 % 8) = (a : EReal)) (r : Fin 512) :
    sc a (grid0.coords t 2).val (iblk m c 1 t) (iblk m c 2 t) ⟨512 + r.val, by omega⟩
      = score (A0 m c) (A1 m c) (tb t) (th t) 64 (by omega) ⟨512 * (t.val % 4) + r.val, by omega⟩ := by
  funext k
  unfold sc score
  rw [bias_eq a _ _ _ ha (by show 512 * (t.val % 4) + r.val < 2048; omega) k.isLt, tq_eq, eighth]
  have em : (512 + r.val) % 512 = r.val := by omega
  have ed : (512 + r.val) / 512 = 1 := by omega
  refine congrArg₂ (· + ·) (congrArg (· * _) (Finset.sum_congr rfl fun y _ => ?_)) ?_
  · rw [blk_1, blk_2]
    refine congrArg₂ (· * ·) (congrArg (A0 m c) ?_) (congrArg (A1 m c) ?_)
    · refine congrArg₂ (ix3 (tb t)) (Fin.ext ?_) (Fin.ext ?_)
      · show 512 * (t.val % 4) + (512 + r.val) % 512 = 512 * (t.val % 4) + r.val; omega
      · show 4096 + (t.val / 4 % 8 * 128 + ((512 + r.val) / 512 * 64 + y.val)) = 4096 + (t.val / 4 % 8 * 128 + 64 + y.val); omega
    · refine congrArg (ix4 0 (tb t) k) (Fin.ext ?_)
      show t.val / 4 % 8 * 128 + ((512 + r.val) / 512 * 64 + y.val) = t.val / 4 % 8 * 128 + 64 + y.val; omega
  · show biasR a (512 * (t.val % 4) + (512 + r.val) % 512) k.val = biasR a (512 * (t.val % 4) + r.val) k.val
    rw [em]

/-- What a point writes, at an index of its block. -/
theorem outA_apply (t : Fin grid0.N) (r : Fin 512) (e : Fin 128) :
    (outA m c t : Vec Ideal S1x512x128 .f32) (ix3 0 r e)
      = nrm lanes eps (rowK (score (A0 m c) (A1 m c) (tb t) (th t) 0 (by omega) ⟨512 * (t.val % 4) + r.val, by omega⟩)
          (score (A0 m c) (A1 m c) (tb t) (th t) 64 (by omega) ⟨512 * (t.val % 4) + r.val, by omega⟩) (lam (A3 m c))
          (vals (A2 m c) (tb t) (th t))) e * A4 m c (ix1 e) * Ideal.ofBits FTy.f32 1061997773#32 := by
  obtain ⟨a, ha⟩ := slope_real (t.val / 4 % 8)
  have hs : slopeOf (F := Ideal) (grid0.coords t) (iblk m c 0 t) = (a : EReal) := (slope_at m c t).trans ha
  refine (outOf_apply (grid0.coords t) a (iblk m c 1 t) (iblk m c 2 t) (iblk m c 3 t) (iblk m c 0 t) (iblk m c 4 t) (iblk m c 5 t) hs r e).trans ?_
  rw [sc_low m c t a ha r, sc_high m c t a ha r, blk_5, blk_4]
  have hv : (fun (k : Fin 2048) (e : Fin 128) => (iblk m c 3 t : Vec Ideal S1x1x2048x128 .f32) (ix4 0 0 k e)) = vals (A2 m c) (tb t) (th t) := by
    funext k e
    exact blk_3 m c t k e
  rw [hv]

/-- The output array at a head's lane. -/
theorem G_lane (b : Fin 16) (n : Fin 2048) (h : Fin 8) (e : Fin 128) :
    G m c (ix3 b n ⟨h.val * 128 + e.val, by omega⟩)
      = nrm lanes eps (rowK (score (A0 m c) (A1 m c) b h 0 (by omega) n) (score (A0 m c) (A1 m c) b h 64 (by omega) n) (lam (A3 m c))
          (vals (A2 m c) b h)) e * A4 m c (ix1 e) * Ideal.ofBits FTy.f32 1061997773#32 := by
  have key : ∀ (h' : Fin 8) (e' : Fin 128), h' = h → e' = e →
      nrm lanes eps (rowK (score (A0 m c) (A1 m c) b h' 0 (by omega) n) (score (A0 m c) (A1 m c) b h' 64 (by omega) n) (lam (A3 m c))
          (vals (A2 m c) b h')) e' * A4 m c (ix1 e') * Ideal.ofBits FTy.f32 1061997773#32
      = nrm lanes eps (rowK (score (A0 m c) (A1 m c) b h 0 (by omega) n) (score (A0 m c) (A1 m c) b h 64 (by omega) n) (lam (A3 m c))
          (vals (A2 m c) b h)) e * A4 m c (ix1 e) * Ideal.ofBits FTy.f32 1061997773#32 := by
    rintro _ _ rfl rfl
    rfl
  exact key ⟨(h.val * 128 + e.val) / 128, by omega⟩ ⟨(h.val * 128 + e.val) % 128, by omega⟩ (Fin.ext (by show (h.val * 128 + e.val) / 128 = h.val; omega))
    (Fin.ext (by show (h.val * 128 + e.val) % 128 = e.val; omega))

/-- The output array after the run. -/
theorem array : (dats (F := Ideal) m 0 c).arrAt 6 (cfgs 0).N = G m c := by
  refine (dats m 0 c).arrAt_eq_of_covers 6 _ (by decide +kernel) fun t hf y => ?_
  blk_simp
  rw [after0_6]
  have hy : ∀ (r : Fin 512) (e : Fin 128), (outA m c t : Vec Ideal S1x512x128 .f32) (ix3 0 r e)
      = G m c (ix3 (tb t) ⟨512 * (t.val % 4) + r.val, by omega⟩ ⟨(th t).val * 128 + e.val, by omega⟩) := fun r e =>
    (outA_apply m c t r e).trans (G_lane m c (tb t) ⟨512 * (t.val % 4) + r.val, by omega⟩ (th t) e).symm
  have key : ∀ y : S1x512x128.Idx, (outA m c t : Vec Ideal S1x512x128 .f32) y = G m c ((win0_6.blk t).view.emb y) := fun y => by
    have hemb : ∀ (r : Fin 512) (e : Fin 128), (ix3 (tb t) ⟨512 * (t.val % 4) + r.val, by omega⟩ ⟨(th t).val * 128 + e.val, by omega⟩ : S16x2048x1024.Idx)
        = (win0_6.blk t).view.emb (ix3 0 r e : S1x512x128.Idx) := fun r e => by
      blk_ext [ix_6 t]
    have hy0 : y = ix3 0 (y 1) (y 2) := by
      idx_vars y
      exact congrArg (fun z => ix3 z y1 y2) (Subsingleton.elim y0 0)
    generalize y 1 = r at hy0
    generalize y 2 = e at hy0
    subst hy0
    exact (hy r e).trans (congrArg (G m c) (hemb r e))
  exact key _

end Cert.Kernel2Ideal.Attn

end
-- ==== Proof.AttnRef.lean ====
/-
  The reference's differential attention at an index.
-/
module

public import proofs.«01_k».proof.Proof.Gen.Reference2Ideal.Run
public import proofs.«01_k».proof.Proof.AttnSpec
public import Idealize.ShloMosaic.Lib.Pointwise
public import Idealize.ShloMosaic.Lib.Tactic.CleanTypes

@[expose] public section

set_option maxRecDepth 16384

noncomputable section

namespace Cert.Reference2Ideal.Attn

open Cert.Reference2Ideal Cert.Reference2Ideal.Gen Cert.DiffAttn Idealize.ShloMosaic Idealize.ShloMosaic.TcCoe Idealize.SL.Sem

variable (m : (ℓ : Loc nD τ sig) → Buf (Elt Ideal) ℓ)

theorem neg_inf : Ideal.ofBits FTy.f32 4286578688#32 = ⊥ := by
  simp [Ideal.ofBits, Ideal.ieee, -EReal.coe_mul]

/-- A maximum along the last of five axes, at an index. -/
theorem max_row {n0 n1 n2 n3 n4 : ℕ} {u : Shape} (x : FVec Ideal ⟨5, ![n0, n1, n2, n3, n4]⟩ .f32) (init : FVec Ideal u .f32)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    (Host.reduce FloatOps.maximumf x init h hu : FVec Ideal ⟨4, ![n0, n1, n2, n3]⟩ .f32) (ix4 a b c d)
      = max (init (Shape.Idx.first hu)) (Finset.univ.sup fun k : Fin n4 => x (ix5 a b c d k)) := by
  rw [Host.reduce_eq_fold, Shape.ReducesTo.fold_fiber_r5_a4]
  refine eq_of_forall_ge_iff fun y => ?_
  refine (Finset.fold_max_le (f := fun k : Fin n4 => x (ix5 a b c d k)) y).trans ?_
  simp only [sup_le_iff, Finset.sup_le_iff]

/-- A row's number, put beside each of its columns. -/
theorem row_bcast (M : FVec Ideal S16x8x2x2048 .f32) (b : Fin 16) (h : Fin 8) (q : Fin 2) (n k : Fin 2048) :
    (broadcastInDim S16x8x2x2048x2048 ![0, 1, 2, 3, 4] bcast_S16x8x2x2048x1_S16x8x2x2048x2048_0_1_2_3_4
      (broadcastInDim S16x8x2x2048x1 ![0, 1, 2, 3] bcast_S16x8x2x2048_S16x8x2x2048x1_0_1_2_3 M)) (ix5 b h q n k) = M (ix4 b h q n) := by
  pointwise

/-- The sum of a row. -/
theorem row_sum (E : FVec Ideal S16x8x2x2048x2048 .f32) (b : Fin 16) (h : Fin 8) (q : Fin 2) (n : Fin 2048) :
    (Host.reduceAdd E (constant S_ .f32 0x00000000#32) reducesTo_S16x8x2x2048x2048_S16x8x2x2048_d4 h_S_) (ix4 b h q n)
      = ∑ l, E (ix5 b h q n l) := by
  pointwise

/-- Dividing by the sum of the row. -/
theorem row_div (E : FVec Ideal S16x8x2x2048x2048 .f32) (b : Fin 16) (h : Fin 8) (q : Fin 2) (n k : Fin 2048) :
    (Host.divf E (broadcastInDim S16x8x2x2048x2048 ![0, 1, 2, 3, 4] bcast_S16x8x2x2048x1_S16x8x2x2048x2048_0_1_2_3_4
      (broadcastInDim S16x8x2x2048x1 ![0, 1, 2, 3] bcast_S16x8x2x2048_S16x8x2x2048x1_0_1_2_3
        (Host.reduceAdd E (constant S_ .f32 0x00000000#32) reducesTo_S16x8x2x2048x2048_S16x8x2x2048_d4 h_S_)))) (ix5 b h q n k)
      = Ideal.div (E (ix5 b h q n k)) (∑ l, E (ix5 b h q n l)) :=
  congrArg (Ideal.div _) ((row_bcast _ b h q n k).trans (row_sum E b h q n))

/-- The largest of a row is at least the least of all numbers. -/
theorem max_bot (M : FVec Ideal S16x8x2x2048 .f32) (b : Fin 16) (h : Fin 8) (q : Fin 2) (n : Fin 2048) :
    (maximumf (broadcastInDim S16x8x2x2048 ![] bcast_S_S16x8x2x2048 (constant S_ .f32 0xFF800000#32)) M) (ix4 b h q n) = M (ix4 b h q n) := by
  pointwise
  exact max_eq_right (le_of_eq_of_le neg_inf bot_le)

/-- The exponential of a row's distance from a number. -/
theorem row_exp' (SC : FVec Ideal S16x8x2x2048x2048 .f32) (M : FVec Ideal S16x8x2x2048 .f32) (b : Fin 16) (h : Fin 8) (q : Fin 2) (n k : Fin 2048) :
    (Host.exp (subf SC (broadcastInDim S16x8x2x2048x2048 ![0, 1, 2, 3, 4] bcast_S16x8x2x2048x1_S16x8x2x2048x2048_0_1_2_3_4
      (broadcastInDim S16x8x2x2048x1 ![0, 1, 2, 3] bcast_S16x8x2x2048_S16x8x2x2048x1_0_1_2_3
        (maximumf (broadcastInDim S16x8x2x2048 ![] bcast_S_S16x8x2x2048 (constant S_ .f32 0xFF800000#32)) M))))
      : FVec Ideal S16x8x2x2048x2048 .f32) (ix5 b h q n k) = Ideal.exp (SC (ix5 b h q n k) - M (ix4 b h q n)) :=
  congrArg (fun z : EReal => Ideal.exp (SC (ix5 b h q n k) - z)) ((row_bcast _ b h q n k).trans (max_bot M b h q n))

/-- The largest score of a row. -/
theorem row_sup (SC : FVec Ideal S16x8x2x2048x2048 .f32) (b : Fin 16) (h : Fin 8) (q : Fin 2) (n : Fin 2048) :
    (Host.reduce FloatOps.maximumf SC (constant S_ .f32 0xFF800000#32) reducesTo_S16x8x2x2048x2048_S16x8x2x2048_d4 h_S_
      : FVec Ideal S16x8x2x2048 .f32) (ix4 b h q n) = Finset.univ.sup fun k => SC (ix5 b h q n k) :=
  (max_row SC _ _ _ b h q n).trans (max_eq_right (le_of_eq_of_le neg_inf bot_le))

/-- The exponential of a row's distance from its largest score. -/
theorem row_exp (SC : FVec Ideal S16x8x2x2048x2048 .f32) (b : Fin 16) (h : Fin 8) (q : Fin 2) (n k : Fin 2048) :
    (Host.exp (subf SC (broadcastInDim S16x8x2x2048x2048 ![0, 1, 2, 3, 4] bcast_S16x8x2x2048x1_S16x8x2x2048x2048_0_1_2_3_4
      (broadcastInDim S16x8x2x2048x1 ![0, 1, 2, 3] bcast_S16x8x2x2048_S16x8x2x2048x1_0_1_2_3
        (maximumf (broadcastInDim S16x8x2x2048 ![] bcast_S_S16x8x2x2048 (constant S_ .f32 0xFF800000#32))
          (Host.reduce FloatOps.maximumf SC (constant S_ .f32 0xFF800000#32) reducesTo_S16x8x2x2048x2048_S16x8x2x2048_d4 h_S_)))))
      : FVec Ideal S16x8x2x2048x2048 .f32) (ix5 b h q n k) = wt (fun l => SC (ix5 b h q n l)) k := by
  rw [row_exp', row_sup]
  rfl

/-- The softmax of a row of scores. -/
theorem soft_row (SC : FVec Ideal S16x8x2x2048x2048 .f32) (b : Fin 16) (h : Fin 8) (q : Fin 2) (n k : Fin 2048)
    (E : FVec Ideal S16x8x2x2048x2048 .f32) (hE : ∀ l, E (ix5 b h q n l) = wt (fun l => SC (ix5 b h q n l)) l) :
    (Host.divf E (broadcastInDim S16x8x2x2048x2048 ![0, 1, 2, 3, 4] bcast_S16x8x2x2048x1_S16x8x2x2048x2048_0_1_2_3_4
      (broadcastInDim S16x8x2x2048x1 ![0, 1, 2, 3] bcast_S16x8x2x2048_S16x8x2x2048x1_0_1_2_3
        (Host.reduceAdd E (constant S_ .f32 0x00000000#32) reducesTo_S16x8x2x2048x2048_S16x8x2x2048_d4 h_S_)))) (ix5 b h q n k)
      = Ideal.div (wt (fun l => SC (ix5 b h q n l)) k) (∑ l, wt (fun l => SC (ix5 b h q n l)) l) := by
  rw [row_div]
  simp only [hE]

/-- The weighted sum of the values, at an index. -/
theorem dot_row (V : FVec Ideal S16x2048x8x128 .f32) (A : FVec Ideal S16x8x2048x2048 .f32) (b : Fin 16) (h : Fin 8) (n : Fin 2048) (e : Fin 128) :
    (transpose S16x2048x8x128 [0, 3, 1, 2] (Host.dotGeneral dot_S16x2048x8x128_S16x8x2048x2048_S16x8x128x2048_1_3_3_2_02_01 none V A)
      transposes_S16x8x128x2048_S16x2048x8x128_0_3_1_2) (ix4 b n h e) = ∑ k, V (ix4 b k h e) * A (ix4 b h n k) := by
  pointwise

/-- The first map of a head. -/
theorem fst_map (P : FVec Ideal S16x8x2x2048x2048 .f32) (b : Fin 16) (h : Fin 8) (n k : Fin 2048) :
    (shapeCast S16x8x2048x2048 (extractStridedSlice S16x8x1x2048x2048 ![0, 0, 0, 0, 0] P slices_S16x8x2x2048x2048_S16x8x1x2048x2048_0_0_0_0_0)
      shapeCasts_S16x8x1x2048x2048_S16x8x2048x2048) (ix4 b h n k) = P (ix5 b h 0 n k) := by
  pointwise

/-- The second map of a head. -/
theorem snd_map (P : FVec Ideal S16x8x2x2048x2048 .f32) (b : Fin 16) (h : Fin 8) (n k : Fin 2048) :
    (shapeCast S16x8x2048x2048 (extractStridedSlice S16x8x1x2048x2048 ![0, 0, 1, 0, 0] P slices_S16x8x2x2048x2048_S16x8x1x2048x2048_0_0_1_0_0)
      shapeCasts_S16x8x1x2048x2048_S16x8x2048x2048) (ix4 b h n k) = P (ix5 b h 1 n k) := by
  pointwise

/-- One number, put everywhere. -/
theorem num_bcast (L : FVec Ideal S_ .f32) (i : S16x8x2048x2048.Idx) :
    (broadcastInDim S16x8x2048x2048 ![] bcast_S_S16x8x2048x2048 L) i = L ix0 := by
  pointwise

/-- The difference of the two maps, at an index. -/
theorem sub_maps (P : FVec Ideal S16x8x2x2048x2048 .f32) (L : FVec Ideal S_ .f32) (b : Fin 16) (h : Fin 8) (n k : Fin 2048) :
    (subf (shapeCast S16x8x2048x2048 (extractStridedSlice S16x8x1x2048x2048 ![0, 0, 0, 0, 0] P slices_S16x8x2x2048x2048_S16x8x1x2048x2048_0_0_0_0_0)
        shapeCasts_S16x8x1x2048x2048_S16x8x2048x2048)
      (mulf (broadcastInDim S16x8x2048x2048 ![] bcast_S_S16x8x2048x2048 L)
        (shapeCast S16x8x2048x2048 (extractStridedSlice S16x8x1x2048x2048 ![0, 0, 1, 0, 0] P slices_S16x8x2x2048x2048_S16x8x1x2048x2048_0_0_1_0_0)
          shapeCasts_S16x8x1x2048x2048_S16x8x2048x2048)) : FVec Ideal S16x8x2048x2048 .f32) (ix4 b h n k)
      = P (ix5 b h 0 n k) - L ix0 * P (ix5 b h 1 n k) :=
  congrArg₂ (fun x y : EReal => x - y) (fst_map P b h n k) (congrArg₂ (fun x y : EReal => x * y) (num_bcast L _) (snd_map P b h n k))

/-- The values, at an index. -/
theorem val_row (X2 : FVec Ideal S2x16x2048x1024 .f32) (b : Fin 16) (h : Fin 8) (k : Fin 2048) (e : Fin 128) :
    (shapeCast S16x2048x8x128 (shapeCast S16x2048x1024 (extractStridedSlice S1x16x2048x1024 ![0, 0, 0, 0] X2
      slices_S2x16x2048x1024_S1x16x2048x1024_0_0_0_0) shapeCasts_S1x16x2048x1024_S16x2048x1024) shapeCasts_S16x2048x1024_S16x2048x8x128) (ix4 b k h e)
      = vals X2 b h k e := by
  pointwise
  rfl

/-- The number λ that weighs the second map. -/
theorem lam_row (X3 : FVec Ideal S4x64 .f32) :
    (addf (subf
      (Host.exp (Host.reduceAdd (mulf (shapeCast S64 (extractStridedSlice S1x64 ![0, 0] X3 slices_S4x64_S1x64_0_0) shapeCasts_S1x64_S64)
        (shapeCast S64 (extractStridedSlice S1x64 ![1, 0] X3 slices_S4x64_S1x64_1_0) shapeCasts_S1x64_S64))
        (constant S_ .f32 0x00000000#32) reducesTo_S64_S_d0 h_S_))
      (Host.exp (Host.reduceAdd (mulf (shapeCast S64 (extractStridedSlice S1x64 ![2, 0] X3 slices_S4x64_S1x64_2_0) shapeCasts_S1x64_S64)
        (shapeCast S64 (extractStridedSlice S1x64 ![3, 0] X3 slices_S4x64_S1x64_3_0) shapeCasts_S1x64_S64))
        (constant S_ .f32 0x00000000#32) reducesTo_S64_S_d0 h_S_))) (constant S_ .f32 0x3E4CCCCD#32) : FVec Ideal S_ .f32) ix0 = lam X3 := by
  pointwise
  rfl

set_option maxHeartbeats 2000000 in
theorem res_apply (c : Dev nD) (b : Fin 16) (n : Fin 2048) (j : Fin 1024) :
    (Value.res_out0 m c : Vec Ideal S16x2048x1024 .f32) (ix3 b n j)
      = nrm lanes eps (rowR (score (m ((c : Thread nD τ).loc main_arg0)) (m ((c : Thread nD τ).loc main_arg1)) b ⟨j.val / 128, by omega⟩ 0 (by omega) n)
          (score (m ((c : Thread nD τ).loc main_arg0)) (m ((c : Thread nD τ).loc main_arg1)) b ⟨j.val / 128, by omega⟩ 64 (by omega) n)
          (lam (m ((c : Thread nD τ).loc main_arg3))) (vals (m ((c : Thread nD τ).loc main_arg2)) b ⟨j.val / 128, by omega⟩)) ⟨j.val % 128, by omega⟩
        * m ((c : Thread nD τ).loc main_arg4) (ix1 ⟨j.val % 128, by omega⟩) * Ideal.ofBits FTy.f32 1061997773#32 := by
  unfold Value.res_out0 Value.res_main_v91
  clean_types
  generalize hS : (addf (mulf (Host.dotGeneral dot_S16x2048x8x2x64_S16x2048x8x2x64_S16x8x2x2048x2048_4_4_1_1_023_023 none _ _) _) _ : FVec Ideal S16x8x2x2048x2048 .f32) = SC
  have h0 : ∀ k : Fin 2048, SC (ix5 b ⟨j.val / 128, by omega⟩ 0 n k) = score (m ((c : Thread nD τ).loc main_arg0)) (m ((c : Thread nD τ).loc main_arg1)) b ⟨j.val / 128, by omega⟩ 0 (by omega) n k := fun k => by
    rw [← hS]
    pointwise [id]
    rw [neg_inf]
    rfl
  have h1 : ∀ k : Fin 2048, SC (ix5 b ⟨j.val / 128, by omega⟩ 1 n k) = score (m ((c : Thread nD τ).loc main_arg0)) (m ((c : Thread nD τ).loc main_arg1)) b ⟨j.val / 128, by omega⟩ 64 (by omega) n k := fun k => by
    rw [← hS]
    pointwise [id]
    rw [neg_inf]
    rfl
  clear hS
  generalize hP : (Host.divf _ _ : FVec Ideal S16x8x2x2048x2048 .f32) = P
  have hp : ∀ (q : Fin 2) (k : Fin 2048), P (ix5 b ⟨j.val / 128, by omega⟩ q n k)
      = Ideal.div (wt (fun l => SC (ix5 b ⟨j.val / 128, by omega⟩ q n l)) k) (∑ l, wt (fun l => SC (ix5 b ⟨j.val / 128, by omega⟩ q n l)) l) := fun q k => by
    rw [← hP]
    exact soft_row SC b _ q n k _ fun l => row_exp SC b _ q n l
  clear hP
  generalize hO : (transpose S16x2048x8x128 [0, 3, 1, 2] (Host.dotGeneral dot_S16x2048x8x128_S16x8x2048x2048_S16x8x128x2048_1_3_3_2_02_01 none _ _) transposes_S16x8x128x2048_S16x2048x8x128_0_3_1_2 : FVec Ideal S16x2048x8x128 .f32) = O
  have ho : ∀ e : Fin 128, O (ix4 b n ⟨j.val / 128, by omega⟩ e)
     = rowR (score (m ((c : Thread nD τ).loc main_arg0)) (m ((c : Thread nD τ).loc main_arg1)) b ⟨j.val / 128, by omega⟩ 0 (by omega) n)
          (score (m ((c : Thread nD τ).loc main_arg0)) (m ((c : Thread nD τ).loc main_arg1)) b ⟨j.val / 128, by omega⟩ 64 (by omega) n)
          (lam (m ((c : Thread nD τ).loc main_arg3))) (vals (m ((c : Thread nD τ).loc main_arg2)) b ⟨j.val / 128, by omega⟩) e := fun e => by
    rw [← hO]
    refine (dot_row _ _ b _ n e).trans (Finset.sum_congr rfl fun k _ => ?_)
    rw [val_row, sub_maps, hp, hp, lam_row]
    simp only [h0, h1]
  clear hO
  pointwise
  simp only [ho, nrm]

end Cert.Reference2Ideal.Attn

end
-- ==== Proof.AttnEq.lean ====
/-
  The attention's equation: where the values and the factor's vectors are finite, dividing the two sums by their
  softmaxes' denominators and subtracting gives what subtracting the softmaxes first gives.
-/
module

public import proofs.«01_k».proof.Proof.AttnArray
public import proofs.«01_k».proof.Proof.AttnRef
public import proofs.«01_k».proof.Proof.Attn

@[expose] public section

set_option maxRecDepth 16384

noncomputable section

namespace Cert.Proof

open Idealize.ShloMosaic Idealize.ShloMosaic.TcCoe Idealize.ShloMosaic.Tactic Idealize.SL.Sem
open Cert.DiffAttn

/-- The precondition's shape relations. -/
instance facts_pre : Cert.Pre_finite.Facts where
  slices_S2x16x2048x1024_S1x16x2048x1024_0_0_0_0 := by decide
  shapeCasts_S1x16x2048x1024_S16x2048x1024 := by decide
  bcast_S_S16x2048x1024 := by decide
  bcast_S_S4x64 := by decide

/-- An extended real whose absolute value is below positive infinity is a real. -/
theorem real_of_abs_lt (x : EReal) (h : BitVec.ofBool (decide (FloatOps.absf (F := Ideal) (φ := FTy.f32) x < Ideal.ofBits FTy.f32 0x7F800000#32)) = 1#1) :
    ∃ r : ℝ, x = (r : EReal) := by
  have ht : Ideal.ofBits FTy.f32 0x7F800000#32 = ⊤ := by simp [Ideal.ofBits, Ideal.ieee]
  rw [ht] at h
  have hlt : FloatOps.absf (F := Ideal) (φ := FTy.f32) x < ⊤ := by
    by_contra hn
    simp [hn] at h
  have hlt' : max x (-x) < ⊤ := hlt
  induction x using EReal.rec with
  | bot => simp at hlt'
  | top => simp at hlt'
  | coe r => exact ⟨r, rfl⟩

section
variable [Cert.Pre_finite.Facts]
variable (a0 : FVec Ideal Cert.Pre_finite.S16x2048x14336 .f32) (a1 a2 : FVec Ideal Cert.Pre_finite.S2x16x2048x1024 .f32)
  (a3 : FVec Ideal Cert.Pre_finite.S4x64 .f32) (a4 : FVec Ideal Cert.Pre_finite.S128 .f32)

/-- Under the precondition the first layer's values are reals, -/
theorem vals_real (h : (Cert.Pre_finite.fn (F := Ideal) a0 a1 a2 a3 a4).1 = (fun _ => 1#1)) (b : Fin 16) (k : Fin 2048) (j : Fin 1024) :
    ∃ r : ℝ, a2 (ix4 0 b k j) = (r : EReal) := by
  refine real_of_abs_lt _ ?_
  have h1 := congrFun h (ix3 b k j)
  unfold Cert.Pre_finite.fn at h1
  pointwise at h1
  exact h1

/-- and so are the factor's vectors. -/
theorem lam_real (h : (Cert.Pre_finite.fn (F := Ideal) a0 a1 a2 a3 a4).2 = (fun _ => 1#1)) (j : Fin 4) (x : Fin 64) :
    ∃ r : ℝ, a3 (ix2 j x) = (r : EReal) := by
  refine real_of_abs_lt _ ?_
  have h1 := congrFun h (ix2 j x)
  unfold Cert.Pre_finite.fn at h1
  pointwise at h1
  exact h1

end

/-- The factor is a real where its vectors are. -/
theorem factor_real (X3 : (⟨2, ![4, 64]⟩ : Shape).Idx → EReal) (h : ∀ j x, ∃ r : ℝ, X3 (ix2 j x) = (r : EReal)) : ∃ r : ℝ, lam X3 = (r : EReal) := by
  choose f hf using h
  have hb : ∃ r : ℝ, Ideal.ofBits FTy.f32 1045220557#32 = (r : EReal) := by simp [Ideal.ofBits, Ideal.ieee, -EReal.coe_mul]
  obtain ⟨b, hb⟩ := hb
  unfold lam
  simp only [hf, hb, ← EReal.coe_mul, ← coe_sum]
  exact ⟨Real.exp (∑ x : Fin 64, f 0 x * f 1 x) - Real.exp (∑ x : Fin 64, f 2 x * f 3 x) + b, by
    rw [EReal.coe_add, EReal.coe_sub]; rfl⟩

theorem lanes_real : lanes = ((128 : ℝ) : EReal) := by simp [Ideal.ofBits, Ideal.ieee, -EReal.coe_mul]; norm_num
theorem eps_real : ∃ r : ℝ, eps = (r : EReal) := by simp [Ideal.ofBits, Ideal.ieee, -EReal.coe_mul]

/-- The two orders give one value. -/
theorem row_eq (s0 s1 : Fin 2048 → EReal) (l : EReal) (v : Fin 2048 → Fin 128 → EReal) (hl : ∃ r : ℝ, l = (r : EReal))
    (hv : ∀ k e, ∃ r : ℝ, v k e = (r : EReal)) (e : Fin 128) : nrm lanes eps (rowK s0 s1 l v) e = nrm lanes eps (rowR s0 s1 l v) e := by
  choose f hf using hv
  obtain ⟨l', rfl⟩ := hl
  obtain ⟨p, hp⟩ := eps_real
  obtain rfl : v = fun k e => (f k e : EReal) := by funext k e; exact hf k e
  rw [lanes_real, hp]
  exact nrm_rowK 128 p (by norm_num) s0 s1 l' f e

theorem quiescent_Kernel2Ideal_pre_finite [Cert.Pre_finite.Facts] : Cert.quiescent_Kernel2Ideal_pre_finite := fun m ρ _ =>
  Cert.Kernel2Ideal.Gen.frame (F := Ideal) m ρ

theorem quiescent_Reference2Ideal_pre_finite [Cert.Pre_finite.Facts] : Cert.quiescent_Reference2Ideal_pre_finite := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal_pre_finite [Cert.Pre_finite.Facts] : Cert.algebraic_Kernel2Ideal_Reference2Ideal_pre_finite := by
  intro m ρ m' ρ' hpre hagree
  refine ⟨fun c => Cert.Kernel2Ideal.Attn.G m c, ?_, ?_⟩
  · refine (θ_run Cert.Kernel2Ideal.defs _ _).mono (fun r h c => ⟨?_, h.2.1 c⟩)
      (θ_run_and (Cert.Kernel2Ideal.Gen.run_main (F := Ideal) m ρ) (Cert.Kernel2Ideal.Gen.frame (F := Ideal) m ρ))
    exact (h.1.out_eq c 6).trans (Cert.Kernel2Ideal.Attn.array m c)
  · refine (θ_run Cert.Reference2Ideal.defs _ _).mono (fun _ h c => ⟨?_, (h c).2⟩) (Cert.Reference2Ideal.Value.run (F := Ideal) m' ρ')
    obtain ⟨h0, h1, h2, h3, h4⟩ := hagree c
    refine (h c).1.trans ?_
    funext i
    idx_vars i
    refine (Cert.Reference2Ideal.Attn.res_apply m' c _ _ _).trans ?_
    rw [h0, h1, h2, h3, h4]
    refine congrArg (· * _) (congrArg (· * _) ?_)
    refine (row_eq _ _ _ _ ?_ ?_ _).symm
    · exact factor_real _ (lam_real _ _ _ _ _ (hpre c).2)
    · exact fun k e => vals_real _ _ _ _ _ (hpre c).1 _ _ _

end Cert.Proof

end
-- ==== Proof.Merge.lean ====
/-
  The gated merge: three branches, each a product with its weights times the logistic of its gate, added up, and the
  product of the sum with the output weights added to the layer's input.
-/
module

public import proofs.«01_k».proof.Proof.Gen.Kernel3.Frame
public import proofs.«01_k».proof.Proof.Gen.Kernel3Ideal.Value
public import proofs.«01_k».proof.Proof.Gen.Kernel3Ideal.Skeleton
public import proofs.«01_k».proof.Proof.Gen.Reference3Ideal.Run
public import Idealize.ShloMosaic.Lib.Pointwise
public import Idealize.ShloMosaic.Lib.Tactic.CleanTypes
public import Idealize.ShloMosaic.Lib.Pipeline.ValueKit
public import Idealize.ShloMosaic.Lib.Pipeline.ReadBack

@[expose] public section

set_option maxRecDepth 16384

noncomputable section

/-! ## The merge in plain mathematics -/

namespace Cert.Merge

open Idealize.ShloMosaic

/-- Row `r` of an array of 16 sequences of 2048 rows, at lane `k`. -/
abbrev row {w : ℕ} (X : (⟨3, ![16, 2048, w]⟩ : Shape).Idx → EReal) (r : Fin 32768) (k : Fin w) : EReal :=
  X (ix3 ⟨r.val / 2048, by omega⟩ ⟨r.val % 2048, by omega⟩ k)

/-- The gated sum of the three branches at row `r` and lane `j`. -/
def summed (A B : (⟨3, ![16, 2048, 1024]⟩ : Shape).Idx → EReal) (Y : (⟨3, ![16, 2048, 2048]⟩ : Shape).Idx → EReal)
    (P : (⟨3, ![16, 2048, 14336]⟩ : Shape).Idx → EReal) (Wa Wb : (⟨2, ![1024, 1024]⟩ : Shape).Idx → EReal)
    (Wc : (⟨2, ![2048, 1024]⟩ : Shape).Idx → EReal) (r : Fin 32768) (j : Fin 1024) : EReal :=
  Ideal.logistic (row P r ⟨11264 + j.val, by omega⟩) * ∑ x : Fin 1024, row A r x * Wa (ix2 x j)
    + Ideal.logistic (row P r ⟨12288 + j.val, by omega⟩) * ∑ x : Fin 1024, row B r x * Wb (ix2 x j)
    + Ideal.logistic (row P r ⟨13312 + j.val, by omega⟩) * ∑ x : Fin 2048, row Y r x * Wc (ix2 x j)

/-- The merge's result at row `r` and lane `j`. -/
def merged (X A B : (⟨3, ![16, 2048, 1024]⟩ : Shape).Idx → EReal) (Y : (⟨3, ![16, 2048, 2048]⟩ : Shape).Idx → EReal)
    (P : (⟨3, ![16, 2048, 14336]⟩ : Shape).Idx → EReal) (Wa Wb : (⟨2, ![1024, 1024]⟩ : Shape).Idx → EReal)
    (Wc : (⟨2, ![2048, 1024]⟩ : Shape).Idx → EReal) (Wo : (⟨2, ![1024, 1024]⟩ : Shape).Idx → EReal) (r : Fin 32768) (j : Fin 1024) : EReal :=
  row X r j + ∑ k : Fin 1024, summed A B Y P Wa Wb Wc r k * Wo (ix2 k j)

end Cert.Merge

/-! ## What the kernel leaves -/

namespace Cert.Kernel3Ideal.Merge

open Cert.Merge Cert.Kernel3Ideal Cert.Kernel3Ideal.Gen Idealize.ShloMosaic Idealize.ShloMosaic.TcCoe Idealize.ShloMosaic.Tactic Idealize.SL.Sem

theorem pay3_apply (g0 a : Vec Ideal S256x1024 .f32) (wa : Vec Ideal S1024x1024 .bf16) (g1 b : Vec Ideal S256x1024 .f32)
    (wb : Vec Ideal S1024x1024 .bf16) (g2 : Vec Ideal S256x1024 .f32) (y : Vec Ideal S256x2048 .f32) (wc : Vec Ideal S2048x1024 .bf16)
    (r : Fin 256) (j : Fin 1024) :
    k0_pay3 (F := Ideal) g0 a wa g1 b wb g2 y wc (ix2 r j)
      = Ideal.logistic (g0 (ix2 r j)) * ∑ x : Fin 1024, a (ix2 r x) * wa (ix2 x j)
        + Ideal.logistic (g1 (ix2 r j)) * ∑ x : Fin 1024, b (ix2 r x) * wb (ix2 x j)
        + Ideal.logistic (g2 (ix2 r j)) * ∑ x : Fin 2048, y (ix2 r x) * wc (ix2 x j) := by
  pointwise [k0_pay3]

theorem pay1_apply (x : Vec Ideal S256x1024 .f32) (v : FVec Ideal S256x1024 .bf16) (w : Vec Ideal S1024x1024 .bf16) (r : Fin 256) (j : Fin 1024) :
    k0_pay1 (F := Ideal) (k0_pay2 x) v w (ix2 r j) = x (ix2 r j) + ∑ k : Fin 1024, v (ix2 r k) * w (ix2 k j) := by
  pointwise [k0_pay1, k0_pay2]

variable (m : (ℓ : Loc nD τ sig) → Buf (Elt Ideal) ℓ) (c : Dev nD)

abbrev X0 : Vec Ideal S16x2048x1024 .f32 := m ((c : Thread nD τ).loc main_arg0)
abbrev X1 : Vec Ideal S16x2048x1024 .f32 := m ((c : Thread nD τ).loc main_arg1)
abbrev X2 : Vec Ideal S16x2048x1024 .f32 := m ((c : Thread nD τ).loc main_arg2)
abbrev X3 : Vec Ideal S16x2048x2048 .f32 := m ((c : Thread nD τ).loc main_arg3)
abbrev X4 : Vec Ideal S16x2048x14336 .f32 := m ((c : Thread nD τ).loc main_arg4)
abbrev X5 : Vec Ideal S1024x1024 .f32 := m ((c : Thread nD τ).loc main_arg5)
abbrev X6 : Vec Ideal S1024x1024 .f32 := m ((c : Thread nD τ).loc main_arg6)
abbrev X7 : Vec Ideal S2048x1024 .f32 := m ((c : Thread nD τ).loc main_arg7)
abbrev X8 : Vec Ideal S1024x1024 .f32 := m ((c : Thread nD τ).loc main_arg8)

theorem row_lt (t : Fin grid0.N) (r : Fin 256) : t.val * 256 + r.val < 32768 := by
  have h : t.val < 128 := lt_of_lt_of_eq t.isLt N_0
  omega

/-- The row of the arrays that row `r` of point `t`'s blocks is. -/
abbrev rw_ (t : Fin grid0.N) (r : Fin 256) : Fin 32768 := ⟨t.val * 256 + r.val, row_lt t r⟩

theorem V4_apply (r : Fin 32768) (k : Fin 1024) : (V m c main_v4 : Vec Ideal S32768x1024 .f32) (ix2 r k) = row (X0 m c) r k := by
  entry_read
  pointwise

theorem V5_apply (r : Fin 32768) (k : Fin 1024) : (V m c main_v5 : Vec Ideal S32768x1024 .f32) (ix2 r k) = row (X1 m c) r k := by
  entry_read
  pointwise

theorem V6_apply (r : Fin 32768) (k : Fin 1024) : (V m c main_v6 : Vec Ideal S32768x1024 .f32) (ix2 r k) = row (X2 m c) r k := by
  entry_read
  pointwise

theorem V7_apply (r : Fin 32768) (k : Fin 2048) : (V m c main_v7 : Vec Ideal S32768x2048 .f32) (ix2 r k) = row (X3 m c) r k := by
  entry_read
  pointwise

theorem V8_apply (r : Fin 32768) (k : Fin 14336) : (V m c main_v8 : Vec Ideal S32768x14336 .f32) (ix2 r k) = row (X4 m c) r k := by
  entry_read
  pointwise

theorem V0_apply (r : Fin 1024) (k : Fin 1024) : (V m c main_v0 : Vec Ideal S1024x1024 .bf16) (ix2 r k) = X5 m c (ix2 r k) := by
  entry_read
  pointwise

theorem V1_apply (r : Fin 1024) (k : Fin 1024) : (V m c main_v1 : Vec Ideal S1024x1024 .bf16) (ix2 r k) = X6 m c (ix2 r k) := by
  entry_read
  pointwise

theorem V2_apply (r : Fin 2048) (k : Fin 1024) : (V m c main_v2 : Vec Ideal S2048x1024 .bf16) (ix2 r k) = X7 m c (ix2 r k) := by
  entry_read
  pointwise

theorem V3_apply (r : Fin 1024) (k : Fin 1024) : (V m c main_v3 : Vec Ideal S1024x1024 .bf16) (ix2 r k) = X8 m c (ix2 r k) := by
  entry_read
  pointwise

theorem e0 : ∀ t : Fin grid0.N, win0_0.index t = ![t.val, 0] := by decide +kernel
theorem e1 : ∀ t : Fin grid0.N, win0_1.index t = ![t.val, 0] := by decide +kernel
theorem e2 : ∀ t : Fin grid0.N, win0_2.index t = ![t.val, 0] := by decide +kernel
theorem e3 : ∀ t : Fin grid0.N, win0_3.index t = ![t.val, 0] := by decide +kernel
theorem e4 : ∀ t : Fin grid0.N, win0_4.index t = ![t.val, 11] := by decide +kernel
theorem e5 : ∀ t : Fin grid0.N, win0_5.index t = ![t.val, 12] := by decide +kernel
theorem e6 : ∀ t : Fin grid0.N, win0_6.index t = ![t.val, 13] := by decide +kernel
theorem e7 : ∀ t : Fin grid0.N, win0_7.index t = ![0, 0] := by decide +kernel
theorem e8 : ∀ t : Fin grid0.N, win0_8.index t = ![0, 0] := by decide +kernel
theorem e9 : ∀ t : Fin grid0.N, win0_9.index t = ![0, 0] := by decide +kernel
theorem e10 : ∀ t : Fin grid0.N, win0_10.index t = ![0, 0] := by decide +kernel
theorem e11 : ∀ t : Fin grid0.N, win0_11.index t = ![t.val, 0] := by decide +kernel

theorem b0 (t : Fin grid0.N) (r : Fin 256) (k : Fin 1024) : (iblk m c 0 t : Vec Ideal S256x1024 .f32) (ix2 r k) = row (X0 m c) (rw_ t r) k := by
  rw [← V4_apply]
  blk_ext [iblk, e0 t]

theorem b1 (t : Fin grid0.N) (r : Fin 256) (k : Fin 1024) : (iblk m c 1 t : Vec Ideal S256x1024 .f32) (ix2 r k) = row (X1 m c) (rw_ t r) k := by
  rw [← V5_apply]
  blk_ext [iblk, e1 t]

theorem b2 (t : Fin grid0.N) (r : Fin 256) (k : Fin 1024) : (iblk m c 2 t : Vec Ideal S256x1024 .f32) (ix2 r k) = row (X2 m c) (rw_ t r) k := by
  rw [← V6_apply]
  blk_ext [iblk, e2 t]

theorem b3 (t : Fin grid0.N) (r : Fin 256) (k : Fin 2048) : (iblk m c 3 t : Vec Ideal S256x2048 .f32) (ix2 r k) = row (X3 m c) (rw_ t r) k := by
  rw [← V7_apply]
  blk_ext [iblk, e3 t]

theorem b4 (t : Fin grid0.N) (r : Fin 256) (k : Fin 1024) : (iblk m c 4 t : Vec Ideal S256x1024 .f32) (ix2 r k) = row (X4 m c) (rw_ t r) ⟨11264 + k.val, by omega⟩ := by
  rw [← V8_apply]
  blk_ext [iblk, e4 t]

theorem b5 (t : Fin grid0.N) (r : Fin 256) (k : Fin 1024) : (iblk m c 5 t : Vec Ideal S256x1024 .f32) (ix2 r k) = row (X4 m c) (rw_ t r) ⟨12288 + k.val, by omega⟩ := by
  rw [← V8_apply]
  blk_ext [iblk, e5 t]

theorem b6 (t : Fin grid0.N) (r : Fin 256) (k : Fin 1024) : (iblk m c 6 t : Vec Ideal S256x1024 .f32) (ix2 r k) = row (X4 m c) (rw_ t r) ⟨13312 + k.val, by omega⟩ := by
  rw [← V8_apply]
  blk_ext [iblk, e6 t]

theorem b7 (t : Fin grid0.N) (r : Fin 1024) (k : Fin 1024) : (iblk m c 7 t : Vec Ideal S1024x1024 .bf16) (ix2 r k) = X5 m c (ix2 r k) := by
  rw [← V0_apply]
  blk_ext [iblk, e7 t]

theorem b8 (t : Fin grid0.N) (r : Fin 1024) (k : Fin 1024) : (iblk m c 8 t : Vec Ideal S1024x1024 .bf16) (ix2 r k) = X6 m c (ix2 r k) := by
  rw [← V1_apply]
  blk_ext [iblk, e8 t]

theorem b9 (t : Fin grid0.N) (r : Fin 2048) (k : Fin 1024) : (iblk m c 9 t : Vec Ideal S2048x1024 .bf16) (ix2 r k) = X7 m c (ix2 r k) := by
  rw [← V2_apply]
  blk_ext [iblk, e9 t]

theorem b10 (t : Fin grid0.N) (r : Fin 1024) (k : Fin 1024) : (iblk m c 10 t : Vec Ideal S1024x1024 .bf16) (ix2 r k) = X8 m c (ix2 r k) := by
  rw [← V3_apply]
  blk_ext [iblk, e10 t]

/-- What point `t` writes. -/
theorem point (t : Fin grid0.N) (r : Fin 256) (j : Fin 1024) :
    k0_pay1 (F := Ideal) (k0_pay2 (iblk m c 0 t)) (k0_pay3 (iblk m c 4 t) (iblk m c 1 t) (iblk m c 7 t) (iblk m c 5 t) (iblk m c 2 t) (iblk m c 8 t)
        (iblk m c 6 t) (iblk m c 3 t) (iblk m c 9 t)) (iblk m c 10 t) (ix2 r j)
      = merged (X0 m c) (X1 m c) (X2 m c) (X3 m c) (X4 m c) (X5 m c) (X6 m c) (X7 m c) (X8 m c) (rw_ t r) j := by
  refine (pay1_apply _ _ _ r j).trans ?_
  unfold merged summed
  simp only [pay3_apply, b0, b1, b2, b3, b4, b5, b6, b7, b8, b9, b10]

/-- The array the kernel leaves. -/
def G : Vec Ideal S32768x1024 .f32 := fun i =>
  merged (X0 m c) (X1 m c) (X2 m c) (X3 m c) (X4 m c) (X5 m c) (X6 m c) (X7 m c) (X8 m c) (i 0) (i 1)

theorem array : (dats (F := Ideal) m 0 c).arrAt 11 cfg0.N = G m c := by
  refine (dats m 0 c).arrAt_eq_of_covers 11 _ (by decide +kernel) fun t hf y => ?_
  blk_simp
  rw [after0_11]
  frame_out
  have hemb : ∀ (r : Fin 256) (j : Fin 1024), (ix2 (rw_ t r) j : S32768x1024.Idx) = (win0_11.blk t).view.emb (ix2 r j : S256x1024.Idx) := fun r j => by
    blk_ext [e11 t]
  have key : ∀ y : S256x1024.Idx, k0_pay1 (F := Ideal) (k0_pay2 (iblk m c 0 t)) (k0_pay3 (iblk m c 4 t) (iblk m c 1 t) (iblk m c 7 t) (iblk m c 5 t) (iblk m c 2 t) (iblk m c 8 t)
        (iblk m c 6 t) (iblk m c 3 t) (iblk m c 9 t)) (iblk m c 10 t) y = G m c ((win0_11.blk t).view.emb y) := fun y => by
    idx_vars y
    exact (point m c t y0 y1).trans (congrArg (G m c) (hemb y0 y1))
  exact key y

end Cert.Kernel3Ideal.Merge

/-! ## What the reference computes -/

namespace Cert.Reference3Ideal.Merge

open Cert.Merge Cert.Reference3Ideal Cert.Reference3Ideal.Gen Idealize.ShloMosaic Idealize.ShloMosaic.TcCoe Idealize.ShloMosaic.Tactic Idealize.SL.Sem

theorem out_apply (x a b : FVec Ideal S16x2048x1024 .f32) (y : FVec Ideal S16x2048x2048 .f32) (p : FVec Ideal S16x2048x14336 .f32)
    (wa wb : FVec Ideal S1024x1024 .f32) (wc : FVec Ideal S2048x1024 .f32) (wo : FVec Ideal S1024x1024 .f32) (r : Fin 32768) (j : Fin 1024) :
    (shapeCast S32768x1024 (addf x (Host.dotGeneral dot_S16x2048x1024_S1024x1024_S16x2048x1024_2_0_01_1_n_n none (addf (addf (mulf (shapeCast S16x2048x1024 (extractStridedSlice S16x2048x1x1024 ![0, 0, 0, 0] (shapeCast S16x2048x3x1024 (Host.divf (broadcastInDim S16x2048x3072 ![] bcast_S_S16x2048x3072 (constant S_ .f32 0x3F800000#32)) (addf (broadcastInDim S16x2048x3072 ![] bcast_S_S16x2048x3072 (constant S_ .f32 0x3F800000#32)) (Host.exp (Host.negf (extractStridedSlice S16x2048x3072 ![0, 0, 11264] p slices_S16x2048x14336_S16x2048x3072_0_0_11264))))) shapeCasts_S16x2048x3072_S16x2048x3x1024) slices_S16x2048x3x1024_S16x2048x1x1024_0_0_0_0) shapeCasts_S16x2048x1x1024_S16x2048x1024) (Host.dotGeneral dot_S16x2048x1024_S1024x1024_S16x2048x1024_2_0_01_1_n_n none a wa)) (mulf (shapeCast S16x2048x1024 (extractStridedSlice S16x2048x1x1024 ![0, 0, 1, 0] (shapeCast S16x2048x3x1024 (Host.divf (broadcastInDim S16x2048x3072 ![] bcast_S_S16x2048x3072 (constant S_ .f32 0x3F800000#32)) (addf (broadcastInDim S16x2048x3072 ![] bcast_S_S16x2048x3072 (constant S_ .f32 0x3F800000#32)) (Host.exp (Host.negf (extractStridedSlice S16x2048x3072 ![0, 0, 11264] p slices_S16x2048x14336_S16x2048x3072_0_0_11264))))) shapeCasts_S16x2048x3072_S16x2048x3x1024) slices_S16x2048x3x1024_S16x2048x1x1024_0_0_1_0) shapeCasts_S16x2048x1x1024_S16x2048x1024) (Host.dotGeneral dot_S16x2048x1024_S1024x1024_S16x2048x1024_2_0_01_1_n_n none b wb))) (mulf (shapeCast S16x2048x1024 (extractStridedSlice S16x2048x1x1024 ![0, 0, 2, 0] (shapeCast S16x2048x3x1024 (Host.divf (broadcastInDim S16x2048x3072 ![] bcast_S_S16x2048x3072 (constant S_ .f32 0x3F800000#32)) (addf (broadcastInDim S16x2048x3072 ![] bcast_S_S16x2048x3072 (constant S_ .f32 0x3F800000#32)) (Host.exp (Host.negf (extractStridedSlice S16x2048x3072 ![0, 0, 11264] p slices_S16x2048x14336_S16x2048x3072_0_0_11264))))) shapeCasts_S16x2048x3072_S16x2048x3x1024) slices_S16x2048x3x1024_S16x2048x1x1024_0_0_2_0) shapeCasts_S16x2048x1x1024_S16x2048x1024) (Host.dotGeneral dot_S16x2048x2048_S2048x1024_S16x2048x1024_2_0_01_1_n_n none y wc))) wo)) shapeCasts_S16x2048x1024_S32768x1024 : FVec Ideal S32768x1024 .f32) (ix2 r j)
      = merged x a b y p wa wb wc wo r j := by
  pointwise
  have e1 : ∀ x : Fin 1024, (⟨11264 + (1024 + x.val), by omega⟩ : Fin 14336) = ⟨12288 + x.val, by omega⟩ := fun x => Fin.ext (by simp only []; omega)
  have e2 : ∀ x : Fin 1024, (⟨11264 + (2048 + x.val), by omega⟩ : Fin 14336) = ⟨13312 + x.val, by omega⟩ := fun x => Fin.ext (by simp only []; omega)
  simp only [e1, e2]
  unfold merged summed row Ideal.logistic
  rfl

end Cert.Reference3Ideal.Merge

end
-- ==== Proof.MergeEq.lean ====
/-
  The merge's claims: the kernel's array is the reference's.
-/
module

public import proofs.«01_k».proof.Defs
public import proofs.«01_k».proof.Proof.Merge
public import Idealize.ShloMosaic.Adequacy
public import Idealize.ShloMosaic.Init
public import Idealize.ShloMosaic.Lib.Quiescent

@[expose] public section

noncomputable section

namespace Cert.Proof

open Idealize.ShloMosaic Idealize.SL.Sem

theorem quiescent_Reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_Kernel3Ideal_Reference3Ideal : Cert.algebraic_Kernel3Ideal_Reference3Ideal := by
  intro m ρ m' ρ' _ hagree
  refine ⟨fun c => Cert.Kernel3Ideal.Merge.G m c, ?_, ?_⟩
  · exact (θ_run Cert.Kernel3Ideal.defs _ _).mono (fun r h c => ⟨(h c).1.trans (Cert.Kernel3Ideal.Merge.array m c), (h c).2⟩)
      (Cert.Kernel3Ideal.Value.run_blocks (F := Ideal) m ρ)
  · refine (θ_run Cert.Reference3Ideal.defs _ _).mono (fun _ h c => ⟨?_, (h c).2⟩) (Cert.Reference3Ideal.Value.run (F := Ideal) m' ρ')
    obtain ⟨h0, h1, h2, h3, h4, h5, h6, h7, h8⟩ := hagree c
    refine (h c).1.trans ?_
    funext i
    idx_vars i
    refine (Cert.Reference3Ideal.Merge.out_apply _ _ _ _ _ _ _ _ _ _ _).trans ?_
    rw [h0, h1, h2, h3, h4, h5, h6, h7, h8]
    rfl

end Cert.Proof

end
-- ==== Proof.Memory.lean ====
/-
  The memory's keys (and, with its other weights, its values): an RMS norm of the memory and its product with the
  weights. The kernel walks four blocks of 1024 rows.
-/
module

public import proofs.«01_k».proof.Proof.Gen.Kernel4.Frame
public import proofs.«01_k».proof.Proof.Gen.Kernel4Ideal.Value
public import proofs.«01_k».proof.Proof.Gen.Reference4Ideal.Run
public import Idealize.ShloMosaic.Lib.Pointwise
public import Idealize.ShloMosaic.Lib.Tactic.CleanTypes
public import Idealize.ShloMosaic.Lib.Pipeline.ValueKit
public import Idealize.ShloMosaic.Lib.Pipeline.ReadBack

@[expose] public section

set_option maxRecDepth 16384

noncomputable section

/-! ## The memory's projection in plain mathematics -/

namespace Cert.Memory

open Idealize.ShloMosaic

/-- Row `r` of the memory, of 16 sequences of 256 rows, at lane `k`. -/
abbrev row (X : (⟨3, ![16, 256, 1024]⟩ : Shape).Idx → EReal) (r : Fin 4096) (k : Fin 1024) : EReal :=
  X (ix3 ⟨r.val / 256, by omega⟩ ⟨r.val % 256, by omega⟩ k)

/-- A row `x` normed, at lane `k`. -/
def normed (x : Fin 1024 → EReal) (g : (⟨1, ![1024]⟩ : Shape).Idx → EReal) (k : Fin 1024) : EReal :=
  x k * Ideal.rsqrt (Ideal.div (∑ l, x l * x l) (Ideal.ofBits FTy.f32 1149239296#32) + Ideal.ofBits FTy.f32 897988541#32) * g (ix1 k)

/-- The projection at row `r` and column `j`. -/
def proj (X : (⟨3, ![16, 256, 1024]⟩ : Shape).Idx → EReal) (g : (⟨1, ![1024]⟩ : Shape).Idx → EReal)
    (W : (⟨2, ![1024, 1024]⟩ : Shape).Idx → EReal) (r : Fin 4096) (j : Fin 1024) : EReal :=
  ∑ k, normed (row X r) g k * W (ix2 k j)

end Cert.Memory

/-! ## What the kernel leaves -/

namespace Cert.Kernel4Ideal.Memory

open Cert.Memory Cert.Kernel4Ideal Cert.Kernel4Ideal.Gen Idealize.ShloMosaic Idealize.ShloMosaic.TcCoe Idealize.ShloMosaic.Tactic Idealize.SL.Sem

variable (m : (ℓ : Loc nD τ sig) → Buf (Elt Ideal) ℓ) (c : Dev nD)

abbrev X0 : Vec Ideal S16x256x1024 .f32 := m ((c : Thread nD τ).loc main_arg0)
abbrev X1 : Vec Ideal S1024 .f32 := m ((c : Thread nD τ).loc main_arg1)
abbrev X2 : Vec Ideal S1024x1024 .f32 := m ((c : Thread nD τ).loc main_arg2)

theorem row_lt (t : Fin grid0.N) (r : Fin 1024) : t.val * 1024 + r.val < 4096 := by
  have h : t.val < 4 := lt_of_lt_of_eq t.isLt N_0
  omega

/-- The row of the arrays that row `r` of point `t`'s blocks is. -/
abbrev rw_ (t : Fin grid0.N) (r : Fin 1024) : Fin 4096 := ⟨t.val * 1024 + r.val, row_lt t r⟩

theorem V0_apply (r : Fin 4096) (k : Fin 1024) : (V m c main_v0 : Vec Ideal S4096x1024 .f32) (ix2 r k) = row (X0 m c) r k := by
  entry_read
  pointwise

theorem V1_apply (k j : Fin 1024) : (V m c main_v1 : Vec Ideal S1024x1024 .bf16) (ix2 k j) = X2 m c (ix2 k j) := by
  entry_read
  pointwise

theorem V2_apply (k : Fin 1024) : (V m c main_v2 : Vec Ideal S1x1024 .f32) (ix2 0 k) = X1 m c (ix1 k) := by
  entry_read
  pointwise

theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![0, 0] := by decide +kernel
theorem e3 : ∀ t : Fin grid0.N, win0_3.index t = ![t.val, 0] := by decide +kernel

theorem b0 (t : Fin grid0.N) (r : Fin 1024) (k : Fin 1024) : (iblk m c 0 t : Vec Ideal S1024x1024 .f32) (ix2 r k) = row (X0 m c) (rw_ t r) k := by
  rw [← V0_apply]
  blk_ext [iblk, e0 t]

theorem b1 (t : Fin grid0.N) (k : Fin 1024) : (iblk m c 1 t : Vec Ideal S1x1024 .f32) (ix2 0 k) = X1 m c (ix1 k) := by
  rw [← V2_apply]
  blk_ext [iblk, e1 t]

theorem b2 (t : Fin grid0.N) (k j : Fin 1024) : (iblk m c 2 t : Vec Ideal S1024x1024 .bf16) (ix2 k j) = X2 m c (ix2 k j) := by
  rw [← V1_apply]
  blk_ext [iblk, e2 t]

theorem pay1_apply (x : Vec Ideal S1024x1024 .f32) (g : Vec Ideal S1x1024 .f32) (r k : Fin 1024) :
    k0_pay1 (F := Ideal) x g (ix2 r k)
      = x (ix2 r k) * Ideal.rsqrt (Ideal.div (∑ l : Fin 1024, x (ix2 r l) * x (ix2 r l)) (Ideal.ofBits FTy.f32 1149239296#32)
          + Ideal.ofBits FTy.f32 897988541#32) * g (ix2 0 k) := by
  pointwise [k0_pay1]

theorem pay2_apply (h : Vec Ideal S1024x1024 .bf16) (w : Vec Ideal S1024x1024 .bf16) (r j : Fin 1024) :
    k0_pay2 (F := Ideal) h w (ix2 r j) = ∑ k : Fin 1024, h (ix2 r k) * w (ix2 k j) := by
  pointwise [k0_pay2]

/-- What point `t` writes. -/
theorem point (t : Fin grid0.N) (r j : Fin 1024) :
    k0_pay2 (F := Ideal) (k0_pay1 (iblk m c 0 t) (iblk m c 1 t)) (iblk m c 2 t) (ix2 r j) = proj (X0 m c) (X1 m c) (X2 m c) (rw_ t r) j := by
  refine (pay2_apply _ _ r j).trans ?_
  unfold proj normed
  simp only [pay1_apply, b0, b1, b2]

/-- The array the kernel leaves. -/
def G : Vec Ideal S4096x1024 .f32 := fun i => proj (X0 m c) (X1 m c) (X2 m c) (i 0) (i 1)

theorem emb3 (t : Fin grid0.N) (r j : Fin 1024) : (ix2 (rw_ t r) j : S4096x1024.Idx) = (win0_3.blk t).view.emb (ix2 r j : S1024x1024.Idx) := by
  blk_ext [e3 t]

theorem G_apply (r : Fin 4096) (j : Fin 1024) : G m c (ix2 r j) = proj (X0 m c) (X1 m c) (X2 m c) r j := rfl

theorem block (t : Fin grid0.N) (r j : Fin 1024) :
    k0_pay2 (F := Ideal) (k0_pay1 (iblk m c 0 t) (iblk m c 1 t)) (iblk m c 2 t) (ix2 r j) = G m c ((win0_3.blk t).view.emb (ix2 r j : S1024x1024.Idx)) := by
  rw [point, ← emb3, G_apply]

theorem block_all (t : Fin grid0.N) (y : S1024x1024.Idx) :
    k0_pay2 (F := Ideal) (k0_pay1 (iblk m c 0 t) (iblk m c 1 t)) (iblk m c 2 t) y = G m c ((win0_3.blk t).view.emb y) := by
  have e : y = ix2 (y 0 : Fin 1024) (y 1 : Fin 1024) := by
    funext a
    match a with
    | ⟨0, _⟩ => rfl
    | ⟨1, _⟩ => rfl
  rw [e]
  exact block m c t _ _

theorem out_block (t : Fin cfg0.N) : outsAt0 (F := Ideal) m c t = k0_pay2 (F := Ideal) (k0_pay1 (iblk m c 0 t) (iblk m c 1 t)) (iblk m c 2 t) := by
  unfold outsAt0
  funext y
  frame_out

theorem array : (dats (F := Ideal) m 0 c).arrAt 3 cfg0.N = G m c := by
  refine (dats m 0 c).arrAt_eq_of_covers 3 _ (by decide +kernel) fun t hf y => ?_
  blk_simp
  rw [after0_3, out_block]
  exact block_all m c t y

end Cert.Kernel4Ideal.Memory

/-! ## What the reference computes -/

namespace Cert.Reference4Ideal.Memory

open Cert.Memory Cert.Reference4Ideal Cert.Reference4Ideal.Gen Idealize.ShloMosaic Idealize.ShloMosaic.TcCoe Idealize.ShloMosaic.Tactic Idealize.SL.Sem Idealize.ShloMosaic.StableHlo

theorem out_apply (X : FVec Ideal S16x256x1024 .f32) (g : FVec Ideal S1024 .f32) (W : FVec Ideal S1024x1024 .f32) (r : Fin 4096) (j : Fin 1024) :
    (shapeCast S4096x1024 (Host.dotGeneral dot_S16x256x1024_S1024x1024_S16x256x1024_2_0_01_1_n_n none (mulf (mulf X (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf X X) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 g))) W) shapeCasts_S16x256x1024_S4096x1024 : FVec Ideal S4096x1024 .f32) (ix2 r j) = proj X g W r j := by
  pointwise
  rfl

end Cert.Reference4Ideal.Memory

end
-- ==== Proof.MemoryEq.lean ====
/-
  The claims on the memory's projection: the kernel's array is the reference's.
-/
module

public import proofs.«01_k».proof.Defs
public import proofs.«01_k».proof.Proof.Memory
public import Idealize.ShloMosaic.Adequacy
public import Idealize.ShloMosaic.Init
public import Idealize.ShloMosaic.Lib.Quiescent

@[expose] public section

noncomputable section

namespace Cert.Proof

open Idealize.ShloMosaic Idealize.SL.Sem

theorem quiescent_Reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_Kernel4Ideal_Reference4Ideal : Cert.algebraic_Kernel4Ideal_Reference4Ideal := by
  intro m ρ m' ρ' _ hagree
  refine ⟨fun c => Cert.Kernel4Ideal.Memory.G m c, ?_, ?_⟩
  · exact (θ_run Cert.Kernel4Ideal.defs _ _).mono (fun r h c => ⟨(h c).1.trans (Cert.Kernel4Ideal.Memory.array m c), (h c).2⟩)
      (Cert.Kernel4Ideal.Value.run_blocks (F := Ideal) m ρ)
  · refine (θ_run Cert.Reference4Ideal.defs _ _).mono (fun _ h c => ⟨?_, (h c).2⟩) (Cert.Reference4Ideal.Value.run (F := Ideal) m' ρ')
    obtain ⟨h0, h1, h2⟩ := hagree c
    refine (h c).1.trans ?_
    funext i
    idx_vars i
    refine (Cert.Reference4Ideal.Memory.out_apply _ _ _ _ _).trans ?_
    rw [h0, h1, h2]
    rfl

end Cert.Proof

end
-- ==== Proof.CrossSpec.lean ====
/-
  The cross attention over the memory in plain mathematics.
-/
module

public import Idealize.ShloMosaic.PureOps.Ideal
public import Idealize.ShloMosaic.Lib.Pointwise
public import proofs.«01_k».proof.Proof.AttnAlg
public import proofs.«01_k».proof.Proof.AttnPays

@[expose] public section

noncomputable section

namespace Cert.CrossAttn

open Idealize.ShloMosaic Cert.DiffAttn

/-- A row `x` normed, at lane `k`. -/
def normed (x : Fin 1024 → EReal) (g : (⟨1, ![1024]⟩ : Shape).Idx → EReal) (k : Fin 1024) : EReal :=
  x k * Ideal.rsqrt (Ideal.div (∑ l, x l * x l) (Ideal.ofBits FTy.f32 1149239296#32) + Ideal.ofBits FTy.f32 897988541#32) * g (ix1 k)

/-- The query at row `n` of sequence `b` and lane `j`. -/
def query (X : (⟨3, ![16, 2048, 1024]⟩ : Shape).Idx → EReal) (g : (⟨1, ![1024]⟩ : Shape).Idx → EReal)
    (W : (⟨2, ![1024, 1024]⟩ : Shape).Idx → EReal) (b : Fin 16) (n : Fin 2048) (j : Fin 1024) : EReal :=
  ∑ k, normed (fun l => X (ix3 b n l)) g k * W (ix2 k j)

/-- The scores' factor. -/
abbrev scale : EReal := Ideal.ofBits FTy.f32 1031798784#32

/-- The score of query row `n` and memory row `p` in head `h` of sequence `b`. -/
def score (X : (⟨3, ![16, 2048, 1024]⟩ : Shape).Idx → EReal) (K : (⟨3, ![16, 256, 1024]⟩ : Shape).Idx → EReal)
    (g : (⟨1, ![1024]⟩ : Shape).Idx → EReal) (W : (⟨2, ![1024, 1024]⟩ : Shape).Idx → EReal) (b : Fin 16) (h : Fin 4) (n : Fin 2048) (p : Fin 256) : EReal :=
  (∑ d : Fin 256, query X g W b n ⟨h.val * 256 + d.val, by omega⟩ * K (ix3 b p ⟨h.val * 256 + d.val, by omega⟩)) * scale

/-- One head's row, the quotient taken of the whole sum. -/
def headK (s v : Fin 256 → EReal) : EReal := Ideal.div (∑ p, wt s p * v p) (∑ p, wt s p)

/-- One head's row, the quotients taken weight by weight. -/
def headR (s v : Fin 256 → EReal) : EReal := ∑ p, v p * Ideal.div (wt s p) (∑ l, wt s l)

theorem scale_real : scale = ((1 / 16 : ℝ) : EReal) := by
  simp [scale, Ideal.ofBits, Ideal.ieee, -EReal.coe_mul]
  norm_num

/-- Scaling the queries is scaling the scores. -/
theorem scaled_sum {n : ℕ} (f k : Fin n → EReal) : ∑ d, f d * scale * k d = (∑ d, f d * k d) * scale := by
  rw [scale_real, ← Cert.Kernel2Ideal.Attn.sum_mul_real _ _ _ (by norm_num)]
  exact Finset.sum_congr rfl fun d _ => mul_right_comm _ _ _

/-- The result, for a head's row `H`. -/
def result (H : (Fin 256 → EReal) → (Fin 256 → EReal) → EReal) (X : (⟨3, ![16, 2048, 1024]⟩ : Shape).Idx → EReal) (K V : (⟨3, ![16, 256, 1024]⟩ : Shape).Idx → EReal)
    (g : (⟨1, ![1024]⟩ : Shape).Idx → EReal) (W Wo : (⟨2, ![1024, 1024]⟩ : Shape).Idx → EReal) (b : Fin 16) (n : Fin 2048) (j : Fin 1024) : EReal :=
  X (ix3 b n j) + ∑ k : Fin 1024, H (score X K g W b ⟨k.val / 256, by omega⟩ n) (fun p => V (ix3 b p k)) * Wo (ix2 k j)

/-- Where a sequence's scores are real the two rows are one. -/
theorem head_eq (s v : Fin 256 → EReal) (hs : ∀ p, ∃ r : ℝ, s p = (r : EReal)) : headK s v = headR s v := by
  unfold headK headR
  rcases wt_cases (by decide) s with h | ⟨p, hp, hl⟩
  · exfalso
    choose f hf using hs
    obtain ⟨k0, -, h0⟩ := Finset.exists_mem_eq_sup Finset.univ ⟨(0 : Fin 256), Finset.mem_univ _⟩ s
    have h1 := h k0
    unfold wt at h1
    rw [h0, hf, ← EReal.coe_sub, sub_self, Ideal.exp_coe, Real.exp_zero] at h1
    exact EReal.coe_ne_zero.mpr one_ne_zero h1
  · simp only [hp]
    rw [← coe_sum, Ideal.div_coe hl.ne', ← Cert.Kernel2Ideal.Attn.sum_mul_real _ _ _ (by positivity)]
    refine Finset.sum_congr rfl fun k _ => ?_
    rw [Ideal.div_coe hl.ne']
    rw [mul_comm (v k), mul_right_comm]

/-- A finite sum of reals is a real. -/
theorem real_sum {n : ℕ} (f : Fin n → EReal) (h : ∀ i, ∃ r : ℝ, f i = (r : EReal)) : ∃ r : ℝ, ∑ i, f i = (r : EReal) := by
  choose g hg using h
  exact ⟨∑ i, g i, by simp only [hg, coe_sum]⟩

theorem real_mul {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

theorem width_real : Ideal.ofBits FTy.f32 1149239296#32 = ((1024 : ℝ) : EReal) := by
  simp [Ideal.ofBits, Ideal.ieee, -EReal.coe_mul]
  norm_num

theorem small_real : ∃ e : ℝ, 0 < e ∧ Ideal.ofBits FTy.f32 897988541#32 = (e : EReal) := by
  simp [Ideal.ofBits, Ideal.ieee, -EReal.coe_mul]

/-- A real row's norm is real. -/
theorem normed_real (x : Fin 1024 → EReal) (g : (⟨1, ![1024]⟩ : Shape).Idx → EReal) (hx : ∀ k, ∃ r : ℝ, x k = (r : EReal))
    (hg : ∀ k, ∃ r : ℝ, g (ix1 k) = (r : EReal)) (k : Fin 1024) : ∃ r : ℝ, normed x g k = (r : EReal) := by
  unfold normed
  refine real_mul (real_mul (hx k) ?_) (hg k)
  choose f hf using hx
  obtain ⟨e, he, hee⟩ := small_real
  rw [hee, width_real]
  simp only [hf, ← EReal.coe_mul, ← coe_sum]
  rw [Ideal.div_coe (by norm_num), ← EReal.coe_mul, ← EReal.coe_add]
  have hp : 0 < (∑ l, f l * f l) * (1 / 1024 : ℝ) + e := add_pos_of_nonneg_of_pos (mul_nonneg (Finset.sum_nonneg fun l _ => mul_self_nonneg _) (by norm_num)) he
  generalize (∑ l, f l * f l) * (1 / 1024 : ℝ) + e = y at hp ⊢
  refine ⟨(Real.sqrt y)⁻¹, ?_⟩
  show (if y < 0 then (⊥ : EReal) else if y = 0 then ⊤ else (((Real.sqrt y)⁻¹ : ℝ) : EReal)) = _
  rw [if_neg (not_lt.mpr hp.le), if_neg hp.ne']

/-- The scores are real where their arrays are. -/
theorem score_real (X : (⟨3, ![16, 2048, 1024]⟩ : Shape).Idx → EReal) (K : (⟨3, ![16, 256, 1024]⟩ : Shape).Idx → EReal)
    (g : (⟨1, ![1024]⟩ : Shape).Idx → EReal) (W : (⟨2, ![1024, 1024]⟩ : Shape).Idx → EReal) (b : Fin 16) (h : Fin 4) (n : Fin 2048) (p : Fin 256)
    (hX : ∀ b n k, ∃ r : ℝ, X (ix3 b n k) = (r : EReal)) (hK : ∀ b n k, ∃ r : ℝ, K (ix3 b n k) = (r : EReal))
    (hg : ∀ k, ∃ r : ℝ, g (ix1 k) = (r : EReal)) (hW : ∀ k j, ∃ r : ℝ, W (ix2 k j) = (r : EReal)) : ∃ r : ℝ, score X K g W b h n p = (r : EReal) := by
  unfold score
  refine real_mul (real_sum _ fun d => real_mul ?_ (hK _ _ _)) ⟨_, scale_real⟩
  exact real_sum _ fun k => real_mul (normed_real _ g (fun l => hX _ _ _) hg k) (hW _ _)

end Cert.CrossAttn

end
-- ==== Proof.CrossPays.lean ====
/-
  The cross attention kernel's payloads at an index: the scaled queries, one head's weights, one head's quotient and
  the product with the last weights.
-/
module

public import proofs.«01_k».proof.Proof.CrossSpec
public import proofs.«01_k».proof.Proof.Gen.Kernel5Ideal.Value
public import Idealize.ShloMosaic.Lib.Tactic.CleanTypes
public import Idealize.ShloMosaic.Lib.Pipeline.ValueKit
public import Idealize.ShloMosaic.Lib.Pipeline.ReadBack

@[expose] public section

set_option maxRecDepth 16384

noncomputable section

namespace Cert.Kernel5Ideal.Cross

open Cert.CrossAttn Cert.DiffAttn Cert.Kernel5Ideal Cert.Kernel5Ideal.Gen Idealize.ShloMosaic Idealize.ShloMosaic.TcCoe Idealize.ShloMosaic.Tactic Idealize.SL.Sem

/-- One head's weights, of the queries' lanes from `o` and the keys' block. -/
def weights (o : ℕ) (ho : S512x1024.Slices ![0, o] S512x256) (q : FVec Ideal S512x1024 .f32) (k : Vec Ideal S1x256x256 .f32) : FVec Ideal S512x256 .f32 :=
  have s : FVec Ideal S512x256 .f32 := matmul dot_S512x256_S256x256_S512x256_1_1_0_0_n_n none
    (truncf .bf16 (extractStridedSlice S512x256 ![0, o] q ho) bitsLt_bf16_f32 : FVec Ideal S512x256 .bf16)
    (truncf .bf16 (shapeCast S256x256 k shapeCasts_S1x256x256_S256x256 : FVec Ideal S256x256 .f32) bitsLt_bf16_f32 : FVec Ideal S256x256 .bf16)
    (constant S512x256 .f32 0x00000000#32 : FVec Ideal S512x256 .f32)
  exp (subf s (broadcastTo S512x256 (shapeCast S512x1 (multiReduction .maximumf [1] S512 s 0xFF800000#32 reduces_S512x256_S512 (.inl rfl) rfl)
    shapeCasts_S512_S512x1) broadcasts_S512x1_S512x256))

/-- One head's quotient, of its weights and the values' block. -/
def quotient (w : FVec Ideal S512x256 .f32) (v : Vec Ideal S1x256x256 .f32) : FVec Ideal S512x256 .f32 :=
  k0_pay7 (k0_pay4 v) w (truncf .bf16 w bitsLt_bf16_f32) (constant S512x256 .f32 0x00000000#32)

/-- A case distinction both of whose cases are `v` is `v`. -/
theorem dite_eq_of {α : Type} {p : Prop} [Decidable p] {a : p → α} {b : ¬p → α} {v : α} (ha : ∀ h, a h = v) (hb : ∀ h, b h = v) :
    dite p a b = v := by
  by_cases h : p
  · rw [dif_pos h, ha]
  · rw [dif_neg h, hb]

/-- The four heads' quotients side by side, times the last weights, added to the input. -/
def last (x : FVec Ideal S512x1024 .f32) (h0 h1 h2 h3 : FVec Ideal S512x256 .f32) (w : Vec Ideal S1024x1024 .bf16) : FVec Ideal S1x512x1024 .f32 :=
  shapeCast S1x512x1024 (addf x (matmul dot_S512x1024_S1024x1024_S512x1024_1_0_0_1_n_n none
    (truncf .bf16 (concatenate S512x1024 1 [⟨S512x256, h0⟩, ⟨S512x256, h1⟩, ⟨S512x256, h2⟩, ⟨S512x256, h3⟩]
      concatenates_S512x256_S512x256_S512x256_S512x256_S512x1024_d1 : FVec Ideal S512x1024 .f32) bitsLt_bf16_f32 : FVec Ideal S512x1024 .bf16)
    (shapeCast S1024x1024 w shapeCasts_S1024x1024_S1024x1024 : FVec Ideal S1024x1024 .bf16) (constant S512x1024 .f32 0x00000000#32 : FVec Ideal S512x1024 .f32)))
    shapeCasts_S512x1024_S1x512x1024

/-- The kernel's block, of the pieces above. -/
theorem block_eq (x : Vec Ideal S1x512x1024 .f32) (g : Vec Ideal S1x1024 .f32) (wq wo : Vec Ideal S1024x1024 .bf16)
    (k0 k1 k2 k3 v0 v1 v2 v3 : Vec Ideal S1x256x256 .f32) :
    k0_pay1 (F := Ideal) (k0_pay2 x) (k0_pay3 x g wq)
        (k0_pay7 (k0_pay4 v0) (k0_pay5 x g wq k0) (k0_pay6 x g wq k0) (constant S512x256 FTy.f32 0#32))
        (k0_pay8 (k0_pay3 x g wq) k1 v1) (k0_pay9 v2) (k0_pay10 (k0_pay3 x g wq) k2) (k0_pay11 (k0_pay3 x g wq) k2)
        (constant S512x256 FTy.f32 0#32) k3 v3 wo
      = last (k0_pay2 x) (quotient (weights 0 slices_S512x1024_o0_0_S512x256 (k0_pay3 x g wq) k0) v0)
          (quotient (weights 256 slices_S512x1024_o0_256_S512x256 (k0_pay3 x g wq) k1) v1)
          (quotient (weights 512 slices_S512x1024_o0_512_S512x256 (k0_pay3 x g wq) k2) v2)
          (quotient (weights 768 slices_S512x1024_o0_768_S512x256 (k0_pay3 x g wq) k3) v3) wo := rfl

theorem neg_inf : Ideal.ofBits FTy.f32 0xFF800000#32 = ⊥ := by simp [Ideal.ofBits, Ideal.ieee]

theorem pay3_apply (x : Vec Ideal S1x512x1024 .f32) (g : Vec Ideal S1x1024 .f32) (wq : Vec Ideal S1024x1024 .bf16) (r : Fin 512) (j : Fin 1024) :
    k0_pay3 (F := Ideal) x g wq (ix2 r j)
      = (∑ k : Fin 1024, x (ix3 0 r k) * Ideal.rsqrt (Ideal.div (∑ l : Fin 1024, x (ix3 0 r l) * x (ix3 0 r l)) (Ideal.ofBits FTy.f32 1149239296#32)
          + Ideal.ofBits FTy.f32 897988541#32) * g (ix2 0 k) * wq (ix2 k j)) * scale := by
  pointwise [k0_pay3, k0_pay2]

/-- The scores before the exponential. -/
theorem scores_apply (o : ℕ) (ho : S512x1024.Slices ![0, o] S512x256) (hl : o + 256 ≤ 1024) (q : FVec Ideal S512x1024 .f32) (k : Vec Ideal S1x256x256 .f32) (r : Fin 512) (p : Fin 256) :
    (matmul dot_S512x256_S256x256_S512x256_1_1_0_0_n_n none
    (truncf .bf16 (extractStridedSlice S512x256 ![0, o] q ho) bitsLt_bf16_f32 : FVec Ideal S512x256 .bf16)
    (truncf .bf16 (shapeCast S256x256 k shapeCasts_S1x256x256_S256x256 : FVec Ideal S256x256 .f32) bitsLt_bf16_f32 : FVec Ideal S256x256 .bf16)
    (constant S512x256 .f32 0x00000000#32 : FVec Ideal S512x256 .f32) : FVec Ideal S512x256 .f32) (ix2 r p)
      = ∑ d : Fin 256, q (ix2 r ⟨o + d.val, by omega⟩) * k (ix3 0 p d) := by
  pointwise

/-- The exponentials of a row of scores. -/
theorem exps_apply (s : FVec Ideal S512x256 .f32) (r : Fin 512) (p : Fin 256) :
    (exp (subf s (broadcastTo S512x256 (shapeCast S512x1 (multiReduction .maximumf [1] S512 s 0xFF800000#32 reduces_S512x256_S512 (.inl rfl) rfl)
    shapeCasts_S512_S512x1) broadcasts_S512x1_S512x256)) : FVec Ideal S512x256 .f32) (ix2 r p) = wt (fun l => s (ix2 r l)) p := by
  pointwise
  rfl

theorem weights_apply (o : ℕ) (ho : S512x1024.Slices ![0, o] S512x256) (hl : o + 256 ≤ 1024) (q : FVec Ideal S512x1024 .f32) (k : Vec Ideal S1x256x256 .f32) (r : Fin 512) (p : Fin 256) :
    weights o ho q k (ix2 r p) = wt (fun p => ∑ d : Fin 256, q (ix2 r ⟨o + d.val, by omega⟩) * k (ix3 0 p d)) p := by
  refine (exps_apply _ r p).trans ?_
  simp only [scores_apply o ho hl]

theorem quotient_apply (w : FVec Ideal S512x256 .f32) (v : Vec Ideal S1x256x256 .f32) (r : Fin 512) (e : Fin 256) :
    quotient w v (ix2 r e) = Ideal.div (∑ p : Fin 256, w (ix2 r p) * v (ix3 0 p e)) (∑ p : Fin 256, w (ix2 r p)) := by
  unfold quotient
  pointwise [k0_pay7, k0_pay4]

theorem last_apply (x : Vec Ideal S1x512x1024 .f32) (h0 h1 h2 h3 : FVec Ideal S512x256 .f32) (w : Vec Ideal S1024x1024 .bf16)
    (H : Fin 1024 → EReal) (r : Fin 512)
    (e0 : ∀ (k : Fin 1024) (h : k.val < 256), h0 (ix2 r ⟨k.val, h⟩) = H k)
    (e1 : ∀ (k : Fin 1024) (h : k.val - 256 < 256), 256 ≤ k.val → h1 (ix2 r ⟨k.val - 256, h⟩) = H k)
    (e2 : ∀ (k : Fin 1024) (h : k.val - 256 - 256 < 256), 512 ≤ k.val → h2 (ix2 r ⟨k.val - 256 - 256, h⟩) = H k)
    (e3 : ∀ (k : Fin 1024) (h : k.val - 256 - 256 - 256 < 256), 768 ≤ k.val → h3 (ix2 r ⟨k.val - 256 - 256 - 256, h⟩) = H k) (j : Fin 1024) :
    last (k0_pay2 x) h0 h1 h2 h3 w (ix3 0 r j) = x (ix3 0 r j) + ∑ k : Fin 1024, H k * w (ix2 k j) := by
  unfold last
  pointwise [k0_pay2]
  refine congrArg (HAdd.hAdd (α := EReal) (β := EReal) (γ := EReal) _) (Finset.sum_congr rfl fun k _ => congrArg (fun z : EReal => z * _) ?_)
  have hk := k.isLt
  refine dite_eq_of (fun a => e0 k a) fun a => dite_eq_of (fun b => e1 k b (by omega)) fun b => dite_eq_of (fun d => e2 k d (by omega)) fun d => ?_
  exact e3 k (by omega) (by omega)

end Cert.Kernel5Ideal.Cross

end
-- ==== Proof.Cross.lean ====
/-
  The cross attention: the array the kernel leaves.
-/
module

public import proofs.«01_k».proof.Proof.CrossPays
public import proofs.«01_k».proof.Proof.Gen.Kernel5.Frame

@[expose] public section

set_option maxRecDepth 16384

noncomputable section

namespace Cert.Kernel5Ideal.Cross

open Cert.CrossAttn Cert.DiffAttn Cert.Kernel5Ideal Cert.Kernel5Ideal.Gen Idealize.ShloMosaic Idealize.ShloMosaic.TcCoe Idealize.ShloMosaic.Tactic Idealize.SL.Sem

variable (m : (ℓ : Loc nD τ sig) → Buf (Elt Ideal) ℓ) (c : Dev nD)

abbrev X0 : Vec Ideal S16x2048x1024 .f32 := m ((c : Thread nD τ).loc main_arg0)
abbrev X1 : Vec Ideal S16x256x1024 .f32 := m ((c : Thread nD τ).loc main_arg1)
abbrev X2 : Vec Ideal S16x256x1024 .f32 := m ((c : Thread nD τ).loc main_arg2)
abbrev X3 : Vec Ideal S1024 .f32 := m ((c : Thread nD τ).loc main_arg3)
abbrev X4 : Vec Ideal S1024x1024 .f32 := m ((c : Thread nD τ).loc main_arg4)
abbrev X5 : Vec Ideal S1024x1024 .f32 := m ((c : Thread nD τ).loc main_arg5)

theorem point_lt (t : Fin grid0.N) : t.val < 64 := lt_of_lt_of_eq t.isLt N_0

/-- The sequence of point `t`. -/
abbrev sq (t : Fin grid0.N) : Fin 16 := ⟨t.val / 4, by have := point_lt t; omega⟩

/-- The row of the sequence that row `r` of point `t`'s blocks is. -/
abbrev rw_ (t : Fin grid0.N) (r : Fin 512) : Fin 2048 := ⟨t.val % 4 * 512 + r.val, by omega⟩

theorem A0_apply (i : S16x2048x1024.Idx) : (V m c main_arg0 : Vec Ideal S16x2048x1024 .f32) i = X0 m c i := congrFun (V_main_arg0 m c) i
theorem A1_apply (i : S16x256x1024.Idx) : (V m c main_arg1 : Vec Ideal S16x256x1024 .f32) i = X1 m c i := congrFun (V_main_arg1 m c) i
theorem A2_apply (i : S16x256x1024.Idx) : (V m c main_arg2 : Vec Ideal S16x256x1024 .f32) i = X2 m c i := congrFun (V_main_arg2 m c) i

theorem V2_apply (k : Fin 1024) : (V m c main_v2 : Vec Ideal S1x1024 .f32) (ix2 0 k) = X3 m c (ix1 k) := by
  entry_read
  pointwise

theorem V0_apply (k j : Fin 1024) : (V m c main_v0 : Vec Ideal S1024x1024 .bf16) (ix2 k j) = X4 m c (ix2 k j) := by
  entry_read
  pointwise

theorem V1_apply (k j : Fin 1024) : (V m c main_v1 : Vec Ideal S1024x1024 .bf16) (ix2 k j) = X5 m c (ix2 k j) := by
  entry_read
  pointwise

theorem e0 : ∀ t : Fin grid0.N, win0_0.index t = ![t.val / 4, t.val % 4, 0] := by decide +kernel
theorem e1 : ∀ t : Fin grid0.N, win0_1.index t = ![t.val / 4, 0, 0] := by decide +kernel
theorem e2 : ∀ t : Fin grid0.N, win0_2.index t = ![t.val / 4, 0, 0] := by decide +kernel
theorem e3 : ∀ t : Fin grid0.N, win0_3.index t = ![0, 0] := by decide +kernel
theorem e4 : ∀ t : Fin grid0.N, win0_4.index t = ![0, 0] := by decide +kernel
theorem e5 : ∀ t : Fin grid0.N, win0_5.index t = ![0, 0] := by decide +kernel
theorem e6 : ∀ t : Fin grid0.N, win0_6.index t = ![t.val / 4, t.val % 4, 0] := by decide +kernel

theorem b0 (t : Fin grid0.N) (r : Fin 512) (k : Fin 1024) : (iblk m c 0 t : Vec Ideal S1x512x1024 .f32) (ix3 0 r k) = X0 m c (ix3 (sq t) (rw_ t r) k) := by
  rw [← A0_apply]
  blk_ext [iblk, e0 t]

theorem b1 (t : Fin grid0.N) (p : Fin 256) (k : Fin 1024) : (iblk m c 1 t : Vec Ideal S1x256x1024 .f32) (ix3 0 p k) = X1 m c (ix3 (sq t) p k) := by
  rw [← A1_apply]
  blk_ext [iblk, e1 t]

theorem b2 (t : Fin grid0.N) (p : Fin 256) (k : Fin 1024) : (iblk m c 2 t : Vec Ideal S1x256x1024 .f32) (ix3 0 p k) = X2 m c (ix3 (sq t) p k) := by
  rw [← A2_apply]
  blk_ext [iblk, e2 t]

theorem b3 (t : Fin grid0.N) (k : Fin 1024) : (iblk m c 3 t : Vec Ideal S1x1024 .f32) (ix2 0 k) = X3 m c (ix1 k) := by
  rw [← V2_apply]
  blk_ext [iblk, e3 t]

theorem b4 (t : Fin grid0.N) (k j : Fin 1024) : (iblk m c 4 t : Vec Ideal S1024x1024 .bf16) (ix2 k j) = X4 m c (ix2 k j) := by
  rw [← V0_apply]
  blk_ext [iblk, e4 t]

theorem b5 (t : Fin grid0.N) (k j : Fin 1024) : (iblk m c 5 t : Vec Ideal S1024x1024 .bf16) (ix2 k j) = X5 m c (ix2 k j) := by
  rw [← V1_apply]
  blk_ext [iblk, e5 t]

theorem ldr0_3 (x : Vec Ideal S1x256x1024 .f32) (p d : Fin 256) : (View.ld x r0_3 : Vec Ideal S1x256x256 .f32) (ix3 0 p d) = x (ix3 0 p ⟨0 + d.val, by omega⟩) := by
  refine congrArg x (funext fun a => Fin.ext ?_)
  match a with
  | ⟨0, _⟩ => rfl
  | ⟨1, _⟩ => show 0 + 1 * p.val = p.val; omega
  | ⟨2, _⟩ => show 0 + 1 * d.val = 0 + d.val; omega

theorem ldr0_4 (x : Vec Ideal S1x256x1024 .f32) (p d : Fin 256) : (View.ld x r0_4 : Vec Ideal S1x256x256 .f32) (ix3 0 p d) = x (ix3 0 p ⟨256 + d.val, by omega⟩) := by
  refine congrArg x (funext fun a => Fin.ext ?_)
  match a with
  | ⟨0, _⟩ => rfl
  | ⟨1, _⟩ => show 0 + 1 * p.val = p.val; omega
  | ⟨2, _⟩ => show 256 + 1 * d.val = 256 + d.val; omega

theorem ldr0_5 (x : Vec Ideal S1x256x1024 .f32) (p d : Fin 256) : (View.ld x r0_5 : Vec Ideal S1x256x256 .f32) (ix3 0 p d) = x (ix3 0 p ⟨512 + d.val, by omega⟩) := by
  refine congrArg x (funext fun a => Fin.ext ?_)
  match a with
  | ⟨0, _⟩ => rfl
  | ⟨1, _⟩ => show 0 + 1 * p.val = p.val; omega
  | ⟨2, _⟩ => show 512 + 1 * d.val = 512 + d.val; omega

theorem ldr0_6 (x : Vec Ideal S1x256x1024 .f32) (p d : Fin 256) : (View.ld x r0_6 : Vec Ideal S1x256x256 .f32) (ix3 0 p d) = x (ix3 0 p ⟨768 + d.val, by omega⟩) := by
  refine congrArg x (funext fun a => Fin.ext ?_)
  match a with
  | ⟨0, _⟩ => rfl
  | ⟨1, _⟩ => show 0 + 1 * p.val = p.val; omega
  | ⟨2, _⟩ => show 768 + 1 * d.val = 768 + d.val; omega

/-- The scaled queries of point `t`. -/
theorem queries (t : Fin grid0.N) (r : Fin 512) (j : Fin 1024) :
    k0_pay3 (F := Ideal) (iblk m c 0 t) (iblk m c 3 t) (iblk m c 4 t) (ix2 r j) = query (X0 m c) (X3 m c) (X4 m c) (sq t) (rw_ t r) j * scale := by
  refine (pay3_apply _ _ _ r j).trans ?_
  unfold query normed
  simp only [b0, b3, b4]

/-- One head's quotient at point `t`. -/
theorem head (t : Fin grid0.N) (h : Fin 4) (ho : S512x1024.Slices ![0, h.val * 256] S512x256) (kb vb : Vec Ideal S1x256x256 .f32)
    (hk : ∀ p d : Fin 256, kb (ix3 0 p d) = X1 m c (ix3 (sq t) p ⟨h.val * 256 + d.val, by omega⟩))
    (hv : ∀ p d : Fin 256, vb (ix3 0 p d) = X2 m c (ix3 (sq t) p ⟨h.val * 256 + d.val, by omega⟩)) (r : Fin 512) (e : Fin 256) :
    quotient (weights (h.val * 256) ho (k0_pay3 (F := Ideal) (iblk m c 0 t) (iblk m c 3 t) (iblk m c 4 t)) kb) vb (ix2 r e)
      = headK (score (X0 m c) (X1 m c) (X3 m c) (X4 m c) (sq t) h (rw_ t r)) (fun p => X2 m c (ix3 (sq t) p ⟨h.val * 256 + e.val, by omega⟩)) := by
  rw [quotient_apply]
  unfold headK
  simp only [weights_apply (h.val * 256) ho (by omega), queries, hk, hv, scaled_sum]
  rfl

/-- What point `t` writes. -/
theorem point (t : Fin grid0.N) (r : Fin 512) (j : Fin 1024) :
    k0_pay1 (F := Ideal) (k0_pay2 (iblk m c 0 t)) (k0_pay3 (iblk m c 0 t) (iblk m c 3 t) (iblk m c 4 t))
        (k0_pay7 (k0_pay4 (View.ld (iblk m c 2 t) r0_3)) (k0_pay5 (iblk m c 0 t) (iblk m c 3 t) (iblk m c 4 t) (View.ld (iblk m c 1 t) r0_3))
          (k0_pay6 (iblk m c 0 t) (iblk m c 3 t) (iblk m c 4 t) (View.ld (iblk m c 1 t) r0_3)) (constant S512x256 FTy.f32 0#32))
        (k0_pay8 (k0_pay3 (iblk m c 0 t) (iblk m c 3 t) (iblk m c 4 t)) (View.ld (iblk m c 1 t) r0_4) (View.ld (iblk m c 2 t) r0_4))
        (k0_pay9 (View.ld (iblk m c 2 t) r0_5)) (k0_pay10 (k0_pay3 (iblk m c 0 t) (iblk m c 3 t) (iblk m c 4 t)) (View.ld (iblk m c 1 t) r0_5))
        (k0_pay11 (k0_pay3 (iblk m c 0 t) (iblk m c 3 t) (iblk m c 4 t)) (View.ld (iblk m c 1 t) r0_5))
        (constant S512x256 FTy.f32 0#32) (View.ld (iblk m c 1 t) r0_6) (View.ld (iblk m c 2 t) r0_6) (iblk m c 5 t) (ix3 0 r j)
      = result headK (X0 m c) (X1 m c) (X2 m c) (X3 m c) (X4 m c) (X5 m c) (sq t) (rw_ t r) j := by
  rw [block_eq]
  refine (last_apply _ _ _ _ _ _ (fun k => headK (score (X0 m c) (X1 m c) (X3 m c) (X4 m c) (sq t) ⟨k.val / 256, by omega⟩ (rw_ t r))
    (fun p => X2 m c (ix3 (sq t) p k))) r ?_ ?_ ?_ ?_ j).trans ?_
  · intro k h
    refine (head m c t 0 _ _ _ (fun p d => (ldr0_3 _ p d).trans (b1 m c t p _)) (fun p d => (ldr0_3 _ p d).trans (b2 m c t p _)) r _).trans ?_
    rw [show (⟨k.val / 256, by omega⟩ : Fin 4) = 0 from Fin.ext (by show k.val / 256 = 0; omega),
      show (⟨(0 : Fin 4).val * 256 + k.val, by omega⟩ : Fin 1024) = k from Fin.ext (by show 0 * 256 + k.val = k.val; omega)]
  · intro k h h'
    refine (head m c t 1 _ _ _ (fun p d => (ldr0_4 _ p d).trans (b1 m c t p _)) (fun p d => (ldr0_4 _ p d).trans (b2 m c t p _)) r _).trans ?_
    rw [show (⟨k.val / 256, by omega⟩ : Fin 4) = 1 from Fin.ext (by show k.val / 256 = 1; omega)]
    rw [show (⟨(1 : Fin 4).val * 256 + (k.val - 256), by omega⟩ : Fin 1024) = k from Fin.ext (by show 1 * 256 + (k.val - 256) = k.val; omega)]
  · intro k h h'
    refine (head m c t 2 _ _ _ (fun p d => (ldr0_5 _ p d).trans (b1 m c t p _)) (fun p d => (ldr0_5 _ p d).trans (b2 m c t p _)) r _).trans ?_
    rw [show (⟨k.val / 256, by omega⟩ : Fin 4) = 2 from Fin.ext (by show k.val / 256 = 2; omega)]
    rw [show (⟨(2 : Fin 4).val * 256 + (k.val - 256 - 256), by omega⟩ : Fin 1024) = k from Fin.ext (by show 2 * 256 + (k.val - 256 - 256) = k.val; omega)]
  · intro k h h'
    refine (head m c t 3 _ _ _ (fun p d => (ldr0_6 _ p d).trans (b1 m c t p _)) (fun p d => (ldr0_6 _ p d).trans (b2 m c t p _)) r _).trans ?_
    rw [show (⟨k.val / 256, by omega⟩ : Fin 4) = 3 from Fin.ext (by show k.val / 256 = 3; omega)]
    rw [show (⟨(3 : Fin 4).val * 256 + (k.val - 256 - 256 - 256), by omega⟩ : Fin 1024) = k from Fin.ext (by show 3 * 256 + (k.val - 256 - 256 - 256) = k.val; omega)]
  · unfold result
    simp only [b0, b5]

/-- The array the kernel leaves. -/
def G : Vec Ideal S16x2048x1024 .f32 := fun i =>
  result headK (X0 m c) (X1 m c) (X2 m c) (X3 m c) (X4 m c) (X5 m c) (i 0) (i 1) (i 2)

theorem G_apply (b : Fin 16) (n : Fin 2048) (j : Fin 1024) :
    G m c (ix3 b n j) = result headK (X0 m c) (X1 m c) (X2 m c) (X3 m c) (X4 m c) (X5 m c) b n j := rfl

theorem emb6 (t : Fin grid0.N) (r : Fin 512) (j : Fin 1024) : (ix3 (sq t) (rw_ t r) j : S16x2048x1024.Idx) = (win0_6.blk t).view.emb (ix3 0 r j : S1x512x1024.Idx) := by
  blk_ext [e6 t]

theorem out_block (t : Fin grid0.N) (r : Fin 512) (j : Fin 1024) :
    (out0_6 (F := Ideal) (iblk m c 0 t) (iblk m c 1 t) (iblk m c 2 t) (iblk m c 3 t) (iblk m c 4 t) (iblk m c 5 t) : Vec Ideal S1x512x1024 .f32) (ix3 0 r j)
      = G m c ((win0_6.blk t).view.emb (ix3 0 r j : S1x512x1024.Idx)) := by
  rw [← emb6, G_apply]
  refine Eq.trans ?_ (point m c t r j)
  have e : k0_pay12 (F := Ideal) (iblk m c 0 t) (iblk m c 1 t) (iblk m c 2 t) (iblk m c 3 t) (iblk m c 4 t) (iblk m c 5 t) = k0_pay3 (iblk m c 0 t) (iblk m c 3 t) (iblk m c 4 t) := by
    unfold k0_pay12
    frame_out
  frame_out
  rw [e]
  generalize k0_pay3 (iblk m c 0 t) (iblk m c 3 t) (iblk m c 4 t) = q
  generalize (iblk m c 0 t) = x0
  generalize (iblk m c 1 t) = x1
  generalize (iblk m c 2 t) = x2
  generalize (iblk m c 3 t) = x3
  generalize (iblk m c 4 t) = x4
  generalize (iblk m c 5 t) = x5
  rfl

theorem array : (dats (F := Ideal) m 0 c).arrAt 6 cfg0.N = G m c := by
  refine (dats m 0 c).arrAt_eq_of_covers 6 _ (by decide +kernel) fun t hf y => ?_
  have e : (y : S1x512x1024.Idx) = ix3 0 (y 1 : Fin 512) (y 2 : Fin 1024) := by
    funext a
    match a with
    | ⟨0, _⟩ => exact Fin.ext (by have := (y 0).isLt; show (y 0).val = 0; exact Nat.lt_one_iff.mp this)
    | ⟨1, _⟩ => rfl
    | ⟨2, _⟩ => rfl
  blk_simp
  rw [after0_6]
  have key : ∀ z : S1x512x1024.Idx, z = ix3 0 (z 1 : Fin 512) (z 2 : Fin 1024) → (out0_6 (F := Ideal) (iblk m c 0 t) (iblk m c 1 t) (iblk m c 2 t) (iblk m c 3 t) (iblk m c 4 t) (iblk m c 5 t) : Vec Ideal S1x512x1024 .f32) z
      = G m c ((win0_6.blk t).view.emb z) := fun z hz => by
    rw [hz]
    exact out_block m c t _ _
  exact key y e

end Cert.Kernel5Ideal.Cross

end
-- ==== Proof.CrossRef.lean ====
/-
  What the cross attention's reference computes.
-/
module

public import proofs.«01_k».proof.Proof.CrossSpec
public import proofs.«01_k».proof.Proof.Gen.Reference5Ideal.Run
public import Idealize.ShloMosaic.Lib.Tactic.CleanTypes
public import Idealize.ShloMosaic.Lib.Pipeline.ValueKit
public import Idealize.ShloMosaic.Lib.Pipeline.ReadBack

@[expose] public section

set_option maxRecDepth 16384

noncomputable section

namespace Cert.Reference5Ideal.Cross

open Cert.CrossAttn Cert.DiffAttn Cert.Reference5Ideal Cert.Reference5Ideal.Gen Idealize.ShloMosaic Idealize.ShloMosaic.TcCoe Idealize.ShloMosaic.Tactic Idealize.SL.Sem

variable (m : (ℓ : Loc nD τ sig) → Buf (Elt Ideal) ℓ)

theorem neg_inf : Ideal.ofBits FTy.f32 0xFF800000#32 = ⊥ := by simp [Ideal.ofBits, Ideal.ieee]

/-- The largest entry along the last of four axes. -/
theorem max_row {n0 n1 n2 n3 : ℕ} (x : FVec Ideal ⟨4, ![n0, n1, n2, n3]⟩ .f32) {u : Shape} (init : FVec Ideal u .f32)
    (h : Shape.ReducesTo ⟨4, ![n0, n1, n2, n3]⟩ [3] ⟨3, ![n0, n1, n2]⟩) (hu : 0 < u.numel)
    (a : Fin n0) (b : Fin n1) (c : Fin n2) :
    (Host.reduce FloatOps.maximumf x init h hu : FVec Ideal ⟨3, ![n0, n1, n2]⟩ .f32) (ix3 a b c)
      = max (init (Shape.Idx.first hu)) (Finset.univ.sup fun k : Fin n3 => x (ix4 a b c k)) := by
  rw [Host.reduce_eq_fold, Shape.ReducesTo.fold_fiber_r4_a3]
  refine eq_of_forall_ge_iff fun y => ?_
  refine (Finset.fold_max_le (f := fun k : Fin n3 => x (ix4 a b c k)) y).trans ?_
  simp only [sup_le_iff, Finset.sup_le_iff]

/-- A row's number, put beside each of its columns. -/
theorem row_bcast (M : FVec Ideal S16x4x2048 .f32) (b : Fin 16) (h : Fin 4) (n : Fin 2048) (k : Fin 256) :
    (broadcastInDim S16x4x2048x256 ![0, 1, 2, 3] bcast_S16x4x2048x1_S16x4x2048x256_0_1_2_3
      (broadcastInDim S16x4x2048x1 ![0, 1, 2] bcast_S16x4x2048_S16x4x2048x1_0_1_2 M)) (ix4 b h n k) = M (ix3 b h n) := by
  pointwise

/-- The sum of a row. -/
theorem row_sum (E : FVec Ideal S16x4x2048x256 .f32) (b : Fin 16) (h : Fin 4) (n : Fin 2048) :
    (Host.reduceAdd E (constant S_ .f32 0x00000000#32) reducesTo_S16x4x2048x256_S16x4x2048_d3 h_S_) (ix3 b h n) = ∑ l, E (ix4 b h n l) := by
  pointwise

/-- Dividing by the sum of the row. -/
theorem row_div (E : FVec Ideal S16x4x2048x256 .f32) (b : Fin 16) (h : Fin 4) (n : Fin 2048) (k : Fin 256) :
    (Host.divf E (broadcastInDim S16x4x2048x256 ![0, 1, 2, 3] bcast_S16x4x2048x1_S16x4x2048x256_0_1_2_3
      (broadcastInDim S16x4x2048x1 ![0, 1, 2] bcast_S16x4x2048_S16x4x2048x1_0_1_2
        (Host.reduceAdd E (constant S_ .f32 0x00000000#32) reducesTo_S16x4x2048x256_S16x4x2048_d3 h_S_)))) (ix4 b h n k)
      = Ideal.div (E (ix4 b h n k)) (∑ l, E (ix4 b h n l)) :=
  congrArg (Ideal.div _) ((row_bcast _ b h n k).trans (row_sum E b h n))

/-- The largest of a row is at least the least of all numbers. -/
theorem max_bot (M : FVec Ideal S16x4x2048 .f32) (b : Fin 16) (h : Fin 4) (n : Fin 2048) :
    (maximumf (broadcastInDim S16x4x2048 ![] bcast_S_S16x4x2048 (constant S_ .f32 0xFF800000#32)) M) (ix3 b h n) = M (ix3 b h n) := by
  pointwise
  exact max_eq_right (le_of_eq_of_le neg_inf bot_le)

/-- The exponential of a row's distance from a number. -/
theorem row_exp' (SC : FVec Ideal S16x4x2048x256 .f32) (M : FVec Ideal S16x4x2048 .f32) (b : Fin 16) (h : Fin 4) (n : Fin 2048) (k : Fin 256) :
    (Host.exp (subf SC (broadcastInDim S16x4x2048x256 ![0, 1, 2, 3] bcast_S16x4x2048x1_S16x4x2048x256_0_1_2_3
      (broadcastInDim S16x4x2048x1 ![0, 1, 2] bcast_S16x4x2048_S16x4x2048x1_0_1_2
        (maximumf (broadcastInDim S16x4x2048 ![] bcast_S_S16x4x2048 (constant S_ .f32 0xFF800000#32)) M))))
      : FVec Ideal S16x4x2048x256 .f32) (ix4 b h n k) = Ideal.exp (SC (ix4 b h n k) - M (ix3 b h n)) :=
  congrArg (fun z : EReal => Ideal.exp (SC (ix4 b h n k) - z)) ((row_bcast _ b h n k).trans (max_bot M b h n))

/-- The largest score of a row. -/
theorem row_sup (SC : FVec Ideal S16x4x2048x256 .f32) (b : Fin 16) (h : Fin 4) (n : Fin 2048) :
    (Host.reduce FloatOps.maximumf SC (constant S_ .f32 0xFF800000#32) reducesTo_S16x4x2048x256_S16x4x2048_d3 h_S_
      : FVec Ideal S16x4x2048 .f32) (ix3 b h n) = Finset.univ.sup fun k => SC (ix4 b h n k) :=
  (max_row SC _ _ _ b h n).trans (max_eq_right (le_of_eq_of_le neg_inf bot_le))

/-- The exponential of a row's distance from its largest score. -/
theorem row_exp (SC : FVec Ideal S16x4x2048x256 .f32) (b : Fin 16) (h : Fin 4) (n : Fin 2048) (k : Fin 256) :
    (Host.exp (subf SC (broadcastInDim S16x4x2048x256 ![0, 1, 2, 3] bcast_S16x4x2048x1_S16x4x2048x256_0_1_2_3
      (broadcastInDim S16x4x2048x1 ![0, 1, 2] bcast_S16x4x2048_S16x4x2048x1_0_1_2
        (maximumf (broadcastInDim S16x4x2048 ![] bcast_S_S16x4x2048 (constant S_ .f32 0xFF800000#32))
          (Host.reduce FloatOps.maximumf SC (constant S_ .f32 0xFF800000#32) reducesTo_S16x4x2048x256_S16x4x2048_d3 h_S_)))))
      : FVec Ideal S16x4x2048x256 .f32) (ix4 b h n k) = wt (fun l => SC (ix4 b h n l)) k := by
  rw [row_exp', row_sup]
  rfl

/-- The softmax of a row of scores. -/
theorem soft_row (SC : FVec Ideal S16x4x2048x256 .f32) (b : Fin 16) (h : Fin 4) (n : Fin 2048) (k : Fin 256)
    (E : FVec Ideal S16x4x2048x256 .f32) (hE : ∀ l, E (ix4 b h n l) = wt (fun l => SC (ix4 b h n l)) l) :
    (Host.divf E (broadcastInDim S16x4x2048x256 ![0, 1, 2, 3] bcast_S16x4x2048x1_S16x4x2048x256_0_1_2_3
      (broadcastInDim S16x4x2048x1 ![0, 1, 2] bcast_S16x4x2048_S16x4x2048x1_0_1_2
        (Host.reduceAdd E (constant S_ .f32 0x00000000#32) reducesTo_S16x4x2048x256_S16x4x2048_d3 h_S_)))) (ix4 b h n k)
      = Ideal.div (wt (fun l => SC (ix4 b h n l)) k) (∑ l, wt (fun l => SC (ix4 b h n l)) l) := by
  rw [row_div]
  simp only [hE]

/-- The weighted sum of the values, at an index. -/
theorem dot_row (V : FVec Ideal S16x256x1024 .f32) (A : FVec Ideal S16x4x2048x256 .f32) (b : Fin 16) (h : Fin 4) (n : Fin 2048) (e : Fin 256) :
    (transpose S16x2048x4x256 [0, 3, 1, 2] (Host.dotGeneral dot_S16x256x4x256_S16x4x2048x256_S16x4x256x2048_1_3_3_2_02_01 none
      (shapeCast S16x256x4x256 V shapeCasts_S16x256x1024_S16x256x4x256) A)
      transposes_S16x4x256x2048_S16x2048x4x256_0_3_1_2) (ix4 b n h e) = ∑ k, V (ix3 b k ⟨h.val * 256 + e.val, by omega⟩) * A (ix4 b h n k) := by
  pointwise

/-- The sum with the product with the last weights, at an index. -/
theorem last_row (X : FVec Ideal S16x2048x1024 .f32) (O : FVec Ideal S16x2048x4x256 .f32) (Wo : FVec Ideal S1024x1024 .f32) (b : Fin 16) (n : Fin 2048) (j : Fin 1024) :
    (addf X (Host.dotGeneral dot_S16x2048x1024_S1024x1024_S16x2048x1024_2_0_01_1_n_n none (shapeCast S16x2048x1024 O shapeCasts_S16x2048x4x256_S16x2048x1024) Wo)
      : FVec Ideal S16x2048x1024 .f32) (ix3 b n j)
      = X (ix3 b n j) + ∑ k : Fin 1024, O (ix4 b n ⟨k.val / 256, by omega⟩ ⟨k.val % 256, by omega⟩) * Wo (ix2 k j) := by
  pointwise

set_option maxHeartbeats 2000000 in
theorem res_apply (c : Dev nD) (b : Fin 16) (n : Fin 2048) (j : Fin 1024) :
    (Value.res_out0 m c : Vec Ideal S16x2048x1024 .f32) (ix3 b n j)
      = result headR (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b n j := by
  unfold Value.res_out0 Value.res_main_v35
  clean_types
  generalize hS : (mulf (Host.dotGeneral dot_S16x2048x4x256_S16x256x4x256_S16x4x2048x256_3_3_1_1_02_02 none _ _) _ : FVec Ideal S16x4x2048x256 .f32) = SC
  have h0 : ∀ (h : Fin 4) (k : Fin 256), SC (ix4 b h n k) = score (m ((c : Thread nD τ).loc main_arg0)) (m ((c : Thread nD τ).loc main_arg1)) (m ((c : Thread nD τ).loc main_arg3)) (m ((c : Thread nD τ).loc main_arg4)) b h n k := fun h k => by
    rw [← hS]
    pointwise
    rfl
  clear hS
  generalize hP : (Host.divf _ _ : FVec Ideal S16x4x2048x256 .f32) = P
  have hp : ∀ (h : Fin 4) (k : Fin 256), P (ix4 b h n k)
      = Ideal.div (wt (fun l => SC (ix4 b h n l)) k) (∑ l, wt (fun l => SC (ix4 b h n l)) l) := fun h k => by
    rw [← hP]
    exact soft_row SC b h n k _ fun l => row_exp SC b h n l
  clear hP
  refine (last_row _ _ _ b n j).trans ?_
  unfold result headR
  refine congrArg (HAdd.hAdd (α := EReal) (β := EReal) (γ := EReal) _) (Finset.sum_congr rfl fun k _ => congrArg (fun z : EReal => z * _) ?_)
  refine (dot_row _ _ b _ n _).trans (Finset.sum_congr rfl fun p _ => ?_)
  rw [hp]
  simp only [h0]
  have e : (⟨k.val / 256 * 256 + k.val % 256, by omega⟩ : Fin 1024) = k := Fin.ext (by simp only []; omega)
  rw [e]

end Cert.Reference5Ideal.Cross

end
-- ==== Proof.CrossEq.lean ====
/-
  The claims on the cross attention: where the queries' and keys' arrays are finite, the kernel's array is the
  reference's.
-/
module

public import proofs.«01_k».proof.Defs
public import proofs.«01_k».proof.Proof.Cross
public import proofs.«01_k».proof.Proof.CrossRef
public import proofs.«01_k».proof.Proof.AttnEq
public import proofs.«01_k».proof.Proof.Gen.Kernel5.Frame
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.ShloMosaic.Tactic Idealize.SL.Sem
open Cert.CrossAttn

/-- The precondition's shape relations. -/
instance facts_pre_query : Cert.Pre_finite_query.Facts where
  bcast_S_S16x2048x1024 := by decide
  bcast_S_S16x256x1024 := by decide
  bcast_S_S1024 := by decide
  bcast_S_S1024x1024 := by decide

section
variable [Cert.Pre_finite_query.Facts]
variable (a0 : FVec Ideal Cert.Pre_finite_query.S16x2048x1024 .f32) (a1 a2 : FVec Ideal Cert.Pre_finite_query.S16x256x1024 .f32)
  (a3 : FVec Ideal Cert.Pre_finite_query.S1024 .f32) (a4 a5 : FVec Ideal Cert.Pre_finite_query.S1024x1024 .f32)

/-- Under the precondition the stream is real, -/
theorem stream_real (h : (Cert.Pre_finite_query.fn (F := Ideal) a0 a1 a2 a3 a4 a5).1 = (fun _ => 1#1)) (b : Fin 16) (n : Fin 2048) (k : Fin 1024) :
    ∃ r : ℝ, a0 (ix3 b n k) = (r : EReal) := by
  refine real_of_abs_lt _ ?_
  have h1 := congrFun h (ix3 b n k)
  unfold Cert.Pre_finite_query.fn at h1
  pointwise at h1
  exact h1

/-- the memory's keys are, -/
theorem keys_real (h : (Cert.Pre_finite_query.fn (F := Ideal) a0 a1 a2 a3 a4 a5).2.1 = (fun _ => 1#1)) (b : Fin 16) (n : Fin 256) (k : Fin 1024) :
    ∃ r : ℝ, a1 (ix3 b n k) = (r : EReal) := by
  refine real_of_abs_lt _ ?_
  have h1 := congrFun h (ix3 b n k)
  unfold Cert.Pre_finite_query.fn at h1
  pointwise at h1
  exact h1

/-- the norm's gain is, -/
theorem gain_real (h : (Cert.Pre_finite_query.fn (F := Ideal) a0 a1 a2 a3 a4 a5).2.2.1 = (fun _ => 1#1)) (k : Fin 1024) :
    ∃ r : ℝ, a3 (ix1 k) = (r : EReal) := by
  refine real_of_abs_lt _ ?_
  have h1 := congrFun h (ix1 k)
  unfold Cert.Pre_finite_query.fn at h1
  pointwise at h1
  exact h1

/-- and the queries' weights are. -/
theorem weights_real (h : (Cert.Pre_finite_query.fn (F := Ideal) a0 a1 a2 a3 a4 a5).2.2.2 = (fun _ => 1#1)) (k j : Fin 1024) :
    ∃ r : ℝ, a4 (ix2 k j) = (r : EReal) := by
  refine real_of_abs_lt _ ?_
  have h1 := congrFun h (ix2 k j)
  unfold Cert.Pre_finite_query.fn at h1
  pointwise at h1
  exact h1

end

theorem quiescent_Kernel5Ideal_pre_finite_query [Cert.Pre_finite_query.Facts] : Cert.quiescent_Kernel5Ideal_pre_finite_query := fun m ρ _ =>
  Cert.Kernel5Ideal.Gen.frame (F := Ideal) m ρ

theorem quiescent_Reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem quiescent_Reference5Ideal_pre_finite_query [Cert.Pre_finite_query.Facts] : Cert.quiescent_Reference5Ideal_pre_finite_query := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_Kernel5Ideal_Reference5Ideal_pre_finite_query [Cert.Pre_finite_query.Facts] :
    Cert.algebraic_Kernel5Ideal_Reference5Ideal_pre_finite_query := by
  intro m ρ m' ρ' hpre hagree
  refine ⟨fun c => Cert.Kernel5Ideal.Cross.G m c, ?_, ?_⟩
  · exact (θ_run Cert.Kernel5Ideal.defs _ _).mono (fun r h c => ⟨(h c).1.trans (Cert.Kernel5Ideal.Cross.array m c), (h c).2⟩)
      (Cert.Kernel5Ideal.Value.run_blocks (F := Ideal) m ρ)
  · refine (θ_run Cert.Reference5Ideal.defs _ _).mono (fun _ h c => ⟨?_, (h c).2⟩) (Cert.Reference5Ideal.Value.run (F := Ideal) m' ρ')
    obtain ⟨h0, h1, h2, h3, h4, h5⟩ := hagree c
    obtain ⟨p0, p1, p3, p4⟩ := hpre c
    refine (h c).1.trans ?_
    funext i
    idx_vars i
    refine (Cert.Reference5Ideal.Cross.res_apply m' c _ _ _).trans ?_
    rw [h0, h1, h2, h3, h4, h5]
    refine Eq.trans ?_ (Cert.Kernel5Ideal.Cross.G_apply m c _ _ _).symm
    unfold result
    refine congrArg (HAdd.hAdd (α := EReal) (β := EReal) (γ := EReal) _) (Finset.sum_congr rfl fun k _ => congrArg (fun z : EReal => z * _) ?_)
    refine (head_eq _ _ fun p => ?_).symm
    exact score_real _ _ _ _ _ _ _ _ (stream_real _ _ _ _ _ _ p0) (keys_real _ _ _ _ _ _ p1) (gain_real _ _ _ _ _ _ p3) (weights_real _ _ _ _ _ _ p4)

end Cert.Proof

end
-- ==== Proof.FfnSpec.lean ====
/-
  The feed-forward in plain mathematics: a product with the normed rows, whose first half is convolved along the
  sequence (three rows, zeroes before the first) and gates the second half; and the product of that with the
  second weights added to the rows.
-/
module

public import Idealize.ShloMosaic.Lib.Pointwise

@[expose] public section

noncomputable section

namespace Cert.Ffn

open Idealize.ShloMosaic

variable (X : (⟨3, ![16, 2048, 1024]⟩ : Shape).Idx → EReal) (g : (⟨1, ![1024]⟩ : Shape).Idx → EReal)
  (W : (⟨2, ![1024, 5632]⟩ : Shape).Idx → EReal) (D : (⟨2, ![2816, 1024]⟩ : Shape).Idx → EReal)
  (cw : (⟨2, ![3, 2816]⟩ : Shape).Idx → EReal) (cb : (⟨1, ![2816]⟩ : Shape).Idx → EReal)

/-- The normed row `s` of sequence `b` at lane `k`. -/
def normed (b : Fin 16) (s : Fin 2048) (k : Fin 1024) : EReal :=
  X (ix3 b s k) * Ideal.rsqrt (Ideal.div (∑ l, X (ix3 b s l) * X (ix3 b s l)) (Ideal.ofBits FTy.f32 1149239296#32)
    + Ideal.ofBits FTy.f32 897988541#32) * g (ix1 k)

/-- Its product with the first weights. -/
def up (b : Fin 16) (s : Fin 2048) (j : Fin 5632) : EReal := ∑ k, normed X g b s k * W (ix2 k j)

/-- The gate two rows before row `n`: nought before the sequence. -/
def past (b : Fin 16) (n : ℕ) (f : Fin 2816) : EReal :=
  if h : 2 ≤ n ∧ n < 2050 then up X g W b ⟨n - 2, by omega⟩ ⟨f.val, by omega⟩ else 0

/-- The convolved gate of three rows of it. -/
abbrev conv3 (cw0 cw1 cw2 cb p0 p1 p2 : EReal) : EReal := cb + cw0 * p0 + cw1 * p1 + cw2 * p2

/-- The gated value. -/
def act (b : Fin 16) (s : Fin 2048) (f : Fin 2816) : EReal :=
  let z := conv3 (cw (ix2 0 f)) (cw (ix2 1 f)) (cw (ix2 2 f)) (cb (ix1 f)) (past X g W b s.val f) (past X g W b (1 + s.val) f) (past X g W b (2 + s.val) f)
  z * Ideal.logistic z * up X g W b s ⟨2816 + f.val, by omega⟩

/-- The feed-forward's result. -/
def out (b : Fin 16) (s : Fin 2048) (j : Fin 1024) : EReal :=
  X (ix3 b s j) + ∑ f : Fin 2816, act X g W cw cb b s f * D (ix2 f j)

/-- The result normed, as the last layer's call returns it. -/
def outNormed (fw : (⟨1, ![1024]⟩ : Shape).Idx → EReal) (b : Fin 16) (s : Fin 2048) (j : Fin 1024) : EReal :=
  out X g W D cw cb b s j * Ideal.rsqrt (Ideal.div (∑ l, out X g W D cw cb b s l * out X g W D cw cb b s l) (Ideal.ofBits FTy.f32 1149239296#32)
    + Ideal.ofBits FTy.f32 897988541#32) * fw (ix1 j)

/-- The gate's last two rows. -/
def last (b : Fin 16) (i : Fin 2) (f : Fin 2816) : EReal := up X g W b ⟨2046 + i.val, by omega⟩ ⟨f.val, by omega⟩

end Cert.Ffn

end
-- ==== Proof.FfnParts.lean ====
/-
  One point of the feed-forward call's grid, part by part: the normalised rows and the zeroed sum at a tile's first half
  of the width, the gate's columns laid after the rows the tile before left, the three taps, and the half's share of the
  product.
-/
module

public import proofs.«01_k».proof.Proof.Gen.Kernel6Ideal.Frame
public import proofs.«01_k».proof.Proof.Gen.Kernel6Ideal.Skeleton
public import Idealize.ShloMosaic.Lib.VecWindow

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Idealize.ShloMosaic.Pipeline (Dat Cfg Window BodyObligation cellOf)

variable {F : FTy → Type} [FloatOps F]

/-- The logic's resources at this program. -/
local notation "𝕄" => MT nD τ sig Unit (Elt F) ℕ (UR sig nD τ) ℕ

/-- The body normalises its rows and zeroes its sum exactly at the first half of the width. -/
abbrev cond0_0 (i : grid0.Coords) : Prop := (Scalar.cmpi .ne (Scalar.extui (Scalar.cmpi .eq (BitVec.ofNat 32 (i 2).val) 0#32)) 0#32) = 1#1

/-- The kept last rows as the body reads them: zeroed at a sequence's first tile. -/
def tailIn (i : grid0.Coords) (d : Vec F S2x8x1408 .f32) : Vec F S2x8x1408 .f32 :=
  if k0_cond2 i = 1#1 then put d (k0_off2 i) S1x8x1408.size (k0_pay4 (F := F)) else d

/-- The eight rows before the tile's first. -/
def rowOf (i : grid0.Coords) (d : Vec F S2x8x1408 .f32) : Vec F S1x8x1408 .f32 :=
  window (tailIn i d) (k0_off2 i) S1x8x1408.size (k0_off2_inb i)

/-- The gate's rows after the eight rows before them. -/
def bufOf (row : Vec F S1x8x1408 .f32) (hn : Vec F S512x1024 .bf16) (wg : Vec F S1024x1408 .bf16) : Vec F S520x1408 .f32 :=
  put (put (fun _ => Scalar.ofBits .f32 0#32) ![0, 0] S8x1408.size (k0_pay6 row)) ![8, 0] S512x1408.size (k0_pay7 hn wg)

/-- The two pieces cover the buffer, whatever it held. -/
theorem bufOf_eq (row : Vec F S1x8x1408 .f32) (hn : Vec F S512x1024 .bf16) (wg : Vec F S1024x1408 .bf16) (g : Vec F S520x1408 .f32) :
    put (put g ![0, 0] S8x1408.size (k0_pay6 row)) ![8, 0] S512x1408.size (k0_pay7 hn wg) = bufOf row hn wg := by
  funext y
  unfold bufOf
  unfold put
  by_cases h : ∀ a, (![8, 0] : Fin 2 → ℕ) a ≤ (y a).val ∧ (y a).val < (![8, 0] : Fin 2 → ℕ) a + S512x1408.size a
  · rw [dif_pos h, dif_pos h]
  · rw [dif_neg h, dif_neg h]
    have h' : ∀ a, (![0, 0] : Fin 2 → ℕ) a ≤ (y a).val ∧ (y a).val < (![0, 0] : Fin 2 → ℕ) a + S8x1408.size a := by
      have h0 : (y 0).val < 520 := (y 0).isLt
      have h1 : (y 1).val < 1408 := (y 1).isLt
      have hn : (y 0).val < 8 := by
        by_contra hc
        refine h fun a => ?_
        match a with
        | 0 => exact ⟨by show 8 ≤ (y 0).val; omega, by show (y 0).val < 8 + 512; omega⟩
        | 1 => exact ⟨Nat.zero_le _, by show (y 1).val < 0 + 1408; omega⟩
      intro a
      match a with
      | 0 => exact ⟨Nat.zero_le _, by show (y 0).val < 0 + 8; omega⟩
      | 1 => exact ⟨Nat.zero_le _, by show (y 1).val < 0 + 1408; omega⟩
    rw [dif_pos h', dif_pos h']

/-- What the body leaves in the kept last rows. -/
def tailOut (i : grid0.Coords) (d : Vec F S2x8x1408 .f32) (buf : Vec F S520x1408 .f32) : Vec F S2x8x1408 .f32 :=
  put (tailIn i d) (k0_off2 i) S1x8x1408.size (k0_pay10 (window buf ![512, 0] S8x1408.size inb_S520x1408_S8x1408_512_0))

/-- What the body leaves in the sum, of what it finds there. -/
def accOf (buf : Vec F S520x1408 .f32) (hn : Vec F S512x1024 .bf16) (wv : Vec F S1024x1408 .bf16) (cw : Vec F S3x1408 .f32) (cb : Vec F S1x1408 .f32)
    (wd : Vec F S1408x1024 .bf16) (acc : Vec F S512x1024 .f32) : Vec F S512x1024 .f32 :=
  k0_pay12 (k0_pay5 hn wv) cw (k0_pay8 cb) (k0_pay9 cw (window buf ![6, 0] S512x1408.size inb_S520x1408_S512x1408_6_0))
    (window buf ![7, 0] S512x1408.size inb_S520x1408_S512x1408_7_0) (window buf ![8, 0] S512x1408.size inb_S520x1408_S512x1408_8_0) acc wd

/-- What the body leaves in the second result's block. -/
def foOf (buf : Vec F S520x1408 .f32) : Vec F S1x1x2x1408 .f32 :=
  k0_pay11 (window buf ![518, 0] S2x1408.size inb_S520x1408_S2x1408_518_0)

theorem off_eq (i : grid0.Coords) : k0_off1 i = k0_off2 i := by rw [k0_off1_eq, k0_off2_eq]

/-- A covered load of a box reads a window of what the stores leave. -/
theorem readCov_window {κ : Kind} {sp : Space} {s : Shape} {e : EltTy} (v : View sig κ sp s e) (L : List (View.Piece (Elt F) s e))
    {off off' size : Fin s.rank → ℕ} (inb : ∀ a, off a + size a ≤ s.size a) (h : off = off') (inb' : ∀ a, off' a + size a ≤ s.size a) :
    v.readCov L (Rect.unit off size inb).toLoadRect = window (v.read (Elt F) (v.writes (Elt F) v.junk L)) off' size inb' :=
  View.readAt_unit v _ inb h inb'

/-- The buffer after its two stores. -/
theorem read_buf {κ : Kind} {sp : Space} (v : View sig κ sp S520x1408 .f32) (f : v.ty.Contents (Elt F)) (row : Vec F S1x8x1408 .f32) (hn : Vec F S512x1024 .bf16) (wg : Vec F S1024x1408 .bf16) :
    v.read (Elt F) (v.writes (Elt F) f [⟨Rect.unit ![8, 0] S512x1408.size inb_S520x1408_S512x1408_8_0, k0_pay7 hn wg⟩,
      ⟨Rect.unit ![0, 0] S8x1408.size inb_S520x1408_S8x1408_0_0, k0_pay6 row⟩]) = bufOf row hn wg := by
  rw [View.read_writes_cons_put _ _ _ _ _ rfl, View.read_writes_cons_put _ _ _ _ _ rfl]
  exact bufOf_eq _ _ _ _

theorem rowOf_pos (i : grid0.Coords) (d : Vec F S2x8x1408 .f32) (h : k0_cond2 i = 1#1) : rowOf i d = k0_pay4 (F := F) := by
  unfold rowOf tailIn; rw [if_pos h]; exact window_put_same _ _ _ _ _
theorem rowOf_neg (i : grid0.Coords) (d : Vec F S2x8x1408 .f32) (h : ¬ k0_cond2 i = 1#1) :
    rowOf i d = window d (k0_off2 i) S1x8x1408.size (k0_off2_inb i) := by
  unfold rowOf tailIn; rw [if_neg h]

set_option maxHeartbeats 1000000 in
/-- The first part, at a tile's first half of the width. -/
theorem part1A (c : Dev nD) (E : Set ℕ) (i : grid0.Coords) (arg3 : Memref sig .tc .vmem S1x512x1024 .f32) (harg3 : arg3.IsWhole)
    (arg4 : Memref sig .tc .vmem S1x1024 .f32) (harg4 : arg4.IsWhole)
    (arg5 : Memref sig .tc .vmem S1024x1408 .bf16) (harg5 : arg5.IsWhole)
    (arg6 : Memref sig .tc .vmem S1024x1408 .bf16) (harg6 : arg6.IsWhole)
    (arg7 : Memref sig .tc .vmem S1408x1024 .bf16) (harg7 : arg7.IsWhole)
    (arg8 : Memref sig .tc .vmem S3x1408 .f32) (harg8 : arg8.IsWhole)
    (arg9 : Memref sig .tc .vmem S1x1408 .f32) (harg9 : arg9.IsWhole)
    (arg10 : Memref sig .tc .vmem S1x512x1024 .f32) (harg10 : arg10.IsWhole)
    (arg11 : Memref sig .tc .vmem S1x1x2x1408 .f32) (harg11 : arg11.IsWhole)
    (arg12 : Memref sig .tc .vmem S512x1024 .bf16) (harg12 : arg12.IsWhole)
    (arg13 : Memref sig .tc .vmem S512x1024 .f32) (harg13 : arg13.IsWhole)
    (arg14 : Memref sig .tc .vmem S520x1408 .f32) (harg14 : arg14.IsWhole)
    (arg15 : Memref sig .tc .vmem S2x8x1408 .f32) (harg15 : arg15.IsWhole)
    (hc : cond0_0 i) (x0 : Vec F S1x512x1024 .f32) (x1 : Vec F S1x1024 .f32) (x2 x3 : Vec F S1024x1408 .bf16) (x5 : Vec F S3x1408 .f32) (x6 : Vec F S1x1408 .f32) (Y12 : Vec F S512x1024 .bf16) (Y13 : Vec F S512x1024 .f32) (Y14 : Vec F S520x1408 .f32) (Y15 : Vec F S2x8x1408 .f32)
    (Q : (Σ' (arg2 : BitVec 32) (v12 : FVec F S512x1408 .f32) (v22 : Vec F S3x1408 .f32) (v24 : FVec F S1x1408 .f32), FVec F S512x1408 .f32) → sProp 𝕄) :
    (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare x5 ∗ owns (c : Thread nD τ) arg9 fullShare x6 ∗ owns (c : Thread nD τ) arg12 fullShare Y12 ∗ owns (c : Thread nD τ) arg13 fullShare Y13 ∗ owns (c : Thread nD τ) arg14 fullShare Y14 ∗ owns (c : Thread nD τ) arg15 fullShare Y15
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare x5 ∗ owns (c : Thread nD τ) arg9 fullShare x6 ∗ owns (c : Thread nD τ) arg12 fullShare (k0_pay2 x0 x1) ∗ owns (c : Thread nD τ) arg13 fullShare (k0_pay3 (F := F)) ∗ owns (c : Thread nD τ) arg14 fullShare (bufOf (rowOf i Y15) (k0_pay2 x0 x1) x2) ∗ owns (c : Thread nD τ) arg15 fullShare (tailIn i Y15)) -∗ Q ⟨BitVec.ofNat 32 (i 2).val, k0_pay5 (k0_pay2 x0 x1) x3, x5, k0_pay8 x6, k0_pay9 x5 (window (bufOf (rowOf i Y15) (k0_pay2 x0 x1) x2) ![6, 0] S512x1408.size inb_S520x1408_S512x1408_6_0)⟩)) : sProp 𝕄)
      ⊢ wp frame (wpE (defs₀ (F := F)) Variants.none c none) E (k0_part1 i arg3 harg3 arg4 harg4 arg5 harg5 arg6 harg6 arg7 harg7 arg8 harg8 arg9 harg9 arg10 harg10 arg11 harg11 arg12 harg12 arg13 harg13 arg14 harg14 arg15 harg15) Q := by
  rw [k0_part1_eq_skeleton]
  unfold k0_part1_skel
  by_cases h2 : k0_cond2 i = 1#1
  · unfold owns
    iintro ⟨⟨%f3, %h3, H3⟩, ⟨%f4, %h4, H4⟩, ⟨%f5, %h5, H5⟩, ⟨%f6, %h6, H6⟩, ⟨%f8, %h8, H8⟩, ⟨%f9, %h9, H9⟩, ⟨%f12, %h12, H12⟩, ⟨%f13, %h13, H13⟩, ⟨%f14, %h14, H14⟩, ⟨%f15, %h15, H15⟩, HQ⟩
    sl_exec (disch := first | sl_exact hc | sl_exact h2)
    sl_step
    have e14 : part1A.sl.v14 c i arg15 h2 = rowOf i Y15 := by
      rw [rowOf_pos i Y15 h2]
      unfold part1A.sl.v14 part1A.sl.H15_1
      rw [readCov_window _ _ _ rfl (k0_off2_inb i), View.read_writes_cons_put _ _ _ _ _ (off_eq i)]
      exact window_put_same _ _ _ _ _
    have e6 : part1A.sl.v6 c arg3 arg4 arg12 f3 f4 = k0_pay2 x0 x1 := by
      unfold part1A.sl.v6 part1A.sl.H12_1
      rw [View.readCov_full, View.readAt_full, View.readAt_full, h3, h4]
    have e14b : ∀ f, View.read (Elt F) arg14.view (arg14.view.writes (Elt F) f (part1A.sl.H14_2 c i arg3 arg4 arg5 arg12 arg15 h2 f3 f4 f5 )) = bufOf (rowOf i Y15) (k0_pay2 x0 x1) x2 := by
      intro f
      unfold part1A.sl.H14_2
      rw [e6, View.readAt_full _ f5, h5, e14]
      exact read_buf _ _ _ _ _
    have e26 : part1A.sl.v26 c i arg3 arg4 arg5 arg12 arg14 arg15 h2 f3 f4 f5  = window (bufOf (rowOf i Y15) (k0_pay2 x0 x1) x2) ![6, 0] S512x1408.size inb_S520x1408_S512x1408_6_0 := by
      unfold part1A.sl.v26
      rw [readCov_window _ _ _ rfl inb_S520x1408_S512x1408_6_0, e14b]
    rw [e26, e6, View.readAt_full _ f6, View.readAt_full _ f8, View.readAt_full _ f9, h6, h8, h9]
    iapply HQ
    isplitl [H3]
    · iexists _; isplitr; · ipureintro; exact h3
      iexact H3
    isplitl [H4]
    · iexists _; isplitr; · ipureintro; exact h4
      iexact H4
    isplitl [H5]
    · iexists _; isplitr; · ipureintro; exact h5
      iexact H5
    isplitl [H6]
    · iexists _; isplitr; · ipureintro; exact h6
      iexact H6
    isplitl [H8]
    · iexists _; isplitr; · ipureintro; exact h8
      iexact H8
    isplitl [H9]
    · iexists _; isplitr; · ipureintro; exact h9
      iexact H9
    isplitl [H12]
    · iexists _; isplitr
      rotate_left
      · iexact H12
      · ipureintro
        unfold part1A.sl.H12_1
        rw [View.readAt_full, View.readAt_full, h3, h4]
        exact View.read_writes_full _ _ _ _ _
    isplitl [H13]
    · iexists _; isplitr
      rotate_left
      · iexact H13
      · ipureintro
        exact View.read_writes_full _ _ _ _ _
    isplitl [H14]
    · iexists _; isplitr
      rotate_left
      · iexact H14
      · ipureintro
        exact e14b _
    iexists _; isplitr
    rotate_left
    · iexact H15
    · ipureintro
      unfold part1A.sl.H15_1
      refine (View.read_writes_cons_put _ _ _ _ _ (off_eq i)).trans ?_
      rw [View.writes_nil, h15]; unfold tailIn; rw [if_pos h2]
  · unfold owns
    iintro ⟨⟨%f3, %h3, H3⟩, ⟨%f4, %h4, H4⟩, ⟨%f5, %h5, H5⟩, ⟨%f6, %h6, H6⟩, ⟨%f8, %h8, H8⟩, ⟨%f9, %h9, H9⟩, ⟨%f12, %h12, H12⟩, ⟨%f13, %h13, H13⟩, ⟨%f14, %h14, H14⟩, ⟨%f15, %h15, H15⟩, HQ⟩
    sl_exec (disch := first | sl_exact hc | sl_exact h2)
    sl_step
    have e14 : View.readAt (Elt F) arg15.view (Rect.unit (s := S2x8x1408) (k0_off2 i) S1x8x1408.size (k0_off2_inb i)).toLoadRect f15 = rowOf i Y15 := by
      rw [rowOf_neg i Y15 h2, View.readAt_unit _ _ _ rfl (k0_off2_inb i), h15]
    have e6 : part1A.sl.v6_1 c arg3 arg4 arg12 f3 f4 = k0_pay2 x0 x1 := by
      unfold part1A.sl.v6_1 part1A.sl.H12_1_1
      rw [View.readCov_full, View.readAt_full, View.readAt_full, h3, h4]
    have e14b : ∀ f, View.read (Elt F) arg14.view (arg14.view.writes (Elt F) f (part1A.sl.H14_2_1 c i arg3 arg4 arg5 arg12 arg15 f3 f4 f5 f15)) = bufOf (rowOf i Y15) (k0_pay2 x0 x1) x2 := by
      intro f
      unfold part1A.sl.H14_2_1
      rw [e6, View.readAt_full _ f5, h5, e14]
      exact read_buf _ _ _ _ _
    have e26 : part1A.sl.v26_1 c i arg3 arg4 arg5 arg12 arg14 arg15 f3 f4 f5 f15 = window (bufOf (rowOf i Y15) (k0_pay2 x0 x1) x2) ![6, 0] S512x1408.size inb_S520x1408_S512x1408_6_0 := by
      unfold part1A.sl.v26_1
      rw [readCov_window _ _ _ rfl inb_S520x1408_S512x1408_6_0, e14b]
    rw [e26, e6, View.readAt_full _ f6, View.readAt_full _ f8, View.readAt_full _ f9, h6, h8, h9]
    iapply HQ
    isplitl [H3]
    · iexists _; isplitr; · ipureintro; exact h3
      iexact H3
    isplitl [H4]
    · iexists _; isplitr; · ipureintro; exact h4
      iexact H4
    isplitl [H5]
    · iexists _; isplitr; · ipureintro; exact h5
      iexact H5
    isplitl [H6]
    · iexists _; isplitr; · ipureintro; exact h6
      iexact H6
    isplitl [H8]
    · iexists _; isplitr; · ipureintro; exact h8
      iexact H8
    isplitl [H9]
    · iexists _; isplitr; · ipureintro; exact h9
      iexact H9
    isplitl [H12]
    · iexists _; isplitr
      rotate_left
      · iexact H12
      · ipureintro
        unfold part1A.sl.H12_1_1
        rw [View.readAt_full, View.readAt_full, h3, h4]
        exact View.read_writes_full _ _ _ _ _
    isplitl [H13]
    · iexists _; isplitr
      rotate_left
      · iexact H13
      · ipureintro
        exact View.read_writes_full _ _ _ _ _
    isplitl [H14]
    · iexists _; isplitr
      rotate_left
      · iexact H14
      · ipureintro
        exact e14b _
    iexists _; isplitr
    rotate_left
    · iexact H15
    · ipureintro
      rw [h15]; unfold tailIn; rw [if_neg h2]

set_option maxHeartbeats 1000000 in
/-- The first part, at its second half. -/
theorem part1B (c : Dev nD) (E : Set ℕ) (i : grid0.Coords) (arg3 : Memref sig .tc .vmem S1x512x1024 .f32) (harg3 : arg3.IsWhole)
    (arg4 : Memref sig .tc .vmem S1x1024 .f32) (harg4 : arg4.IsWhole)
    (arg5 : Memref sig .tc .vmem S1024x1408 .bf16) (harg5 : arg5.IsWhole)
    (arg6 : Memref sig .tc .vmem S1024x1408 .bf16) (harg6 : arg6.IsWhole)
    (arg7 : Memref sig .tc .vmem S1408x1024 .bf16) (harg7 : arg7.IsWhole)
    (arg8 : Memref sig .tc .vmem S3x1408 .f32) (harg8 : arg8.IsWhole)
    (arg9 : Memref sig .tc .vmem S1x1408 .f32) (harg9 : arg9.IsWhole)
    (arg10 : Memref sig .tc .vmem S1x512x1024 .f32) (harg10 : arg10.IsWhole)
    (arg11 : Memref sig .tc .vmem S1x1x2x1408 .f32) (harg11 : arg11.IsWhole)
    (arg12 : Memref sig .tc .vmem S512x1024 .bf16) (harg12 : arg12.IsWhole)
    (arg13 : Memref sig .tc .vmem S512x1024 .f32) (harg13 : arg13.IsWhole)
    (arg14 : Memref sig .tc .vmem S520x1408 .f32) (harg14 : arg14.IsWhole)
    (arg15 : Memref sig .tc .vmem S2x8x1408 .f32) (harg15 : arg15.IsWhole)
    (hc : ¬ cond0_0 i) (x2 x3 : Vec F S1024x1408 .bf16) (x5 : Vec F S3x1408 .f32) (x6 : Vec F S1x1408 .f32) (Y12 : Vec F S512x1024 .bf16) (Y14 : Vec F S520x1408 .f32) (Y15 : Vec F S2x8x1408 .f32)
    (Q : (Σ' (arg2 : BitVec 32) (v12 : FVec F S512x1408 .f32) (v22 : Vec F S3x1408 .f32) (v24 : FVec F S1x1408 .f32), FVec F S512x1408 .f32) → sProp 𝕄) :
    (iprop(owns (c : Thread nD τ) arg5 fullShare x2 ∗ owns (c : Thread nD τ) arg6 fullShare x3 ∗ owns (c : Thread nD τ) arg8 fullShare x5 ∗ owns (c : Thread nD τ) arg9 fullShare x6 ∗ owns (c : Thread nD τ) arg12 fullShare Y12 ∗ owns (c : Thread nD τ) arg14 fullShare Y14 ∗ owns (c : Thread nD τ) arg15 fullShare Y15
      ∗ (iprop(owns (c : Thread nD τ) arg5 fullShare x2 ∗ owns (c : Thread nD τ) arg6 fullShare x3 ∗ owns (c : Thread nD τ) arg8 fullShare x5 ∗ owns (c : Thread nD τ) arg9 fullShare x6 ∗ owns (c : Thread nD τ) arg12 fullShare Y12 ∗ owns (c : Thread nD τ) arg14 fullShare (bufOf (rowOf i Y15) Y12 x2) ∗ owns (c : Thread nD τ) arg15 fullShare (tailIn i Y15)) -∗ Q ⟨BitVec.ofNat 32 (i 2).val, k0_pay5 Y12 x3, x5, k0_pay8 x6, k0_pay9 x5 (window (bufOf (rowOf i Y15) Y12 x2) ![6, 0] S512x1408.size inb_S520x1408_S512x1408_6_0)⟩)) : sProp 𝕄)
      ⊢ wp frame (wpE (defs₀ (F := F)) Variants.none c none) E (k0_part1 i arg3 harg3 arg4 harg4 arg5 harg5 arg6 harg6 arg7 harg7 arg8 harg8 arg9 harg9 arg10 harg10 arg11 harg11 arg12 harg12 arg13 harg13 arg14 harg14 arg15 harg15) Q := by
  rw [k0_part1_eq_skeleton]
  unfold k0_part1_skel
  by_cases h2 : k0_cond2 i = 1#1
  · unfold owns
    iintro ⟨⟨%f5, %h5, H5⟩, ⟨%f6, %h6, H6⟩, ⟨%f8, %h8, H8⟩, ⟨%f9, %h9, H9⟩, ⟨%f12, %h12, H12⟩, ⟨%f14, %h14, H14⟩, ⟨%f15, %h15, H15⟩, HQ⟩
    sl_exec (disch := first | sl_exact hc | sl_exact h2)
    sl_step
    have e14 : part1B.sl.v14 c i arg15 h2 = rowOf i Y15 := by
      rw [rowOf_pos i Y15 h2]
      unfold part1B.sl.v14 part1B.sl.H15_1
      rw [readCov_window _ _ _ rfl (k0_off2_inb i), View.read_writes_cons_put _ _ _ _ _ (off_eq i)]
      exact window_put_same _ _ _ _ _
    have e14b : ∀ f, View.read (Elt F) arg14.view (arg14.view.writes (Elt F) f (part1B.sl.H14_2 c i arg5 arg12 arg15 h2 f5 f12 )) = bufOf (rowOf i Y15) Y12 x2 := by
      intro f
      unfold part1B.sl.H14_2
      rw [View.readAt_full _ f12, h12, View.readAt_full _ f5, h5, e14]
      exact read_buf _ _ _ _ _
    have e26 : part1B.sl.v26 c i arg5 arg12 arg14 arg15 h2 f5 f12  = window (bufOf (rowOf i Y15) Y12 x2) ![6, 0] S512x1408.size inb_S520x1408_S512x1408_6_0 := by
      unfold part1B.sl.v26
      rw [readCov_window _ _ _ rfl inb_S520x1408_S512x1408_6_0, e14b]
    rw [e26, View.readAt_full _ f12, h12, View.readAt_full _ f6, View.readAt_full _ f8, View.readAt_full _ f9, h6, h8, h9]
    iapply HQ
    isplitl [H5]
    · iexists _; isplitr; · ipureintro; exact h5
      iexact H5
    isplitl [H6]
    · iexists _; isplitr; · ipureintro; exact h6
      iexact H6
    isplitl [H8]
    · iexists _; isplitr; · ipureintro; exact h8
      iexact H8
    isplitl [H9]
    · iexists _; isplitr; · ipureintro; exact h9
      iexact H9
    isplitl [H12]
    · iexists _; isplitr; · ipureintro; exact h12
      iexact H12
    isplitl [H14]
    · iexists _; isplitr
      rotate_left
      · iexact H14
      · ipureintro
        exact e14b _
    iexists _; isplitr
    rotate_left
    · iexact H15
    · ipureintro
      unfold part1B.sl.H15_1
      refine (View.read_writes_cons_put _ _ _ _ _ (off_eq i)).trans ?_
      rw [View.writes_nil, h15]; unfold tailIn; rw [if_pos h2]
  · unfold owns
    iintro ⟨⟨%f5, %h5, H5⟩, ⟨%f6, %h6, H6⟩, ⟨%f8, %h8, H8⟩, ⟨%f9, %h9, H9⟩, ⟨%f12, %h12, H12⟩, ⟨%f14, %h14, H14⟩, ⟨%f15, %h15, H15⟩, HQ⟩
    sl_exec (disch := first | sl_exact hc | sl_exact h2)
    sl_step
    have e14 : View.readAt (Elt F) arg15.view (Rect.unit (s := S2x8x1408) (k0_off2 i) S1x8x1408.size (k0_off2_inb i)).toLoadRect f15 = rowOf i Y15 := by
      rw [rowOf_neg i Y15 h2, View.readAt_unit _ _ _ rfl (k0_off2_inb i), h15]
    have e14b : ∀ f, View.read (Elt F) arg14.view (arg14.view.writes (Elt F) f (part1B.sl.H14_2_1 c i arg5 arg12 arg15 f5 f12 f15)) = bufOf (rowOf i Y15) Y12 x2 := by
      intro f
      unfold part1B.sl.H14_2_1
      rw [View.readAt_full _ f12, h12, View.readAt_full _ f5, h5, e14]
      exact read_buf _ _ _ _ _
    have e26 : part1B.sl.v26_1 c i arg5 arg12 arg14 arg15 f5 f12 f15 = window (bufOf (rowOf i Y15) Y12 x2) ![6, 0] S512x1408.size inb_S520x1408_S512x1408_6_0 := by
      unfold part1B.sl.v26_1
      rw [readCov_window _ _ _ rfl inb_S520x1408_S512x1408_6_0, e14b]
    rw [e26, View.readAt_full _ f12, h12, View.readAt_full _ f6, View.readAt_full _ f8, View.readAt_full _ f9, h6, h8, h9]
    iapply HQ
    isplitl [H5]
    · iexists _; isplitr; · ipureintro; exact h5
      iexact H5
    isplitl [H6]
    · iexists _; isplitr; · ipureintro; exact h6
      iexact H6
    isplitl [H8]
    · iexists _; isplitr; · ipureintro; exact h8
      iexact H8
    isplitl [H9]
    · iexists _; isplitr; · ipureintro; exact h9
      iexact H9
    isplitl [H12]
    · iexists _; isplitr; · ipureintro; exact h12
      iexact H12
    isplitl [H14]
    · iexists _; isplitr
      rotate_left
      · iexact H14
      · ipureintro
        exact e14b _
    iexists _; isplitr
    rotate_left
    · iexact H15
    · ipureintro
      rw [h15]; unfold tailIn; rw [if_neg h2]

set_option maxHeartbeats 1000000 in
/-- The second part: the other taps, the rows kept for the next tile, the second result, and the sum. -/
theorem part2 (c : Dev nD) (E : Set ℕ) (i : grid0.Coords) (arg3 : Memref sig .tc .vmem S1x512x1024 .f32) (harg3 : arg3.IsWhole)
    (arg4 : Memref sig .tc .vmem S1x1024 .f32) (harg4 : arg4.IsWhole)
    (arg5 : Memref sig .tc .vmem S1024x1408 .bf16) (harg5 : arg5.IsWhole)
    (arg6 : Memref sig .tc .vmem S1024x1408 .bf16) (harg6 : arg6.IsWhole)
    (arg7 : Memref sig .tc .vmem S1408x1024 .bf16) (harg7 : arg7.IsWhole)
    (arg8 : Memref sig .tc .vmem S3x1408 .f32) (harg8 : arg8.IsWhole)
    (arg9 : Memref sig .tc .vmem S1x1408 .f32) (harg9 : arg9.IsWhole)
    (arg10 : Memref sig .tc .vmem S1x512x1024 .f32) (harg10 : arg10.IsWhole)
    (arg11 : Memref sig .tc .vmem S1x1x2x1408 .f32) (harg11 : arg11.IsWhole)
    (arg12 : Memref sig .tc .vmem S512x1024 .bf16) (harg12 : arg12.IsWhole)
    (arg13 : Memref sig .tc .vmem S512x1024 .f32) (harg13 : arg13.IsWhole)
    (arg14 : Memref sig .tc .vmem S520x1408 .f32) (harg14 : arg14.IsWhole)
    (arg15 : Memref sig .tc .vmem S2x8x1408 .f32) (harg15 : arg15.IsWhole)
    (arg2 : BitVec 32) (v12 : FVec F S512x1408 .f32) (v22 : Vec F S3x1408 .f32) (v24 : FVec F S1x1408 .f32) (v28 : FVec F S512x1408 .f32)
    (x4 : Vec F S1408x1024 .bf16) (Y11 : Vec F S1x1x2x1408 .f32) (Y13 : Vec F S512x1024 .f32) (Y14 : Vec F S520x1408 .f32) (Y15 : Vec F S2x8x1408 .f32)
    (Q : BitVec 32 → sProp 𝕄) :
    (iprop(owns (c : Thread nD τ) arg7 fullShare x4 ∗ owns (c : Thread nD τ) arg11 fullShare Y11 ∗ owns (c : Thread nD τ) arg13 fullShare Y13 ∗ owns (c : Thread nD τ) arg14 fullShare Y14 ∗ owns (c : Thread nD τ) arg15 fullShare Y15
      ∗ (iprop(owns (c : Thread nD τ) arg7 fullShare x4 ∗ owns (c : Thread nD τ) arg11 fullShare (foOf Y14) ∗ owns (c : Thread nD τ) arg13 fullShare (k0_pay12 v12 v22 v24 v28 (window Y14 ![7, 0] S512x1408.size inb_S520x1408_S512x1408_7_0) (window Y14 ![8, 0] S512x1408.size inb_S520x1408_S512x1408_8_0) Y13 x4) ∗ owns (c : Thread nD τ) arg14 fullShare Y14 ∗ owns (c : Thread nD τ) arg15 fullShare (put Y15 (k0_off2 i) S1x8x1408.size (k0_pay10 (window Y14 ![512, 0] S8x1408.size inb_S520x1408_S8x1408_512_0)))) -∗ Q (Scalar.extui (Scalar.cmpi .eq arg2 1#32)))) : sProp 𝕄)
      ⊢ wp frame (wpE (defs₀ (F := F)) Variants.none c none) E (k0_part2 i arg3 harg3 arg4 harg4 arg5 harg5 arg6 harg6 arg7 harg7 arg8 harg8 arg9 harg9 arg10 harg10 arg11 harg11 arg12 harg12 arg13 harg13 arg14 harg14 arg15 harg15 arg2 v12 v22 v24 v28) Q := by
  rw [k0_part2_eq_skeleton]
  unfold k0_part2_skel
  unfold owns
  iintro ⟨⟨%f7, %h7, H7⟩, ⟨%f11, %h11, H11⟩, ⟨%f13, %h13, H13⟩, ⟨%f14, %h14, H14⟩, ⟨%f15, %h15, H15⟩, HQ⟩
  sl_exec
  sl_step
  rw [show part2.sl.v63 arg2 = Scalar.extui (Scalar.cmpi .eq arg2 1#32) from rfl]
  iapply HQ
  isplitl [H7]
  · iexists _; isplitr; · ipureintro; exact h7
    iexact H7
  isplitl [H11]
  · iexists _; isplitr
    rotate_left
    · iexact H11
    · ipureintro
      refine (View.read_writes_full _ _ _ _ _).trans ?_
      rw [View.readAt_unit _ _ _ rfl inb_S520x1408_S2x1408_518_0, h14]; rfl
  isplitl [H13]
  · iexists _; isplitr
    rotate_left
    · iexact H13
    · ipureintro
      refine (View.read_writes_full _ _ _ _ _).trans ?_
      rw [View.readAt_unit _ _ _ rfl inb_S520x1408_S512x1408_7_0, View.readAt_unit _ _ _ rfl inb_S520x1408_S512x1408_8_0, View.readAt_full _ f13, View.readAt_full _ f7, h14, h13, h7]
  isplitl [H14]
  · iexists _; isplitr; · ipureintro; exact h14
    iexact H14
  iexists _; isplitr
  rotate_left
  · iexact H15
  · ipureintro
    refine (View.read_writes_cons_put _ _ _ _ _ rfl).trans ?_
    rw [View.writes_nil, h15, View.readAt_unit _ _ _ rfl inb_S520x1408_S8x1408_512_0, h14]

end Cert.Kernel6Ideal.Gen

end
-- ==== Proof.FfnBody.lean ====
/-
  One point of the feed-forward call's grid, whole: at a tile's first half of the width, and at its second, where the
  sum is added to the rows and stored.
-/
module

public import proofs.«01_k».proof.Proof.FfnParts

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Idealize.ShloMosaic.Pipeline (Dat Cfg Window BodyObligation cellOf)

variable {F : FTy → Type} [FloatOps F]

/-- The logic's resources at this program. -/
local notation "𝕄" => MT nD τ sig Unit (Elt F) ℕ (UR sig nD τ) ℕ

set_option maxHeartbeats 1000000 in
/-- The body at a tile's first half of the width. -/
theorem bodyA (c : Dev nD) (E : Set ℕ) (i : grid0.Coords) (arg3 : Memref sig .tc .vmem S1x512x1024 .f32) (harg3 : arg3.IsWhole)
    (arg4 : Memref sig .tc .vmem S1x1024 .f32) (harg4 : arg4.IsWhole)
    (arg5 : Memref sig .tc .vmem S1024x1408 .bf16) (harg5 : arg5.IsWhole)
    (arg6 : Memref sig .tc .vmem S1024x1408 .bf16) (harg6 : arg6.IsWhole)
    (arg7 : Memref sig .tc .vmem S1408x1024 .bf16) (harg7 : arg7.IsWhole)
    (arg8 : Memref sig .tc .vmem S3x1408 .f32) (harg8 : arg8.IsWhole)
    (arg9 : Memref sig .tc .vmem S1x1408 .f32) (harg9 : arg9.IsWhole)
    (arg10 : Memref sig .tc .vmem S1x512x1024 .f32) (harg10 : arg10.IsWhole)
    (arg11 : Memref sig .tc .vmem S1x1x2x1408 .f32) (harg11 : arg11.IsWhole)
    (arg12 : Memref sig .tc .vmem S512x1024 .bf16) (harg12 : arg12.IsWhole)
    (arg13 : Memref sig .tc .vmem S512x1024 .f32) (harg13 : arg13.IsWhole)
    (arg14 : Memref sig .tc .vmem S520x1408 .f32) (harg14 : arg14.IsWhole)
    (arg15 : Memref sig .tc .vmem S2x8x1408 .f32) (harg15 : arg15.IsWhole)
    (hc : cond0_0 i) (h3 : ¬ k0_cond3 i = 1#1)
    (x0 : Vec F S1x512x1024 .f32) (x1 : Vec F S1x1024 .f32) (x2 x3 : Vec F S1024x1408 .bf16) (x4 : Vec F S1408x1024 .bf16) (x5 : Vec F S3x1408 .f32) (x6 : Vec F S1x1408 .f32)
    (Y11 : Vec F S1x1x2x1408 .f32) (Y12 : Vec F S512x1024 .bf16) (Y13 : Vec F S512x1024 .f32) (Y14 : Vec F S520x1408 .f32) (Y15 : Vec F S2x8x1408 .f32)
    (Q : PUnit → sProp 𝕄) :
    (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg11 fullShare Y11 ∗ owns (c : Thread nD τ) arg12 fullShare Y12 ∗ owns (c : Thread nD τ) arg13 fullShare Y13 ∗ owns (c : Thread nD τ) arg14 fullShare Y14 ∗ owns (c : Thread nD τ) arg15 fullShare Y15
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg11 fullShare (foOf (bufOf (rowOf i Y15) (k0_pay2 x0 x1) x2)) ∗ owns (c : Thread nD τ) arg12 fullShare (k0_pay2 x0 x1) ∗ owns (c : Thread nD τ) arg13 fullShare (accOf (bufOf (rowOf i Y15) (k0_pay2 x0 x1) x2) (k0_pay2 x0 x1) x3 x5 x6 x4 (k0_pay3 (F := F))) ∗ owns (c : Thread nD τ) arg14 fullShare (bufOf (rowOf i Y15) (k0_pay2 x0 x1) x2) ∗ owns (c : Thread nD τ) arg15 fullShare (tailOut i Y15 (bufOf (rowOf i Y15) (k0_pay2 x0 x1) x2))) -∗ Q ⟨⟩)) : sProp 𝕄)
      ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13 arg14 harg14 arg15 harg15) Q := by
  rw [cc0_ffn_eq_skeleton]
  unfold cc0_ffn_skel
  iintro ⟨H3, H4, H5, H6, H7, H8, H9, H11, H12, H13, H14, H15, HQ⟩
  rw [wp_bind]
  iapply (part1A c E i arg3 harg3 arg4 harg4 arg5 harg5 arg6 harg6 arg7 harg7 arg8 harg8 arg9 harg9 arg10 harg10 arg11 harg11 arg12 harg12 arg13 harg13 arg14 harg14 arg15 harg15 hc x0 x1 x2 x3 x5 x6 Y12 Y13 Y14 Y15)
  isplitl [H3]; · iexact H3
  isplitl [H4]; · iexact H4
  isplitl [H5]; · iexact H5
  isplitl [H6]; · iexact H6
  isplitl [H8]; · iexact H8
  isplitl [H9]; · iexact H9
  isplitl [H12]; · iexact H12
  isplitl [H13]; · iexact H13
  isplitl [H14]; · iexact H14
  isplitl [H15]; · iexact H15
  iintro ⟨H3, H4, H5, H6, H8, H9, H12, H13, H14, H15⟩
  rw [wp_bind]
  iapply (part2 c E i arg3 harg3 arg4 harg4 arg5 harg5 arg6 harg6 arg7 harg7 arg8 harg8 arg9 harg9 arg10 harg10 arg11 harg11 arg12 harg12 arg13 harg13 arg14 harg14 arg15 harg15 _ _ _ _ _ x4 Y11 (k0_pay3 (F := F)) (bufOf (rowOf i Y15) (k0_pay2 x0 x1) x2) (tailIn i Y15))
  isplitl [H7]; · iexact H7
  isplitl [H11]; · iexact H11
  isplitl [H13]; · iexact H13
  isplitl [H14]; · iexact H14
  isplitl [H15]; · iexact H15
  iintro ⟨H7, H11, H13, H14, H15⟩
  sl_exec (disch := first | sl_exact h3)
  sl_step
  iapply HQ
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H13]; · iexact H13
  isplitl [H14]; · iexact H14
  iexact H15

set_option maxHeartbeats 1000000 in
/-- The body at a tile's second half of the width: the output is stored. -/
theorem bodyB (c : Dev nD) (E : Set ℕ) (i : grid0.Coords) (arg3 : Memref sig .tc .vmem S1x512x1024 .f32) (harg3 : arg3.IsWhole)
    (arg4 : Memref sig .tc .vmem S1x1024 .f32) (harg4 : arg4.IsWhole)
    (arg5 : Memref sig .tc .vmem S1024x1408 .bf16) (harg5 : arg5.IsWhole)
    (arg6 : Memref sig .tc .vmem S1024x1408 .bf16) (harg6 : arg6.IsWhole)
    (arg7 : Memref sig .tc .vmem S1408x1024 .bf16) (harg7 : arg7.IsWhole)
    (arg8 : Memref sig .tc .vmem S3x1408 .f32) (harg8 : arg8.IsWhole)
    (arg9 : Memref sig .tc .vmem S1x1408 .f32) (harg9 : arg9.IsWhole)
    (arg10 : Memref sig .tc .vmem S1x512x1024 .f32) (harg10 : arg10.IsWhole)
    (arg11 : Memref sig .tc .vmem S1x1x2x1408 .f32) (harg11 : arg11.IsWhole)
    (arg12 : Memref sig .tc .vmem S512x1024 .bf16) (harg12 : arg12.IsWhole)
    (arg13 : Memref sig .tc .vmem S512x1024 .f32) (harg13 : arg13.IsWhole)
    (arg14 : Memref sig .tc .vmem S520x1408 .f32) (harg14 : arg14.IsWhole)
    (arg15 : Memref sig .tc .vmem S2x8x1408 .f32) (harg15 : arg15.IsWhole)
    (hc : ¬ cond0_0 i) (h3 : k0_cond3 i = 1#1)
    (x0 : Vec F S1x512x1024 .f32) (x2 x3 : Vec F S1024x1408 .bf16) (x4 : Vec F S1408x1024 .bf16) (x5 : Vec F S3x1408 .f32) (x6 : Vec F S1x1408 .f32)
    (Y10 : Vec F S1x512x1024 .f32) (Y11 : Vec F S1x1x2x1408 .f32) (Y12 : Vec F S512x1024 .bf16) (Y13 : Vec F S512x1024 .f32) (Y14 : Vec F S520x1408 .f32) (Y15 : Vec F S2x8x1408 .f32)
    (Q : PUnit → sProp 𝕄) :
    (iprop(owns (c : Thread nD τ) arg3 fullShare x0 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare Y10 ∗ owns (c : Thread nD τ) arg11 fullShare Y11 ∗ owns (c : Thread nD τ) arg12 fullShare Y12 ∗ owns (c : Thread nD τ) arg13 fullShare Y13 ∗ owns (c : Thread nD τ) arg14 fullShare Y14 ∗ owns (c : Thread nD τ) arg15 fullShare Y15
      ∗ (iprop(owns (c : Thread nD τ) arg3 fullShare x0 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (k0_pay1 x0 (accOf (bufOf (rowOf i Y15) Y12 x2) Y12 x3 x5 x6 x4 Y13)) ∗ owns (c : Thread nD τ) arg11 fullShare (foOf (bufOf (rowOf i Y15) Y12 x2)) ∗ owns (c : Thread nD τ) arg12 fullShare Y12 ∗ owns (c : Thread nD τ) arg13 fullShare (accOf (bufOf (rowOf i Y15) Y12 x2) Y12 x3 x5 x6 x4 Y13) ∗ owns (c : Thread nD τ) arg14 fullShare (bufOf (rowOf i Y15) Y12 x2) ∗ owns (c : Thread nD τ) arg15 fullShare (tailOut i Y15 (bufOf (rowOf i Y15) Y12 x2))) -∗ Q ⟨⟩)) : sProp 𝕄)
      ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13 arg14 harg14 arg15 harg15) Q := by
  rw [cc0_ffn_eq_skeleton]
  unfold cc0_ffn_skel
  iintro ⟨H3, H5, H6, H7, H8, H9, H10, H11, H12, H13, H14, H15, HQ⟩
  rw [wp_bind]
  iapply (part1B c E i arg3 harg3 arg4 harg4 arg5 harg5 arg6 harg6 arg7 harg7 arg8 harg8 arg9 harg9 arg10 harg10 arg11 harg11 arg12 harg12 arg13 harg13 arg14 harg14 arg15 harg15 hc x2 x3 x5 x6 Y12 Y14 Y15)
  isplitl [H5]; · iexact H5
  isplitl [H6]; · iexact H6
  isplitl [H8]; · iexact H8
  isplitl [H9]; · iexact H9
  isplitl [H12]; · iexact H12
  isplitl [H14]; · iexact H14
  isplitl [H15]; · iexact H15
  iintro ⟨H5, H6, H8, H9, H12, H14, H15⟩
  rw [wp_bind]
  iapply (part2 c E i arg3 harg3 arg4 harg4 arg5 harg5 arg6 harg6 arg7 harg7 arg8 harg8 arg9 harg9 arg10 harg10 arg11 harg11 arg12 harg12 arg13 harg13 arg14 harg14 arg15 harg15 _ _ _ _ _ x4 Y11 Y13 (bufOf (rowOf i Y15) Y12 x2) (tailIn i Y15))
  isplitl [H7]; · iexact H7
  isplitl [H11]; · iexact H11
  isplitl [H13]; · iexact H13
  isplitl [H14]; · iexact H14
  isplitl [H15]; · iexact H15
  iintro ⟨H7, H11, H13, H14, H15⟩
  unfold owns
  icases H3 with ⟨%f3, %e3, H3⟩
  icases H10 with ⟨%f10, %e10, H10⟩
  icases H13 with ⟨%f13, %e13, H13⟩
  sl_exec (disch := first | sl_exact h3)
  sl_step
  iapply HQ
  isplitl [H3]
  · iexists _; isplitr; · ipureintro; exact e3
    iexact H3
  isplitl [H5]; · iexact H5
  isplitl [H6]; · iexact H6
  isplitl [H7]; · iexact H7
  isplitl [H8]; · iexact H8
  isplitl [H9]; · iexact H9
  isplitl [H10]
  · iexists _; isplitr
    rotate_left
    · iexact H10
    · ipureintro
      refine (View.read_writes_full _ _ _ _ _).trans ?_
      rw [View.readAt_full _ f3, View.readAt_full _ f13, e3, e13]
      rfl
  isplitl [H11]; · iexact H11
  isplitl [H12]; · iexact H12
  isplitl [H13]
  · iexists _; isplitr; · ipureintro; exact e13
    iexact H13
  isplitl [H14]; · iexact H14
  iexact H15

end Cert.Kernel6Ideal.Gen

end
-- ==== Proof.FfnFrame.lean ====
/-
  The feed-forward call, run over its whole grid: what each kept buffer holds before each point, the body at a generic
  point, and the run of @main (every fair execution ends, the arguments unchanged, the results at what the pipeline leaves).
-/
module

public import proofs.«01_k».proof.Proof.FfnBody
public import Idealize.ShloMosaic.Lib.Claim
public import Idealize.ShloMosaic.Lib.Pipeline.ValueKit

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Idealize.ShloMosaic.Pipeline (Dat Cfg Window BodyObligation cellOf)

variable {F : FTy → Type} [FloatOps F]

/-- The logic's resources at this program. -/
local notation "𝕄" => MT nD τ sig Unit (Elt F) ℕ (UR sig nD τ) ℕ

variable (m : (ℓ : Loc nD τ sig) → Buf (Elt F) ℓ) (ρ : Dev nD → PrngReg)

/-- The buffer window 0's block lies in at point `t`. -/
abbrev ms0 (t : Fin cfg0.N) : Memref sig .tc .vmem S1x512x1024 .f32 := win0_0.stage (cfg0.slots t 0)
theorem hs0 (t : Fin cfg0.N) : (ms0 t).IsWhole := hstage0_0 ((cfg0.slots t 0).cast nbuf0_0)
/-- The buffer window 1's block lies in at point `t`. -/
abbrev ms1 (t : Fin cfg0.N) : Memref sig .tc .vmem S1x1024 .f32 := win0_1.stage (cfg0.slots t 1)
theorem hs1 (t : Fin cfg0.N) : (ms1 t).IsWhole := hstage0_1 ((cfg0.slots t 1).cast nbuf0_1)
/-- The buffer window 2's block lies in at point `t`. -/
abbrev ms2 (t : Fin cfg0.N) : Memref sig .tc .vmem S1024x1408 .bf16 := win0_2.stage (cfg0.slots t 2)
theorem hs2 (t : Fin cfg0.N) : (ms2 t).IsWhole := hstage0_2 ((cfg0.slots t 2).cast nbuf0_2)
/-- The buffer window 3's block lies in at point `t`. -/
abbrev ms3 (t : Fin cfg0.N) : Memref sig .tc .vmem S1024x1408 .bf16 := win0_3.stage (cfg0.slots t 3)
theorem hs3 (t : Fin cfg0.N) : (ms3 t).IsWhole := hstage0_3 ((cfg0.slots t 3).cast nbuf0_3)
/-- The buffer window 4's block lies in at point `t`. -/
abbrev ms4 (t : Fin cfg0.N) : Memref sig .tc .vmem S1408x1024 .bf16 := win0_4.stage (cfg0.slots t 4)
theorem hs4 (t : Fin cfg0.N) : (ms4 t).IsWhole := hstage0_4 ((cfg0.slots t 4).cast nbuf0_4)
/-- The buffer window 5's block lies in at point `t`. -/
abbrev ms5 (t : Fin cfg0.N) : Memref sig .tc .vmem S3x1408 .f32 := win0_5.stage (cfg0.slots t 5)
theorem hs5 (t : Fin cfg0.N) : (ms5 t).IsWhole := hstage0_5 ((cfg0.slots t 5).cast nbuf0_5)
/-- The buffer window 6's block lies in at point `t`. -/
abbrev ms6 (t : Fin cfg0.N) : Memref sig .tc .vmem S1x1408 .f32 := win0_6.stage (cfg0.slots t 6)
theorem hs6 (t : Fin cfg0.N) : (ms6 t).IsWhole := hstage0_6 ((cfg0.slots t 6).cast nbuf0_6)
/-- The buffer window 7's block lies in at point `t`. -/
abbrev ms7 (t : Fin cfg0.N) : Memref sig .tc .vmem S1x512x1024 .f32 := win0_7.stage (cfg0.slots t 7)
theorem hs7 (t : Fin cfg0.N) : (ms7 t).IsWhole := hstage0_7 ((cfg0.slots t 7).cast nbuf0_7)
/-- The buffer window 8's block lies in at point `t`. -/
abbrev ms8 (t : Fin cfg0.N) : Memref sig .tc .vmem S1x1x2x1408 .f32 := win0_8.stage (cfg0.slots t 8)
theorem hs8 (t : Fin cfg0.N) : (ms8 t).IsWhole := hstage0_8 ((cfg0.slots t 8).cast nbuf0_8)
/-- Kept buffer 0. -/
abbrev scM0 : Memref sig .tc .vmem S512x1024 .bf16 := Memref.whole cc0_scratch0
/-- Kept buffer 1. -/
abbrev scM1 : Memref sig .tc .vmem S512x1024 .f32 := Memref.whole cc0_scratch1
/-- Kept buffer 2. -/
abbrev scM2 : Memref sig .tc .vmem S520x1408 .f32 := Memref.whole cc0_scratch2
/-- Kept buffer 3. -/
abbrev scM3 : Memref sig .tc .vmem S2x8x1408 .f32 := Memref.whole cc0_scratch3

/-- A tile's first half of the width is at the even points, -/
theorem hcond1 : ∀ t : Fin cfg0.N, cond0_0 (grid0.coords t) ↔ t.val % 2 = 0 :=
  (by decide +kernel : ∀ t : Fin grid0.N, cond0_0 (grid0.coords t) ↔ t.val % 2 = 0)
/-- a sequence's first tile at the first two of each eight, -/
theorem hcond2 : ∀ t : Fin cfg0.N, k0_cond2 (grid0.coords t) = 1#1 ↔ t.val / 2 % 4 = 0 :=
  (by decide +kernel : ∀ t : Fin grid0.N, k0_cond2 (grid0.coords t) = 1#1 ↔ t.val / 2 % 4 = 0)
/-- and a tile's second half at the odd ones. -/
theorem hcond3 : ∀ t : Fin cfg0.N, k0_cond3 (grid0.coords t) = 1#1 ↔ t.val % 2 = 1 :=
  (by decide +kernel : ∀ t : Fin grid0.N, k0_cond3 (grid0.coords t) = 1#1 ↔ t.val % 2 = 1)
/-- The half of the width at a point. -/
theorem hhalf : ∀ t : Fin cfg0.N, (grid0.coords t 2).val = t.val % 2 :=
  (by decide +kernel : ∀ t : Fin grid0.N, (grid0.coords t 2).val = t.val % 2)

/-- The point before `t` (itself at the first). -/
def prev (t : Fin cfg0.N) : Fin cfg0.N := ⟨t.val - 1, Nat.lt_of_le_of_lt (Nat.sub_le _ _) t.isLt⟩
/-- The same half of the tile before. -/
def prev2 (t : Fin cfg0.N) : Fin cfg0.N := ⟨t.val - 2, Nat.lt_of_le_of_lt (Nat.sub_le _ _) t.isLt⟩

/-- Within a tile the rows' window does not move, -/
theorem index0_prev : ∀ t : Fin cfg0.N, t.val % 2 = 1 → win0_0.index (prev t) = win0_0.index t :=
  (by decide +kernel : ∀ t : Fin grid0.N, t.val % 2 = 1 → win0_0.index (prev t) = win0_0.index t)
/-- nor the gains', ever. -/
theorem index1_prev : ∀ t : Fin cfg0.N, win0_1.index (prev t) = win0_1.index t :=
  (by decide +kernel : ∀ t : Fin grid0.N, win0_1.index (prev t) = win0_1.index t)

theorem iblk0_prev (c : Dev nD) (t : Fin cfg0.N) (h : t.val % 2 = 1) : iblk m c 0 (prev t) = iblk m c 0 t := by
  have e := index0_prev t h
  funext y; unfold iblk; blk_simp [e]
  refine congrArg (V m c main_arg0) (funext fun a => Fin.ext ?_)
  fin_cases a <;> blk_simp [e]
theorem iblk1_prev (c : Dev nD) (t : Fin cfg0.N) : iblk m c 1 (prev t) = iblk m c 1 t := by
  have e := index1_prev t
  funext y; unfold iblk; blk_simp [e]
  refine congrArg (V m c main_v2) (funext fun a => Fin.ext ?_)
  fin_cases a <;> blk_simp [e]

/-- The normalised rows at point `t`. -/
def hnA (c : Dev nD) (t : Fin cfg0.N) : Vec F S512x1024 .bf16 := k0_pay2 (iblk m c 0 t) (iblk m c 1 t)
/-- The last rows point `t` keeps for the next tile. -/
def lastA (c : Dev nD) (t : Fin cfg0.N) : Vec F S1x8x1408 .f32 :=
  k0_pay10 (window (bufOf (k0_pay4 (F := F)) (hnA m c t) (iblk m c 2 t)) ![512, 0] S8x1408.size inb_S520x1408_S8x1408_512_0)
/-- The rows before the tile's first at point `t`: zeroes at a sequence's first tile. -/
def rowA (c : Dev nD) (t : Fin cfg0.N) : Vec F S1x8x1408 .f32 := if t.val / 2 % 4 = 0 then k0_pay4 (F := F) else lastA m c (prev2 t)
/-- The gate's rows at point `t`, after the rows before them. -/
def bufA (c : Dev nD) (t : Fin cfg0.N) : Vec F S520x1408 .f32 := bufOf (rowA m c t) (hnA m c t) (iblk m c 2 t)
/-- The sum point `t` leaves, of what it finds. -/
def accF (c : Dev nD) (t : Fin cfg0.N) (a : Vec F S512x1024 .f32) : Vec F S512x1024 .f32 :=
  accOf (bufA m c t) (hnA m c t) (iblk m c 3 t) (iblk m c 5 t) (iblk m c 6 t) (iblk m c 4 t) a
/-- The sum point `t` leaves. -/
def accA (c : Dev nD) (t : Fin cfg0.N) : Vec F S512x1024 .f32 :=
  if t.val % 2 = 0 then accF m c t (k0_pay3 (F := F)) else accF m c t (accF m c (prev t) (k0_pay3 (F := F)))
/-- What a tile's second half leaves in the output's block. -/
def outA (c : Dev nD) (t : Fin cfg0.N) : Vec F S1x512x1024 .f32 := k0_pay1 (iblk m c 0 t) (accA m c t)
/-- What point `t` leaves in the second result's block. -/
def foA (c : Dev nD) (t : Fin cfg0.N) : Vec F S1x1x2x1408 .f32 := foOf (bufA m c t)

theorem hnA_prev (c : Dev nD) (t : Fin cfg0.N) (h : t.val % 2 = 1) : hnA m c (prev t) = hnA m c t := by
  unfold hnA; rw [iblk0_prev m c t h, iblk1_prev]
theorem accA_even (c : Dev nD) (t : Fin cfg0.N) (h : t.val % 2 = 0) : accA m c t = accF m c t (k0_pay3 (F := F)) := by
  unfold accA; rw [if_pos h]
theorem accA_odd (c : Dev nD) (t : Fin cfg0.N) (h : t.val % 2 = 1) : accA m c t = accF m c t (accA m c (prev t)) := by
  have h' : (prev t).val % 2 = 0 := by simp only [prev]; omega
  rw [accA_even m c (prev t) h']
  unfold accA; rw [if_neg (by omega)]

/-- The last eight rows are the gate's own, whatever stood before the tile. -/
theorem last_row (row row' : Vec F S1x8x1408 .f32) (hn : Vec F S512x1024 .bf16) (wg : Vec F S1024x1408 .bf16) :
    window (bufOf row hn wg) ![512, 0] S8x1408.size inb_S520x1408_S8x1408_512_0
      = window (bufOf row' hn wg) ![512, 0] S8x1408.size inb_S520x1408_S8x1408_512_0 := by
  have h : ∀ a : Fin 2, (![8, 0] : Fin 2 → ℕ) a ≤ (![512, 0] : Fin 2 → ℕ) a
      ∧ (![512, 0] : Fin 2 → ℕ) a + S8x1408.size a ≤ (![8, 0] : Fin 2 → ℕ) a + S512x1408.size a := by decide
  unfold bufOf
  exact (window_put_of_inside (s := S520x1408) _ _ _ _ _ inb_S520x1408_S8x1408_512_0 _ h).trans
    (window_put_of_inside (s := S520x1408) _ _ _ _ _ inb_S520x1408_S8x1408_512_0 _ h).symm

/-- Before point `n` the kept rows of each half are those its last point kept. -/
def TailOK (c : Dev nD) (n : ℕ) (d : Vec F S2x8x1408 .f32) : Prop :=
  ∀ s : Fin cfg0.N, s.val < n → n ≤ s.val + 2 →
    window d (k0_off2 (grid0.coords s)) S1x8x1408.size (k0_off2_inb (grid0.coords s)) = lastA m c s

theorem window_off (d : Vec F S2x8x1408 .f32) (i i' : grid0.Coords) (e : (i 2).val = (i' 2).val) :
    window d (k0_off2 i) S1x8x1408.size (k0_off2_inb i) = window d (k0_off2 i') S1x8x1408.size (k0_off2_inb i') := by
  have e' : k0_off2 i = k0_off2 i' := by rw [k0_off2_eq, k0_off2_eq, e]
  have h := k0_off2_inb i
  have h' := k0_off2_inb i'
  show window (s := S2x8x1408) d (k0_off2 i) S1x8x1408.size h = window (s := S2x8x1408) d (k0_off2 i') S1x8x1408.size h'
  revert h h'
  rw [e']
  intro h h'
  rfl

/-- The rows the body reads before the tile's first. -/
theorem rowOf_eq (c : Dev nD) (t : Fin cfg0.N) (d : Vec F S2x8x1408 .f32) (h : TailOK m c t.val d) : rowOf (grid0.coords t) d = rowA m c t := by
  unfold rowA
  by_cases h2 : t.val / 2 % 4 = 0
  · rw [if_pos h2]; exact rowOf_pos _ _ ((hcond2 t).mpr h2)
  · rw [if_neg h2, rowOf_neg _ _ (fun e => h2 ((hcond2 t).mp e))]
    have e : (grid0.coords t 2).val = (grid0.coords (prev2 t) 2).val := by
      rw [hhalf, hhalf]; simp only [prev2]; omega
    rw [window_off d _ _ e]
    exact h (prev2 t) (by simp only [prev2]; omega) (by simp only [prev2]; omega)

theorem window_other (d : Vec F S2x8x1408 .f32) (i i' : grid0.Coords) (w : Vec F S1x8x1408 .f32) (e : (i 2).val ≠ (i' 2).val) :
    window (put d (k0_off2 i) S1x8x1408.size w) (k0_off2 i') S1x8x1408.size (k0_off2_inb i')
      = window d (k0_off2 i') S1x8x1408.size (k0_off2_inb i') := by
  refine window_put_of_disjoint (s := S2x8x1408) d _ _ _ _ (k0_off2_inb i') w (0 : Fin 3) ?_
  rw [k0_off2_eq, k0_off2_eq]
  show (i' 2).val + 1 ≤ (i 2).val ∨ (i 2).val + 1 ≤ (i' 2).val
  omega

/-- What the body leaves there. -/
theorem tailOut_ok (c : Dev nD) (t : Fin cfg0.N) (d : Vec F S2x8x1408 .f32) (h : TailOK m c t.val d) :
    TailOK m c (t.val + 1) (tailOut (grid0.coords t) d (bufA m c t)) := by
  intro s hs hs'
  by_cases e : s = t
  · subst e
    unfold tailOut lastA bufA
    rw [last_row (k0_pay4 (F := F)) (rowA m c s)]
    exact window_put_same _ _ _ _ _
  · have hv : s.val + 1 = t.val := by
      have : s.val ≠ t.val := fun hh => e (Fin.ext hh)
      omega
    have e2 : (grid0.coords t 2).val ≠ (grid0.coords s 2).val := by rw [hhalf, hhalf]; omega
    unfold tailOut
    rw [window_other _ _ _ _ e2]
    have e3 : window (tailIn (grid0.coords t) d) (k0_off2 (grid0.coords s)) S1x8x1408.size (k0_off2_inb (grid0.coords s))
        = window d (k0_off2 (grid0.coords s)) S1x8x1408.size (k0_off2_inb (grid0.coords s)) := by
      unfold tailIn
      split
      · exact window_other _ _ _ _ e2
      · rfl
    rw [e3]
    exact h s (by omega) (by omega)

/-- The launch's invariant with the scratch as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- The invariant before position `n`: at the start every scratch at anything; after point `n` the normalised rows and the sum
    at that point's contents, and the kept rows of both halves. -/
def PhiS (c : Dev nD) : (n : ℕ) → n ≤ cfg0.N → sProp 𝕄
  | 0, _ => Pipeline.ΦA spec0 c
  | n + 1, hn => iprop(iprop(owns (c : Thread nD τ) scM0 fullShare (hnA m c ⟨n, hn⟩) ∗ owns (c : Thread nD τ) scM1 fullShare (accA m c ⟨n, hn⟩) ∗ (∃ d, owns (c : Thread nD τ) scM2 fullShare d) ∗ (∃ d, ⌜TailOK m c (n + 1) d⌝ ∗ owns (c : Thread nD τ) scM3 fullShare d)) ∗ (∃ r, prngReg c r))

theorem PhiS_succ (c : Dev nD) (t : Fin cfg0.N) :
    PhiS m c (t.val + 1) t.isLt = iprop(iprop(owns (c : Thread nD τ) scM0 fullShare (hnA m c t) ∗ owns (c : Thread nD τ) scM1 fullShare (accA m c t) ∗ (∃ d, owns (c : Thread nD τ) scM2 fullShare d) ∗ (∃ d, ⌜TailOK m c (t.val + 1) d⌝ ∗ owns (c : Thread nD τ) scM3 fullShare d)) ∗ (∃ r, prngReg c r)) := rfl

/-- At a tile's second half the rows and the sum are the first half's. -/
theorem PhiS_kept (c : Dev nD) (t : Fin cfg0.N) (h : t.val % 2 = 1) (hn : t.val ≤ cfg0.N) :
    PhiS m c t.val hn = iprop(iprop(owns (c : Thread nD τ) scM0 fullShare (hnA m c (prev t)) ∗ owns (c : Thread nD τ) scM1 fullShare (accA m c (prev t)) ∗ (∃ d, owns (c : Thread nD τ) scM2 fullShare d) ∗ (∃ d, ⌜TailOK m c t.val d⌝ ∗ owns (c : Thread nD τ) scM3 fullShare d)) ∗ (∃ r, prngReg c r)) := by
  obtain ⟨n, hn'⟩ := t
  cases n with
  | zero => exact absurd h (by decide : ¬ (0 % 2 = 1))
  | succ n => rfl

/-- The invariant with the named contents forgotten. -/
theorem PhiS_any (c : Dev nD) (n : ℕ) (h : n ≤ cfg0.N) : PhiS m c n h ⊢ (iprop(iprop((∃ d, owns (c : Thread nD τ) scM0 fullShare d) ∗ (∃ d, owns (c : Thread nD τ) scM1 fullShare d) ∗ (∃ d, owns (c : Thread nD τ) scM2 fullShare d) ∗ (∃ d, ⌜TailOK m c n d⌝ ∗ owns (c : Thread nD τ) scM3 fullShare d)) ∗ (∃ r, prngReg c r)) : sProp 𝕄) := by
  cases n with
  | zero =>
    show (Pipeline.ΦA spec0 c : sProp 𝕄) ⊢ _
    rw [PhiA0_eq]
    iintro ⟨⟨H0, H1, H2, ⟨%d, H3⟩⟩, Hg⟩
    isplitl [H0 H1 H2 H3]
    · isplitl [H0]; · iexact H0
      isplitl [H1]; · iexact H1
      isplitl [H2]; · iexact H2
      iexists d; isplitr; · ipureintro; exact fun s hs _ => absurd hs (Nat.not_lt_zero _)
      iexact H3
    iexact Hg
  | succ n =>
    show iprop(iprop(owns (c : Thread nD τ) scM0 fullShare (hnA m c ⟨n, h⟩) ∗ owns (c : Thread nD τ) scM1 fullShare (accA m c ⟨n, h⟩) ∗ (∃ d, owns (c : Thread nD τ) scM2 fullShare d) ∗ (∃ d, ⌜TailOK m c (n + 1) d⌝ ∗ owns (c : Thread nD τ) scM3 fullShare d)) ∗ (∃ r, prngReg c r)) ⊢ _
    iintro ⟨⟨H0, H1, H2, H3⟩, Hg⟩
    isplitl [H0 H1 H2 H3]
    · isplitl [H0]; · iexists _; iexact H0
      isplitl [H1]; · iexists _; iexact H1
      isplitl [H2]; · iexact H2
      iexact H3
    iexact Hg

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outA m c t
    | ⟨8, _⟩ => foA m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
/-- What the body leaves in the output, -/
theorem after0_7 (c : Dev nD) (t : Fin cfg0.N) : (dats m 0 c).after 7 t = outA m c t := by dsimp only [dats]
/-- and in the second result. -/
theorem after0_8 (c : Dev nD) (t : Fin cfg0.N) : (dats m 0 c).after 8 t = foA m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))
/-- the output's block after it: as it was at a tile's first half, -/
def post7 (c : Dev nD) (t : Fin cfg0.N) : sProp 𝕄 :=
  match cfg0.idle 7 (cfg0.grid.coords t) with
  | true =>
    match (cfg0.win 7).flush t with
    | false => iprop(∃ d, owns (c : Thread nD τ) (ms7 t) fullShare ((dats m 0 c).before 7 t d))
    | true => owns (c : Thread nD τ) (ms7 t) fullShare ((dats m 0 c).after 7 t)
  | false => owns (c : Thread nD τ) (ms7 t) fullShare ((dats m 0 c).after 7 t)
/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ post7 m c t
    ∗ owns (c : Thread nD τ) (ms8 t) fullShare ((dats m 0 c).after 8 t))

theorem idle7 (t : Fin cfg0.N) : cfg0.idle 7 (cfg0.grid.coords t) = !(k0_cond3 (grid0.coords t) == 1#1) := rfl
theorem post7_even (c : Dev nD) (t : Fin cfg0.N) (h : t.val % 2 = 0) :
    post7 m c t = iprop(∃ d, owns (c : Thread nD τ) (ms7 t) fullShare ((dats m 0 c).before 7 t d)) := by
  have e1 : cfg0.idle 7 (cfg0.grid.coords t) = true := by
    rw [idle7]
    have : ¬ k0_cond3 (grid0.coords t) = 1#1 := fun e => by have := (hcond3 t).mp e; omega
    simp [this]
  have e2 : (cfg0.win 7).flush t = false := by
    by_contra hc
    have := (flush0_7 t).mp (by simpa using hc)
    omega
  unfold post7
  rw [e1, e2]
theorem post7_odd (c : Dev nD) (t : Fin cfg0.N) (h : t.val % 2 = 1) :
    post7 m c t = owns (c : Thread nD τ) (ms7 t) fullShare ((dats m 0 c).after 7 t) := by
  have e1 : cfg0.idle 7 (cfg0.grid.coords t) = false := by
    rw [idle7]
    have : k0_cond3 (grid0.coords t) = 1#1 := (hcond3 t).mpr h
    simp [this]
  unfold post7
  rw [e1]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_8]
  rw [show (dats m 0 c).Φ t.succ = PhiS m c (t.val + 1) t.isLt from rfl, PhiS_succ, PhiS_castSucc m c t]
  by_cases h0 : t.val % 2 = 0
  · rw [post7_even m c t h0]
    refine (Laws.sep_mono_left (PhiS_any m c _ _)).trans ?_
    iintro ⟨⟨⟨⟨%Y0, HS0⟩, ⟨%Y1, HS1⟩, ⟨%Y2, HS2⟩, ⟨%D, %hD, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hb := bodyA (F := F) c Set.univ (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) scM2 (Memref.isWhole_whole _) scM3 (Memref.isWhole_whole _) ((hcond1 t).mpr h0) (fun e => by have := (hcond3 t).mp e; omega)
      (iblk m c 0 t) (iblk m c 1 t) (iblk m c 2 t) (iblk m c 3 t) (iblk m c 4 t) (iblk m c 5 t) (iblk m c 6 t) ((dats m 0 c).before 8 t d8) Y0 Y1 Y2 D
    rw [rowOf_eq m c t D hD] at hb
    rw [accA_even m c t h0]
    iapply (hb _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [HS0]; · iexact HS0
    isplitl [HS1]; · iexact HS1
    isplitl [HS2]; · iexact HS2
    isplitl [HS3]; · iexact HS3
    iintro ⟨H0, H1, H2, H3, H4, H5, H6, H8, HS0, HS1, HS2, HS3⟩
    isplitl [HS0 HS1 HS2 HS3 Hg]
    · isplitl [HS0 HS1 HS2 HS3]
      · isplitl [HS0]; · iexact HS0
        isplitl [HS1]; · iexact HS1
        isplitl [HS2]; · iexists _; iexact HS2
        iexists _; isplitr; · ipureintro; exact tailOut_ok m c t D hD
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexact H8
  · have h1 : t.val % 2 = 1 := by omega
    rw [post7_odd m c t h1, after0_7, PhiS_kept m c t h1, hnA_prev m c t h1]
    iintro ⟨⟨⟨HS0, HS1, ⟨%Y2, HS2⟩, ⟨%D, %hD, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hb := bodyB (F := F) c Set.univ (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) scM2 (Memref.isWhole_whole _) scM3 (Memref.isWhole_whole _) (fun e => h0 ((hcond1 t).mp e)) ((hcond3 t).mpr h1)
      (iblk m c 0 t) (iblk m c 2 t) (iblk m c 3 t) (iblk m c 4 t) (iblk m c 5 t) (iblk m c 6 t) ((dats m 0 c).before 7 t d7) ((dats m 0 c).before 8 t d8) (hnA m c t) (accA m c (prev t)) Y2 D
    rw [rowOf_eq m c t D hD] at hb
    unfold outA
    rw [accA_odd m c t h1]
    iapply (hb _)
    isplitl [H0]; · iexact H0
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H2, H3, H4, H5, H6, H7, H8, HS0, HS1, HS2, HS3⟩
    isplitl [HS0 HS1 HS2 HS3 Hg]
    · isplitl [HS0 HS1 HS2 HS3]
      · isplitl [HS0]; · iexact HS0
        isplitl [HS1]; · iexact HS1
        isplitl [HS2]; · iexists _; iexact HS2
        iexists _; isplitr; · ipureintro; exact tailOut_ok m c t D hD
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl]
  exact Idealize.SL.BI.Entails.refl _

/-- After the last point the invariant gives the scratch back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  refine (PhiS_any m c _ _).trans ?_
  iintro ⟨⟨H0, H1, H2, ⟨%d, %hd, H3⟩⟩, Hg⟩
  isplitl [H0 H1 H2 H3]
  · isplitl [H0]; · iexact H0
    isplitl [H1]; · iexact H1
    isplitl [H2]; · iexact H2
    iexists d; iexact H3
  iexact Hg

-- the run's implicit arguments are found by unifying its conclusion with this one
set_option backward.isDefEq.respectTransparency.types false in
set_option maxHeartbeats 800000 in
/-- The launch: every fair execution of @main ends, the arrays at what the pipeline and the host lines after it leave, every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel6Ideal.Gen

end
-- ==== Proof.FfnValue.lean ====
/-
  What the feed-forward's kernel leaves in its two results, in plain mathematics.
-/
module

public import proofs.«01_k».proof.Proof.FfnSpec
public import proofs.«01_k».proof.Proof.FfnFrame
public import proofs.«01_k».proof.Proof.Gen.Kernel6Ideal.Frame
public import Idealize.ShloMosaic.Lib.Tactic.CleanTypes
public import Idealize.ShloMosaic.Lib.Pipeline.ReadBack

@[expose] public section

set_option maxRecDepth 16384

noncomputable section

namespace Cert.Kernel6Ideal.Ffn

open Cert.Ffn Cert.Kernel6Ideal Cert.Kernel6Ideal.Gen Idealize.ShloMosaic Idealize.ShloMosaic.TcCoe Idealize.ShloMosaic.Tactic Idealize.SL.Sem
open Idealize.ShloMosaic.VecWindow

/-! ## The body's values, index by index -/

theorem pay1_apply (x : Vec Ideal S1x512x1024 .f32) (a : Vec Ideal S512x1024 .f32) (r : Fin 512) (j : Fin 1024) :
    k0_pay1 (F := Ideal) x a (ix3 0 r j) = x (ix3 0 r j) + a (ix2 r j) := by
  pointwise [k0_pay1]

theorem pay2_apply (x : Vec Ideal S1x512x1024 .f32) (g : Vec Ideal S1x1024 .f32) (r : Fin 512) (k : Fin 1024) :
    k0_pay2 (F := Ideal) x g (ix2 r k)
      = x (ix3 0 r k) * Ideal.rsqrt (Ideal.div (∑ l : Fin 1024, x (ix3 0 r l) * x (ix3 0 r l)) (Ideal.ofBits FTy.f32 1149239296#32)
          + Ideal.ofBits FTy.f32 897988541#32) * g (ix2 0 k) := by
  pointwise [k0_pay2]

theorem pay3_apply (r : Fin 512) (j : Fin 1024) : k0_pay3 (F := Ideal) (ix2 r j) = 0 := by
  pointwise [k0_pay3]

theorem pay4_apply (r : Fin 8) (f : Fin 1408) : k0_pay4 (F := Ideal) (ix3 0 r f) = 0 := by
  pointwise [k0_pay4]

theorem pay6_apply (v : Vec Ideal S1x8x1408 .f32) (r : Fin 8) (f : Fin 1408) : k0_pay6 (F := Ideal) v (ix2 r f) = v (ix3 0 r f) := by
  pointwise [k0_pay6]

theorem pay7_apply (hn : Vec Ideal S512x1024 .bf16) (w : Vec Ideal S1024x1408 .bf16) (r : Fin 512) (f : Fin 1408) :
    k0_pay7 (F := Ideal) hn w (ix2 r f) = ∑ k : Fin 1024, hn (ix2 r k) * w (ix2 k f) := by
  pointwise [k0_pay7]

theorem pay10_apply (v : Vec Ideal S8x1408 .f32) (r : Fin 8) (f : Fin 1408) : k0_pay10 (F := Ideal) v (ix3 0 r f) = v (ix2 r f) := by
  pointwise [k0_pay10]

theorem pay11_apply (v : Vec Ideal S2x1408 .f32) (r : Fin 2) (f : Fin 1408) : k0_pay11 (F := Ideal) v (ix4 0 0 r f) = v (ix2 r f) := by
  pointwise [k0_pay11]

theorem pay12_apply (hn : Vec Ideal S512x1024 .bf16) (wv : Vec Ideal S1024x1408 .bf16) (cw : Vec Ideal S3x1408 .f32) (cb : Vec Ideal S1x1408 .f32)
    (b6 b7 b8 : Vec Ideal S512x1408 .f32) (acc : Vec Ideal S512x1024 .f32) (wd : Vec Ideal S1408x1024 .bf16) (r : Fin 512) (j : Fin 1024) :
    k0_pay12 (F := Ideal) (k0_pay5 hn wv) cw (k0_pay8 cb) (k0_pay9 cw b6) b7 b8 acc wd (ix2 r j)
      = acc (ix2 r j) + ∑ f : Fin 1408,
          conv3 (cw (ix2 0 f)) (cw (ix2 1 f)) (cw (ix2 2 f)) (cb (ix2 0 f)) (b6 (ix2 r f)) (b7 (ix2 r f)) (b8 (ix2 r f))
            * Ideal.logistic (conv3 (cw (ix2 0 f)) (cw (ix2 1 f)) (cw (ix2 2 f)) (cb (ix2 0 f)) (b6 (ix2 r f)) (b7 (ix2 r f)) (b8 (ix2 r f)))
            * (∑ k : Fin 1024, hn (ix2 r k) * wv (ix2 k f)) * wd (ix2 f j) := by
  pointwise [k0_pay12, k0_pay5, k0_pay8, k0_pay9]

/-! ## The buffer of the gate's rows -/

/-- A window of rows, at an index. -/
theorem win_apply (buf : Vec Ideal S520x1408 .f32) (o n : ℕ) (inb : ∀ a : Fin 2, (![o, 0] : Fin 2 → ℕ) a + (![n, 1408] : Fin 2 → ℕ) a ≤ S520x1408.size a)
    (r : Fin n) (f : Fin 1408) (h : o + r.val < 520) :
    window (s := S520x1408) buf ![o, 0] ![n, 1408] inb (ix2 r f : (⟨2, ![n, 1408]⟩ : Shape).Idx) = buf (ix2 ⟨o + r.val, h⟩ f) := by
  refine congrArg buf (funext fun a => Fin.ext ?_)
  match a with
  | ⟨0, _⟩ => show o + 1 * r.val = o + r.val; omega
  | ⟨1, _⟩ => show 0 + 1 * f.val = f.val; omega

theorem bufOf_low (row : Vec Ideal S1x8x1408 .f32) (hn : Vec Ideal S512x1024 .bf16) (wg : Vec Ideal S1024x1408 .bf16) (r : Fin 8) (f : Fin 1408) :
    bufOf row hn wg (ix2 ⟨r.val, by omega⟩ f) = row (ix3 0 r f) := by
  unfold bufOf
  have h : ¬ ∀ a : Fin 2, (![8, 0] : Fin 2 → ℕ) a ≤ ((ix2 ⟨r.val, by omega⟩ f : S520x1408.Idx) a).val
      ∧ ((ix2 ⟨r.val, by omega⟩ f : S520x1408.Idx) a).val < (![8, 0] : Fin 2 → ℕ) a + S512x1408.size a := fun h => by
    have h0 : 8 ≤ r.val := (h 0).1
    omega
  have h' : ∀ a : Fin 2, (![0, 0] : Fin 2 → ℕ) a ≤ ((ix2 ⟨r.val, by omega⟩ f : S520x1408.Idx) a).val
      ∧ ((ix2 ⟨r.val, by omega⟩ f : S520x1408.Idx) a).val < (![0, 0] : Fin 2 → ℕ) a + S8x1408.size a := fun a => by
    match a with
    | 0 => exact ⟨Nat.zero_le _, by show r.val < 0 + 8; omega⟩
    | 1 => exact ⟨Nat.zero_le _, by show f.val < 0 + 1408; omega⟩
  refine (dif_neg h).trans ((dif_pos h').trans ?_)
  rw [← pay6_apply row r f]
  refine congrArg (k0_pay6 (F := Ideal) row) (funext fun a => Fin.ext ?_)
  match a with
  | 0 => rfl
  | 1 => rfl

theorem bufOf_high (row : Vec Ideal S1x8x1408 .f32) (hn : Vec Ideal S512x1024 .bf16) (wg : Vec Ideal S1024x1408 .bf16) (r : Fin 512) (f : Fin 1408) :
    bufOf row hn wg (ix2 ⟨8 + r.val, by omega⟩ f) = ∑ k : Fin 1024, hn (ix2 r k) * wg (ix2 k f) := by
  unfold bufOf
  have h' : ∀ a : Fin 2, (![8, 0] : Fin 2 → ℕ) a ≤ ((ix2 ⟨8 + r.val, by omega⟩ f : S520x1408.Idx) a).val
      ∧ ((ix2 ⟨8 + r.val, by omega⟩ f : S520x1408.Idx) a).val < (![8, 0] : Fin 2 → ℕ) a + S512x1408.size a := fun a => by
    match a with
    | 0 => exact ⟨by show 8 ≤ 8 + r.val; omega, by show 8 + r.val < 8 + 512; omega⟩
    | 1 => exact ⟨Nat.zero_le _, by show f.val < 0 + 1408; omega⟩
  refine (dif_pos h').trans ?_
  rw [← pay7_apply hn wg r f]
  refine congrArg (k0_pay7 (F := Ideal) hn wg) (funext fun a => Fin.ext ?_)
  match a with
  | 0 => show 8 + r.val - 8 = r.val; omega
  | 1 => rfl

theorem accOf_apply (buf : Vec Ideal S520x1408 .f32) (hn : Vec Ideal S512x1024 .bf16) (wv : Vec Ideal S1024x1408 .bf16) (cw : Vec Ideal S3x1408 .f32)
    (cb : Vec Ideal S1x1408 .f32) (wd : Vec Ideal S1408x1024 .bf16) (acc : Vec Ideal S512x1024 .f32) (r : Fin 512) (j : Fin 1024) :
    accOf buf hn wv cw cb wd acc (ix2 r j)
      = acc (ix2 r j) + ∑ f : Fin 1408,
          conv3 (cw (ix2 0 f)) (cw (ix2 1 f)) (cw (ix2 2 f)) (cb (ix2 0 f)) (buf (ix2 ⟨6 + r.val, by omega⟩ f)) (buf (ix2 ⟨7 + r.val, by omega⟩ f)) (buf (ix2 ⟨8 + r.val, by omega⟩ f))
            * Ideal.logistic (conv3 (cw (ix2 0 f)) (cw (ix2 1 f)) (cw (ix2 2 f)) (cb (ix2 0 f)) (buf (ix2 ⟨6 + r.val, by omega⟩ f)) (buf (ix2 ⟨7 + r.val, by omega⟩ f)) (buf (ix2 ⟨8 + r.val, by omega⟩ f)))
            * (∑ k : Fin 1024, hn (ix2 r k) * wv (ix2 k f)) * wd (ix2 f j) := by
  unfold accOf
  refine (pay12_apply _ _ _ _ _ _ _ _ _ r j).trans ?_
  have h6 : ∀ f : Fin 1408, window buf ![6, 0] S512x1408.size inb_S520x1408_S512x1408_6_0 (ix2 r f : S512x1408.Idx) = buf (ix2 ⟨6 + r.val, by omega⟩ f) :=
    fun f => win_apply buf 6 512 inb_S520x1408_S512x1408_6_0 r f _
  have h7 : ∀ f : Fin 1408, window buf ![7, 0] S512x1408.size inb_S520x1408_S512x1408_7_0 (ix2 r f : S512x1408.Idx) = buf (ix2 ⟨7 + r.val, by omega⟩ f) :=
    fun f => win_apply buf 7 512 inb_S520x1408_S512x1408_7_0 r f _
  have h8 : ∀ f : Fin 1408, window buf ![8, 0] S512x1408.size inb_S520x1408_S512x1408_8_0 (ix2 r f : S512x1408.Idx) = buf (ix2 ⟨8 + r.val, by omega⟩ f) :=
    fun f => win_apply buf 8 512 inb_S520x1408_S512x1408_8_0 r f _
  refine congrArg (HAdd.hAdd (α := EReal) (β := EReal) (γ := EReal) _) (Finset.sum_congr rfl fun f _ => ?_)
  rw [← h6, ← h7, ← h8]

theorem foOf_apply (buf : Vec Ideal S520x1408 .f32) (r : Fin 2) (f : Fin 1408) : foOf buf (ix4 0 0 r f) = buf (ix2 ⟨518 + r.val, by omega⟩ f) := by
  unfold foOf
  exact (pay11_apply _ r f).trans (win_apply buf 518 2 inb_S520x1408_S2x1408_518_0 r f _)

/-! ## The windows' blocks -/

variable (m : (ℓ : Loc nD τ sig) → Buf (Elt Ideal) ℓ) (c : Dev nD)

abbrev X0 : Vec Ideal S16x2048x1024 .f32 := m ((c : Thread nD τ).loc main_arg0)
abbrev X1 : Vec Ideal S1024 .f32 := m ((c : Thread nD τ).loc main_arg1)
abbrev X2 : Vec Ideal S1024x5632 .f32 := m ((c : Thread nD τ).loc main_arg2)
abbrev X3 : Vec Ideal S2816x1024 .f32 := m ((c : Thread nD τ).loc main_arg3)
abbrev X4 : Vec Ideal S3x2816 .f32 := m ((c : Thread nD τ).loc main_arg4)
abbrev X5 : Vec Ideal S2816 .f32 := m ((c : Thread nD τ).loc main_arg5)

theorem lt128 (t : Fin grid0.N) : t.val < 128 := lt_of_lt_of_eq t.isLt N_0

/-- The sequence of point `t`, -/
abbrev tb (t : Fin grid0.N) : Fin 16 := ⟨t.val / 8, by have := lt128 t; omega⟩
/-- the row of that sequence that row `r` of its blocks is, -/
abbrev ts (t : Fin grid0.N) (r : Fin 512) : Fin 2048 := ⟨512 * (t.val / 2 % 4) + r.val, by omega⟩
/-- and the lane that lane `f` of its half is. -/
abbrev tf (t : Fin grid0.N) (f : Fin 1408) : Fin 2816 := ⟨1408 * (t.val % 2) + f.val, by omega⟩

/-- What the region finds, of the host's lines. -/
theorem V_eq (b : Ref sig .tc) : V m c b = StableHlo.after hostOps0 (fun b => m (c, b)) b := by
  show StableHlo.after (List.flatten [hostOps0]) (fun b => m (c, b)) (Proc.devRef .tc b) = _
  rw [List.flatten_cons, List.flatten_nil, List.append_nil]

theorem V0_apply (k : Fin 1024) (j : Fin 5632) : (V m c main_v0 : Vec Ideal S1024x5632 .bf16) (ix2 k j) = X2 m c (ix2 k j) := by
  rw [V_eq]
  entry_read
  pointwise

theorem V1_apply (k : Fin 2816) (j : Fin 1024) : (V m c main_v1 : Vec Ideal S2816x1024 .bf16) (ix2 k j) = X3 m c (ix2 k j) := by
  rw [V_eq]
  entry_read
  pointwise

theorem V2_apply (k : Fin 1024) : (V m c main_v2 : Vec Ideal S1x1024 .f32) (ix2 0 k) = X1 m c (ix1 k) := by
  rw [V_eq]
  entry_read
  pointwise

theorem V3_apply (k : Fin 2816) : (V m c main_v3 : Vec Ideal S1x2816 .f32) (ix2 0 k) = X5 m c (ix1 k) := by
  rw [V_eq]
  entry_read
  pointwise

theorem e0 : ∀ t : Fin grid0.N, win0_0.index t = ![t.val / 8, t.val / 2 % 4, 0] := by decide +kernel
theorem e1 : ∀ t : Fin grid0.N, win0_1.index t = ![0, 0] := by decide +kernel
theorem e2 : ∀ t : Fin grid0.N, win0_2.index t = ![0, t.val % 2] := by decide +kernel
theorem e3 : ∀ t : Fin grid0.N, win0_3.index t = ![0, 2 + t.val % 2] := by decide +kernel
theorem e4 : ∀ t : Fin grid0.N, win0_4.index t = ![t.val % 2, 0] := by decide +kernel
theorem e5 : ∀ t : Fin grid0.N, win0_5.index t = ![0, t.val % 2] := by decide +kernel
theorem e6 : ∀ t : Fin grid0.N, win0_6.index t = ![0, t.val % 2] := by decide +kernel
theorem e7 : ∀ t : Fin grid0.N, win0_7.index t = ![t.val / 8, t.val / 2 % 4, 0] := by decide +kernel
theorem e8 : ∀ t : Fin grid0.N, win0_8.index t = ![t.val / 8, t.val / 2 % 4, 0, t.val % 2] := by decide +kernel

theorem b0 (t : Fin grid0.N) (r : Fin 512) (k : Fin 1024) : (iblk m c 0 t : Vec Ideal S1x512x1024 .f32) (ix3 0 r k) = X0 m c (ix3 (tb t) (ts t r) k) := by
  rw [show X0 m c = V m c main_arg0 from (V_main_arg0 m c).symm]
  blk_ext [iblk, e0 t]

theorem b1 (t : Fin grid0.N) (k : Fin 1024) : (iblk m c 1 t : Vec Ideal S1x1024 .f32) (ix2 0 k) = X1 m c (ix1 k) := by
  rw [← V2_apply]
  blk_ext [iblk, e1 t]

theorem b2 (t : Fin grid0.N) (k : Fin 1024) (f : Fin 1408) : (iblk m c 2 t : Vec Ideal S1024x1408 .bf16) (ix2 k f) = X2 m c (ix2 k ⟨(tf t f).val, by omega⟩) := by
  rw [← V0_apply]
  blk_ext [iblk, e2 t]

theorem b3 (t : Fin grid0.N) (k : Fin 1024) (f : Fin 1408) : (iblk m c 3 t : Vec Ideal S1024x1408 .bf16) (ix2 k f) = X2 m c (ix2 k ⟨2816 + (tf t f).val, by omega⟩) := by
  rw [← V0_apply]
  blk_ext [iblk, e3 t]

theorem b4 (t : Fin grid0.N) (f : Fin 1408) (j : Fin 1024) : (iblk m c 4 t : Vec Ideal S1408x1024 .bf16) (ix2 f j) = X3 m c (ix2 (tf t f) j) := by
  rw [← V1_apply]
  blk_ext [iblk, e4 t]

theorem b5 (t : Fin grid0.N) (i : Fin 3) (f : Fin 1408) : (iblk m c 5 t : Vec Ideal S3x1408 .f32) (ix2 i f) = X4 m c (ix2 i (tf t f)) := by
  rw [show X4 m c = V m c main_arg4 from (V_main_arg4 m c).symm]
  blk_ext [iblk, e5 t]

theorem b6 (t : Fin grid0.N) (f : Fin 1408) : (iblk m c 6 t : Vec Ideal S1x1408 .f32) (ix2 0 f) = X5 m c (ix1 (tf t f)) := by
  rw [← V3_apply]
  blk_ext [iblk, e6 t]

/-! ## What a point computes -/

theorem hnA_apply (t : Fin grid0.N) (r : Fin 512) (k : Fin 1024) :
    (hnA m c t : Vec Ideal S512x1024 .bf16) (ix2 r k) = normed (X0 m c) (X1 m c) (tb t) (ts t r) k := by
  unfold hnA normed
  rw [pay2_apply]
  simp only [b0, b1]

theorem gate_apply (t : Fin grid0.N) (r : Fin 512) (f : Fin 1408) :
    (∑ k : Fin 1024, (hnA m c t : Vec Ideal S512x1024 .bf16) (ix2 r k) * (iblk m c 2 t : Vec Ideal S1024x1408 .bf16) (ix2 k f))
      = up (X0 m c) (X1 m c) (X2 m c) (tb t) (ts t r) ⟨(tf t f).val, by omega⟩ := by
  unfold up
  exact Finset.sum_congr rfl fun k _ => congrArg₂ (fun a b : EReal => a * b) (hnA_apply m c t r k) (b2 m c t k f)

theorem val_apply (t : Fin grid0.N) (r : Fin 512) (f : Fin 1408) :
    (∑ k : Fin 1024, (hnA m c t : Vec Ideal S512x1024 .bf16) (ix2 r k) * (iblk m c 3 t : Vec Ideal S1024x1408 .bf16) (ix2 k f))
      = up (X0 m c) (X1 m c) (X2 m c) (tb t) (ts t r) ⟨2816 + (tf t f).val, by omega⟩ := by
  unfold up
  exact Finset.sum_congr rfl fun k _ => congrArg₂ (fun a b : EReal => a * b) (hnA_apply m c t r k) (b3 m c t k f)

/-- The gate two rows before row `n`, where it is a row of the sequence. -/
theorem past_of (b : Fin 16) (n : ℕ) (f : Fin 2816) (s : Fin 2048) (h : n = s.val + 2) :
    past (X0 m c) (X1 m c) (X2 m c) b n f = up (X0 m c) (X1 m c) (X2 m c) b s ⟨f.val, by omega⟩ := by
  unfold past
  rw [dif_pos (by omega)]
  exact congrArg (fun z => up (X0 m c) (X1 m c) (X2 m c) b z _) (Fin.ext (by show n - 2 = s.val; omega))

/-- The buffer's rows from the sixth on are the gate's, from two rows before the tile's first. -/
theorem bufA_apply (t : Fin grid0.N) (r : ℕ) (hr : 6 + r < 520) (f : Fin 1408) :
    (bufA m c t : Vec Ideal S520x1408 .f32) (ix2 ⟨6 + r, hr⟩ f) = past (X0 m c) (X1 m c) (X2 m c) (tb t) (512 * (t.val / 2 % 4) + r) (tf t f) := by
  unfold bufA
  by_cases h : r < 2
  · refine (bufOf_low _ _ _ ⟨6 + r, by omega⟩ f).trans ?_
    unfold rowA
    by_cases h0 : t.val / 2 % 4 = 0
    · rw [if_pos h0, pay4_apply]
      unfold past
      rw [dif_neg (by omega)]
    · rw [if_neg h0]
      unfold lastA
      refine (pay10_apply _ _ f).trans ((win_apply _ 512 8 inb_S520x1408_S8x1408_512_0 ⟨6 + r, by omega⟩ f (by show 512 + (6 + r) < 520; omega)).trans ?_)
      have e : (⟨512 + (6 + r), by omega⟩ : Fin 520) = ⟨8 + (⟨510 + r, by omega⟩ : Fin 512).val, by show 8 + (510 + r) < 520; omega⟩ :=
        Fin.ext (by show 512 + (6 + r) = 8 + (510 + r); omega)
      refine (congrArg (fun z => bufOf (k0_pay4 (F := Ideal)) (hnA m c (prev2 t)) (iblk m c 2 (prev2 t)) (ix2 z f)) e).trans ?_
      refine (bufOf_high _ _ _ ⟨510 + r, by omega⟩ f).trans ((gate_apply m c (prev2 t) ⟨510 + r, by omega⟩ f).trans ?_)
      have hp : (prev2 t).val = t.val - 2 := rfl
      have eb : tb (prev2 t) = tb t := Fin.ext (by show (t.val - 2) / 8 = t.val / 8; omega)
      have ef : tf (prev2 t) f = tf t f := Fin.ext (by show 1408 * ((t.val - 2) % 2) + f.val = 1408 * (t.val % 2) + f.val; omega)
      rw [eb, ← ef]
      exact (past_of m c (tb t) _ (tf (prev2 t) f) (ts (prev2 t) ⟨510 + r, by omega⟩)
        (by show 512 * (t.val / 2 % 4) + r = 512 * ((t.val - 2) / 2 % 4) + (510 + r) + 2; omega)).symm
  · have e : (⟨6 + r, hr⟩ : Fin 520) = ⟨8 + (⟨r - 2, by omega⟩ : Fin 512).val, by show 8 + (r - 2) < 520; omega⟩ :=
      Fin.ext (by show 6 + r = 8 + (r - 2); omega)
    refine (congrArg (fun z => bufOf (rowA m c t) (hnA m c t) (iblk m c 2 t) (ix2 z f)) e).trans ?_
    refine (bufOf_high _ _ _ ⟨r - 2, by omega⟩ f).trans ((gate_apply m c t ⟨r - 2, by omega⟩ f).trans ?_)
    exact (past_of m c (tb t) _ (tf t f) (ts t ⟨r - 2, by omega⟩) (by show 512 * (t.val / 2 % 4) + r = 512 * (t.val / 2 % 4) + (r - 2) + 2; omega)).symm

/-- One lane's part of the second product. -/
abbrev term (b : Fin 16) (s : Fin 2048) (j : Fin 1024) (f : Fin 2816) : EReal :=
  act (X0 m c) (X1 m c) (X2 m c) (X4 m c) (X5 m c) b s f * X3 m c (ix2 f j)

theorem accF_apply (t : Fin grid0.N) (a : Vec Ideal S512x1024 .f32) (r : Fin 512) (j : Fin 1024) :
    (accF m c t a : Vec Ideal S512x1024 .f32) (ix2 r j) = a (ix2 r j) + ∑ f : Fin 1408, term m c (tb t) (ts t r) j (tf t f) := by
  unfold accF
  refine (accOf_apply _ _ _ _ _ _ _ r j).trans ?_
  refine congrArg (HAdd.hAdd (α := EReal) (β := EReal) (γ := EReal) _) (Finset.sum_congr rfl fun f _ => ?_)
  rw [val_apply, b4, b5, b5, b5, b6]
  have p0 := bufA_apply m c t r.val (by omega) f
  have p1 := bufA_apply m c t (1 + r.val) (by omega) f
  have p2 := bufA_apply m c t (2 + r.val) (by omega) f
  have q1 : (⟨6 + (1 + r.val), by omega⟩ : Fin 520) = ⟨7 + r.val, by omega⟩ := Fin.ext (by show 6 + (1 + r.val) = 7 + r.val; omega)
  have q2 : (⟨6 + (2 + r.val), by omega⟩ : Fin 520) = ⟨8 + r.val, by omega⟩ := Fin.ext (by show 6 + (2 + r.val) = 8 + r.val; omega)
  rw [q1] at p1
  rw [q2] at p2
  rw [p0, p1, p2, show 512 * (t.val / 2 % 4) + (1 + r.val) = 1 + (512 * (t.val / 2 % 4) + r.val) from by omega,
    show 512 * (t.val / 2 % 4) + (2 + r.val) = 2 + (512 * (t.val / 2 % 4) + r.val) from by omega]
  rfl

/-- The two halves of a sum over the whole width. -/
theorem halves (T : Fin 2816 → EReal) :
    (∑ f : Fin 1408, T ⟨f.val, by omega⟩) + ∑ f : Fin 1408, T ⟨1408 + f.val, by omega⟩ = ∑ f : Fin 2816, T f :=
  (Fin.sum_univ_add (a := 1408) (b := 1408) T).symm

/-- What a tile's second half leaves. -/
theorem outA_apply (t : Fin grid0.N) (ht : t.val % 2 = 1) (r : Fin 512) (j : Fin 1024) :
    (outA m c t : Vec Ideal S1x512x1024 .f32) (ix3 0 r j)
      = out (X0 m c) (X1 m c) (X2 m c) (X3 m c) (X4 m c) (X5 m c) (tb t) (ts t r) j := by
  unfold outA
  refine (pay1_apply _ _ r j).trans ?_
  rw [b0, accA_odd m c t ht, accF_apply, accA_even m c (prev t) (by show (t.val - 1) % 2 = 0; omega), accF_apply, pay3_apply, zero_add]
  unfold out
  refine congrArg (HAdd.hAdd (α := EReal) (β := EReal) (γ := EReal) _) ?_
  have eb : tb (prev t) = tb t := Fin.ext (by show (t.val - 1) / 8 = t.val / 8; omega)
  have es : ts (prev t) r = ts t r := Fin.ext (by show 512 * ((t.val - 1) / 2 % 4) + r.val = 512 * (t.val / 2 % 4) + r.val; omega)
  rw [eb, es, ← halves]
  refine congrArg₂ (fun a b : EReal => a + b) (Finset.sum_congr rfl fun f _ => ?_) (Finset.sum_congr rfl fun f _ => ?_)
  · exact congrArg (term m c (tb t) (ts t r) j) (Fin.ext (by show 1408 * ((t.val - 1) % 2) + f.val = f.val; omega))
  · exact congrArg (term m c (tb t) (ts t r) j) (Fin.ext (by show 1408 * (t.val % 2) + f.val = 1408 + f.val; omega))

theorem foA_apply (t : Fin grid0.N) (i : Fin 2) (f : Fin 1408) :
    (foA m c t : Vec Ideal S1x1x2x1408 .f32) (ix4 0 0 i f)
      = up (X0 m c) (X1 m c) (X2 m c) (tb t) (ts t ⟨510 + i.val, by omega⟩) ⟨(tf t f).val, by omega⟩ := by
  unfold foA
  refine (foOf_apply _ i f).trans ?_
  have p := bufA_apply m c t (512 + i.val) (by omega) f
  have q : (⟨6 + (512 + i.val), by omega⟩ : Fin 520) = ⟨518 + i.val, by omega⟩ := Fin.ext (by show 6 + (512 + i.val) = 518 + i.val; omega)
  rw [q] at p
  rw [p]
  exact past_of m c (tb t) _ (tf t f) (ts t ⟨510 + i.val, by omega⟩)
    (by show 512 * (t.val / 2 % 4) + (512 + i.val) = 512 * (t.val / 2 % 4) + (510 + i.val) + 2; omega)

/-! ## The arrays the pipeline leaves -/

/-- The first result. -/
def G7 : S16x2048x1024.Idx → EReal := fun i => out (X0 m c) (X1 m c) (X2 m c) (X3 m c) (X4 m c) (X5 m c) (i 0) (i 1) (i 2)

theorem G7_apply (b : Fin 16) (s : Fin 2048) (j : Fin 1024) :
    G7 m c (ix3 b s j) = out (X0 m c) (X1 m c) (X2 m c) (X3 m c) (X4 m c) (X5 m c) b s j := rfl

/-- The gate's last two rows of every tile. -/
def G8 : S16x4x2x2816.Idx → EReal := fun i =>
  up (X0 m c) (X1 m c) (X2 m c) (i 0) ⟨512 * (i 1).val + (510 + (i 2).val), by have h1 : (i 1).val < 4 := (i 1).isLt; have h2 : (i 2).val < 2 := (i 2).isLt; omega⟩
    ⟨(i 3).val, by have h3 : (i 3).val < 2816 := (i 3).isLt; omega⟩

theorem G8_apply (b : Fin 16) (n : Fin 4) (i : Fin 2) (f : Fin 2816) :
    G8 m c (ix4 b n i f) = up (X0 m c) (X1 m c) (X2 m c) b ⟨512 * n.val + (510 + i.val), by omega⟩ ⟨f.val, by omega⟩ := rfl

/-- The first result's blocks are written at a tile's second half. -/
theorem odd_of_flush : ∀ t : Fin grid0.N, win0_7.flush t = true → t.val % 2 = 1 := by decide +kernel

theorem array7 : (dats (F := Ideal) m 0 c).arrAt 7 (cfgs 0).N = G7 m c := by
  refine (dats m 0 c).arrAt_eq_of_covers 7 _ (by decide +kernel) fun t hf y => ?_
  have ht : t.val % 2 = 1 := odd_of_flush t hf
  blk_simp
  rw [after0_7]
  have key : ∀ y : S1x512x1024.Idx, (outA m c t : Vec Ideal S1x512x1024 .f32) y = G7 m c ((win0_7.blk t).view.emb y) := fun y => by
    have hemb : ∀ (r : Fin 512) (e : Fin 1024), (ix3 (tb t) (ts t r) e : S16x2048x1024.Idx) = (win0_7.blk t).view.emb (ix3 0 r e : S1x512x1024.Idx) := fun r e => by
      blk_ext [e7 t]
    have hy0 : y = ix3 0 (y 1) (y 2) := by
      idx_vars y
      exact congrArg (fun z => ix3 z y1 y2) (Subsingleton.elim y0 0)
    generalize y 1 = r at hy0
    generalize y 2 = e at hy0
    subst hy0
    exact (outA_apply m c t ht r e).trans ((G7_apply m c _ _ _).symm.trans (congrArg (G7 m c) (hemb r e)))
  exact key _

theorem array8 : (dats (F := Ideal) m 0 c).arrAt 8 (cfgs 0).N = G8 m c := by
  refine (dats m 0 c).arrAt_eq_of_covers 8 _ (by decide +kernel) fun t hf y => ?_
  blk_simp
  rw [after0_8]
  have key : ∀ y : S1x1x2x1408.Idx, (foA m c t : Vec Ideal S1x1x2x1408 .f32) y = G8 m c ((win0_8.blk t).view.emb y) := fun y => by
    have hemb : ∀ (i : Fin 2) (f : Fin 1408), (ix4 (tb t) ⟨t.val / 2 % 4, by omega⟩ i (tf t f) : S16x4x2x2816.Idx)
        = (win0_8.blk t).view.emb (ix4 0 0 i f : S1x1x2x1408.Idx) := fun i f => by
      blk_ext [e8 t]
    have hy0 : y = ix4 0 0 (y 2) (y 3) := by
      idx_vars y
      exact congrArg₂ (fun z z' => ix4 z z' y2 y3) (Subsingleton.elim y0 0) (Subsingleton.elim y1 0)
    generalize y 2 = i at hy0
    generalize y 3 = f at hy0
    subst hy0
    exact (foA_apply m c t i f).trans ((G8_apply m c (tb t) ⟨t.val / 2 % 4, by omega⟩ i (tf t f)).symm.trans (congrArg (G8 m c) (hemb i f)))
  exact key _

/-- The last tile's rows, of the rows of every tile. -/
def lastT (u : Vec Ideal S16x4x2x2816 .f32) : Vec Ideal S16x2x2816 .f32 :=
  shapeCast S16x2x2816 (extractStridedSlice S16x1x2x2816 ![0, 3, 0, 0] u slices_S16x4x2x2816_S16x1x2x2816_0_3_0_0) shapeCasts_S16x1x2x2816_S16x2x2816

/-- The host's last lines, of whatever they find. -/
theorem tail_eq (W : Valuation τ sig (Elt Ideal)) :
    StableHlo.after (hostOps1 (F := Ideal)) W (Proc.devRef .tc main_v6)
      = lastT (W (Proc.devRef .tc main_v4_1)) := by
  simp only [hostOps1]
  after_results_simp
  rfl

/-- What they find in the second array. -/
theorem found8 : Pipeline.withArrays spec0 c (V0 m c) (fun w => (dats (F := Ideal) m 0 c).arrAt w cfg0.N) (Proc.devRef .tc main_v4_1) = G8 m c :=
  (Pipeline.withArrays_arr_shared spec0 c (V0 m c) (fun w => (dats (F := Ideal) m 0 c).arrAt w cfg0.N)
    (fun w w' hne e => (dats (F := Ideal) m 0 c).arrAt_sharedIn sharedIn0 (V0 m c) (fun w => A_eq m c w) cfg0.N w w' hne e) 8).trans (array8 m c)

/-- The second result: the last tile's, after the host's lines. -/
theorem second :
    Pipeline.afterTail₀ cfgs (dats (F := Ideal) m) 0 (V0 m) [hostOps1] c main_v6
      = lastT (G8 m c) := by
  rw [← found8 m c, ← tail_eq]
  unfold Pipeline.afterTail₀
  rw [List.flatten_cons, List.flatten_nil, List.append_nil]

theorem second_apply (b : Fin 16) (i : Fin 2) (f : Fin 2816) :
    lastT (G8 m c) (ix3 b i f)
      = last (X0 m c) (X1 m c) (X2 m c) b i f := by
  have h := G8_apply m c b 3 i f
  have e : ∀ u : Vec Ideal S16x4x2x2816 .f32, lastT u (ix3 b i f) = u (ix4 b 3 i f) := fun u => by
    unfold lastT
    pointwise
  refine (e _).trans (h.trans ?_)
  unfold last
  exact congrArg (fun z => up (X0 m c) (X1 m c) (X2 m c) b z _) (Fin.ext (by show 512 * 3 + (510 + i.val) = 2046 + i.val; omega))

end Cert.Kernel6Ideal.Ffn

end
-- ==== Proof.FfnRef.lean ====
/-
  The feed-forward's reference computes it.
-/
module

public import proofs.«01_k».proof.Proof.FfnSpec
public import proofs.«01_k».proof.Proof.InProj
public import proofs.«01_k».proof.Proof.Gen.Reference6Ideal.Run
public import Idealize.ShloMosaic.Lib.Tactic.CleanTypes

@[expose] public section

set_option maxRecDepth 16384

noncomputable section

namespace Cert.Reference6Ideal.Ffn

open Cert.Ffn Cert.Reference6Ideal Cert.Reference6Ideal.Gen Idealize.ShloMosaic Idealize.ShloMosaic.TcCoe Idealize.ShloMosaic.Tactic Idealize.SL.Sem

variable (x : FVec Ideal S16x2048x1024 .f32) (g : FVec Ideal S1024 .f32) (w : FVec Ideal S1024x5632 .f32) (d : FVec Ideal S2816x1024 .f32)
  (cw : FVec Ideal S3x2816 .f32) (cb : FVec Ideal S2816 .f32)

/-- The product with the first weights. -/
def prod : FVec Ideal S16x2048x5632 .f32 :=
  Host.dotGeneral dot_S16x2048x1024_S1024x5632_S16x2048x5632_2_0_01_1_n_n none (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) w

theorem prod_apply (b : Fin 16) (s : Fin 2048) (j : Fin 5632) : prod x g w (ix3 b s j) = up x g w b s j := by
  unfold prod
  pointwise
  rfl

/-- The gate after two rows of zeroes. -/
def padded (u : FVec Ideal S16x2048x5632 .f32) : FVec Ideal S16x2050x2816 .f32 :=
  concatenate S16x2050x2816 1 [⟨S16x2x2816, (broadcastInDim S16x2x2816 ![] bcast_S_S16x2x2816 (constant S_ .f32 0x00000000#32))⟩, ⟨S16x2048x2816, (extractStridedSlice S16x2048x2816 ![0, 0, 0] u slices_S16x2048x5632_S16x2048x2816_0_0_0)⟩] concatenates_S16x2x2816_S16x2048x2816_S16x2050x2816_d1

theorem padded_apply (b : Fin 16) (n : Fin 2050) (f : Fin 2816) : padded (prod x g w) (ix3 b n f) = past x g w b n.val f := by
  have hp := prod_apply x g w
  generalize prod x g w = u at hp ⊢
  unfold padded
  pointwise
  unfold past
  by_cases h : n.val < 2
  · rw [dif_pos h, dif_neg (by omega)]
  · rw [dif_neg h, dif_pos ⟨by omega, n.isLt⟩]
    exact hp _ _ _

/-- The convolved gate. -/
def convT (p : FVec Ideal S16x2050x2816 .f32) : FVec Ideal S16x2048x2816 .f32 :=
  addf (addf (addf (broadcastInDim S16x2048x2816 ![0, 1, 2] bcast_S1x1x2816_S16x2048x2816_0_1_2 (broadcastInDim S1x1x2816 ![2] bcast_S2816_S1x1x2816_2 cb)) (mulf (broadcastInDim S16x2048x2816 ![0, 1, 2] bcast_S1x1x2816_S16x2048x2816_0_1_2 (broadcastInDim S1x1x2816 ![2] bcast_S2816_S1x1x2816_2 (shapeCast _ (extractStridedSlice S1x2816 ![0, 0] cw slices_S3x2816_S1x2816_0_0) shapeCasts_S1x2816_S2816))) (extractStridedSlice S16x2048x2816 ![0, 0, 0] p slices_S16x2050x2816_S16x2048x2816_0_0_0)))
    (mulf (broadcastInDim S16x2048x2816 ![0, 1, 2] bcast_S1x1x2816_S16x2048x2816_0_1_2 (broadcastInDim S1x1x2816 ![2] bcast_S2816_S1x1x2816_2 (shapeCast _ (extractStridedSlice S1x2816 ![1, 0] cw slices_S3x2816_S1x2816_1_0) shapeCasts_S1x2816_S2816))) (extractStridedSlice S16x2048x2816 ![0, 1, 0] p slices_S16x2050x2816_S16x2048x2816_0_1_0)))
    (mulf (broadcastInDim S16x2048x2816 ![0, 1, 2] bcast_S1x1x2816_S16x2048x2816_0_1_2 (broadcastInDim S1x1x2816 ![2] bcast_S2816_S1x1x2816_2 (shapeCast _ (extractStridedSlice S1x2816 ![2, 0] cw slices_S3x2816_S1x2816_2_0) shapeCasts_S1x2816_S2816))) (extractStridedSlice S16x2048x2816 ![0, 2, 0] p slices_S16x2050x2816_S16x2048x2816_0_2_0))

theorem convT_apply (p : FVec Ideal S16x2050x2816 .f32) (b : Fin 16) (s : Fin 2048) (f : Fin 2816) :
    convT cw cb p (ix3 b s f) = conv3 (cw (ix2 0 f)) (cw (ix2 1 f)) (cw (ix2 2 f)) (cb (ix1 f)) (p (ix3 b ⟨s.val, by omega⟩ f)) (p (ix3 b ⟨1 + s.val, by omega⟩ f))
      (p (ix3 b ⟨2 + s.val, by omega⟩ f)) := by
  unfold convT
  pointwise

/-- The result, of the convolved gate and the product. -/
def outT (z : FVec Ideal S16x2048x2816 .f32) (u : FVec Ideal S16x2048x5632 .f32) : FVec Ideal S16x2048x1024 .f32 :=
  addf x (Host.dotGeneral dot_S16x2048x2816_S2816x1024_S16x2048x1024_2_0_01_1_n_n none (mulf (mulf z (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf z))))) (extractStridedSlice S16x2048x2816 ![0, 0, 2816] u slices_S16x2048x5632_S16x2048x2816_0_0_2816)) d)

theorem outT_apply (z : FVec Ideal S16x2048x2816 .f32) (u : FVec Ideal S16x2048x5632 .f32) (b : Fin 16) (s : Fin 2048) (j : Fin 1024) :
    outT x d z u (ix3 b s j) = x (ix3 b s j) + ∑ f : Fin 2816, z (ix3 b s f) * Ideal.logistic (z (ix3 b s f)) * u (ix3 b s ⟨2816 + f.val, by omega⟩) * d (ix2 f j) := by
  unfold outT
  pointwise
  rfl

/-- The first result. -/
theorem out_apply (b : Fin 16) (s : Fin 2048) (j : Fin 1024) :
    outT x d (convT cw cb (padded (prod x g w))) (prod x g w) (ix3 b s j) = out x g w d cw cb b s j := by
  refine (outT_apply x d _ _ b s j).trans ?_
  unfold out
  refine congrArg (fun z : EReal => x (ix3 b s j) + z) (Finset.sum_congr rfl fun f _ => congrArg (fun z : EReal => z * d (ix2 f j)) ?_)
  rw [convT_apply, prod_apply, padded_apply, padded_apply, padded_apply]
  rfl

theorem res_eq (m : (ℓ : Loc nD τ sig) → Buf (Elt Ideal) ℓ) (c : Dev nD) :
    Value.res_main_v45 m c = outT (m ((c.tc : Thread nD τ).loc main_arg0)) (m ((c.tc : Thread nD τ).loc main_arg3))
      (convT (m ((c.tc : Thread nD τ).loc main_arg4)) (m ((c.tc : Thread nD τ).loc main_arg5))
        (padded (prod (m ((c.tc : Thread nD τ).loc main_arg0)) (m ((c.tc : Thread nD τ).loc main_arg1)) (m ((c.tc : Thread nD τ).loc main_arg2)))))
      (prod (m ((c.tc : Thread nD τ).loc main_arg0)) (m ((c.tc : Thread nD τ).loc main_arg1)) (m ((c.tc : Thread nD τ).loc main_arg2))) := rfl

/-- The second result. -/
theorem last_apply (b : Fin 16) (i : Fin 2) (f : Fin 2816) :
    extractStridedSlice S16x2x2816 ![0, 2048, 0] (padded (prod x g w)) slices_S16x2050x2816_S16x2x2816_0_2048_0 (ix3 b i f)
      = last x g w b i f := by
  have e : extractStridedSlice S16x2x2816 ![0, 2048, 0] (padded (prod x g w)) slices_S16x2050x2816_S16x2x2816_0_2048_0 (ix3 b i f)
      = padded (prod x g w) (ix3 b ⟨2048 + i.val, by omega⟩ f) := by
    generalize padded (prod x g w) = u
    pointwise
  rw [e, padded_apply]
  unfold past last
  rw [dif_pos ⟨by show 2 ≤ 2048 + i.val; omega, by show 2048 + i.val < 2050; omega⟩]
  exact congrArg (fun z => up x g w b z _) (Fin.ext (by show 2048 + i.val - 2 = 2046 + i.val; omega))

end Cert.Reference6Ideal.Ffn

end
-- ==== Proof.FfnEq.lean ====
/-
  The feed-forward's claims: its frames, from the run at any float semantics (`FfnFrame`), and that the kernel's two
  results are the reference's.
-/
module

public import proofs.«01_k».proof.Defs
public import proofs.«01_k».proof.Proof.FfnValue
public import proofs.«01_k».proof.Proof.FfnRef
public import proofs.«01_k».proof.Proof.Gen.Kernel6.Frame
public import Idealize.ShloMosaic.Adequacy
public import Idealize.ShloMosaic.Init
public import Idealize.ShloMosaic.Lib.Quiescent

@[expose] public section

noncomputable section

namespace Cert.Proof

open Idealize.ShloMosaic Idealize.SL.Sem

theorem quiescent_Kernel6Ideal : Cert.quiescent_Kernel6Ideal := fun m ρ _ => Cert.Kernel6Ideal.Gen.frame (F := Ideal) m ρ

section
set_option maxRecDepth 100000
set_option maxHeartbeats 4000000
variable [Cert.Kernel6.Facts] [Cert.Kernel6Ideal.Facts]

/-- The printed body at the bits is the idealized one's. -/
theorem ffn_body_eq : ∀ i arg3 harg3 arg4 harg4 arg5 harg5 arg6 harg6 arg7 harg7 arg8 harg8 arg9 harg9 arg10 harg10 arg11 harg11 arg12 harg12 arg13 harg13 arg14 harg14 arg15 harg15, Cert.Kernel6Ideal.cc0_ffn (F := Bits) i arg3 harg3 arg4 harg4 arg5 harg5 arg6 harg6 arg7 harg7 arg8 harg8 arg9 harg9 arg10 harg10 arg11 harg11 arg12 harg12 arg13 harg13 arg14 harg14 arg15 harg15
    = Cert.Kernel6.cc0_ffn (F := Bits) i arg3 harg3 arg4 harg4 arg5 harg5 arg6 harg6 arg7 harg7 arg8 harg8 arg9 harg9 arg10 harg10 arg11 harg11 arg12 harg12 arg13 harg13 arg14 harg14 arg15 harg15 := fun i arg3 harg3 arg4 harg4 arg5 harg5 arg6 harg6 arg7 harg7 arg8 harg8 arg9 harg9 arg10 harg10 arg11 harg11 arg12 harg12 arg13 harg13 arg14 harg14 arg15 harg15 => rfl
theorem ffn_main_eq : Cert.Kernel6Ideal.main (F := Bits) = Cert.Kernel6.main (F := Bits) := by rfl
theorem ffn_defs0_eq : Cert.Kernel6Ideal.defs₀ (F := Bits) = Cert.Kernel6.defs₀ (F := Bits) := by
  unfold Cert.Kernel6Ideal.defs₀ Cert.Kernel6.defs₀
  refine congrArg (Defs.onTc (nD := Cert.Kernel6.nD) (τ := Cert.Kernel6.τ) (sig := Cert.Kernel6.sig) (Λ := Cert.Kernel6.Λ₀)) (funext fun l => ?_)
  match l with
  | 0 =>
    refine funext fun ⟨t, s⟩ => ?_
    exact ffn_body_eq _ _ _ _ _ _ _ _ _ _ _ _ _ _ _ _ _ _ _ _ _ _ _ _ _ _ _
theorem ffn_defs_eq : Cert.Kernel6Ideal.defs (F := Bits) = Cert.Kernel6.defs (F := Bits) := congrArg (Pipeline.defs Cert.Kernel6.pcfgs) ffn_defs0_eq

end

theorem quiescent_Kernel6 : Cert.quiescent_Kernel6 := fun m ρ _ => by
  rw [← ffn_defs_eq, ← ffn_main_eq]
  exact Cert.Kernel6Ideal.Gen.frame (F := Bits) m ρ

theorem quiescent_Reference6Ideal : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem algebraic_Kernel6Ideal_Reference6Ideal : Cert.algebraic_Kernel6Ideal_Reference6Ideal := by
  intro m ρ m' ρ' _ hagree
  refine ⟨fun c => Cert.Kernel6Ideal.Ffn.G7 m c, fun c => Cert.Kernel6Ideal.Ffn.lastT (Cert.Kernel6Ideal.Ffn.G8 m c), ?_, ?_⟩
  · refine (θ_run Cert.Kernel6Ideal.defs _ _).mono (fun r h c => ⟨?_, ?_, h.2.1 c⟩)
      (θ_run_and (Cert.Kernel6Ideal.Gen.run_main (F := Ideal) m ρ) (Cert.Kernel6Ideal.Gen.frame (F := Ideal) m ρ))
    · exact (h.1.out_eq c 7).trans (Cert.Kernel6Ideal.Ffn.array7 m c)
    · exact ((h.1 c).2 Cert.Kernel6Ideal.main_v6 (Pipeline.mem_restRefs_of Cert.Kernel6Ideal.main_v6 (by decide) (by decide))).trans (Cert.Kernel6Ideal.Ffn.second m c)
  · refine (θ_run Cert.Reference6Ideal.defs _ _).mono (fun _ h c => ⟨?_, ?_, (h c).2.2⟩) (Cert.Reference6Ideal.Value.run (F := Ideal) m' ρ')
    · obtain ⟨h0, h1, h2, h3, h4, h5⟩ := hagree c
      refine (h c).1.trans ?_
      rw [Cert.Reference6Ideal.Ffn.res_eq]
      funext i
      idx_vars i
      refine (Cert.Reference6Ideal.Ffn.out_apply _ _ _ _ _ _ _ _ _).trans ?_
      rw [h0, h1, h2, h3, h4, h5]
      exact (Cert.Kernel6Ideal.Ffn.G7_apply m c _ _ _).symm
    · obtain ⟨h0, h1, h2, h3, h4, h5⟩ := hagree c
      refine (h c).2.1.trans ?_
      funext i
      idx_vars i
      refine (Cert.Reference6Ideal.Ffn.last_apply _ _ _ _ _ _).trans ?_
      rw [h0, h1, h2]
      exact (Cert.Kernel6Ideal.Ffn.second_apply m c _ _ _).symm

theorem preserves_Kernel6_Kernel6Ideal : Cert.preserves_Kernel6_Kernel6Ideal := trivial

end Cert.Proof

end
-- ==== Proof.Keys.lean ====
/-
  The keys of the prompt's attention: an RMS norm of the rows and its product with the key columns. The kernel walks 32
  blocks of 1024 rows and writes them into the first slab of the stack of every layer's keys; the host's last lines cut
  that slab out.
-/
module

public import proofs.«01_k».proof.Proof.Gen.Kernel7Ideal.Frame
public import proofs.«01_k».proof.Proof.Gen.Reference7Ideal.Run
public import proofs.«01_k».proof.Proof.InProj
public import Idealize.ShloMosaic.Lib.Pointwise
public import Idealize.ShloMosaic.Lib.Tactic.CleanTypes
public import Idealize.ShloMosaic.Lib.Pipeline.ValueKit
public import Idealize.ShloMosaic.Lib.Pipeline.ReadBack

@[expose] public section

set_option maxRecDepth 16384

noncomputable section

/-! ## The keys in plain mathematics -/

namespace Cert.Keys

open Idealize.ShloMosaic

/-- The key of row `r` at column `j`: the normed row's product with the key columns, which start at column 5120. -/
def key (X : (⟨3, ![16, 2048, 1024]⟩ : Shape).Idx → EReal) (g : (⟨1, ![1024]⟩ : Shape).Idx → EReal)
    (W : (⟨2, ![1024, 16416]⟩ : Shape).Idx → EReal) (r : Fin 32768) (j : Fin 1024) : EReal :=
  ∑ k, InProj.normed X g r k * W (ix2 k ⟨5120 + j.val, by omega⟩)

end Cert.Keys

/-! ## What the kernel leaves -/

namespace Cert.Kernel7Ideal.Keys

open Cert.Keys Cert.InProj Cert.Kernel7Ideal Cert.Kernel7Ideal.Gen Idealize.ShloMosaic Idealize.ShloMosaic.TcCoe Idealize.ShloMosaic.Tactic Idealize.SL.Sem

variable (m : (ℓ : Loc nD τ sig) → Buf (Elt Ideal) ℓ) (c : Dev nD)

abbrev X0 : Vec Ideal S16x2048x1024 .f32 := m ((c : Thread nD τ).loc main_arg0)
abbrev X1 : Vec Ideal S1024 .f32 := m ((c : Thread nD τ).loc main_arg1)
abbrev X2 : Vec Ideal S1024x16416 .f32 := m ((c : Thread nD τ).loc main_arg2)

theorem row_lt (t : Fin grid0.N) (r : Fin 1024) : t.val * 1024 + r.val < 32768 := by
  have h : t.val < 32 := lt_of_lt_of_eq t.isLt N_0
  omega

/-- The row of the arrays that row `r` of point `t`'s blocks is. -/
abbrev rw_ (t : Fin grid0.N) (r : Fin 1024) : Fin 32768 := ⟨t.val * 1024 + r.val, row_lt t r⟩

theorem V_eq (b : Ref sig .tc) : V m c b = StableHlo.after hostOps0 (fun b => m (c, b)) b := by
  show StableHlo.after (List.flatten [hostOps0]) (fun b => m (c, b)) (Proc.devRef .tc b) = _
  rw [List.flatten_cons, List.flatten_nil, List.append_nil]

theorem V2_apply (r : Fin 32768) (k : Fin 1024) : (V m c main_v2 : Vec Ideal S32768x1024 .f32) (ix2 r k) = row (X0 m c) r k := by
  rw [V_eq]
  entry_read
  pointwise

theorem V1_apply (k j : Fin 1024) : (V m c main_v1 : Vec Ideal S1024x1024 .bf16) (ix2 k j) = X2 m c (ix2 k ⟨5120 + j.val, by omega⟩) := by
  rw [V_eq]
  entry_read
  pointwise

theorem V3_apply (k : Fin 1024) : (V m c main_v3 : Vec Ideal S1x1024 .f32) (ix2 0 k) = X1 m c (ix1 k) := by
  rw [V_eq]
  entry_read
  pointwise

theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![0, 0] := by decide +kernel
theorem e3 : ∀ t : Fin grid0.N, win0_3.index t = ![0, t.val, 0] := by decide +kernel

theorem b0 (t : Fin grid0.N) (r : Fin 1024) (k : Fin 1024) : (iblk m c 0 t : Vec Ideal S1024x1024 .f32) (ix2 r k) = row (X0 m c) (rw_ t r) k := by
  rw [← V2_apply]
  blk_ext [iblk, e0 t]

theorem b1 (t : Fin grid0.N) (k : Fin 1024) : (iblk m c 1 t : Vec Ideal S1x1024 .f32) (ix2 0 k) = X1 m c (ix1 k) := by
  rw [← V3_apply]
  blk_ext [iblk, e1 t]

theorem b2 (t : Fin grid0.N) (k j : Fin 1024) : (iblk m c 2 t : Vec Ideal S1024x1024 .bf16) (ix2 k j) = X2 m c (ix2 k ⟨5120 + j.val, by omega⟩) := by
  rw [← V1_apply]
  blk_ext [iblk, e2 t]

theorem pay1_apply (x : Vec Ideal S1024x1024 .f32) (g : Vec Ideal S1x1024 .f32) (r k : Fin 1024) :
    k0_pay1 (F := Ideal) x g (ix2 r k)
      = x (ix2 r k) * Ideal.rsqrt (Ideal.div (∑ l : Fin 1024, x (ix2 r l) * x (ix2 r l)) (Ideal.ofBits FTy.f32 1149239296#32)
          + Ideal.ofBits FTy.f32 897988541#32) * g (ix2 0 k) := by
  pointwise [k0_pay1]

theorem pay2_apply (h : Vec Ideal S1024x1024 .bf16) (w : Vec Ideal S1024x1024 .bf16) (r j : Fin 1024) :
    k0_pay2 (F := Ideal) h w (ix3 0 r j) = ∑ k : Fin 1024, h (ix2 r k) * w (ix2 k j) := by
  pointwise [k0_pay2]

/-- What point `t` writes. -/
theorem point (t : Fin grid0.N) (r j : Fin 1024) :
    k0_pay2 (F := Ideal) (k0_pay1 (iblk m c 0 t) (iblk m c 1 t)) (iblk m c 2 t) (ix3 0 r j) = key (X0 m c) (X1 m c) (X2 m c) (rw_ t r) j := by
  refine (pay2_apply _ _ r j).trans ?_
  unfold key normed
  simp only [pay1_apply, b0, b1, b2]

/-- The stack, were each of its slabs the first layer's keys. -/
def G : Vec Ideal S2x32768x1024 .f32 := fun i => key (X0 m c) (X1 m c) (X2 m c) (i 1) (i 2)

theorem G_apply (l : Fin 2) (r : Fin 32768) (j : Fin 1024) : G m c (ix3 l r j) = key (X0 m c) (X1 m c) (X2 m c) r j := rfl

theorem emb3 (t : Fin grid0.N) (r j : Fin 1024) :
    (ix3 0 (rw_ t r) j : S2x32768x1024.Idx) = (win0_3.blk t).view.emb (ix3 0 r j : S1x1024x1024.Idx) := by
  blk_ext [e3 t]

theorem block (t : Fin grid0.N) (y : S1x1024x1024.Idx) :
    k0_pay2 (F := Ideal) (k0_pay1 (iblk m c 0 t) (iblk m c 1 t)) (iblk m c 2 t) y = G m c ((win0_3.blk t).view.emb y) := by
  have hy : y = ix3 0 (y 1) (y 2) := by
    idx_vars y
    exact congrArg (fun z => ix3 z y1 y2) (Subsingleton.elim y0 0)
  generalize y 1 = r at hy
  generalize y 2 = j at hy
  subst hy
  exact (point m c t r j).trans ((G_apply m c 0 (rw_ t r) j).symm.trans (congrArg (G m c) (emb3 t r j)))

theorem out_block (t : Fin cfg0.N) : outsAt0 (F := Ideal) m c t = k0_pay2 (F := Ideal) (k0_pay1 (iblk m c 0 t) (iblk m c 1 t)) (iblk m c 2 t) := by
  unfold outsAt0
  funext y
  frame_out

/-- The first slab of the array the pipeline leaves is the keys; the rest is as it was found. -/
theorem array : (dats (F := Ideal) m 0 c).arrAt 3 cfg0.N = fun i => if (i 0 : ℕ) / 1 = 0 then G m c i else V m c main_v4 i := by
  refine (dats m 0 c).arrAt_eq_of_coversWhere 3 _ (fun β => β (0 : Fin _) = 0) (by decide +kernel) (fun t hf y => ?_) (fun j => Iff.rfl)
  blk_simp
  rw [after0_3, out_block]
  exact block m c t y

/-- The first slab, of the whole stack. -/
def slab (u : Vec Ideal S2x32768x1024 .f32) : Vec Ideal S32768x1024 .f32 :=
  shapeCast S32768x1024 (extractStridedSlice S1x32768x1024 ![0, 0, 0] u slices_S2x32768x1024_S1x32768x1024_0_0_0) shapeCasts_S1x32768x1024_S32768x1024

theorem slab_apply (u : Vec Ideal S2x32768x1024 .f32) (r : Fin 32768) (j : Fin 1024) : slab u (ix2 r j) = u (ix3 0 r j) := by
  unfold slab
  pointwise

/-- The host's last lines, of whatever they find. -/
theorem tail_eq (W : Valuation τ sig (Elt Ideal)) :
    StableHlo.after (hostOps1 (F := Ideal)) W (Proc.devRef .tc main_v6) = slab (W (Proc.devRef .tc main_v4)) := by
  simp only [hostOps1]
  after_results_simp
  rfl

/-- The result. -/
def out : Vec Ideal S32768x1024 .f32 := fun i => key (X0 m c) (X1 m c) (X2 m c) (i 0) (i 1)

theorem result : Pipeline.afterTail₀ cfgs (dats (F := Ideal) m) 0 (V0 m) [hostOps1] c main_v6 = out m c := by
  have found : Pipeline.withArrays spec0 c (V0 m c) (fun w => (dats (F := Ideal) m 0 c).arrAt w cfg0.N) (Proc.devRef .tc main_v4)
      = (dats (F := Ideal) m 0 c).arrAt 3 cfg0.N := Pipeline.withArrays_arr spec0 launch0.win.arr_inj c _ _ 3
  have h : Pipeline.afterTail₀ cfgs (dats (F := Ideal) m) 0 (V0 m) [hostOps1] c main_v6 = slab ((dats (F := Ideal) m 0 c).arrAt 3 cfg0.N) := by
    rw [← found, ← tail_eq]
    unfold Pipeline.afterTail₀
    rw [List.flatten_cons, List.flatten_nil, List.append_nil]
  refine h.trans ?_
  funext i
  idx_vars i
  refine (slab_apply _ _ _).trans ?_
  rw [array]
  exact if_pos (Nat.zero_div 1)

end Cert.Kernel7Ideal.Keys

/-! ## What the reference computes -/

namespace Cert.Reference7Ideal.Keys

open Cert.Keys Cert.Reference7Ideal Cert.Reference7Ideal.Gen Idealize.ShloMosaic Idealize.ShloMosaic.TcCoe Idealize.ShloMosaic.Tactic Idealize.SL.Sem Idealize.ShloMosaic.StableHlo

theorem out_apply (X : FVec Ideal S16x2048x1024 .f32) (g : FVec Ideal S1024 .f32) (W : FVec Ideal S1024x16416 .f32) (r : Fin 32768) (j : Fin 1024) :
    (shapeCast S32768x1024 (extractStridedSlice S16x2048x1024 ![0, 0, 5120] (Host.dotGeneral dot_S16x2048x1024_S1024x16416_S16x2048x16416_2_0_01_1_n_n none (mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) W) slices_S16x2048x16416_S16x2048x1024_0_0_5120) shapeCasts_S16x2048x1024_S32768x1024 : FVec Ideal S32768x1024 .f32) (ix2 r j) = key X g W r j := by
  pointwise
  rfl

end Cert.Reference7Ideal.Keys

end
-- ==== Proof.KeysEq.lean ====
/-
  The claims on the keys: the kernel's array is the reference's.
-/
module

public import proofs.«01_k».proof.Defs
public import proofs.«01_k».proof.Proof.Keys
public import proofs.«01_k».proof.Proof.Gen.Kernel7.Frame
public import Idealize.ShloMosaic.Adequacy
public import Idealize.ShloMosaic.Init
public import Idealize.ShloMosaic.Lib.Quiescent

@[expose] public section

noncomputable section

namespace Cert.Proof

open Idealize.ShloMosaic Idealize.SL.Sem

theorem quiescent_Reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic_Kernel7Ideal_Reference7Ideal : Cert.algebraic_Kernel7Ideal_Reference7Ideal := by
  intro m ρ m' ρ' _ hagree
  refine ⟨fun c => Cert.Kernel7Ideal.Keys.out m c, ?_, ?_⟩
  · refine (θ_run Cert.Kernel7Ideal.defs _ _).mono (fun r h c => ⟨?_, h.2.1 c⟩)
      (θ_run_and (Cert.Kernel7Ideal.Gen.run_main (F := Ideal) m ρ) (Cert.Kernel7Ideal.Gen.frame (F := Ideal) m ρ))
    exact ((h.1 c).2 Cert.Kernel7Ideal.main_v6 (Pipeline.mem_restRefs_of Cert.Kernel7Ideal.main_v6 (by decide) (by decide))).trans (Cert.Kernel7Ideal.Keys.result m c)
  · refine (θ_run Cert.Reference7Ideal.defs _ _).mono (fun _ h c => ⟨?_, (h c).2⟩) (Cert.Reference7Ideal.Value.run (F := Ideal) m' ρ')
    obtain ⟨h0, h1, h2⟩ := hagree c
    refine (h c).1.trans ?_
    funext i
    idx_vars i
    refine (Cert.Reference7Ideal.Keys.out_apply _ _ _ _ _).trans ?_
    rw [h0, h1, h2]
    rfl

end Cert.Proof

end
-- ==== Proof.Values.lean ====
/-
  The values of the prompt's attention: as the keys (`Keys`), from the value columns of the weights.
-/
module

public import proofs.«01_k».proof.Proof.Gen.Kernel8Ideal.Frame
public import proofs.«01_k».proof.Proof.Gen.Reference8Ideal.Run
public import proofs.«01_k».proof.Proof.InProj
public import Idealize.ShloMosaic.Lib.Pointwise
public import Idealize.ShloMosaic.Lib.Tactic.CleanTypes
public import Idealize.ShloMosaic.Lib.Pipeline.ValueKit
public import Idealize.ShloMosaic.Lib.Pipeline.ReadBack

@[expose] public section

set_option maxRecDepth 16384

noncomputable section

/-! ## The values in plain mathematics -/

namespace Cert.Values

open Idealize.ShloMosaic

/-- The value of row `r` at column `j`: the normed row's product with the value columns, which start at column 6144. -/
def value (X : (⟨3, ![16, 2048, 1024]⟩ : Shape).Idx → EReal) (g : (⟨1, ![1024]⟩ : Shape).Idx → EReal)
    (W : (⟨2, ![1024, 16416]⟩ : Shape).Idx → EReal) (r : Fin 32768) (j : Fin 1024) : EReal :=
  ∑ k, InProj.normed X g r k * W (ix2 k ⟨6144 + j.val, by omega⟩)

end Cert.Values

/-! ## What the kernel leaves -/

namespace Cert.Kernel8Ideal.Values

open Cert.Values Cert.InProj Cert.Kernel8Ideal Cert.Kernel8Ideal.Gen Idealize.ShloMosaic Idealize.ShloMosaic.TcCoe Idealize.ShloMosaic.Tactic Idealize.SL.Sem

variable (m : (ℓ : Loc nD τ sig) → Buf (Elt Ideal) ℓ) (c : Dev nD)

abbrev X0 : Vec Ideal S16x2048x1024 .f32 := m ((c : Thread nD τ).loc main_arg0)
abbrev X1 : Vec Ideal S1024 .f32 := m ((c : Thread nD τ).loc main_arg1)
abbrev X2 : Vec Ideal S1024x16416 .f32 := m ((c : Thread nD τ).loc main_arg2)

theorem row_lt (t : Fin grid0.N) (r : Fin 1024) : t.val * 1024 + r.val < 32768 := by
  have h : t.val < 32 := lt_of_lt_of_eq t.isLt N_0
  omega

/-- The row of the arrays that row `r` of point `t`'s blocks is. -/
abbrev rw_ (t : Fin grid0.N) (r : Fin 1024) : Fin 32768 := ⟨t.val * 1024 + r.val, row_lt t r⟩

theorem V_eq (b : Ref sig .tc) : V m c b = StableHlo.after hostOps0 (fun b => m (c, b)) b := by
  show StableHlo.after (List.flatten [hostOps0]) (fun b => m (c, b)) (Proc.devRef .tc b) = _
  rw [List.flatten_cons, List.flatten_nil, List.append_nil]

theorem V2_apply (r : Fin 32768) (k : Fin 1024) : (V m c main_v2 : Vec Ideal S32768x1024 .f32) (ix2 r k) = row (X0 m c) r k := by
  rw [V_eq]
  entry_read
  pointwise

theorem V1_apply (k j : Fin 1024) : (V m c main_v1 : Vec Ideal S1024x1024 .bf16) (ix2 k j) = X2 m c (ix2 k ⟨6144 + j.val, by omega⟩) := by
  rw [V_eq]
  entry_read
  pointwise

theorem V3_apply (k : Fin 1024) : (V m c main_v3 : Vec Ideal S1x1024 .f32) (ix2 0 k) = X1 m c (ix1 k) := by
  rw [V_eq]
  entry_read
  pointwise

theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![0, 0] := by decide +kernel
theorem e3 : ∀ t : Fin grid0.N, win0_3.index t = ![0, t.val, 0] := by decide +kernel

theorem b0 (t : Fin grid0.N) (r : Fin 1024) (k : Fin 1024) : (iblk m c 0 t : Vec Ideal S1024x1024 .f32) (ix2 r k) = row (X0 m c) (rw_ t r) k := by
  rw [← V2_apply]
  blk_ext [iblk, e0 t]

theorem b1 (t : Fin grid0.N) (k : Fin 1024) : (iblk m c 1 t : Vec Ideal S1x1024 .f32) (ix2 0 k) = X1 m c (ix1 k) := by
  rw [← V3_apply]
  blk_ext [iblk, e1 t]

theorem b2 (t : Fin grid0.N) (k j : Fin 1024) : (iblk m c 2 t : Vec Ideal S1024x1024 .bf16) (ix2 k j) = X2 m c (ix2 k ⟨6144 + j.val, by omega⟩) := by
  rw [← V1_apply]
  blk_ext [iblk, e2 t]

theorem pay1_apply (x : Vec Ideal S1024x1024 .f32) (g : Vec Ideal S1x1024 .f32) (r k : Fin 1024) :
    k0_pay1 (F := Ideal) x g (ix2 r k)
      = x (ix2 r k) * Ideal.rsqrt (Ideal.div (∑ l : Fin 1024, x (ix2 r l) * x (ix2 r l)) (Ideal.ofBits FTy.f32 1149239296#32)
          + Ideal.ofBits FTy.f32 897988541#32) * g (ix2 0 k) := by
  pointwise [k0_pay1]

theorem pay2_apply (h : Vec Ideal S1024x1024 .bf16) (w : Vec Ideal S1024x1024 .bf16) (r j : Fin 1024) :
    k0_pay2 (F := Ideal) h w (ix3 0 r j) = ∑ k : Fin 1024, h (ix2 r k) * w (ix2 k j) := by
  pointwise [k0_pay2]

/-- What point `t` writes. -/
theorem point (t : Fin grid0.N) (r j : Fin 1024) :
    k0_pay2 (F := Ideal) (k0_pay1 (iblk m c 0 t) (iblk m c 1 t)) (iblk m c 2 t) (ix3 0 r j) = value (X0 m c) (X1 m c) (X2 m c) (rw_ t r) j := by
  refine (pay2_apply _ _ r j).trans ?_
  unfold value normed
  simp only [pay1_apply, b0, b1, b2]

/-- The stack, were each of its slabs the first layer's values. -/
def G : Vec Ideal S2x32768x1024 .f32 := fun i => value (X0 m c) (X1 m c) (X2 m c) (i 1) (i 2)

theorem G_apply (l : Fin 2) (r : Fin 32768) (j : Fin 1024) : G m c (ix3 l r j) = value (X0 m c) (X1 m c) (X2 m c) r j := rfl

theorem emb3 (t : Fin grid0.N) (r j : Fin 1024) :
    (ix3 0 (rw_ t r) j : S2x32768x1024.Idx) = (win0_3.blk t).view.emb (ix3 0 r j : S1x1024x1024.Idx) := by
  blk_ext [e3 t]

theorem block (t : Fin grid0.N) (y : S1x1024x1024.Idx) :
    k0_pay2 (F := Ideal) (k0_pay1 (iblk m c 0 t) (iblk m c 1 t)) (iblk m c 2 t) y = G m c ((win0_3.blk t).view.emb y) := by
  have hy : y = ix3 0 (y 1) (y 2) := by
    idx_vars y
    exact congrArg (fun z => ix3 z y1 y2) (Subsingleton.elim y0 0)
  generalize y 1 = r at hy
  generalize y 2 = j at hy
  subst hy
  exact (point m c t r j).trans ((G_apply m c 0 (rw_ t r) j).symm.trans (congrArg (G m c) (emb3 t r j)))

theorem out_block (t : Fin cfg0.N) : outsAt0 (F := Ideal) m c t = k0_pay2 (F := Ideal) (k0_pay1 (iblk m c 0 t) (iblk m c 1 t)) (iblk m c 2 t) := by
  unfold outsAt0
  funext y
  frame_out

/-- The first slab of the array the pipeline leaves is the values; the rest is as it was found. -/
theorem array : (dats (F := Ideal) m 0 c).arrAt 3 cfg0.N = fun i => if (i 0 : ℕ) / 1 = 0 then G m c i else V m c main_v4 i := by
  refine (dats m 0 c).arrAt_eq_of_coversWhere 3 _ (fun β => β (0 : Fin _) = 0) (by decide +kernel) (fun t hf y => ?_) (fun j => Iff.rfl)
  blk_simp
  rw [after0_3, out_block]
  exact block m c t y

/-- The first slab, of the whole stack. -/
def slab (u : Vec Ideal S2x32768x1024 .f32) : Vec Ideal S32768x1024 .f32 :=
  shapeCast S32768x1024 (extractStridedSlice S1x32768x1024 ![0, 0, 0] u slices_S2x32768x1024_S1x32768x1024_0_0_0) shapeCasts_S1x32768x1024_S32768x1024

theorem slab_apply (u : Vec Ideal S2x32768x1024 .f32) (r : Fin 32768) (j : Fin 1024) : slab u (ix2 r j) = u (ix3 0 r j) := by
  unfold slab
  pointwise

/-- The host's last lines, of whatever they find. -/
theorem tail_eq (W : Valuation τ sig (Elt Ideal)) :
    StableHlo.after (hostOps1 (F := Ideal)) W (Proc.devRef .tc main_v6) = slab (W (Proc.devRef .tc main_v4)) := by
  simp only [hostOps1]
  after_results_simp
  rfl

/-- The result. -/
def out : Vec Ideal S32768x1024 .f32 := fun i => value (X0 m c) (X1 m c) (X2 m c) (i 0) (i 1)

theorem result : Pipeline.afterTail₀ cfgs (dats (F := Ideal) m) 0 (V0 m) [hostOps1] c main_v6 = out m c := by
  have found : Pipeline.withArrays spec0 c (V0 m c) (fun w => (dats (F := Ideal) m 0 c).arrAt w cfg0.N) (Proc.devRef .tc main_v4)
      = (dats (F := Ideal) m 0 c).arrAt 3 cfg0.N := Pipeline.withArrays_arr spec0 launch0.win.arr_inj c _ _ 3
  have h : Pipeline.afterTail₀ cfgs (dats (F := Ideal) m) 0 (V0 m) [hostOps1] c main_v6 = slab ((dats (F := Ideal) m 0 c).arrAt 3 cfg0.N) := by
    rw [← found, ← tail_eq]
    unfold Pipeline.afterTail₀
    rw [List.flatten_cons, List.flatten_nil, List.append_nil]
  refine h.trans ?_
  funext i
  idx_vars i
  refine (slab_apply _ _ _).trans ?_
  rw [array]
  exact if_pos (Nat.zero_div 1)

end Cert.Kernel8Ideal.Values

/-! ## What the reference computes -/

namespace Cert.Reference8Ideal.Values

open Cert.Values Cert.Reference8Ideal Cert.Reference8Ideal.Gen Idealize.ShloMosaic Idealize.ShloMosaic.TcCoe Idealize.ShloMosaic.Tactic Idealize.SL.Sem Idealize.ShloMosaic.StableHlo

theorem out_apply (X : FVec Ideal S16x2048x1024 .f32) (g : FVec Ideal S1024 .f32) (W : FVec Ideal S1024x16416 .f32) (r : Fin 32768) (j : Fin 1024) :
    (shapeCast S32768x1024 (extractStridedSlice S16x2048x1024 ![0, 0, 6144] (Host.dotGeneral dot_S16x2048x1024_S1024x16416_S16x2048x16416_2_0_01_1_n_n none (mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) W) slices_S16x2048x16416_S16x2048x1024_0_0_6144) shapeCasts_S16x2048x1024_S32768x1024 : FVec Ideal S32768x1024 .f32) (ix2 r j) = value X g W r j := by
  pointwise
  rfl

end Cert.Reference8Ideal.Values

end
-- ==== Proof.ValuesEq.lean ====
/-
  The claims on the values: the kernel's array is the reference's.
-/
module

public import proofs.«01_k».proof.Defs
public import proofs.«01_k».proof.Proof.Values
public import proofs.«01_k».proof.Proof.Gen.Kernel8.Frame
public import Idealize.ShloMosaic.Adequacy
public import Idealize.ShloMosaic.Init
public import Idealize.ShloMosaic.Lib.Quiescent

@[expose] public section

noncomputable section

namespace Cert.Proof

open Idealize.ShloMosaic Idealize.SL.Sem

theorem quiescent_Reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic_Kernel8Ideal_Reference8Ideal : Cert.algebraic_Kernel8Ideal_Reference8Ideal := by
  intro m ρ m' ρ' _ hagree
  refine ⟨fun c => Cert.Kernel8Ideal.Values.out m c, ?_, ?_⟩
  · refine (θ_run Cert.Kernel8Ideal.defs _ _).mono (fun r h c => ⟨?_, h.2.1 c⟩)
      (θ_run_and (Cert.Kernel8Ideal.Gen.run_main (F := Ideal) m ρ) (Cert.Kernel8Ideal.Gen.frame (F := Ideal) m ρ))
    exact ((h.1 c).2 Cert.Kernel8Ideal.main_v6 (Pipeline.mem_restRefs_of Cert.Kernel8Ideal.main_v6 (by decide) (by decide))).trans (Cert.Kernel8Ideal.Values.result m c)
  · refine (θ_run Cert.Reference8Ideal.defs _ _).mono (fun _ h c => ⟨?_, (h c).2⟩) (Cert.Reference8Ideal.Value.run (F := Ideal) m' ρ')
    obtain ⟨h0, h1, h2⟩ := hagree c
    refine (h c).1.trans ?_
    funext i
    idx_vars i
    refine (Cert.Reference8Ideal.Values.out_apply _ _ _ _ _).trans ?_
    rw [h0, h1, h2]
    rfl

end Cert.Proof

end
-- ==== Proof.Steps.lean ====
/-
  The step columns of the in-projection: an RMS norm of the rows and its product with the 32 step columns, which the host
  pads with zero columns to a whole block of 128. The kernel walks 32 blocks of 1024 rows; the host's last line drops the
  padding.
-/
module

public import proofs.«01_k».proof.Proof.Gen.Kernel9Ideal.Frame
public import proofs.«01_k».proof.Proof.Gen.Reference9Ideal.Run
public import proofs.«01_k».proof.Proof.InProj
public import Idealize.ShloMosaic.Lib.Pointwise
public import Idealize.ShloMosaic.Lib.Tactic.CleanTypes
public import Idealize.ShloMosaic.Lib.Pipeline.ValueKit
public import Idealize.ShloMosaic.Lib.Pipeline.ReadBack

@[expose] public section

set_option maxRecDepth 16384

noncomputable section

/-! ## The steps in plain mathematics -/

namespace Cert.Steps

open Idealize.ShloMosaic

/-- Row `r` of the steps at column `j`: the normed row's product with the step columns, which start at column 13312. -/
def step (X : (⟨3, ![16, 2048, 1024]⟩ : Shape).Idx → EReal) (g : (⟨1, ![1024]⟩ : Shape).Idx → EReal)
    (W : (⟨2, ![1024, 16416]⟩ : Shape).Idx → EReal) (r : Fin 32768) (j : Fin 32) : EReal :=
  ∑ k, InProj.normed X g r k * W (ix2 k ⟨13312 + j.val, by omega⟩)

end Cert.Steps

/-! ## What the kernel leaves -/

namespace Cert.Kernel9Ideal.Steps

open Cert.Steps Cert.InProj Cert.Kernel9Ideal Cert.Kernel9Ideal.Gen Idealize.ShloMosaic Idealize.ShloMosaic.TcCoe Idealize.ShloMosaic.Tactic Idealize.SL.Sem

variable (m : (ℓ : Loc nD τ sig) → Buf (Elt Ideal) ℓ) (c : Dev nD)

abbrev X0 : Vec Ideal S16x2048x1024 .f32 := m ((c : Thread nD τ).loc main_arg0)
abbrev X1 : Vec Ideal S1024 .f32 := m ((c : Thread nD τ).loc main_arg1)
abbrev X2 : Vec Ideal S1024x16416 .f32 := m ((c : Thread nD τ).loc main_arg2)

theorem row_lt (t : Fin grid0.N) (r : Fin 1024) : t.val * 1024 + r.val < 32768 := by
  have h : t.val < 32 := lt_of_lt_of_eq t.isLt N_0
  omega

/-- The row of the arrays that row `r` of point `t`'s blocks is. -/
abbrev rw_ (t : Fin grid0.N) (r : Fin 1024) : Fin 32768 := ⟨t.val * 1024 + r.val, row_lt t r⟩

/-- The host's lines before the region, in order. -/
theorem V_eq (b : Ref sig .tc) : V m c b = StableHlo.after (hostOps0 ++ (hostOps0_1 ++ hostOps0_2)) (fun b => m (c, b)) b := by
  show StableHlo.after (List.flatten [hostOps0, hostOps0_1, hostOps0_2]) (fun b => m (c, b)) (Proc.devRef .tc b) = _
  rw [List.flatten_cons, List.flatten_cons, List.flatten_cons, List.flatten_nil, List.append_nil]

theorem V3_apply (r : Fin 32768) (k : Fin 1024) : (V m c main_v3 : Vec Ideal S32768x1024 .f32) (ix2 r k) = row (X0 m c) r k := by
  rw [V_eq]
  simp only [hostOps0, hostOps0_1, hostOps0_2, List.cons_append, List.nil_append]
  entry_read
  pointwise

/-- The weights' step columns and the zero columns after them. -/
theorem V2_eq : (V m c main_v2 : Vec Ideal S1024x128 .bf16) = (truncf (F := Ideal) .bf16 (pad S1024x128 ![0, 0] ![0, 96] ![0, 0]
    (extractStridedSlice S1024x32 ![0, 13312] (X2 m c) slices_S1024x16416_S1024x32_0_13312) (sitofp (F := Ideal) .f32 (constantI S_ 32 0#32) : FVec Ideal S_ .f32)
    pads_S1024x32_S1024x128_000_0960 h_S_ : FVec Ideal S1024x128 .f32) bitsLt_bf16_f32 : FVec Ideal S1024x128 .bf16) := by
  rw [V_eq]
  simp only [hostOps0, hostOps0_1, hostOps0_2, List.cons_append, List.nil_append]
  after_results_simp
  rfl

theorem V2_apply (k : Fin 1024) (j : Fin 32) :
    (V m c main_v2 : Vec Ideal S1024x128 .bf16) (ix2 k ⟨j.val, by omega⟩) = X2 m c (ix2 k ⟨13312 + j.val, by omega⟩) := by
  rw [V2_eq]
  pointwise

theorem V4_apply (k : Fin 1024) : (V m c main_v4 : Vec Ideal S1x1024 .f32) (ix2 0 k) = X1 m c (ix1 k) := by
  rw [V_eq]
  simp only [hostOps0, hostOps0_1, hostOps0_2, List.cons_append, List.nil_append]
  entry_read
  pointwise

theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![0, 0] := by decide +kernel
theorem e3 : ∀ t : Fin grid0.N, win0_3.index t = ![t.val, 0] := by decide +kernel

theorem b0 (t : Fin grid0.N) (r : Fin 1024) (k : Fin 1024) : (iblk m c 0 t : Vec Ideal S1024x1024 .f32) (ix2 r k) = row (X0 m c) (rw_ t r) k := by
  rw [← V3_apply]
  blk_ext [iblk, e0 t]

theorem b1 (t : Fin grid0.N) (k : Fin 1024) : (iblk m c 1 t : Vec Ideal S1x1024 .f32) (ix2 0 k) = X1 m c (ix1 k) := by
  rw [← V4_apply]
  blk_ext [iblk, e1 t]

theorem b2 (t : Fin grid0.N) (k : Fin 1024) (j : Fin 128) : (iblk m c 2 t : Vec Ideal S1024x128 .bf16) (ix2 k j) = (V m c main_v2 : Vec Ideal S1024x128 .bf16) (ix2 k j) := by
  blk_ext [iblk, e2 t]

theorem pay1_apply (x : Vec Ideal S1024x1024 .f32) (g : Vec Ideal S1x1024 .f32) (r k : Fin 1024) :
    k0_pay1 (F := Ideal) x g (ix2 r k)
      = x (ix2 r k) * Ideal.rsqrt (Ideal.div (∑ l : Fin 1024, x (ix2 r l) * x (ix2 r l)) (Ideal.ofBits FTy.f32 1149239296#32)
          + Ideal.ofBits FTy.f32 897988541#32) * g (ix2 0 k) := by
  pointwise [k0_pay1]

theorem pay2_apply (h : Vec Ideal S1024x1024 .bf16) (w : Vec Ideal S1024x128 .bf16) (r : Fin 1024) (j : Fin 128) :
    k0_pay2 (F := Ideal) h w (ix2 r j) = ∑ k : Fin 1024, h (ix2 r k) * w (ix2 k j) := by
  pointwise [k0_pay2]

/-- The array the kernel leaves, over the padded columns. -/
def G : Vec Ideal S32768x128 .f32 := fun i =>
  ∑ k, normed (X0 m c) (X1 m c) (i 0) k * (V m c main_v2 : Vec Ideal S1024x128 .bf16) (ix2 k (i 1))

theorem G_apply (r : Fin 32768) (j : Fin 128) : G m c (ix2 r j) = ∑ k, normed (X0 m c) (X1 m c) r k * (V m c main_v2 : Vec Ideal S1024x128 .bf16) (ix2 k j) := rfl

/-- What point `t` writes. -/
theorem point (t : Fin grid0.N) (r : Fin 1024) (j : Fin 128) :
    k0_pay2 (F := Ideal) (k0_pay1 (iblk m c 0 t) (iblk m c 1 t)) (iblk m c 2 t) (ix2 r j) = G m c (ix2 (rw_ t r) j) := by
  refine (pay2_apply _ _ r j).trans ?_
  rw [G_apply]
  unfold normed
  simp only [pay1_apply, b0, b1, b2]

theorem emb3 (t : Fin grid0.N) (r : Fin 1024) (j : Fin 128) : (ix2 (rw_ t r) j : S32768x128.Idx) = (win0_3.blk t).view.emb (ix2 r j : S1024x128.Idx) := by
  blk_ext [e3 t]

theorem block (t : Fin grid0.N) (y : S1024x128.Idx) :
    k0_pay2 (F := Ideal) (k0_pay1 (iblk m c 0 t) (iblk m c 1 t)) (iblk m c 2 t) y = G m c ((win0_3.blk t).view.emb y) := by
  have hy : y = ix2 (y 0 : Fin 1024) (y 1 : Fin 128) := by
    funext a
    match a with
    | ⟨0, _⟩ => rfl
    | ⟨1, _⟩ => rfl
  generalize y 0 = r at hy
  generalize y 1 = j at hy
  subst hy
  exact (point m c t r j).trans (congrArg (G m c) (emb3 t r j))

theorem out_block (t : Fin cfg0.N) : outsAt0 (F := Ideal) m c t = k0_pay2 (F := Ideal) (k0_pay1 (iblk m c 0 t) (iblk m c 1 t)) (iblk m c 2 t) := by
  unfold outsAt0
  funext y
  frame_out

theorem array : (dats (F := Ideal) m 0 c).arrAt 3 cfg0.N = G m c := by
  refine (dats m 0 c).arrAt_eq_of_covers 3 _ (by decide +kernel) fun t hf y => ?_
  blk_simp
  rw [after0_3, out_block]
  exact block m c t y

/-- The first 32 columns. -/
def cut (u : Vec Ideal S32768x128 .f32) : Vec Ideal S32768x32 .f32 :=
  extractStridedSlice S32768x32 ![0, 0] u slices_S32768x128_S32768x32_0_0

theorem cut_apply (u : Vec Ideal S32768x128 .f32) (r : Fin 32768) (j : Fin 32) : cut u (ix2 r j) = u (ix2 r ⟨j.val, by omega⟩) := by
  unfold cut
  pointwise

/-- The host's last line, of whatever it finds. -/
theorem tail_eq (W : Valuation τ sig (Elt Ideal)) :
    StableHlo.after (hostOps1 (F := Ideal)) W (Proc.devRef .tc main_v6) = cut (W (Proc.devRef .tc main_v5)) := by
  simp only [hostOps1]
  after_results_simp
  rfl

/-- The result. -/
def out : Vec Ideal S32768x32 .f32 := fun i => step (X0 m c) (X1 m c) (X2 m c) (i 0) (i 1)

theorem out_def (r : Fin 32768) (j : Fin 32) : out m c (ix2 r j) = step (X0 m c) (X1 m c) (X2 m c) r j := rfl

theorem result : Pipeline.afterTail₀ cfgs (dats (F := Ideal) m) 0 (V0 m) [hostOps1] c main_v6 = out m c := by
  have found : Pipeline.withArrays spec0 c (V0 m c) (fun w => (dats (F := Ideal) m 0 c).arrAt w cfg0.N) (Proc.devRef .tc main_v5)
      = (dats (F := Ideal) m 0 c).arrAt 3 cfg0.N := Pipeline.withArrays_arr spec0 launch0.win.arr_inj c _ _ 3
  have h : Pipeline.afterTail₀ cfgs (dats (F := Ideal) m) 0 (V0 m) [hostOps1] c main_v6 = cut (G m c) := by
    rw [← array m c, ← found, ← tail_eq]
    unfold Pipeline.afterTail₀
    rw [List.flatten_cons, List.flatten_nil, List.append_nil]
  refine h.trans ?_
  funext i
  idx_vars i
  refine (cut_apply _ _ _).trans ((G_apply m c _ _).trans ?_)
  rw [out_def]
  unfold step
  exact Finset.sum_congr rfl fun k _ => congrArg _ (V2_apply m c k _)

end Cert.Kernel9Ideal.Steps

/-! ## What the reference computes -/

namespace Cert.Reference9Ideal.Steps

open Cert.Steps Cert.Reference9Ideal Cert.Reference9Ideal.Gen Idealize.ShloMosaic Idealize.ShloMosaic.TcCoe Idealize.ShloMosaic.Tactic Idealize.SL.Sem Idealize.ShloMosaic.StableHlo

theorem out_apply (X : FVec Ideal S16x2048x1024 .f32) (g : FVec Ideal S1024 .f32) (W : FVec Ideal S1024x16416 .f32) (r : Fin 32768) (j : Fin 32) :
    (shapeCast S32768x32 (extractStridedSlice S16x2048x32 ![0, 0, 13312] (Host.dotGeneral dot_S16x2048x1024_S1024x16416_S16x2048x16416_2_0_01_1_n_n none (mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) W) slices_S16x2048x16416_S16x2048x32_0_0_13312) shapeCasts_S16x2048x32_S32768x32 : FVec Ideal S32768x32 .f32) (ix2 r j) = step X g W r j := by
  pointwise
  rfl

end Cert.Reference9Ideal.Steps

end
-- ==== Proof.StepsEq.lean ====
/-
  The claims on the step columns: the kernel's array is the reference's.
-/
module

public import proofs.«01_k».proof.Defs
public import proofs.«01_k».proof.Proof.Steps
public import proofs.«01_k».proof.Proof.Gen.Kernel9.Frame
public import Idealize.ShloMosaic.Adequacy
public import Idealize.ShloMosaic.Init
public import Idealize.ShloMosaic.Lib.Quiescent

@[expose] public section

noncomputable section

namespace Cert.Proof

open Idealize.ShloMosaic Idealize.SL.Sem

theorem quiescent_Reference9Ideal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic_Kernel9Ideal_Reference9Ideal : Cert.algebraic_Kernel9Ideal_Reference9Ideal := by
  intro m ρ m' ρ' _ hagree
  refine ⟨fun c => Cert.Kernel9Ideal.Steps.out m c, ?_, ?_⟩
  · refine (θ_run Cert.Kernel9Ideal.defs _ _).mono (fun r h c => ⟨?_, h.2.1 c⟩)
      (θ_run_and (Cert.Kernel9Ideal.Gen.run_main (F := Ideal) m ρ) (Cert.Kernel9Ideal.Gen.frame (F := Ideal) m ρ))
    exact ((h.1 c).2 Cert.Kernel9Ideal.main_v6 (Pipeline.mem_restRefs_of Cert.Kernel9Ideal.main_v6 (by decide) (by decide))).trans (Cert.Kernel9Ideal.Steps.result m c)
  · refine (θ_run Cert.Reference9Ideal.defs _ _).mono (fun _ h c => ⟨?_, (h c).2⟩) (Cert.Reference9Ideal.Value.run (F := Ideal) m' ρ')
    obtain ⟨h0, h1, h2⟩ := hagree c
    refine (h c).1.trans ?_
    funext i
    idx_vars i
    refine (Cert.Reference9Ideal.Steps.out_apply _ _ _ _ _).trans ?_
    rw [h0, h1, h2]
    rfl

end Cert.Proof

end
-- ==== Proof.ConvState.lean ====
/-
  The convolution's state: the in-projection (`InProj`), of which the host's last lines keep each sequence's last three
  rows at the convolved columns; and the reference's, which puts three rows of zeroes before those columns and drops the
  first 2048 rows.
-/
module

public import proofs.«01_k».proof.Proof.Gen.Kernel10Ideal.Frame
public import proofs.«01_k».proof.Proof.Gen.Reference10Ideal.Run
public import proofs.«01_k».proof.Proof.InProj
public import Idealize.ShloMosaic.Lib.Pointwise
public import Idealize.ShloMosaic.Lib.Tactic.CleanTypes
public import Idealize.ShloMosaic.Lib.Pipeline.ValueKit
public import Idealize.ShloMosaic.Lib.Pipeline.ReadBack

@[expose] public section

set_option maxRecDepth 16384

noncomputable section

/-! ## The state in plain mathematics -/

namespace Cert.ConvState

open Idealize.ShloMosaic

/-- The state of sequence `b` at its row `s` and column `j`: the projection at the sequence's row 2045 + `s` and the
    convolved column `j`, which in the weights is column 9216 + `j`. -/
def state (X : (⟨3, ![16, 2048, 1024]⟩ : Shape).Idx → EReal) (g : (⟨1, ![1024]⟩ : Shape).Idx → EReal)
    (W : (⟨2, ![1024, 16416]⟩ : Shape).Idx → EReal) (b : Fin 16) (s : Fin 3) (j : Fin 4096) : EReal :=
  ∑ k, InProj.normed X g ⟨b.val * 2048 + (2045 + s.val), by omega⟩ k * W (ix2 k ⟨9216 + j.val, by omega⟩)

/-- The normed row whose place among all rows is `b`'s row `s`. -/
theorem normed_at (X : (⟨3, ![16, 2048, 1024]⟩ : Shape).Idx → EReal) (g : (⟨1, ![1024]⟩ : Shape).Idx → EReal) (r : Fin 32768) (k : Fin 1024)
    (b : Fin 16) (s : Fin 2048) (hr : r.val = b.val * 2048 + s.val) :
    InProj.normed X g r k = X (ix3 b s k) * Ideal.rsqrt (Ideal.div (∑ l, X (ix3 b s l) * X (ix3 b s l)) (Ideal.ofBits FTy.f32 1149239296#32)
      + Ideal.ofBits FTy.f32 897988541#32) * g (ix1 k) := by
  have eb : (⟨r.val / 2048, by omega⟩ : Fin 16) = b := Fin.ext (by show r.val / 2048 = b.val; omega)
  have es : (⟨r.val % 2048, by omega⟩ : Fin 2048) = s := Fin.ext (by show r.val % 2048 = s.val; omega)
  simp only [InProj.normed, InProj.row, eb, es]

end Cert.ConvState

/-! ## What the kernel leaves -/

namespace Cert.Kernel10Ideal.ConvState

open Cert.ConvState Cert.Kernel10Ideal Cert.Kernel10Ideal.Gen Cert.InProj Idealize.ShloMosaic Idealize.ShloMosaic.TcCoe Idealize.SL.Sem

variable (m : (ℓ : Loc nD τ sig) → Buf (Elt Ideal) ℓ)

/-- The three input windows' index maps. -/
theorem idx_facts : ∀ t : Fin cfg0.N, win0_0.index t = ![t.val / 14, 0] ∧ win0_1.index t = ![0, 0] ∧ win0_2.index t = ![0, t.val % 14] :=
  (by decide +kernel : ∀ t : Fin grid0.N, _)

/-- A row block's first point norms the rows, keeps them and multiplies them. -/
theorem case_A (c : Dev nD) (t : Fin cfg0.N) (h : t.val % 14 = 0) :
    outsAt0 m c t.val t.isLt = (k0_pay2 (k0_pay1 (iblk m c 0 t) (iblk m c 1 t)) (iblk m c 2 t), k0_pay1 (iblk m c 0 t) (iblk m c 1 t)) := by
  rw [outsAt0_A m c t h]
  refine Prod.ext ?_ ?_ <;> (funext y; frame_out)

/-- Every other point multiplies the rows that the point before left. -/
theorem case_B (c : Dev nD) (t : Fin cfg0.N) (h : ¬ t.val % 14 = 0) :
    outsAt0 m c t.val t.isLt = (k0_pay2 (outsAt0 m c (t.val - 1) (Nat.lt_of_le_of_lt (Nat.sub_le _ _) t.isLt)).2 (iblk m c 2 t), (outsAt0 m c (t.val - 1) (Nat.lt_of_le_of_lt (Nat.sub_le _ _) t.isLt)).2) := by
  rw [outsAt0_B m c t h]
  refine Prod.ext ?_ rfl
  funext y
  frame_out
  simp only [read_unread_whole]

theorem V_eq (c : Dev nD) (b : Ref sig .tc) : V m c b = StableHlo.after hostOps0 (fun b => m (c, b)) b := by
  show StableHlo.after (List.flatten [hostOps0]) (fun b => m (c, b)) (Proc.devRef .tc b) = _
  rw [List.flatten_cons, List.flatten_nil, List.append_nil]

/-- The region's first operand is the input with its rows numbered through. -/
theorem V5_apply (c : Dev nD) (r : Fin 32768) (k : Fin 1024) :
    V m c main_v5 (ix2 r k) = row (m ((c : Thread nD τ).loc main_arg0)) r k := by
  rw [V_eq]
  entry_read
  pointwise

/-- The region's third operand is the weights' columns that the projection takes, side by side. -/
theorem V4_eq (c : Dev nD) : (V m c main_v4 : Vec Ideal S1024x14336 .bf16) = (truncf (F := Ideal) .bf16 (concatenate S1024x14336 1 [⟨S1024x5120, extractStridedSlice S1024x5120 ![0, 0] (m ((c : Thread nD τ).loc main_arg2)) slices_S1024x16416_S1024x5120_0_0⟩, ⟨S1024x6144, extractStridedSlice S1024x6144 ![0, 7168] (m ((c : Thread nD τ).loc main_arg2)) slices_S1024x16416_S1024x6144_0_7168⟩, ⟨S1024x3072, extractStridedSlice S1024x3072 ![0, 13344] (m ((c : Thread nD τ).loc main_arg2)) slices_S1024x16416_S1024x3072_0_13344⟩] concatenates_S1024x5120_S1024x6144_S1024x3072_S1024x14336_d1 : Vec Ideal S1024x14336 .f32) bitsLt_bf16_f32 : FVec Ideal S1024x14336 .bf16) := by
  rw [V_eq]
  after_results
  rfl

theorem V4_apply (c : Dev nD) (k : Fin 1024) (j : Fin 14336) : V m c main_v4 (ix2 k j) =
    m ((c : Thread nD τ).loc main_arg2) (ix2 k ⟨srcCol j.val, srcCol_lt _ j.isLt⟩) := by
  have hj := j.isLt
  rw [V4_eq]
  pointwise
  split_ifs
  all_goals
    refine congrArg _ (congrArg (ix2 k) (Fin.ext ?_))
    simp only [srcCol]
    split_ifs <;> omega

theorem V6_apply (c : Dev nD) (k : Fin 1024) : (V m c main_v6 : Vec Ideal S1x1024 .f32) (ix2 0 k) = m ((c : Thread nD τ).loc main_arg1) (ix1 k) := by
  rw [V_eq]
  entry_read
  pointwise

theorem row_lt (t : Fin cfg0.N) (r : Fin 1024) : t.val / 14 * 1024 + r.val < 32768 := by
  have := lt_of_lt_of_eq t.isLt N_0
  omega

theorem col_lt (t : Fin cfg0.N) (j : Fin 1024) : t.val % 14 * 1024 + j.val < 14336 := by
  omega

theorem iblk0_apply (c : Dev nD) (t : Fin cfg0.N) (r k : Fin 1024) :
    iblk m c 0 t (ix2 r k) = row (m ((c : Thread nD τ).loc main_arg0)) ⟨t.val / 14 * 1024 + r.val, row_lt t r⟩ k := by
  obtain ⟨e0, -, -⟩ := idx_facts t
  rw [← V5_apply]
  blk_ext [iblk, e0]

theorem iblk1_apply (c : Dev nD) (t : Fin cfg0.N) (k : Fin 1024) :
    iblk m c 1 t (ix2 0 k) = m ((c : Thread nD τ).loc main_arg1) (ix1 k) := by
  obtain ⟨-, e1, -⟩ := idx_facts t
  rw [← V6_apply m c k]
  blk_ext [iblk, e1]

theorem iblk2_apply (c : Dev nD) (t : Fin cfg0.N) (k j : Fin 1024) :
    iblk m c 2 t (ix2 k j) = m ((c : Thread nD τ).loc main_arg2)
      (ix2 k ⟨srcCol (t.val % 14 * 1024 + j.val), srcCol_lt _ (col_lt t j)⟩) := by
  obtain ⟨-, -, e2⟩ := idx_facts t
  rw [← V4_apply m c k ⟨t.val % 14 * 1024 + j.val, col_lt t j⟩]
  blk_ext [iblk, e2]

/-- The norm's payload at an index. -/
theorem pay1_apply (c : Dev nD) (t : Fin cfg0.N) (r k : Fin 1024) :
    k0_pay1 (iblk m c 0 t) (iblk m c 1 t) (ix2 r k)
      = normed (m ((c : Thread nD τ).loc main_arg0)) (m ((c : Thread nD τ).loc main_arg1)) ⟨t.val / 14 * 1024 + r.val, row_lt t r⟩ k := by
  pointwise [k0_pay1]
  simp only [iblk0_apply, iblk1_apply]
  rfl

/-- The scratch after any point: the row block's normed rows. -/
theorem scratch_apply (c : Dev nD) (n : ℕ) (hn : n < cfg0.N) (r k : Fin 1024) :
    (outsAt0 m c n hn).2 (ix2 r k)
      = normed (m ((c : Thread nD τ).loc main_arg0)) (m ((c : Thread nD τ).loc main_arg1)) ⟨n / 14 * 1024 + r.val, row_lt ⟨n, hn⟩ r⟩ k := by
  induction n with
  | zero => rw [case_A m c ⟨0, hn⟩ (Nat.zero_mod _)]; exact pay1_apply m c ⟨0, hn⟩ r k
  | succ n ih =>
    by_cases h : (n + 1) % 14 = 0
    · rw [case_A m c ⟨n + 1, hn⟩ h]; exact pay1_apply m c ⟨n + 1, hn⟩ r k
    · rw [case_B m c ⟨n + 1, hn⟩ h]
      refine (ih (Nat.lt_of_succ_lt hn)).trans ?_
      have e : n / 14 = (n + 1) / 14 := by omega
      congr 2
      rw [e]

/-- The output block after any point: the product of the scratch and the point's weight block. -/
theorem out_eq (c : Dev nD) (t : Fin cfg0.N) :
    (outsAt0 m c t.val t.isLt).1 = k0_pay2 (outsAt0 m c t.val t.isLt).2 (iblk m c 2 t) := by
  by_cases h : t.val % 14 = 0
  · rw [case_A m c t h]
  · rw [case_B m c t h]

theorem out_apply (c : Dev nD) (t : Fin cfg0.N) (r j : Fin 1024) :
    (outsAt0 m c t.val t.isLt).1 (ix2 r j)
      = proj (m ((c : Thread nD τ).loc main_arg0)) (m ((c : Thread nD τ).loc main_arg1)) (m ((c : Thread nD τ).loc main_arg2))
          ⟨t.val / 14 * 1024 + r.val, row_lt t r⟩ ⟨t.val % 14 * 1024 + j.val, col_lt t j⟩ := by
  rw [out_eq]
  pointwise [k0_pay2]
  refine Finset.sum_congr rfl fun k _ => ?_
  rw [scratch_apply, iblk2_apply]

theorem e3 : ∀ t : Fin cfg0.N, win0_3.index t = ![t.val / 14, t.val % 14] :=
  (by decide +kernel : ∀ t : Fin grid0.N, _)

/-- The array the kernel leaves. -/
def G (c : Dev nD) : Vec Ideal S32768x14336 .f32 := fun i =>
  proj (m ((c : Thread nD τ).loc main_arg0)) (m ((c : Thread nD τ).loc main_arg1)) (m ((c : Thread nD τ).loc main_arg2)) (i 0) (i 1)

theorem G_apply (c : Dev nD) (r : Fin 32768) (j : Fin 14336) : G m c (ix2 r j)
    = proj (m ((c : Thread nD τ).loc main_arg0)) (m ((c : Thread nD τ).loc main_arg1)) (m ((c : Thread nD τ).loc main_arg2)) r j := rfl

theorem emb3 (t : Fin cfg0.N) (r j : Fin 1024) :
    (ix2 (⟨t.val / 14 * 1024 + r.val, row_lt t r⟩ : Fin 32768) (⟨t.val % 14 * 1024 + j.val, col_lt t j⟩ : Fin 14336) : S32768x14336.Idx)
      = (win0_3.blk t).view.emb (ix2 r j : S1024x1024.Idx) := by
  blk_ext [e3 t]

theorem block (c : Dev nD) (t : Fin cfg0.N) (y : S1024x1024.Idx) :
    (outsAt0 m c t.val t.isLt).1 y = G m c ((win0_3.blk t).view.emb y) := by
  have hy : y = ix2 (y 0 : Fin 1024) (y 1 : Fin 1024) := by
    funext a
    match a with
    | ⟨0, _⟩ => rfl
    | ⟨1, _⟩ => rfl
  generalize y 0 = r at hy
  generalize y 1 = j at hy
  subst hy
  exact (out_apply m c t r j).trans ((G_apply m c _ _).symm.trans (congrArg (G m c) (emb3 t r j)))

theorem array (c : Dev nD) : (dats (F := Ideal) m 0 c).arrAt 3 cfg0.N = G m c := by
  refine (dats m 0 c).arrAt_eq_of_covers 3 _ (by decide +kernel) fun t hf y => ?_
  blk_simp
  rw [after0_3]
  exact block m c t y

/-- Each sequence's last three rows at the convolved columns. -/
def cut (u : Vec Ideal S32768x14336 .f32) : Vec Ideal S16x3x4096 .f32 :=
  extractStridedSlice S16x3x4096 ![0, 2045, 7168] (shapeCast S16x2048x14336 u shapeCasts_S32768x14336_S16x2048x14336) slices_S16x2048x14336_S16x3x4096_0_2045_7168

theorem cut_apply (u : Vec Ideal S32768x14336 .f32) (b : Fin 16) (s : Fin 3) (j : Fin 4096) :
    cut u (ix3 b s j) = u (ix2 ⟨b.val * 2048 + (2045 + s.val), by omega⟩ ⟨7168 + j.val, by omega⟩) := by
  unfold cut
  pointwise

/-- The host's last lines, of whatever they find. -/
theorem tail_eq (W : Valuation τ sig (Elt Ideal)) :
    StableHlo.after (hostOps1 (F := Ideal)) W (Proc.devRef .tc main_v9) = cut (W (Proc.devRef .tc main_v7)) := by
  simp only [hostOps1]
  after_results_simp
  rfl

/-- The result. -/
def out (c : Dev nD) : Vec Ideal S16x3x4096 .f32 := fun i =>
  state (m ((c : Thread nD τ).loc main_arg0)) (m ((c : Thread nD τ).loc main_arg1)) (m ((c : Thread nD τ).loc main_arg2)) (i 0) (i 1) (i 2)

theorem out_def (c : Dev nD) (b : Fin 16) (s : Fin 3) (j : Fin 4096) : out m c (ix3 b s j)
    = state (m ((c : Thread nD τ).loc main_arg0)) (m ((c : Thread nD τ).loc main_arg1)) (m ((c : Thread nD τ).loc main_arg2)) b s j := rfl

theorem result (c : Dev nD) : Pipeline.afterTail₀ cfgs (dats (F := Ideal) m) 0 (V0 m) [hostOps1] c main_v9 = out m c := by
  have found : Pipeline.withArrays spec0 c (V0 m c) (fun w => (dats (F := Ideal) m 0 c).arrAt w cfg0.N) (Proc.devRef .tc main_v7)
      = (dats (F := Ideal) m 0 c).arrAt 3 cfg0.N := Pipeline.withArrays_arr spec0 launch0.win.arr_inj c _ _ 3
  have h : Pipeline.afterTail₀ cfgs (dats (F := Ideal) m) 0 (V0 m) [hostOps1] c main_v9 = cut (G m c) := by
    rw [← array m c, ← found, ← tail_eq]
    unfold Pipeline.afterTail₀
    rw [List.flatten_cons, List.flatten_nil, List.append_nil]
  refine h.trans ?_
  funext i
  idx_vars i
  refine (cut_apply _ _ _ _).trans ((G_apply m c _ _).trans ?_)
  rw [out_def]
  unfold proj state
  refine Finset.sum_congr rfl fun k _ => congrArg (fun z : Fin 16416 => normed _ _ _ k * (m ((c : Thread nD τ).loc main_arg2) : Vec Ideal S1024x16416 .f32) (ix2 k z)) (Fin.ext ?_)
  have h2 := i2.isLt
  simp only [srcCol]
  split_ifs <;> omega

end Cert.Kernel10Ideal.ConvState

/-! ## What the reference computes -/

namespace Cert.Reference10Ideal.ConvState

open Cert.ConvState Cert.Reference10Ideal Cert.Reference10Ideal.Gen Idealize.ShloMosaic Idealize.ShloMosaic.TcCoe Idealize.ShloMosaic.Tactic Idealize.SL.Sem Idealize.ShloMosaic.StableHlo

theorem out_apply (X : FVec Ideal S16x2048x1024 .f32) (g : FVec Ideal S1024 .f32) (W : FVec Ideal S1024x16416 .f32) (b : Fin 16) (s : Fin 3) (j : Fin 4096) :
    (extractStridedSlice S16x3x4096 ![0, 2048, 0] (concatenate S16x2051x4096 1 [⟨S16x3x4096, (broadcastInDim S16x3x4096 ![] bcast_S_S16x3x4096 (constant S_ .f32 0x00000000#32))⟩, ⟨S16x2048x4096, (extractStridedSlice S16x2048x4096 ![0, 0, 9216] (Host.dotGeneral dot_S16x2048x1024_S1024x16416_S16x2048x16416_2_0_01_1_n_n none (mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) W) slices_S16x2048x16416_S16x2048x4096_0_0_9216)⟩] concatenates_S16x3x4096_S16x2048x4096_S16x2051x4096_d1) slices_S16x2051x4096_S16x3x4096_0_2048_0 : FVec Ideal S16x3x4096 .f32) (ix3 b s j) = state X g W b s j := by
  pointwise
  rw [dif_neg (by omega)]
  unfold state
  refine Finset.sum_congr rfl fun k _ => ?_
  rw [normed_at X g ⟨b.val * 2048 + (2045 + s.val), by omega⟩ k b ⟨2048 + s.val - 3, by omega⟩ (by show b.val * 2048 + (2045 + s.val) = b.val * 2048 + (2048 + s.val - 3); omega)]

end Cert.Reference10Ideal.ConvState

end
-- ==== Proof.ConvStateEq.lean ====
/-
  The claims on the convolution's state: the kernel's array is the reference's.
-/
module

public import proofs.«01_k».proof.Defs
public import proofs.«01_k».proof.Proof.ConvState
public import proofs.«01_k».proof.Proof.Gen.Kernel10.Frame
public import Idealize.ShloMosaic.Adequacy
public import Idealize.ShloMosaic.Init
public import Idealize.ShloMosaic.Lib.Quiescent

@[expose] public section

noncomputable section

namespace Cert.Proof

open Idealize.ShloMosaic Idealize.SL.Sem

theorem quiescent_Reference10Ideal : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic_Kernel10Ideal_Reference10Ideal : Cert.algebraic_Kernel10Ideal_Reference10Ideal := by
  intro m ρ m' ρ' _ hagree
  refine ⟨fun c => Cert.Kernel10Ideal.ConvState.out m c, ?_, ?_⟩
  · refine (θ_run Cert.Kernel10Ideal.defs _ _).mono (fun r h c => ⟨?_, h.2.1 c⟩)
      (θ_run_and (Cert.Kernel10Ideal.Gen.run_main (F := Ideal) m ρ) (Cert.Kernel10Ideal.Gen.frame (F := Ideal) m ρ))
    exact ((h.1 c).2 Cert.Kernel10Ideal.main_v9 (Pipeline.mem_restRefs_of Cert.Kernel10Ideal.main_v9 (by decide) (by decide))).trans (Cert.Kernel10Ideal.ConvState.result m c)
  · refine (θ_run Cert.Reference10Ideal.defs _ _).mono (fun _ h c => ⟨?_, (h c).2⟩) (Cert.Reference10Ideal.Value.run (F := Ideal) m' ρ')
    obtain ⟨h0, h1, h2⟩ := hagree c
    refine (h c).1.trans ?_
    funext i
    idx_vars i
    refine (Cert.Reference10Ideal.ConvState.out_apply _ _ _ _ _ _).trans ?_
    rw [h0, h1, h2]
    rfl

end Cert.Proof

end
-- ==== Proof.SampleKeys.lean ====
/-
  The keys of the sampled tokens: as the prompt's (`Keys`), for 32 sequences of 8 rows. All 256 rows are one block.
-/
module

public import proofs.«01_k».proof.Proof.Gen.Kernel11Ideal.Frame
public import proofs.«01_k».proof.Proof.Gen.Reference11Ideal.Run
public import proofs.«01_k».proof.Proof.Memory
public import Idealize.ShloMosaic.Lib.Pointwise
public import Idealize.ShloMosaic.Lib.Tactic.CleanTypes
public import Idealize.ShloMosaic.Lib.Pipeline.ValueKit
public import Idealize.ShloMosaic.Lib.Pipeline.ReadBack

@[expose] public section

set_option maxRecDepth 16384

noncomputable section

/-! ## The samples' keys in plain mathematics -/

namespace Cert.SampleKeys

open Idealize.ShloMosaic

/-- Row `r` of the samples' rows counted through: sequence `r / 8`, row `r % 8`. -/
def row (X : (⟨3, ![32, 8, 1024]⟩ : Shape).Idx → EReal) (r : Fin 256) (k : Fin 1024) : EReal :=
  X (ix3 ⟨r.val / 8, by omega⟩ ⟨r.val % 8, by omega⟩ k)

/-- The key of row `r` at column `j`: the normed row's product with the key columns, which start at column 5120. -/
def key (X : (⟨3, ![32, 8, 1024]⟩ : Shape).Idx → EReal) (g : (⟨1, ![1024]⟩ : Shape).Idx → EReal)
    (W : (⟨2, ![1024, 16416]⟩ : Shape).Idx → EReal) (r : Fin 256) (j : Fin 1024) : EReal :=
  ∑ k, Memory.normed (row X r) g k * W (ix2 k ⟨5120 + j.val, by omega⟩)

end Cert.SampleKeys

/-! ## What the kernel leaves -/

namespace Cert.Kernel11Ideal.SampleKeys

open Cert.SampleKeys Cert.Kernel11Ideal Cert.Kernel11Ideal.Gen Idealize.ShloMosaic Idealize.ShloMosaic.TcCoe Idealize.ShloMosaic.Tactic Idealize.SL.Sem

variable (m : (ℓ : Loc nD τ sig) → Buf (Elt Ideal) ℓ) (c : Dev nD)

abbrev X0 : Vec Ideal S32x8x1024 .f32 := m ((c : Thread nD τ).loc main_arg0)
abbrev X1 : Vec Ideal S1024 .f32 := m ((c : Thread nD τ).loc main_arg1)
abbrev X2 : Vec Ideal S1024x16416 .f32 := m ((c : Thread nD τ).loc main_arg2)

theorem row_lt (t : Fin grid0.N) (r : Fin 256) : t.val * 256 + r.val < 256 := by
  have h : t.val < 1 := lt_of_lt_of_eq t.isLt N_0
  omega

/-- The row of the arrays that row `r` of point `t`'s blocks is. -/
abbrev rw_ (t : Fin grid0.N) (r : Fin 256) : Fin 256 := ⟨t.val * 256 + r.val, row_lt t r⟩

theorem V_eq (b : Ref sig .tc) : V m c b = StableHlo.after hostOps0 (fun b => m (c, b)) b := by
  show StableHlo.after (List.flatten [hostOps0]) (fun b => m (c, b)) (Proc.devRef .tc b) = _
  rw [List.flatten_cons, List.flatten_nil, List.append_nil]

theorem V2_apply (r : Fin 256) (k : Fin 1024) : (V m c main_v2 : Vec Ideal S256x1024 .f32) (ix2 r k) = row (X0 m c) r k := by
  rw [V_eq]
  entry_read
  pointwise
  rfl

theorem V1_apply (k j : Fin 1024) : (V m c main_v1 : Vec Ideal S1024x1024 .bf16) (ix2 k j) = X2 m c (ix2 k ⟨5120 + j.val, by omega⟩) := by
  rw [V_eq]
  entry_read
  pointwise

theorem V3_apply (k : Fin 1024) : (V m c main_v3 : Vec Ideal S1x1024 .f32) (ix2 0 k) = X1 m c (ix1 k) := by
  rw [V_eq]
  entry_read
  pointwise

theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![0, 0] := by decide +kernel
theorem e3 : ∀ t : Fin grid0.N, win0_3.index t = ![0, t.val, 0] := by decide +kernel

theorem b0 (t : Fin grid0.N) (r : Fin 256) (k : Fin 1024) : (iblk m c 0 t : Vec Ideal S256x1024 .f32) (ix2 r k) = row (X0 m c) (rw_ t r) k := by
  rw [← V2_apply]
  blk_ext [iblk, e0 t]

theorem b1 (t : Fin grid0.N) (k : Fin 1024) : (iblk m c 1 t : Vec Ideal S1x1024 .f32) (ix2 0 k) = X1 m c (ix1 k) := by
  rw [← V3_apply]
  blk_ext [iblk, e1 t]

theorem b2 (t : Fin grid0.N) (k j : Fin 1024) : (iblk m c 2 t : Vec Ideal S1024x1024 .bf16) (ix2 k j) = X2 m c (ix2 k ⟨5120 + j.val, by omega⟩) := by
  rw [← V1_apply]
  blk_ext [iblk, e2 t]

theorem pay1_apply (x : Vec Ideal S256x1024 .f32) (g : Vec Ideal S1x1024 .f32) (r : Fin 256) (k : Fin 1024) :
    k0_pay1 (F := Ideal) x g (ix2 r k)
      = x (ix2 r k) * Ideal.rsqrt (Ideal.div (∑ l : Fin 1024, x (ix2 r l) * x (ix2 r l)) (Ideal.ofBits FTy.f32 1149239296#32)
          + Ideal.ofBits FTy.f32 897988541#32) * g (ix2 0 k) := by
  pointwise [k0_pay1]

theorem pay2_apply (h : Vec Ideal S256x1024 .bf16) (w : Vec Ideal S1024x1024 .bf16) (r : Fin 256) (j : Fin 1024) :
    k0_pay2 (F := Ideal) h w (ix3 0 r j) = ∑ k : Fin 1024, h (ix2 r k) * w (ix2 k j) := by
  pointwise [k0_pay2]

/-- What point `t` writes. -/
theorem point (t : Fin grid0.N) (r : Fin 256) (j : Fin 1024) :
    k0_pay2 (F := Ideal) (k0_pay1 (iblk m c 0 t) (iblk m c 1 t)) (iblk m c 2 t) (ix3 0 r j) = key (X0 m c) (X1 m c) (X2 m c) (rw_ t r) j := by
  refine (pay2_apply _ _ r j).trans ?_
  unfold key Memory.normed
  simp only [pay1_apply, b0, b1, b2]

/-- The stack, were each of its slabs the first layer's keys. -/
def G : Vec Ideal S2x256x1024 .f32 := fun i => key (X0 m c) (X1 m c) (X2 m c) (i 1) (i 2)

theorem G_apply (l : Fin 2) (r : Fin 256) (j : Fin 1024) : G m c (ix3 l r j) = key (X0 m c) (X1 m c) (X2 m c) r j := rfl

theorem emb3 (t : Fin grid0.N) (r : Fin 256) (j : Fin 1024) :
    (ix3 0 (rw_ t r) j : S2x256x1024.Idx) = (win0_3.blk t).view.emb (ix3 0 r j : S1x256x1024.Idx) := by
  blk_ext [e3 t]

theorem block (t : Fin grid0.N) (y : S1x256x1024.Idx) :
    k0_pay2 (F := Ideal) (k0_pay1 (iblk m c 0 t) (iblk m c 1 t)) (iblk m c 2 t) y = G m c ((win0_3.blk t).view.emb y) := by
  have hy : y = ix3 0 (y 1) (y 2) := by
    idx_vars y
    exact congrArg (fun z => ix3 z y1 y2) (Subsingleton.elim y0 0)
  generalize y 1 = r at hy
  generalize y 2 = j at hy
  subst hy
  exact (point m c t r j).trans ((G_apply m c 0 (rw_ t r) j).symm.trans (congrArg (G m c) (emb3 t r j)))

theorem out_block (t : Fin cfg0.N) : outsAt0 (F := Ideal) m c t = k0_pay2 (F := Ideal) (k0_pay1 (iblk m c 0 t) (iblk m c 1 t)) (iblk m c 2 t) := by
  unfold outsAt0
  funext y
  frame_out

/-- The first slab of the array the pipeline leaves is the keys; the rest is as it was found. -/
theorem array : (dats (F := Ideal) m 0 c).arrAt 3 cfg0.N = fun i => if (i 0 : ℕ) / 1 = 0 then G m c i else V m c main_v4 i := by
  refine (dats m 0 c).arrAt_eq_of_coversWhere 3 _ (fun β => β (0 : Fin _) = 0) (by decide +kernel) (fun t hf y => ?_) (fun j => Iff.rfl)
  blk_simp
  rw [after0_3, out_block]
  exact block m c t y

/-- The first slab, of the whole stack. -/
def slab (u : Vec Ideal S2x256x1024 .f32) : Vec Ideal S256x1024 .f32 :=
  shapeCast S256x1024 (extractStridedSlice S1x256x1024 ![0, 0, 0] u slices_S2x256x1024_S1x256x1024_0_0_0) shapeCasts_S1x256x1024_S256x1024

theorem slab_apply (u : Vec Ideal S2x256x1024 .f32) (r : Fin 256) (j : Fin 1024) : slab u (ix2 r j) = u (ix3 0 r j) := by
  unfold slab
  pointwise

/-- The host's last lines, of whatever they find. -/
theorem tail_eq (W : Valuation τ sig (Elt Ideal)) :
    StableHlo.after (hostOps1 (F := Ideal)) W (Proc.devRef .tc main_v6) = slab (W (Proc.devRef .tc main_v4)) := by
  simp only [hostOps1]
  after_results_simp
  rfl

/-- The result. -/
def out : Vec Ideal S256x1024 .f32 := fun i => key (X0 m c) (X1 m c) (X2 m c) (i 0) (i 1)

theorem result : Pipeline.afterTail₀ cfgs (dats (F := Ideal) m) 0 (V0 m) [hostOps1] c main_v6 = out m c := by
  have found : Pipeline.withArrays spec0 c (V0 m c) (fun w => (dats (F := Ideal) m 0 c).arrAt w cfg0.N) (Proc.devRef .tc main_v4)
      = (dats (F := Ideal) m 0 c).arrAt 3 cfg0.N := Pipeline.withArrays_arr spec0 launch0.win.arr_inj c _ _ 3
  have h : Pipeline.afterTail₀ cfgs (dats (F := Ideal) m) 0 (V0 m) [hostOps1] c main_v6 = slab ((dats (F := Ideal) m 0 c).arrAt 3 cfg0.N) := by
    rw [← found, ← tail_eq]
    unfold Pipeline.afterTail₀
    rw [List.flatten_cons, List.flatten_nil, List.append_nil]
  refine h.trans ?_
  funext i
  idx_vars i
  refine (slab_apply _ _ _).trans ?_
  rw [array]
  exact if_pos (Nat.zero_div 1)

end Cert.Kernel11Ideal.SampleKeys

/-! ## What the reference computes -/

namespace Cert.Reference11Ideal.SampleKeys

open Cert.SampleKeys Cert.Reference11Ideal Cert.Reference11Ideal.Gen Idealize.ShloMosaic Idealize.ShloMosaic.TcCoe Idealize.ShloMosaic.Tactic Idealize.SL.Sem Idealize.ShloMosaic.StableHlo

theorem out_apply (X : FVec Ideal S32x8x1024 .f32) (g : FVec Ideal S1024 .f32) (W : FVec Ideal S1024x16416 .f32) (r : Fin 256) (j : Fin 1024) :
    (shapeCast S256x1024 (extractStridedSlice S32x8x1024 ![0, 0, 5120] (Host.dotGeneral dot_S32x8x1024_S1024x16416_S32x8x16416_2_0_01_1_n_n none (mulf (mulf X (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf X X) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 g))) W) slices_S32x8x16416_S32x8x1024_0_0_5120) shapeCasts_S32x8x1024_S256x1024 : FVec Ideal S256x1024 .f32) (ix2 r j) = key X g W r j := by
  pointwise
  rfl

end Cert.Reference11Ideal.SampleKeys

end
-- ==== Proof.SampleKeysEq.lean ====
/-
  The claims on the samples' keys: the kernel's array is the reference's.
-/
module

public import proofs.«01_k».proof.Defs
public import proofs.«01_k».proof.Proof.SampleKeys
public import proofs.«01_k».proof.Proof.Gen.Kernel11.Frame
public import Idealize.ShloMosaic.Adequacy
public import Idealize.ShloMosaic.Init
public import Idealize.ShloMosaic.Lib.Quiescent

@[expose] public section

noncomputable section

namespace Cert.Proof

open Idealize.ShloMosaic Idealize.SL.Sem

theorem quiescent_Reference11Ideal : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic_Kernel11Ideal_Reference11Ideal : Cert.algebraic_Kernel11Ideal_Reference11Ideal := by
  intro m ρ m' ρ' _ hagree
  refine ⟨fun c => Cert.Kernel11Ideal.SampleKeys.out m c, ?_, ?_⟩
  · refine (θ_run Cert.Kernel11Ideal.defs _ _).mono (fun r h c => ⟨?_, h.2.1 c⟩)
      (θ_run_and (Cert.Kernel11Ideal.Gen.run_main (F := Ideal) m ρ) (Cert.Kernel11Ideal.Gen.frame (F := Ideal) m ρ))
    exact ((h.1 c).2 Cert.Kernel11Ideal.main_v6 (Pipeline.mem_restRefs_of Cert.Kernel11Ideal.main_v6 (by decide) (by decide))).trans (Cert.Kernel11Ideal.SampleKeys.result m c)
  · refine (θ_run Cert.Reference11Ideal.defs _ _).mono (fun _ h c => ⟨?_, (h c).2⟩) (Cert.Reference11Ideal.Value.run (F := Ideal) m' ρ')
    obtain ⟨h0, h1, h2⟩ := hagree c
    refine (h c).1.trans ?_
    funext i
    idx_vars i
    refine (Cert.Reference11Ideal.SampleKeys.out_apply _ _ _ _ _).trans ?_
    rw [h0, h1, h2]
    rfl

end Cert.Proof

end
-- ==== Proof.SampleValues.lean ====
/-
  The values of the sampled tokens: as their keys (`SampleKeys`), from the value columns of the weights.
-/
module

public import proofs.«01_k».proof.Proof.Gen.Kernel12Ideal.Frame
public import proofs.«01_k».proof.Proof.Gen.Reference12Ideal.Run
public import proofs.«01_k».proof.Proof.SampleKeys
public import Idealize.ShloMosaic.Lib.Pointwise
public import Idealize.ShloMosaic.Lib.Tactic.CleanTypes
public import Idealize.ShloMosaic.Lib.Pipeline.ValueKit
public import Idealize.ShloMosaic.Lib.Pipeline.ReadBack

@[expose] public section

set_option maxRecDepth 16384

noncomputable section

/-! ## The samples' values in plain mathematics -/

namespace Cert.SampleValues

open Idealize.ShloMosaic

/-- The value of row `r` at column `j`: the normed row's product with the value columns, which start at column 6144. -/
def value (X : (⟨3, ![32, 8, 1024]⟩ : Shape).Idx → EReal) (g : (⟨1, ![1024]⟩ : Shape).Idx → EReal)
    (W : (⟨2, ![1024, 16416]⟩ : Shape).Idx → EReal) (r : Fin 256) (j : Fin 1024) : EReal :=
  ∑ k, Memory.normed (SampleKeys.row X r) g k * W (ix2 k ⟨6144 + j.val, by omega⟩)

end Cert.SampleValues

/-! ## What the kernel leaves -/

namespace Cert.Kernel12Ideal.SampleValues

open Cert.SampleValues Cert.SampleKeys Cert.Kernel12Ideal Cert.Kernel12Ideal.Gen Idealize.ShloMosaic Idealize.ShloMosaic.TcCoe Idealize.ShloMosaic.Tactic Idealize.SL.Sem

variable (m : (ℓ : Loc nD τ sig) → Buf (Elt Ideal) ℓ) (c : Dev nD)

abbrev X0 : Vec Ideal S32x8x1024 .f32 := m ((c : Thread nD τ).loc main_arg0)
abbrev X1 : Vec Ideal S1024 .f32 := m ((c : Thread nD τ).loc main_arg1)
abbrev X2 : Vec Ideal S1024x16416 .f32 := m ((c : Thread nD τ).loc main_arg2)

theorem row_lt (t : Fin grid0.N) (r : Fin 256) : t.val * 256 + r.val < 256 := by
  have h : t.val < 1 := lt_of_lt_of_eq t.isLt N_0
  omega

/-- The row of the arrays that row `r` of point `t`'s blocks is. -/
abbrev rw_ (t : Fin grid0.N) (r : Fin 256) : Fin 256 := ⟨t.val * 256 + r.val, row_lt t r⟩

theorem V_eq (b : Ref sig .tc) : V m c b = StableHlo.after hostOps0 (fun b => m (c, b)) b := by
  show StableHlo.after (List.flatten [hostOps0]) (fun b => m (c, b)) (Proc.devRef .tc b) = _
  rw [List.flatten_cons, List.flatten_nil, List.append_nil]

theorem V2_apply (r : Fin 256) (k : Fin 1024) : (V m c main_v2 : Vec Ideal S256x1024 .f32) (ix2 r k) = row (X0 m c) r k := by
  rw [V_eq]
  entry_read
  pointwise
  rfl

theorem V1_apply (k j : Fin 1024) : (V m c main_v1 : Vec Ideal S1024x1024 .bf16) (ix2 k j) = X2 m c (ix2 k ⟨6144 + j.val, by omega⟩) := by
  rw [V_eq]
  entry_read
  pointwise

theorem V3_apply (k : Fin 1024) : (V m c main_v3 : Vec Ideal S1x1024 .f32) (ix2 0 k) = X1 m c (ix1 k) := by
  rw [V_eq]
  entry_read
  pointwise

theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![0, 0] := by decide +kernel
theorem e3 : ∀ t : Fin grid0.N, win0_3.index t = ![0, t.val, 0] := by decide +kernel

theorem b0 (t : Fin grid0.N) (r : Fin 256) (k : Fin 1024) : (iblk m c 0 t : Vec Ideal S256x1024 .f32) (ix2 r k) = row (X0 m c) (rw_ t r) k := by
  rw [← V2_apply]
  blk_ext [iblk, e0 t]

theorem b1 (t : Fin grid0.N) (k : Fin 1024) : (iblk m c 1 t : Vec Ideal S1x1024 .f32) (ix2 0 k) = X1 m c (ix1 k) := by
  rw [← V3_apply]
  blk_ext [iblk, e1 t]

theorem b2 (t : Fin grid0.N) (k j : Fin 1024) : (iblk m c 2 t : Vec Ideal S1024x1024 .bf16) (ix2 k j) = X2 m c (ix2 k ⟨6144 + j.val, by omega⟩) := by
  rw [← V1_apply]
  blk_ext [iblk, e2 t]

theorem pay1_apply (x : Vec Ideal S256x1024 .f32) (g : Vec Ideal S1x1024 .f32) (r : Fin 256) (k : Fin 1024) :
    k0_pay1 (F := Ideal) x g (ix2 r k)
      = x (ix2 r k) * Ideal.rsqrt (Ideal.div (∑ l : Fin 1024, x (ix2 r l) * x (ix2 r l)) (Ideal.ofBits FTy.f32 1149239296#32)
          + Ideal.ofBits FTy.f32 897988541#32) * g (ix2 0 k) := by
  pointwise [k0_pay1]

theorem pay2_apply (h : Vec Ideal S256x1024 .bf16) (w : Vec Ideal S1024x1024 .bf16) (r : Fin 256) (j : Fin 1024) :
    k0_pay2 (F := Ideal) h w (ix3 0 r j) = ∑ k : Fin 1024, h (ix2 r k) * w (ix2 k j) := by
  pointwise [k0_pay2]

/-- What point `t` writes. -/
theorem point (t : Fin grid0.N) (r : Fin 256) (j : Fin 1024) :
    k0_pay2 (F := Ideal) (k0_pay1 (iblk m c 0 t) (iblk m c 1 t)) (iblk m c 2 t) (ix3 0 r j) = value (X0 m c) (X1 m c) (X2 m c) (rw_ t r) j := by
  refine (pay2_apply _ _ r j).trans ?_
  unfold value Memory.normed
  simp only [pay1_apply, b0, b1, b2]

/-- The stack, were each of its slabs the first layer's values. -/
def G : Vec Ideal S2x256x1024 .f32 := fun i => value (X0 m c) (X1 m c) (X2 m c) (i 1) (i 2)

theorem G_apply (l : Fin 2) (r : Fin 256) (j : Fin 1024) : G m c (ix3 l r j) = value (X0 m c) (X1 m c) (X2 m c) r j := rfl

theorem emb3 (t : Fin grid0.N) (r : Fin 256) (j : Fin 1024) :
    (ix3 0 (rw_ t r) j : S2x256x1024.Idx) = (win0_3.blk t).view.emb (ix3 0 r j : S1x256x1024.Idx) := by
  blk_ext [e3 t]

theorem block (t : Fin grid0.N) (y : S1x256x1024.Idx) :
    k0_pay2 (F := Ideal) (k0_pay1 (iblk m c 0 t) (iblk m c 1 t)) (iblk m c 2 t) y = G m c ((win0_3.blk t).view.emb y) := by
  have hy : y = ix3 0 (y 1) (y 2) := by
    idx_vars y
    exact congrArg (fun z => ix3 z y1 y2) (Subsingleton.elim y0 0)
  generalize y 1 = r at hy
  generalize y 2 = j at hy
  subst hy
  exact (point m c t r j).trans ((G_apply m c 0 (rw_ t r) j).symm.trans (congrArg (G m c) (emb3 t r j)))

theorem out_block (t : Fin cfg0.N) : outsAt0 (F := Ideal) m c t = k0_pay2 (F := Ideal) (k0_pay1 (iblk m c 0 t) (iblk m c 1 t)) (iblk m c 2 t) := by
  unfold outsAt0
  funext y
  frame_out

/-- The first slab of the array the pipeline leaves is the values; the rest is as it was found. -/
theorem array : (dats (F := Ideal) m 0 c).arrAt 3 cfg0.N = fun i => if (i 0 : ℕ) / 1 = 0 then G m c i else V m c main_v4 i := by
  refine (dats m 0 c).arrAt_eq_of_coversWhere 3 _ (fun β => β (0 : Fin _) = 0) (by decide +kernel) (fun t hf y => ?_) (fun j => Iff.rfl)
  blk_simp
  rw [after0_3, out_block]
  exact block m c t y

/-- The first slab, of the whole stack. -/
def slab (u : Vec Ideal S2x256x1024 .f32) : Vec Ideal S256x1024 .f32 :=
  shapeCast S256x1024 (extractStridedSlice S1x256x1024 ![0, 0, 0] u slices_S2x256x1024_S1x256x1024_0_0_0) shapeCasts_S1x256x1024_S256x1024

theorem slab_apply (u : Vec Ideal S2x256x1024 .f32) (r : Fin 256) (j : Fin 1024) : slab u (ix2 r j) = u (ix3 0 r j) := by
  unfold slab
  pointwise

/-- The host's last lines, of whatever they find. -/
theorem tail_eq (W : Valuation τ sig (Elt Ideal)) :
    StableHlo.after (hostOps1 (F := Ideal)) W (Proc.devRef .tc main_v6) = slab (W (Proc.devRef .tc main_v4)) := by
  simp only [hostOps1]
  after_results_simp
  rfl

/-- The result. -/
def out : Vec Ideal S256x1024 .f32 := fun i => value (X0 m c) (X1 m c) (X2 m c) (i 0) (i 1)

theorem result : Pipeline.afterTail₀ cfgs (dats (F := Ideal) m) 0 (V0 m) [hostOps1] c main_v6 = out m c := by
  have found : Pipeline.withArrays spec0 c (V0 m c) (fun w => (dats (F := Ideal) m 0 c).arrAt w cfg0.N) (Proc.devRef .tc main_v4)
      = (dats (F := Ideal) m 0 c).arrAt 3 cfg0.N := Pipeline.withArrays_arr spec0 launch0.win.arr_inj c _ _ 3
  have h : Pipeline.afterTail₀ cfgs (dats (F := Ideal) m) 0 (V0 m) [hostOps1] c main_v6 = slab ((dats (F := Ideal) m 0 c).arrAt 3 cfg0.N) := by
    rw [← found, ← tail_eq]
    unfold Pipeline.afterTail₀
    rw [List.flatten_cons, List.flatten_nil, List.append_nil]
  refine h.trans ?_
  funext i
  idx_vars i
  refine (slab_apply _ _ _).trans ?_
  rw [array]
  exact if_pos (Nat.zero_div 1)

end Cert.Kernel12Ideal.SampleValues

/-! ## What the reference computes -/

namespace Cert.Reference12Ideal.SampleValues

open Cert.SampleValues Cert.SampleKeys Cert.Reference12Ideal Cert.Reference12Ideal.Gen Idealize.ShloMosaic Idealize.ShloMosaic.TcCoe Idealize.ShloMosaic.Tactic Idealize.SL.Sem Idealize.ShloMosaic.StableHlo

theorem out_apply (X : FVec Ideal S32x8x1024 .f32) (g : FVec Ideal S1024 .f32) (W : FVec Ideal S1024x16416 .f32) (r : Fin 256) (j : Fin 1024) :
    (shapeCast S256x1024 (extractStridedSlice S32x8x1024 ![0, 0, 6144] (Host.dotGeneral dot_S32x8x1024_S1024x16416_S32x8x16416_2_0_01_1_n_n none (mulf (mulf X (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf X X) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 g))) W) slices_S32x8x16416_S32x8x1024_0_0_6144) shapeCasts_S32x8x1024_S256x1024 : FVec Ideal S256x1024 .f32) (ix2 r j) = value X g W r j := by
  pointwise
  rfl

end Cert.Reference12Ideal.SampleValues

end
-- ==== Proof.SampleValuesEq.lean ====
/-
  The claims on the samples' values: the kernel's array is the reference's.
-/
module

public import proofs.«01_k».proof.Defs
public import proofs.«01_k».proof.Proof.SampleValues
public import proofs.«01_k».proof.Proof.Gen.Kernel12.Frame
public import Idealize.ShloMosaic.Adequacy
public import Idealize.ShloMosaic.Init
public import Idealize.ShloMosaic.Lib.Quiescent

@[expose] public section

noncomputable section

namespace Cert.Proof

open Idealize.ShloMosaic Idealize.SL.Sem

theorem quiescent_Reference12Ideal : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic_Kernel12Ideal_Reference12Ideal : Cert.algebraic_Kernel12Ideal_Reference12Ideal := by
  intro m ρ m' ρ' _ hagree
  refine ⟨fun c => Cert.Kernel12Ideal.SampleValues.out m c, ?_, ?_⟩
  · refine (θ_run Cert.Kernel12Ideal.defs _ _).mono (fun r h c => ⟨?_, h.2.1 c⟩)
      (θ_run_and (Cert.Kernel12Ideal.Gen.run_main (F := Ideal) m ρ) (Cert.Kernel12Ideal.Gen.frame (F := Ideal) m ρ))
    exact ((h.1 c).2 Cert.Kernel12Ideal.main_v6 (Pipeline.mem_restRefs_of Cert.Kernel12Ideal.main_v6 (by decide) (by decide))).trans (Cert.Kernel12Ideal.SampleValues.result m c)
  · refine (θ_run Cert.Reference12Ideal.defs _ _).mono (fun _ h c => ⟨?_, (h c).2⟩) (Cert.Reference12Ideal.Value.run (F := Ideal) m' ρ')
    obtain ⟨h0, h1, h2⟩ := hagree c
    refine (h c).1.trans ?_
    funext i
    idx_vars i
    refine (Cert.Reference12Ideal.SampleValues.out_apply _ _ _ _ _).trans ?_
    rw [h0, h1, h2]
    rfl

end Cert.Proof

end
-- ==== Proof.SampleConvState.lean ====
/-
  The convolution's state after the sampled tokens: the in-projection of 32 sequences of 8 rows, of which the host's last
  lines keep each sequence's last three rows at the convolved columns; and the reference's, which puts the carried state's
  three rows before those columns and drops the first eight rows. The carried state itself is read by neither.
-/
module

public import proofs.«01_k».proof.Proof.Gen.Kernel13Ideal.Frame
public import proofs.«01_k».proof.Proof.Gen.Reference13Ideal.Run
public import proofs.«01_k».proof.Proof.InProj
public import Idealize.ShloMosaic.Lib.Pointwise
public import Idealize.ShloMosaic.Lib.Tactic.CleanTypes
public import Idealize.ShloMosaic.Lib.Pipeline.ValueKit
public import Idealize.ShloMosaic.Lib.Pipeline.ReadBack

@[expose] public section

set_option maxRecDepth 16384

noncomputable section

/-! ## The state in plain mathematics -/

namespace Cert.SampleConvState

open Idealize.ShloMosaic

/-- Row `r` of the samples' rows counted through: sequence `r / 8`, row `r % 8`. -/
def row (X : (⟨3, ![32, 8, 1024]⟩ : Shape).Idx → EReal) (r : Fin 256) (k : Fin 1024) : EReal :=
  X (ix3 ⟨r.val / 8, by omega⟩ ⟨r.val % 8, by omega⟩ k)

/-- A row normed, at lane `k`. -/
def normed (X : (⟨3, ![32, 8, 1024]⟩ : Shape).Idx → EReal) (g : (⟨1, ![1024]⟩ : Shape).Idx → EReal) (r : Fin 256) (k : Fin 1024) : EReal :=
  row X r k * Ideal.rsqrt (Ideal.div (∑ l, row X r l * row X r l) (Ideal.ofBits FTy.f32 1149239296#32) + Ideal.ofBits FTy.f32 897988541#32) * g (ix1 k)

/-- The projection at row `r` and the kernel's column `j`. -/
def proj (X : (⟨3, ![32, 8, 1024]⟩ : Shape).Idx → EReal) (g : (⟨1, ![1024]⟩ : Shape).Idx → EReal)
    (W : (⟨2, ![1024, 16416]⟩ : Shape).Idx → EReal) (r : Fin 256) (j : Fin 14336) : EReal :=
  ∑ k, normed X g r k * W (ix2 k ⟨InProj.srcCol j.val, InProj.srcCol_lt _ j.isLt⟩)

/-- The state of sequence `b` at its row `s` and column `j`: the projection at the sequence's row 5 + `s` and the
    convolved column `j`, which in the weights is column 9216 + `j`. -/
def state (X : (⟨3, ![32, 8, 1024]⟩ : Shape).Idx → EReal) (g : (⟨1, ![1024]⟩ : Shape).Idx → EReal)
    (W : (⟨2, ![1024, 16416]⟩ : Shape).Idx → EReal) (b : Fin 32) (s : Fin 3) (j : Fin 4096) : EReal :=
  ∑ k, normed X g ⟨b.val * 8 + (5 + s.val), by omega⟩ k * W (ix2 k ⟨9216 + j.val, by omega⟩)

/-- The normed row whose place among all rows is `b`'s row `s`. -/
theorem normed_at (X : (⟨3, ![32, 8, 1024]⟩ : Shape).Idx → EReal) (g : (⟨1, ![1024]⟩ : Shape).Idx → EReal) (r : Fin 256) (k : Fin 1024)
    (b : Fin 32) (s : Fin 8) (hr : r.val = b.val * 8 + s.val) :
    normed X g r k = X (ix3 b s k) * Ideal.rsqrt (Ideal.div (∑ l, X (ix3 b s l) * X (ix3 b s l)) (Ideal.ofBits FTy.f32 1149239296#32)
      + Ideal.ofBits FTy.f32 897988541#32) * g (ix1 k) := by
  have eb : (⟨r.val / 8, by omega⟩ : Fin 32) = b := Fin.ext (by show r.val / 8 = b.val; omega)
  have es : (⟨r.val % 8, by omega⟩ : Fin 8) = s := Fin.ext (by show r.val % 8 = s.val; omega)
  simp only [normed, row, eb, es]

end Cert.SampleConvState

/-! ## What the kernel leaves -/

namespace Cert.Kernel13Ideal.SampleConvState

open Cert.InProj (srcCol srcCol_lt)
open Cert.SampleConvState Cert.Kernel13Ideal Cert.Kernel13Ideal.Gen Idealize.ShloMosaic Idealize.ShloMosaic.TcCoe Idealize.SL.Sem

variable (m : (ℓ : Loc nD τ sig) → Buf (Elt Ideal) ℓ)

/-- The three input windows' index maps. -/
theorem idx_facts : ∀ t : Fin cfg0.N, win0_0.index t = ![t.val / 14, 0] ∧ win0_1.index t = ![0, 0] ∧ win0_2.index t = ![0, t.val % 14] :=
  (by decide +kernel : ∀ t : Fin grid0.N, _)

/-- A row block's first point norms the rows, keeps them and multiplies them. -/
theorem case_A (c : Dev nD) (t : Fin cfg0.N) (h : t.val % 14 = 0) :
    outsAt0 m c t.val t.isLt = (k0_pay2 (k0_pay1 (iblk m c 0 t) (iblk m c 1 t)) (iblk m c 2 t), k0_pay1 (iblk m c 0 t) (iblk m c 1 t)) := by
  rw [outsAt0_A m c t h]
  refine Prod.ext ?_ ?_ <;> (funext y; frame_out)

/-- Every other point multiplies the rows that the point before left. -/
theorem case_B (c : Dev nD) (t : Fin cfg0.N) (h : ¬ t.val % 14 = 0) :
    outsAt0 m c t.val t.isLt = (k0_pay2 (outsAt0 m c (t.val - 1) (Nat.lt_of_le_of_lt (Nat.sub_le _ _) t.isLt)).2 (iblk m c 2 t), (outsAt0 m c (t.val - 1) (Nat.lt_of_le_of_lt (Nat.sub_le _ _) t.isLt)).2) := by
  rw [outsAt0_B m c t h]
  refine Prod.ext ?_ rfl
  funext y
  frame_out
  simp only [read_unread_whole]

theorem V_eq (c : Dev nD) (b : Ref sig .tc) : V m c b = StableHlo.after hostOps0 (fun b => m (c, b)) b := by
  show StableHlo.after (List.flatten [hostOps0]) (fun b => m (c, b)) (Proc.devRef .tc b) = _
  rw [List.flatten_cons, List.flatten_nil, List.append_nil]

/-- The region's first operand is the input with its rows numbered through. -/
theorem V5_apply (c : Dev nD) (r : Fin 256) (k : Fin 1024) :
    V m c main_v5 (ix2 r k) = row (m ((c : Thread nD τ).loc main_arg0)) r k := by
  rw [V_eq]
  entry_read
  pointwise
  rfl

/-- The region's third operand is the weights' columns that the projection takes, side by side. -/
theorem V4_eq (c : Dev nD) : (V m c main_v4 : Vec Ideal S1024x14336 .bf16) = (truncf (F := Ideal) .bf16 (concatenate S1024x14336 1 [⟨S1024x5120, extractStridedSlice S1024x5120 ![0, 0] (m ((c : Thread nD τ).loc main_arg3)) slices_S1024x16416_S1024x5120_0_0⟩, ⟨S1024x6144, extractStridedSlice S1024x6144 ![0, 7168] (m ((c : Thread nD τ).loc main_arg3)) slices_S1024x16416_S1024x6144_0_7168⟩, ⟨S1024x3072, extractStridedSlice S1024x3072 ![0, 13344] (m ((c : Thread nD τ).loc main_arg3)) slices_S1024x16416_S1024x3072_0_13344⟩] concatenates_S1024x5120_S1024x6144_S1024x3072_S1024x14336_d1 : Vec Ideal S1024x14336 .f32) bitsLt_bf16_f32 : FVec Ideal S1024x14336 .bf16) := by
  rw [V_eq]
  after_results
  rfl

theorem V4_apply (c : Dev nD) (k : Fin 1024) (j : Fin 14336) : V m c main_v4 (ix2 k j) =
    m ((c : Thread nD τ).loc main_arg3) (ix2 k ⟨srcCol j.val, srcCol_lt _ j.isLt⟩) := by
  have hj := j.isLt
  rw [V4_eq]
  pointwise
  split_ifs
  all_goals
    refine congrArg _ (congrArg (ix2 k) (Fin.ext ?_))
    simp only [srcCol]
    split_ifs <;> omega

theorem V6_apply (c : Dev nD) (k : Fin 1024) : (V m c main_v6 : Vec Ideal S1x1024 .f32) (ix2 0 k) = m ((c : Thread nD τ).loc main_arg2) (ix1 k) := by
  rw [V_eq]
  entry_read
  pointwise

theorem row_lt (t : Fin cfg0.N) (r : Fin 256) : t.val / 14 * 256 + r.val < 256 := by
  have := lt_of_lt_of_eq t.isLt N_0
  omega

theorem col_lt (t : Fin cfg0.N) (j : Fin 1024) : t.val % 14 * 1024 + j.val < 14336 := by
  omega

theorem iblk0_apply (c : Dev nD) (t : Fin cfg0.N) (r : Fin 256) (k : Fin 1024) :
    iblk m c 0 t (ix2 r k) = row (m ((c : Thread nD τ).loc main_arg0)) ⟨t.val / 14 * 256 + r.val, row_lt t r⟩ k := by
  obtain ⟨e0, -, -⟩ := idx_facts t
  rw [← V5_apply]
  blk_ext [iblk, e0]

theorem iblk1_apply (c : Dev nD) (t : Fin cfg0.N) (k : Fin 1024) :
    iblk m c 1 t (ix2 0 k) = m ((c : Thread nD τ).loc main_arg2) (ix1 k) := by
  obtain ⟨-, e1, -⟩ := idx_facts t
  rw [← V6_apply m c k]
  blk_ext [iblk, e1]

theorem iblk2_apply (c : Dev nD) (t : Fin cfg0.N) (k j : Fin 1024) :
    iblk m c 2 t (ix2 k j) = m ((c : Thread nD τ).loc main_arg3)
      (ix2 k ⟨srcCol (t.val % 14 * 1024 + j.val), srcCol_lt _ (col_lt t j)⟩) := by
  obtain ⟨-, -, e2⟩ := idx_facts t
  rw [← V4_apply m c k ⟨t.val % 14 * 1024 + j.val, col_lt t j⟩]
  blk_ext [iblk, e2]

/-- The norm's payload at an index. -/
theorem pay1_apply (c : Dev nD) (t : Fin cfg0.N) (r : Fin 256) (k : Fin 1024) :
    k0_pay1 (iblk m c 0 t) (iblk m c 1 t) (ix2 r k)
      = normed (m ((c : Thread nD τ).loc main_arg0)) (m ((c : Thread nD τ).loc main_arg2)) ⟨t.val / 14 * 256 + r.val, row_lt t r⟩ k := by
  pointwise [k0_pay1]
  simp only [iblk0_apply, iblk1_apply]
  rfl

/-- The scratch after any point: the row block's normed rows. -/
theorem scratch_apply (c : Dev nD) (n : ℕ) (hn : n < cfg0.N) (r : Fin 256) (k : Fin 1024) :
    (outsAt0 m c n hn).2 (ix2 r k)
      = normed (m ((c : Thread nD τ).loc main_arg0)) (m ((c : Thread nD τ).loc main_arg2)) ⟨n / 14 * 256 + r.val, row_lt ⟨n, hn⟩ r⟩ k := by
  induction n with
  | zero => rw [case_A m c ⟨0, hn⟩ (Nat.zero_mod _)]; exact pay1_apply m c ⟨0, hn⟩ r k
  | succ n ih =>
    by_cases h : (n + 1) % 14 = 0
    · rw [case_A m c ⟨n + 1, hn⟩ h]; exact pay1_apply m c ⟨n + 1, hn⟩ r k
    · rw [case_B m c ⟨n + 1, hn⟩ h]
      refine (ih (Nat.lt_of_succ_lt hn)).trans ?_
      have e : n / 14 = (n + 1) / 14 := by omega
      congr 2
      rw [e]

/-- The output block after any point: the product of the scratch and the point's weight block. -/
theorem out_eq (c : Dev nD) (t : Fin cfg0.N) :
    (outsAt0 m c t.val t.isLt).1 = k0_pay2 (outsAt0 m c t.val t.isLt).2 (iblk m c 2 t) := by
  by_cases h : t.val % 14 = 0
  · rw [case_A m c t h]
  · rw [case_B m c t h]

theorem out_apply (c : Dev nD) (t : Fin cfg0.N) (r : Fin 256) (j : Fin 1024) :
    (outsAt0 m c t.val t.isLt).1 (ix2 r j)
      = proj (m ((c : Thread nD τ).loc main_arg0)) (m ((c : Thread nD τ).loc main_arg2)) (m ((c : Thread nD τ).loc main_arg3))
          ⟨t.val / 14 * 256 + r.val, row_lt t r⟩ ⟨t.val % 14 * 1024 + j.val, col_lt t j⟩ := by
  rw [out_eq]
  pointwise [k0_pay2]
  refine Finset.sum_congr rfl fun k _ => ?_
  rw [scratch_apply, iblk2_apply]

theorem e3 : ∀ t : Fin cfg0.N, win0_3.index t = ![t.val / 14, t.val % 14] :=
  (by decide +kernel : ∀ t : Fin grid0.N, _)

/-- The array the kernel leaves. -/
def G (c : Dev nD) : Vec Ideal S256x14336 .f32 := fun i =>
  proj (m ((c : Thread nD τ).loc main_arg0)) (m ((c : Thread nD τ).loc main_arg2)) (m ((c : Thread nD τ).loc main_arg3)) (i 0) (i 1)

theorem G_apply (c : Dev nD) (r : Fin 256) (j : Fin 14336) : G m c (ix2 r j)
    = proj (m ((c : Thread nD τ).loc main_arg0)) (m ((c : Thread nD τ).loc main_arg2)) (m ((c : Thread nD τ).loc main_arg3)) r j := rfl

theorem emb3 (t : Fin cfg0.N) (r : Fin 256) (j : Fin 1024) :
    (ix2 (⟨t.val / 14 * 256 + r.val, row_lt t r⟩ : Fin 256) (⟨t.val % 14 * 1024 + j.val, col_lt t j⟩ : Fin 14336) : S256x14336.Idx)
      = (win0_3.blk t).view.emb (ix2 r j : S256x1024.Idx) := by
  blk_ext [e3 t]

theorem block (c : Dev nD) (t : Fin cfg0.N) (y : S256x1024.Idx) :
    (outsAt0 m c t.val t.isLt).1 y = G m c ((win0_3.blk t).view.emb y) := by
  have hy : y = ix2 (y 0 : Fin 256) (y 1 : Fin 1024) := by
    funext a
    match a with
    | ⟨0, _⟩ => rfl
    | ⟨1, _⟩ => rfl
  generalize y 0 = r at hy
  generalize y 1 = j at hy
  subst hy
  exact (out_apply m c t r j).trans ((G_apply m c _ _).symm.trans (congrArg (G m c) (emb3 t r j)))

theorem array (c : Dev nD) : (dats (F := Ideal) m 0 c).arrAt 3 cfg0.N = G m c := by
  refine (dats m 0 c).arrAt_eq_of_covers 3 _ (by decide +kernel) fun t hf y => ?_
  blk_simp
  rw [after0_3]
  exact block m c t y

/-- Each sequence's last three rows at the convolved columns. -/
def cut (u : Vec Ideal S256x14336 .f32) : Vec Ideal S32x3x4096 .f32 :=
  extractStridedSlice S32x3x4096 ![0, 5, 7168] (shapeCast S32x8x14336 u shapeCasts_S256x14336_S32x8x14336) slices_S32x8x14336_S32x3x4096_0_5_7168

theorem cut_apply (u : Vec Ideal S256x14336 .f32) (b : Fin 32) (s : Fin 3) (j : Fin 4096) :
    cut u (ix3 b s j) = u (ix2 ⟨b.val * 8 + (5 + s.val), by omega⟩ ⟨7168 + j.val, by omega⟩) := by
  unfold cut
  pointwise

/-- The host's last lines, of whatever they find. -/
theorem tail_eq (W : Valuation τ sig (Elt Ideal)) :
    StableHlo.after (hostOps1 (F := Ideal)) W (Proc.devRef .tc main_v9) = cut (W (Proc.devRef .tc main_v7)) := by
  simp only [hostOps1]
  after_results_simp
  rfl

/-- The result. -/
def out (c : Dev nD) : Vec Ideal S32x3x4096 .f32 := fun i =>
  state (m ((c : Thread nD τ).loc main_arg0)) (m ((c : Thread nD τ).loc main_arg2)) (m ((c : Thread nD τ).loc main_arg3)) (i 0) (i 1) (i 2)

theorem out_def (c : Dev nD) (b : Fin 32) (s : Fin 3) (j : Fin 4096) : out m c (ix3 b s j)
    = state (m ((c : Thread nD τ).loc main_arg0)) (m ((c : Thread nD τ).loc main_arg2)) (m ((c : Thread nD τ).loc main_arg3)) b s j := rfl

theorem result (c : Dev nD) : Pipeline.afterTail₀ cfgs (dats (F := Ideal) m) 0 (V0 m) [hostOps1] c main_v9 = out m c := by
  have found : Pipeline.withArrays spec0 c (V0 m c) (fun w => (dats (F := Ideal) m 0 c).arrAt w cfg0.N) (Proc.devRef .tc main_v7)
      = (dats (F := Ideal) m 0 c).arrAt 3 cfg0.N := Pipeline.withArrays_arr spec0 launch0.win.arr_inj c _ _ 3
  have h : Pipeline.afterTail₀ cfgs (dats (F := Ideal) m) 0 (V0 m) [hostOps1] c main_v9 = cut (G m c) := by
    rw [← array m c, ← found, ← tail_eq]
    unfold Pipeline.afterTail₀
    rw [List.flatten_cons, List.flatten_nil, List.append_nil]
  refine h.trans ?_
  funext i
  idx_vars i
  refine (cut_apply _ _ _ _).trans ((G_apply m c _ _).trans ?_)
  rw [out_def]
  unfold proj state
  refine Finset.sum_congr rfl fun k _ => congrArg (fun z : Fin 16416 => normed _ _ _ k * (m ((c : Thread nD τ).loc main_arg3) : Vec Ideal S1024x16416 .f32) (ix2 k z)) (Fin.ext ?_)
  have h2 := i2.isLt
  simp only [srcCol]
  split_ifs <;> omega

end Cert.Kernel13Ideal.SampleConvState

/-! ## What the reference computes -/

namespace Cert.Reference13Ideal.SampleConvState

open Cert.SampleConvState Cert.Reference13Ideal Cert.Reference13Ideal.Gen Idealize.ShloMosaic Idealize.ShloMosaic.TcCoe Idealize.ShloMosaic.Tactic Idealize.SL.Sem Idealize.ShloMosaic.StableHlo

theorem out_apply (X : FVec Ideal S32x8x1024 .f32) (B : FVec Ideal S32x3x4096 .f32) (g : FVec Ideal S1024 .f32) (W : FVec Ideal S1024x16416 .f32) (b : Fin 32) (s : Fin 3) (j : Fin 4096) :
    (extractStridedSlice S32x3x4096 ![0, 8, 0] (concatenate S32x11x4096 1 [⟨S32x3x4096, B⟩, ⟨S32x8x4096, (extractStridedSlice S32x8x4096 ![0, 0, 9216] (Host.dotGeneral dot_S32x8x1024_S1024x16416_S32x8x16416_2_0_01_1_n_n none (mulf (mulf X (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf X X) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 g))) W) slices_S32x8x16416_S32x8x4096_0_0_9216)⟩] concatenates_S32x3x4096_S32x8x4096_S32x11x4096_d1) slices_S32x11x4096_S32x3x4096_0_8_0 : FVec Ideal S32x3x4096 .f32) (ix3 b s j) = state X g W b s j := by
  pointwise
  rw [dif_neg (by omega)]
  unfold state
  refine Finset.sum_congr rfl fun k _ => ?_
  rw [normed_at X g ⟨b.val * 8 + (5 + s.val), by omega⟩ k b ⟨8 + s.val - 3, by omega⟩ (by show b.val * 8 + (5 + s.val) = b.val * 8 + (8 + s.val - 3); omega)]

end Cert.Reference13Ideal.SampleConvState

end
-- ==== Proof.SampleConvStateEq.lean ====
/-
  The claims on the convolution's state after the samples: the kernel's array is the reference's.
-/
module

public import proofs.«01_k».proof.Defs
public import proofs.«01_k».proof.Proof.SampleConvState
public import proofs.«01_k».proof.Proof.Gen.Kernel13.Frame
public import Idealize.ShloMosaic.Adequacy
public import Idealize.ShloMosaic.Init
public import Idealize.ShloMosaic.Lib.Quiescent

@[expose] public section

noncomputable section

namespace Cert.Proof

open Idealize.ShloMosaic Idealize.SL.Sem

theorem quiescent_Reference13Ideal : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic_Kernel13Ideal_Reference13Ideal : Cert.algebraic_Kernel13Ideal_Reference13Ideal := by
  intro m ρ m' ρ' _ hagree
  refine ⟨fun c => Cert.Kernel13Ideal.SampleConvState.out m c, ?_, ?_⟩
  · refine (θ_run Cert.Kernel13Ideal.defs _ _).mono (fun r h c => ⟨?_, h.2.1 c⟩)
      (θ_run_and (Cert.Kernel13Ideal.Gen.run_main (F := Ideal) m ρ) (Cert.Kernel13Ideal.Gen.frame (F := Ideal) m ρ))
    exact ((h.1 c).2 Cert.Kernel13Ideal.main_v9 (Pipeline.mem_restRefs_of Cert.Kernel13Ideal.main_v9 (by decide) (by decide))).trans (Cert.Kernel13Ideal.SampleConvState.result m c)
  · refine (θ_run Cert.Reference13Ideal.defs _ _).mono (fun _ h c => ⟨?_, (h c).2⟩) (Cert.Reference13Ideal.Value.run (F := Ideal) m' ρ')
    obtain ⟨h0, -, h2, h3⟩ := hagree c
    refine (h c).1.trans ?_
    funext i
    idx_vars i
    refine (Cert.Reference13Ideal.SampleConvState.out_apply _ _ _ _ _ _ _).trans ?_
    rw [h0, h2, h3]
    rfl

end Cert.Proof

end
-- ==== Proof.FfnLastParts.lean ====
/-
  One point of the last layer's feed-forward call, part by part, as in `FfnParts`: the normalised rows and the zeroed sum at a tile's first half
  of the width, the gate's columns laid after the rows the tile before left, the three taps, and the half's share of the
  product.
-/
module

public import proofs.«01_k».proof.Proof.Gen.Kernel14Ideal.Frame
public import proofs.«01_k».proof.Proof.Gen.Kernel14Ideal.Skeleton
public import Idealize.ShloMosaic.Lib.VecWindow

@[expose] public section

set_option maxRecDepth 16384

noncomputable section

namespace Cert.Kernel14Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Idealize.ShloMosaic.Pipeline (Dat Cfg Window BodyObligation cellOf)

variable {F : FTy → Type} [FloatOps F]

/-- The logic's resources at this program. -/
local notation "𝕄" => MT nD τ sig Unit (Elt F) ℕ (UR sig nD τ) ℕ

/-- The body normalises its rows and zeroes its sum exactly at the first half of the width. -/
abbrev cond0_0 (i : grid0.Coords) : Prop := (Scalar.cmpi .ne (Scalar.extui (Scalar.cmpi .eq (BitVec.ofNat 32 (i 2).val) 0#32)) 0#32) = 1#1

/-- The kept last rows as the body reads them: zeroed at a sequence's first tile. -/
def tailIn (i : grid0.Coords) (d : Vec F S2x8x1408 .f32) : Vec F S2x8x1408 .f32 :=
  if k0_cond2 i = 1#1 then put d (k0_off2 i) S1x8x1408.size (k0_pay4 (F := F)) else d

/-- The eight rows before the tile's first. -/
def rowOf (i : grid0.Coords) (d : Vec F S2x8x1408 .f32) : Vec F S1x8x1408 .f32 :=
  window (tailIn i d) (k0_off2 i) S1x8x1408.size (k0_off2_inb i)

/-- The gate's rows after the eight rows before them. -/
def bufOf (row : Vec F S1x8x1408 .f32) (hn : Vec F S512x1024 .bf16) (wg : Vec F S1024x1408 .bf16) : Vec F S520x1408 .f32 :=
  put (put (fun _ => Scalar.ofBits .f32 0#32) ![0, 0] S8x1408.size (k0_pay6 row)) ![8, 0] S512x1408.size (k0_pay7 hn wg)

/-- The two pieces cover the buffer, whatever it held. -/
theorem bufOf_eq (row : Vec F S1x8x1408 .f32) (hn : Vec F S512x1024 .bf16) (wg : Vec F S1024x1408 .bf16) (g : Vec F S520x1408 .f32) :
    put (put g ![0, 0] S8x1408.size (k0_pay6 row)) ![8, 0] S512x1408.size (k0_pay7 hn wg) = bufOf row hn wg := by
  funext y
  unfold bufOf
  unfold put
  by_cases h : ∀ a, (![8, 0] : Fin 2 → ℕ) a ≤ (y a).val ∧ (y a).val < (![8, 0] : Fin 2 → ℕ) a + S512x1408.size a
  · rw [dif_pos h, dif_pos h]
  · rw [dif_neg h, dif_neg h]
    have h' : ∀ a, (![0, 0] : Fin 2 → ℕ) a ≤ (y a).val ∧ (y a).val < (![0, 0] : Fin 2 → ℕ) a + S8x1408.size a := by
      have h0 : (y 0).val < 520 := (y 0).isLt
      have h1 : (y 1).val < 1408 := (y 1).isLt
      have hn : (y 0).val < 8 := by
        by_contra hc
        refine h fun a => ?_
        match a with
        | 0 => exact ⟨by show 8 ≤ (y 0).val; omega, by show (y 0).val < 8 + 512; omega⟩
        | 1 => exact ⟨Nat.zero_le _, by show (y 1).val < 0 + 1408; omega⟩
      intro a
      match a with
      | 0 => exact ⟨Nat.zero_le _, by show (y 0).val < 0 + 8; omega⟩
      | 1 => exact ⟨Nat.zero_le _, by show (y 1).val < 0 + 1408; omega⟩
    rw [dif_pos h', dif_pos h']

/-- What the body leaves in the kept last rows. -/
def tailOut (i : grid0.Coords) (d : Vec F S2x8x1408 .f32) (buf : Vec F S520x1408 .f32) : Vec F S2x8x1408 .f32 :=
  put (tailIn i d) (k0_off2 i) S1x8x1408.size (k0_pay10 (window buf ![512, 0] S8x1408.size inb_S520x1408_S8x1408_512_0))

/-- What the body leaves in the sum, of what it finds there. -/
def accOf (buf : Vec F S520x1408 .f32) (hn : Vec F S512x1024 .bf16) (wv : Vec F S1024x1408 .bf16) (cw : Vec F S3x1408 .f32) (cb : Vec F S1x1408 .f32)
    (wd : Vec F S1408x1024 .bf16) (acc : Vec F S512x1024 .f32) : Vec F S512x1024 .f32 :=
  k0_pay12 (k0_pay5 hn wv) cw (k0_pay8 cb) (k0_pay9 cw (window buf ![6, 0] S512x1408.size inb_S520x1408_S512x1408_6_0))
    (window buf ![7, 0] S512x1408.size inb_S520x1408_S512x1408_7_0) (window buf ![8, 0] S512x1408.size inb_S520x1408_S512x1408_8_0) acc wd

/-- What the body leaves in the second result's block. -/
def foOf (buf : Vec F S520x1408 .f32) : Vec F S1x1x2x1408 .f32 :=
  k0_pay11 (window buf ![518, 0] S2x1408.size inb_S520x1408_S2x1408_518_0)

theorem off_eq (i : grid0.Coords) : k0_off1 i = k0_off2 i := by rw [k0_off1_eq, k0_off2_eq]

/-- A covered load of a box reads a window of what the stores leave. -/
theorem readCov_window {κ : Kind} {sp : Space} {s : Shape} {e : EltTy} (v : View sig κ sp s e) (L : List (View.Piece (Elt F) s e))
    {off off' size : Fin s.rank → ℕ} (inb : ∀ a, off a + size a ≤ s.size a) (h : off = off') (inb' : ∀ a, off' a + size a ≤ s.size a) :
    v.readCov L (Rect.unit off size inb).toLoadRect = window (v.read (Elt F) (v.writes (Elt F) v.junk L)) off' size inb' :=
  View.readAt_unit v _ inb h inb'

/-- The buffer after its two stores. -/
theorem read_buf {κ : Kind} {sp : Space} (v : View sig κ sp S520x1408 .f32) (f : v.ty.Contents (Elt F)) (row : Vec F S1x8x1408 .f32) (hn : Vec F S512x1024 .bf16) (wg : Vec F S1024x1408 .bf16) :
    v.read (Elt F) (v.writes (Elt F) f [⟨Rect.unit ![8, 0] S512x1408.size inb_S520x1408_S512x1408_8_0, k0_pay7 hn wg⟩,
      ⟨Rect.unit ![0, 0] S8x1408.size inb_S520x1408_S8x1408_0_0, k0_pay6 row⟩]) = bufOf row hn wg := by
  rw [View.read_writes_cons_put _ _ _ _ _ rfl, View.read_writes_cons_put _ _ _ _ _ rfl]
  exact bufOf_eq _ _ _ _

theorem rowOf_pos (i : grid0.Coords) (d : Vec F S2x8x1408 .f32) (h : k0_cond2 i = 1#1) : rowOf i d = k0_pay4 (F := F) := by
  unfold rowOf tailIn; rw [if_pos h]; exact window_put_same _ _ _ _ _
theorem rowOf_neg (i : grid0.Coords) (d : Vec F S2x8x1408 .f32) (h : ¬ k0_cond2 i = 1#1) :
    rowOf i d = window d (k0_off2 i) S1x8x1408.size (k0_off2_inb i) := by
  unfold rowOf tailIn; rw [if_neg h]

set_option maxHeartbeats 1000000 in
/-- The first part, at a tile's first half of the width. -/
theorem part1A (c : Dev nD) (E : Set ℕ) (i : grid0.Coords) (arg3 : Memref sig .tc .vmem S1x512x1024 .f32) (harg3 : arg3.IsWhole)
    (arg4 : Memref sig .tc .vmem S1x1024 .f32) (harg4 : arg4.IsWhole)
    (arg5 : Memref sig .tc .vmem S1024x1408 .bf16) (harg5 : arg5.IsWhole)
    (arg6 : Memref sig .tc .vmem S1024x1408 .bf16) (harg6 : arg6.IsWhole)
    (arg7 : Memref sig .tc .vmem S1408x1024 .bf16) (harg7 : arg7.IsWhole)
    (arg8 : Memref sig .tc .vmem S3x1408 .f32) (harg8 : arg8.IsWhole)
    (arg9 : Memref sig .tc .vmem S1x1408 .f32) (harg9 : arg9.IsWhole)
    (arg10 : Memref sig .tc .vmem S1x1024 .f32) (harg10 : arg10.IsWhole)
    (arg11 : Memref sig .tc .vmem S1x512x1024 .f32) (harg11 : arg11.IsWhole)
    (arg12 : Memref sig .tc .vmem S1x1x2x1408 .f32) (harg12 : arg12.IsWhole)
    (arg13 : Memref sig .tc .vmem S512x1024 .bf16) (harg13 : arg13.IsWhole)
    (arg14 : Memref sig .tc .vmem S512x1024 .f32) (harg14 : arg14.IsWhole)
    (arg15 : Memref sig .tc .vmem S520x1408 .f32) (harg15 : arg15.IsWhole)
    (arg16 : Memref sig .tc .vmem S2x8x1408 .f32) (harg16 : arg16.IsWhole)
    (hc : cond0_0 i) (x0 : Vec F S1x512x1024 .f32) (x1 : Vec F S1x1024 .f32) (x2 x3 : Vec F S1024x1408 .bf16) (x5 : Vec F S3x1408 .f32) (x6 : Vec F S1x1408 .f32) (Y12 : Vec F S512x1024 .bf16) (Y13 : Vec F S512x1024 .f32) (Y14 : Vec F S520x1408 .f32) (Y15 : Vec F S2x8x1408 .f32)
    (Q : (Σ' (arg2 : BitVec 32) (v12 : FVec F S512x1408 .f32) (v22 : Vec F S3x1408 .f32) (v24 : FVec F S1x1408 .f32), FVec F S512x1408 .f32) → sProp 𝕄) :
    (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare x5 ∗ owns (c : Thread nD τ) arg9 fullShare x6 ∗ owns (c : Thread nD τ) arg13 fullShare Y12 ∗ owns (c : Thread nD τ) arg14 fullShare Y13 ∗ owns (c : Thread nD τ) arg15 fullShare Y14 ∗ owns (c : Thread nD τ) arg16 fullShare Y15
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare x5 ∗ owns (c : Thread nD τ) arg9 fullShare x6 ∗ owns (c : Thread nD τ) arg13 fullShare (k0_pay2 x0 x1) ∗ owns (c : Thread nD τ) arg14 fullShare (k0_pay3 (F := F)) ∗ owns (c : Thread nD τ) arg15 fullShare (bufOf (rowOf i Y15) (k0_pay2 x0 x1) x2) ∗ owns (c : Thread nD τ) arg16 fullShare (tailIn i Y15)) -∗ Q ⟨BitVec.ofNat 32 (i 2).val, k0_pay5 (k0_pay2 x0 x1) x3, x5, k0_pay8 x6, k0_pay9 x5 (window (bufOf (rowOf i Y15) (k0_pay2 x0 x1) x2) ![6, 0] S512x1408.size inb_S520x1408_S512x1408_6_0)⟩)) : sProp 𝕄)
      ⊢ wp frame (wpE (defs₀ (F := F)) Variants.none c none) E (k0_part1 i arg3 harg3 arg4 harg4 arg5 harg5 arg6 harg6 arg7 harg7 arg8 harg8 arg9 harg9 arg10 harg10 arg11 harg11 arg12 harg12 arg13 harg13 arg14 harg14 arg15 harg15 arg16 harg16) Q := by
  rw [k0_part1_eq_skeleton]
  unfold k0_part1_skel
  by_cases h2 : k0_cond2 i = 1#1
  · unfold owns
    iintro ⟨⟨%f3, %h3, H3⟩, ⟨%f4, %h4, H4⟩, ⟨%f5, %h5, H5⟩, ⟨%f6, %h6, H6⟩, ⟨%f8, %h8, H8⟩, ⟨%f9, %h9, H9⟩, ⟨%f12, %h12, H12⟩, ⟨%f13, %h13, H13⟩, ⟨%f14, %h14, H14⟩, ⟨%f15, %h15, H15⟩, HQ⟩
    sl_exec (disch := first | sl_exact hc | sl_exact h2)
    sl_step
    have e14 : part1A.sl.v14 c i arg16 h2 = rowOf i Y15 := by
      rw [rowOf_pos i Y15 h2]
      unfold part1A.sl.v14 part1A.sl.H15_1
      rw [readCov_window _ _ _ rfl (k0_off2_inb i), View.read_writes_cons_put _ _ _ _ _ (off_eq i)]
      exact window_put_same _ _ _ _ _
    have e6 : part1A.sl.v6 c arg3 arg4 arg13 f3 f4 = k0_pay2 x0 x1 := by
      unfold part1A.sl.v6 part1A.sl.H12_1
      rw [View.readCov_full, View.readAt_full, View.readAt_full, h3, h4]
    have e14b : ∀ f, View.read (Elt F) arg15.view (arg15.view.writes (Elt F) f (part1A.sl.H14_2 c i arg3 arg4 arg5 arg13 arg16 h2 f3 f4 f5 )) = bufOf (rowOf i Y15) (k0_pay2 x0 x1) x2 := by
      intro f
      unfold part1A.sl.H14_2
      rw [e6, View.readAt_full _ f5, h5, e14]
      exact read_buf _ _ _ _ _
    have e26 : part1A.sl.v26 c i arg3 arg4 arg5 arg13 arg15 arg16 h2 f3 f4 f5  = window (bufOf (rowOf i Y15) (k0_pay2 x0 x1) x2) ![6, 0] S512x1408.size inb_S520x1408_S512x1408_6_0 := by
      unfold part1A.sl.v26
      rw [readCov_window _ _ _ rfl inb_S520x1408_S512x1408_6_0, e14b]
    rw [e26, e6, View.readAt_full _ f6, View.readAt_full _ f8, View.readAt_full _ f9, h6, h8, h9]
    iapply HQ
    isplitl [H3]
    · iexists _; isplitr; · ipureintro; exact h3
      iexact H3
    isplitl [H4]
    · iexists _; isplitr; · ipureintro; exact h4
      iexact H4
    isplitl [H5]
    · iexists _; isplitr; · ipureintro; exact h5
      iexact H5
    isplitl [H6]
    · iexists _; isplitr; · ipureintro; exact h6
      iexact H6
    isplitl [H8]
    · iexists _; isplitr; · ipureintro; exact h8
      iexact H8
    isplitl [H9]
    · iexists _; isplitr; · ipureintro; exact h9
      iexact H9
    isplitl [H12]
    · iexists _; isplitr
      rotate_left
      · iexact H12
      · ipureintro
        unfold part1A.sl.H12_1
        rw [View.readAt_full, View.readAt_full, h3, h4]
        exact View.read_writes_full _ _ _ _ _
    isplitl [H13]
    · iexists _; isplitr
      rotate_left
      · iexact H13
      · ipureintro
        exact View.read_writes_full _ _ _ _ _
    isplitl [H14]
    · iexists _; isplitr
      rotate_left
      · iexact H14
      · ipureintro
        exact e14b _
    iexists _; isplitr
    rotate_left
    · iexact H15
    · ipureintro
      unfold part1A.sl.H15_1
      refine (View.read_writes_cons_put _ _ _ _ _ (off_eq i)).trans ?_
      rw [View.writes_nil, h15]; unfold tailIn; rw [if_pos h2]
  · unfold owns
    iintro ⟨⟨%f3, %h3, H3⟩, ⟨%f4, %h4, H4⟩, ⟨%f5, %h5, H5⟩, ⟨%f6, %h6, H6⟩, ⟨%f8, %h8, H8⟩, ⟨%f9, %h9, H9⟩, ⟨%f12, %h12, H12⟩, ⟨%f13, %h13, H13⟩, ⟨%f14, %h14, H14⟩, ⟨%f15, %h15, H15⟩, HQ⟩
    sl_exec (disch := first | sl_exact hc | sl_exact h2)
    sl_step
    have e14 : View.readAt (Elt F) arg16.view (Rect.unit (s := S2x8x1408) (k0_off2 i) S1x8x1408.size (k0_off2_inb i)).toLoadRect f15 = rowOf i Y15 := by
      rw [rowOf_neg i Y15 h2, View.readAt_unit _ _ _ rfl (k0_off2_inb i), h15]
    have e6 : part1A.sl.v6_1 c arg3 arg4 arg13 f3 f4 = k0_pay2 x0 x1 := by
      unfold part1A.sl.v6_1 part1A.sl.H12_1_1
      rw [View.readCov_full, View.readAt_full, View.readAt_full, h3, h4]
    have e14b : ∀ f, View.read (Elt F) arg15.view (arg15.view.writes (Elt F) f (part1A.sl.H14_2_1 c i arg3 arg4 arg5 arg13 arg16 f3 f4 f5 f15)) = bufOf (rowOf i Y15) (k0_pay2 x0 x1) x2 := by
      intro f
      unfold part1A.sl.H14_2_1
      rw [e6, View.readAt_full _ f5, h5, e14]
      exact read_buf _ _ _ _ _
    have e26 : part1A.sl.v26_1 c i arg3 arg4 arg5 arg13 arg15 arg16 f3 f4 f5 f15 = window (bufOf (rowOf i Y15) (k0_pay2 x0 x1) x2) ![6, 0] S512x1408.size inb_S520x1408_S512x1408_6_0 := by
      unfold part1A.sl.v26_1
      rw [readCov_window _ _ _ rfl inb_S520x1408_S512x1408_6_0, e14b]
    rw [e26, e6, View.readAt_full _ f6, View.readAt_full _ f8, View.readAt_full _ f9, h6, h8, h9]
    iapply HQ
    isplitl [H3]
    · iexists _; isplitr; · ipureintro; exact h3
      iexact H3
    isplitl [H4]
    · iexists _; isplitr; · ipureintro; exact h4
      iexact H4
    isplitl [H5]
    · iexists _; isplitr; · ipureintro; exact h5
      iexact H5
    isplitl [H6]
    · iexists _; isplitr; · ipureintro; exact h6
      iexact H6
    isplitl [H8]
    · iexists _; isplitr; · ipureintro; exact h8
      iexact H8
    isplitl [H9]
    · iexists _; isplitr; · ipureintro; exact h9
      iexact H9
    isplitl [H12]
    · iexists _; isplitr
      rotate_left
      · iexact H12
      · ipureintro
        unfold part1A.sl.H12_1_1
        rw [View.readAt_full, View.readAt_full, h3, h4]
        exact View.read_writes_full _ _ _ _ _
    isplitl [H13]
    · iexists _; isplitr
      rotate_left
      · iexact H13
      · ipureintro
        exact View.read_writes_full _ _ _ _ _
    isplitl [H14]
    · iexists _; isplitr
      rotate_left
      · iexact H14
      · ipureintro
        exact e14b _
    iexists _; isplitr
    rotate_left
    · iexact H15
    · ipureintro
      rw [h15]; unfold tailIn; rw [if_neg h2]

set_option maxHeartbeats 1000000 in
/-- The first part, at its second half. -/
theorem part1B (c : Dev nD) (E : Set ℕ) (i : grid0.Coords) (arg3 : Memref sig .tc .vmem S1x512x1024 .f32) (harg3 : arg3.IsWhole)
    (arg4 : Memref sig .tc .vmem S1x1024 .f32) (harg4 : arg4.IsWhole)
    (arg5 : Memref sig .tc .vmem S1024x1408 .bf16) (harg5 : arg5.IsWhole)
    (arg6 : Memref sig .tc .vmem S1024x1408 .bf16) (harg6 : arg6.IsWhole)
    (arg7 : Memref sig .tc .vmem S1408x1024 .bf16) (harg7 : arg7.IsWhole)
    (arg8 : Memref sig .tc .vmem S3x1408 .f32) (harg8 : arg8.IsWhole)
    (arg9 : Memref sig .tc .vmem S1x1408 .f32) (harg9 : arg9.IsWhole)
    (arg10 : Memref sig .tc .vmem S1x1024 .f32) (harg10 : arg10.IsWhole)
    (arg11 : Memref sig .tc .vmem S1x512x1024 .f32) (harg11 : arg11.IsWhole)
    (arg12 : Memref sig .tc .vmem S1x1x2x1408 .f32) (harg12 : arg12.IsWhole)
    (arg13 : Memref sig .tc .vmem S512x1024 .bf16) (harg13 : arg13.IsWhole)
    (arg14 : Memref sig .tc .vmem S512x1024 .f32) (harg14 : arg14.IsWhole)
    (arg15 : Memref sig .tc .vmem S520x1408 .f32) (harg15 : arg15.IsWhole)
    (arg16 : Memref sig .tc .vmem S2x8x1408 .f32) (harg16 : arg16.IsWhole)
    (hc : ¬ cond0_0 i) (x2 x3 : Vec F S1024x1408 .bf16) (x5 : Vec F S3x1408 .f32) (x6 : Vec F S1x1408 .f32) (Y12 : Vec F S512x1024 .bf16) (Y14 : Vec F S520x1408 .f32) (Y15 : Vec F S2x8x1408 .f32)
    (Q : (Σ' (arg2 : BitVec 32) (v12 : FVec F S512x1408 .f32) (v22 : Vec F S3x1408 .f32) (v24 : FVec F S1x1408 .f32), FVec F S512x1408 .f32) → sProp 𝕄) :
    (iprop(owns (c : Thread nD τ) arg5 fullShare x2 ∗ owns (c : Thread nD τ) arg6 fullShare x3 ∗ owns (c : Thread nD τ) arg8 fullShare x5 ∗ owns (c : Thread nD τ) arg9 fullShare x6 ∗ owns (c : Thread nD τ) arg13 fullShare Y12 ∗ owns (c : Thread nD τ) arg15 fullShare Y14 ∗ owns (c : Thread nD τ) arg16 fullShare Y15
      ∗ (iprop(owns (c : Thread nD τ) arg5 fullShare x2 ∗ owns (c : Thread nD τ) arg6 fullShare x3 ∗ owns (c : Thread nD τ) arg8 fullShare x5 ∗ owns (c : Thread nD τ) arg9 fullShare x6 ∗ owns (c : Thread nD τ) arg13 fullShare Y12 ∗ owns (c : Thread nD τ) arg15 fullShare (bufOf (rowOf i Y15) Y12 x2) ∗ owns (c : Thread nD τ) arg16 fullShare (tailIn i Y15)) -∗ Q ⟨BitVec.ofNat 32 (i 2).val, k0_pay5 Y12 x3, x5, k0_pay8 x6, k0_pay9 x5 (window (bufOf (rowOf i Y15) Y12 x2) ![6, 0] S512x1408.size inb_S520x1408_S512x1408_6_0)⟩)) : sProp 𝕄)
      ⊢ wp frame (wpE (defs₀ (F := F)) Variants.none c none) E (k0_part1 i arg3 harg3 arg4 harg4 arg5 harg5 arg6 harg6 arg7 harg7 arg8 harg8 arg9 harg9 arg10 harg10 arg11 harg11 arg12 harg12 arg13 harg13 arg14 harg14 arg15 harg15 arg16 harg16) Q := by
  rw [k0_part1_eq_skeleton]
  unfold k0_part1_skel
  by_cases h2 : k0_cond2 i = 1#1
  · unfold owns
    iintro ⟨⟨%f5, %h5, H5⟩, ⟨%f6, %h6, H6⟩, ⟨%f8, %h8, H8⟩, ⟨%f9, %h9, H9⟩, ⟨%f12, %h12, H12⟩, ⟨%f14, %h14, H14⟩, ⟨%f15, %h15, H15⟩, HQ⟩
    sl_exec (disch := first | sl_exact hc | sl_exact h2)
    sl_step
    have e14 : part1B.sl.v14 c i arg16 h2 = rowOf i Y15 := by
      rw [rowOf_pos i Y15 h2]
      unfold part1B.sl.v14 part1B.sl.H15_1
      rw [readCov_window _ _ _ rfl (k0_off2_inb i), View.read_writes_cons_put _ _ _ _ _ (off_eq i)]
      exact window_put_same _ _ _ _ _
    have e14b : ∀ f, View.read (Elt F) arg15.view (arg15.view.writes (Elt F) f (part1B.sl.H14_2 c i arg5 arg13 arg16 h2 f5 f12 )) = bufOf (rowOf i Y15) Y12 x2 := by
      intro f
      unfold part1B.sl.H14_2
      rw [View.readAt_full _ f12, h12, View.readAt_full _ f5, h5, e14]
      exact read_buf _ _ _ _ _
    have e26 : part1B.sl.v26 c i arg5 arg13 arg15 arg16 h2 f5 f12  = window (bufOf (rowOf i Y15) Y12 x2) ![6, 0] S512x1408.size inb_S520x1408_S512x1408_6_0 := by
      unfold part1B.sl.v26
      rw [readCov_window _ _ _ rfl inb_S520x1408_S512x1408_6_0, e14b]
    rw [e26, View.readAt_full _ f12, h12, View.readAt_full _ f6, View.readAt_full _ f8, View.readAt_full _ f9, h6, h8, h9]
    iapply HQ
    isplitl [H5]
    · iexists _; isplitr; · ipureintro; exact h5
      iexact H5
    isplitl [H6]
    · iexists _; isplitr; · ipureintro; exact h6
      iexact H6
    isplitl [H8]
    · iexists _; isplitr; · ipureintro; exact h8
      iexact H8
    isplitl [H9]
    · iexists _; isplitr; · ipureintro; exact h9
      iexact H9
    isplitl [H12]
    · iexists _; isplitr; · ipureintro; exact h12
      iexact H12
    isplitl [H14]
    · iexists _; isplitr
      rotate_left
      · iexact H14
      · ipureintro
        exact e14b _
    iexists _; isplitr
    rotate_left
    · iexact H15
    · ipureintro
      unfold part1B.sl.H15_1
      refine (View.read_writes_cons_put _ _ _ _ _ (off_eq i)).trans ?_
      rw [View.writes_nil, h15]; unfold tailIn; rw [if_pos h2]
  · unfold owns
    iintro ⟨⟨%f5, %h5, H5⟩, ⟨%f6, %h6, H6⟩, ⟨%f8, %h8, H8⟩, ⟨%f9, %h9, H9⟩, ⟨%f12, %h12, H12⟩, ⟨%f14, %h14, H14⟩, ⟨%f15, %h15, H15⟩, HQ⟩
    sl_exec (disch := first | sl_exact hc | sl_exact h2)
    sl_step
    have e14 : View.readAt (Elt F) arg16.view (Rect.unit (s := S2x8x1408) (k0_off2 i) S1x8x1408.size (k0_off2_inb i)).toLoadRect f15 = rowOf i Y15 := by
      rw [rowOf_neg i Y15 h2, View.readAt_unit _ _ _ rfl (k0_off2_inb i), h15]
    have e14b : ∀ f, View.read (Elt F) arg15.view (arg15.view.writes (Elt F) f (part1B.sl.H14_2_1 c i arg5 arg13 arg16 f5 f12 f15)) = bufOf (rowOf i Y15) Y12 x2 := by
      intro f
      unfold part1B.sl.H14_2_1
      rw [View.readAt_full _ f12, h12, View.readAt_full _ f5, h5, e14]
      exact read_buf _ _ _ _ _
    have e26 : part1B.sl.v26_1 c i arg5 arg13 arg15 arg16 f5 f12 f15 = window (bufOf (rowOf i Y15) Y12 x2) ![6, 0] S512x1408.size inb_S520x1408_S512x1408_6_0 := by
      unfold part1B.sl.v26_1
      rw [readCov_window _ _ _ rfl inb_S520x1408_S512x1408_6_0, e14b]
    rw [e26, View.readAt_full _ f12, h12, View.readAt_full _ f6, View.readAt_full _ f8, View.readAt_full _ f9, h6, h8, h9]
    iapply HQ
    isplitl [H5]
    · iexists _; isplitr; · ipureintro; exact h5
      iexact H5
    isplitl [H6]
    · iexists _; isplitr; · ipureintro; exact h6
      iexact H6
    isplitl [H8]
    · iexists _; isplitr; · ipureintro; exact h8
      iexact H8
    isplitl [H9]
    · iexists _; isplitr; · ipureintro; exact h9
      iexact H9
    isplitl [H12]
    · iexists _; isplitr; · ipureintro; exact h12
      iexact H12
    isplitl [H14]
    · iexists _; isplitr
      rotate_left
      · iexact H14
      · ipureintro
        exact e14b _
    iexists _; isplitr
    rotate_left
    · iexact H15
    · ipureintro
      rw [h15]; unfold tailIn; rw [if_neg h2]

set_option maxHeartbeats 1000000 in
/-- The second part: the other taps, the rows kept for the next tile, the second result, and the sum. -/
theorem part2 (c : Dev nD) (E : Set ℕ) (i : grid0.Coords) (arg3 : Memref sig .tc .vmem S1x512x1024 .f32) (harg3 : arg3.IsWhole)
    (arg4 : Memref sig .tc .vmem S1x1024 .f32) (harg4 : arg4.IsWhole)
    (arg5 : Memref sig .tc .vmem S1024x1408 .bf16) (harg5 : arg5.IsWhole)
    (arg6 : Memref sig .tc .vmem S1024x1408 .bf16) (harg6 : arg6.IsWhole)
    (arg7 : Memref sig .tc .vmem S1408x1024 .bf16) (harg7 : arg7.IsWhole)
    (arg8 : Memref sig .tc .vmem S3x1408 .f32) (harg8 : arg8.IsWhole)
    (arg9 : Memref sig .tc .vmem S1x1408 .f32) (harg9 : arg9.IsWhole)
    (arg10 : Memref sig .tc .vmem S1x1024 .f32) (harg10 : arg10.IsWhole)
    (arg11 : Memref sig .tc .vmem S1x512x1024 .f32) (harg11 : arg11.IsWhole)
    (arg12 : Memref sig .tc .vmem S1x1x2x1408 .f32) (harg12 : arg12.IsWhole)
    (arg13 : Memref sig .tc .vmem S512x1024 .bf16) (harg13 : arg13.IsWhole)
    (arg14 : Memref sig .tc .vmem S512x1024 .f32) (harg14 : arg14.IsWhole)
    (arg15 : Memref sig .tc .vmem S520x1408 .f32) (harg15 : arg15.IsWhole)
    (arg16 : Memref sig .tc .vmem S2x8x1408 .f32) (harg16 : arg16.IsWhole)
    (arg2 : BitVec 32) (v12 : FVec F S512x1408 .f32) (v22 : Vec F S3x1408 .f32) (v24 : FVec F S1x1408 .f32) (v28 : FVec F S512x1408 .f32)
    (x4 : Vec F S1408x1024 .bf16) (Y11 : Vec F S1x1x2x1408 .f32) (Y13 : Vec F S512x1024 .f32) (Y14 : Vec F S520x1408 .f32) (Y15 : Vec F S2x8x1408 .f32)
    (Q : BitVec 32 → sProp 𝕄) :
    (iprop(owns (c : Thread nD τ) arg7 fullShare x4 ∗ owns (c : Thread nD τ) arg12 fullShare Y11 ∗ owns (c : Thread nD τ) arg14 fullShare Y13 ∗ owns (c : Thread nD τ) arg15 fullShare Y14 ∗ owns (c : Thread nD τ) arg16 fullShare Y15
      ∗ (iprop(owns (c : Thread nD τ) arg7 fullShare x4 ∗ owns (c : Thread nD τ) arg12 fullShare (foOf Y14) ∗ owns (c : Thread nD τ) arg14 fullShare (k0_pay12 v12 v22 v24 v28 (window Y14 ![7, 0] S512x1408.size inb_S520x1408_S512x1408_7_0) (window Y14 ![8, 0] S512x1408.size inb_S520x1408_S512x1408_8_0) Y13 x4) ∗ owns (c : Thread nD τ) arg15 fullShare Y14 ∗ owns (c : Thread nD τ) arg16 fullShare (put Y15 (k0_off2 i) S1x8x1408.size (k0_pay10 (window Y14 ![512, 0] S8x1408.size inb_S520x1408_S8x1408_512_0)))) -∗ Q (Scalar.extui (Scalar.cmpi .eq arg2 1#32)))) : sProp 𝕄)
      ⊢ wp frame (wpE (defs₀ (F := F)) Variants.none c none) E (k0_part2 i arg3 harg3 arg4 harg4 arg5 harg5 arg6 harg6 arg7 harg7 arg8 harg8 arg9 harg9 arg10 harg10 arg11 harg11 arg12 harg12 arg13 harg13 arg14 harg14 arg15 harg15 arg16 harg16 arg2 v12 v22 v24 v28) Q := by
  rw [k0_part2_eq_skeleton]
  unfold k0_part2_skel
  unfold owns
  iintro ⟨⟨%f7, %h7, H7⟩, ⟨%f11, %h11, H11⟩, ⟨%f13, %h13, H13⟩, ⟨%f14, %h14, H14⟩, ⟨%f15, %h15, H15⟩, HQ⟩
  sl_exec
  sl_step
  rw [show part2.sl.v63 arg2 = Scalar.extui (Scalar.cmpi .eq arg2 1#32) from rfl]
  iapply HQ
  isplitl [H7]
  · iexists _; isplitr; · ipureintro; exact h7
    iexact H7
  isplitl [H11]
  · iexists _; isplitr
    rotate_left
    · iexact H11
    · ipureintro
      refine (View.read_writes_full _ _ _ _ _).trans ?_
      rw [View.readAt_unit _ _ _ rfl inb_S520x1408_S2x1408_518_0, h14]; rfl
  isplitl [H13]
  · iexists _; isplitr
    rotate_left
    · iexact H13
    · ipureintro
      refine (View.read_writes_full _ _ _ _ _).trans ?_
      rw [View.readAt_unit _ _ _ rfl inb_S520x1408_S512x1408_7_0, View.readAt_unit _ _ _ rfl inb_S520x1408_S512x1408_8_0, View.readAt_full _ f13, View.readAt_full _ f7, h14, h13, h7]
  isplitl [H14]
  · iexists _; isplitr; · ipureintro; exact h14
    iexact H14
  iexists _; isplitr
  rotate_left
  · iexact H15
  · ipureintro
    refine (View.read_writes_cons_put _ _ _ _ _ rfl).trans ?_
    rw [View.writes_nil, h15, View.readAt_unit _ _ _ rfl inb_S520x1408_S8x1408_512_0, h14]

end Cert.Kernel14Ideal.Gen

end
-- ==== Proof.FfnLastBody.lean ====
/-
  One point of the last layer's feed-forward call, whole: at a tile's first half of the width, and at its second, where the
  sum is added to the rows, and that is normed and stored.
-/
module

public import proofs.«01_k».proof.Proof.FfnLastParts

@[expose] public section

set_option maxRecDepth 16384

noncomputable section

namespace Cert.Kernel14Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Idealize.ShloMosaic.Pipeline (Dat Cfg Window BodyObligation cellOf)

variable {F : FTy → Type} [FloatOps F]

/-- The logic's resources at this program. -/
local notation "𝕄" => MT nD τ sig Unit (Elt F) ℕ (UR sig nD τ) ℕ

set_option maxHeartbeats 1000000 in
/-- The body at a tile's first half of the width. -/
theorem bodyA (c : Dev nD) (E : Set ℕ) (i : grid0.Coords) (arg3 : Memref sig .tc .vmem S1x512x1024 .f32) (harg3 : arg3.IsWhole)
    (arg4 : Memref sig .tc .vmem S1x1024 .f32) (harg4 : arg4.IsWhole)
    (arg5 : Memref sig .tc .vmem S1024x1408 .bf16) (harg5 : arg5.IsWhole)
    (arg6 : Memref sig .tc .vmem S1024x1408 .bf16) (harg6 : arg6.IsWhole)
    (arg7 : Memref sig .tc .vmem S1408x1024 .bf16) (harg7 : arg7.IsWhole)
    (arg8 : Memref sig .tc .vmem S3x1408 .f32) (harg8 : arg8.IsWhole)
    (arg9 : Memref sig .tc .vmem S1x1408 .f32) (harg9 : arg9.IsWhole)
    (arg10 : Memref sig .tc .vmem S1x1024 .f32) (harg10 : arg10.IsWhole)
    (arg11 : Memref sig .tc .vmem S1x512x1024 .f32) (harg11 : arg11.IsWhole)
    (arg12 : Memref sig .tc .vmem S1x1x2x1408 .f32) (harg12 : arg12.IsWhole)
    (arg13 : Memref sig .tc .vmem S512x1024 .bf16) (harg13 : arg13.IsWhole)
    (arg14 : Memref sig .tc .vmem S512x1024 .f32) (harg14 : arg14.IsWhole)
    (arg15 : Memref sig .tc .vmem S520x1408 .f32) (harg15 : arg15.IsWhole)
    (arg16 : Memref sig .tc .vmem S2x8x1408 .f32) (harg16 : arg16.IsWhole)
    (hc : cond0_0 i) (h3 : ¬ k0_cond3 i = 1#1)
    (x0 : Vec F S1x512x1024 .f32) (x1 : Vec F S1x1024 .f32) (x2 x3 : Vec F S1024x1408 .bf16) (x4 : Vec F S1408x1024 .bf16) (x5 : Vec F S3x1408 .f32) (x6 : Vec F S1x1408 .f32)
    (Y11 : Vec F S1x1x2x1408 .f32) (Y12 : Vec F S512x1024 .bf16) (Y13 : Vec F S512x1024 .f32) (Y14 : Vec F S520x1408 .f32) (Y15 : Vec F S2x8x1408 .f32)
    (Q : PUnit → sProp 𝕄) :
    (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg12 fullShare Y11 ∗ owns (c : Thread nD τ) arg13 fullShare Y12 ∗ owns (c : Thread nD τ) arg14 fullShare Y13 ∗ owns (c : Thread nD τ) arg15 fullShare Y14 ∗ owns (c : Thread nD τ) arg16 fullShare Y15
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg12 fullShare (foOf (bufOf (rowOf i Y15) (k0_pay2 x0 x1) x2)) ∗ owns (c : Thread nD τ) arg13 fullShare (k0_pay2 x0 x1) ∗ owns (c : Thread nD τ) arg14 fullShare (accOf (bufOf (rowOf i Y15) (k0_pay2 x0 x1) x2) (k0_pay2 x0 x1) x3 x5 x6 x4 (k0_pay3 (F := F))) ∗ owns (c : Thread nD τ) arg15 fullShare (bufOf (rowOf i Y15) (k0_pay2 x0 x1) x2) ∗ owns (c : Thread nD τ) arg16 fullShare (tailOut i Y15 (bufOf (rowOf i Y15) (k0_pay2 x0 x1) x2))) -∗ Q ⟨⟩)) : sProp 𝕄)
      ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13 arg14 harg14 arg15 harg15 arg16 harg16) Q := by
  rw [cc0_ffn_eq_skeleton]
  unfold cc0_ffn_skel
  iintro ⟨H3, H4, H5, H6, H7, H8, H9, H11, H12, H13, H14, H15, HQ⟩
  rw [wp_bind]
  iapply (part1A c E i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x5 x6 Y12 Y13 Y14 Y15)
  isplitl [H3]; · iexact H3
  isplitl [H4]; · iexact H4
  isplitl [H5]; · iexact H5
  isplitl [H6]; · iexact H6
  isplitl [H8]; · iexact H8
  isplitl [H9]; · iexact H9
  isplitl [H12]; · iexact H12
  isplitl [H13]; · iexact H13
  isplitl [H14]; · iexact H14
  isplitl [H15]; · iexact H15
  iintro ⟨H3, H4, H5, H6, H8, H9, H12, H13, H14, H15⟩
  rw [wp_bind]
  iapply (part2 c E i arg3 harg3 arg4 harg4 arg5 harg5 arg6 harg6 arg7 harg7 arg8 harg8 arg9 harg9 arg10 harg10 arg11 harg11 arg12 harg12 arg13 harg13 arg14 harg14 arg15 harg15 arg16 harg16 _ _ _ _ _ x4 Y11 (k0_pay3 (F := F)) (bufOf (rowOf i Y15) (k0_pay2 x0 x1) x2) (tailIn i Y15))
  isplitl [H7]; · iexact H7
  isplitl [H11]; · iexact H11
  isplitl [H13]; · iexact H13
  isplitl [H14]; · iexact H14
  isplitl [H15]; · iexact H15
  iintro ⟨H7, H11, H13, H14, H15⟩
  sl_exec (disch := first | sl_exact h3)
  sl_step
  iapply HQ
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H13]; · iexact H13
  isplitl [H14]; · iexact H14
  iexact H15

set_option maxHeartbeats 1000000 in
/-- The body at a tile's second half of the width: the output is stored. -/
theorem bodyB (c : Dev nD) (E : Set ℕ) (i : grid0.Coords) (arg3 : Memref sig .tc .vmem S1x512x1024 .f32) (harg3 : arg3.IsWhole)
    (arg4 : Memref sig .tc .vmem S1x1024 .f32) (harg4 : arg4.IsWhole)
    (arg5 : Memref sig .tc .vmem S1024x1408 .bf16) (harg5 : arg5.IsWhole)
    (arg6 : Memref sig .tc .vmem S1024x1408 .bf16) (harg6 : arg6.IsWhole)
    (arg7 : Memref sig .tc .vmem S1408x1024 .bf16) (harg7 : arg7.IsWhole)
    (arg8 : Memref sig .tc .vmem S3x1408 .f32) (harg8 : arg8.IsWhole)
    (arg9 : Memref sig .tc .vmem S1x1408 .f32) (harg9 : arg9.IsWhole)
    (arg10 : Memref sig .tc .vmem S1x1024 .f32) (harg10 : arg10.IsWhole)
    (arg11 : Memref sig .tc .vmem S1x512x1024 .f32) (harg11 : arg11.IsWhole)
    (arg12 : Memref sig .tc .vmem S1x1x2x1408 .f32) (harg12 : arg12.IsWhole)
    (arg13 : Memref sig .tc .vmem S512x1024 .bf16) (harg13 : arg13.IsWhole)
    (arg14 : Memref sig .tc .vmem S512x1024 .f32) (harg14 : arg14.IsWhole)
    (arg15 : Memref sig .tc .vmem S520x1408 .f32) (harg15 : arg15.IsWhole)
    (arg16 : Memref sig .tc .vmem S2x8x1408 .f32) (harg16 : arg16.IsWhole)
    (hc : ¬ cond0_0 i) (h3 : k0_cond3 i = 1#1)
    (x0 : Vec F S1x512x1024 .f32) (x2 x3 : Vec F S1024x1408 .bf16) (x4 : Vec F S1408x1024 .bf16) (x5 : Vec F S3x1408 .f32) (x6 : Vec F S1x1408 .f32) (x7 : Vec F S1x1024 .f32)
    (Y10 : Vec F S1x512x1024 .f32) (Y11 : Vec F S1x1x2x1408 .f32) (Y12 : Vec F S512x1024 .bf16) (Y13 : Vec F S512x1024 .f32) (Y14 : Vec F S520x1408 .f32) (Y15 : Vec F S2x8x1408 .f32)
    (Q : PUnit → sProp 𝕄) :
    (iprop(owns (c : Thread nD τ) arg3 fullShare x0 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare Y10 ∗ owns (c : Thread nD τ) arg12 fullShare Y11 ∗ owns (c : Thread nD τ) arg13 fullShare Y12 ∗ owns (c : Thread nD τ) arg14 fullShare Y13 ∗ owns (c : Thread nD τ) arg15 fullShare Y14 ∗ owns (c : Thread nD τ) arg16 fullShare Y15
      ∗ (iprop(owns (c : Thread nD τ) arg3 fullShare x0 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (k0_pay1 x0 (accOf (bufOf (rowOf i Y15) Y12 x2) Y12 x3 x5 x6 x4 Y13) x7) ∗ owns (c : Thread nD τ) arg12 fullShare (foOf (bufOf (rowOf i Y15) Y12 x2)) ∗ owns (c : Thread nD τ) arg13 fullShare Y12 ∗ owns (c : Thread nD τ) arg14 fullShare (accOf (bufOf (rowOf i Y15) Y12 x2) Y12 x3 x5 x6 x4 Y13) ∗ owns (c : Thread nD τ) arg15 fullShare (bufOf (rowOf i Y15) Y12 x2) ∗ owns (c : Thread nD τ) arg16 fullShare (tailOut i Y15 (bufOf (rowOf i Y15) Y12 x2))) -∗ Q ⟨⟩)) : sProp 𝕄)
      ⊢ wp frame (wpE (defs₀ (F := F)) Variants.none c none) E (cc0_ffn i arg3 harg3 arg4 harg4 arg5 harg5 arg6 harg6 arg7 harg7 arg8 harg8 arg9 harg9 arg10 harg10 arg11 harg11 arg12 harg12 arg13 harg13 arg14 harg14 arg15 harg15 arg16 harg16) Q := by
  rw [cc0_ffn_eq_skeleton]
  unfold cc0_ffn_skel
  iintro ⟨H3, H5, H6, H7, H8, H9, HW, H10, H11, H12, H13, H14, H15, HQ⟩
  rw [wp_bind]
  iapply (part1B c E i arg3 harg3 arg4 harg4 arg5 harg5 arg6 harg6 arg7 harg7 arg8 harg8 arg9 harg9 arg10 harg10 arg11 harg11 arg12 harg12 arg13 harg13 arg14 harg14 arg15 harg15 arg16 harg16 hc x2 x3 x5 x6 Y12 Y14 Y15)
  isplitl [H5]; · iexact H5
  isplitl [H6]; · iexact H6
  isplitl [H8]; · iexact H8
  isplitl [H9]; · iexact H9
  isplitl [H12]; · iexact H12
  isplitl [H14]; · iexact H14
  isplitl [H15]; · iexact H15
  iintro ⟨H5, H6, H8, H9, H12, H14, H15⟩
  rw [wp_bind]
  iapply (part2 c E i arg3 harg3 arg4 harg4 arg5 harg5 arg6 harg6 arg7 harg7 arg8 harg8 arg9 harg9 arg10 harg10 arg11 harg11 arg12 harg12 arg13 harg13 arg14 harg14 arg15 harg15 arg16 harg16 _ _ _ _ _ x4 Y11 Y13 (bufOf (rowOf i Y15) Y12 x2) (tailIn i Y15))
  isplitl [H7]; · iexact H7
  isplitl [H11]; · iexact H11
  isplitl [H13]; · iexact H13
  isplitl [H14]; · iexact H14
  isplitl [H15]; · iexact H15
  iintro ⟨H7, H11, H13, H14, H15⟩
  unfold owns
  icases H3 with ⟨%f3, %e3, H3⟩
  icases HW with ⟨%fw, %ew, HW⟩
  icases H10 with ⟨%f10, %e10, H10⟩
  icases H13 with ⟨%f13, %e13, H13⟩
  sl_exec (disch := first | sl_exact h3)
  sl_step
  iapply HQ
  isplitl [H3]
  · iexists _; isplitr; · ipureintro; exact e3
    iexact H3
  isplitl [H5]; · iexact H5
  isplitl [H6]; · iexact H6
  isplitl [H7]; · iexact H7
  isplitl [H8]; · iexact H8
  isplitl [H9]; · iexact H9
  isplitl [HW]
  · iexists _; isplitr; · ipureintro; exact ew
    iexact HW
  isplitl [H10]
  · iexists _; isplitr
    rotate_left
    · iexact H10
    · ipureintro
      refine (View.read_writes_full _ _ _ _ _).trans ?_
      rw [View.readAt_full _ f3, View.readAt_full _ f13, View.readAt_full _ fw, e3, e13, ew]
      rfl
  isplitl [H11]; · iexact H11
  isplitl [H12]; · iexact H12
  isplitl [H13]
  · iexists _; isplitr; · ipureintro; exact e13
    iexact H13
  isplitl [H14]; · iexact H14
  iexact H15

end Cert.Kernel14Ideal.Gen

end
-- ==== Proof.FfnLastFrame.lean ====
/-
  The last layer's feed-forward call, run over its whole grid: what each kept buffer holds before each point, the body at a generic
  point, and the run of @main (every fair execution ends, the arguments unchanged, the results at what the pipeline leaves).
-/
module

public import proofs.«01_k».proof.Proof.FfnLastBody
public import Idealize.ShloMosaic.Lib.Claim
public import Idealize.ShloMosaic.Lib.Pipeline.ValueKit

@[expose] public section

set_option maxRecDepth 16384

noncomputable section

namespace Cert.Kernel14Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Idealize.ShloMosaic.Pipeline (Dat Cfg Window BodyObligation cellOf)

variable {F : FTy → Type} [FloatOps F]

/-- The logic's resources at this program. -/
local notation "𝕄" => MT nD τ sig Unit (Elt F) ℕ (UR sig nD τ) ℕ

variable (m : (ℓ : Loc nD τ sig) → Buf (Elt F) ℓ) (ρ : Dev nD → PrngReg)

/-- The buffer window 0's block lies in at point `t`. -/
abbrev ms0 (t : Fin cfg0.N) : Memref sig .tc .vmem S1x512x1024 .f32 := win0_0.stage (cfg0.slots t 0)
theorem hs0 (t : Fin cfg0.N) : (ms0 t).IsWhole := hstage0_0 ((cfg0.slots t 0).cast nbuf0_0)
/-- The buffer window 1's block lies in at point `t`. -/
abbrev ms1 (t : Fin cfg0.N) : Memref sig .tc .vmem S1x1024 .f32 := win0_1.stage (cfg0.slots t 1)
theorem hs1 (t : Fin cfg0.N) : (ms1 t).IsWhole := hstage0_1 ((cfg0.slots t 1).cast nbuf0_1)
/-- The buffer window 2's block lies in at point `t`. -/
abbrev ms2 (t : Fin cfg0.N) : Memref sig .tc .vmem S1024x1408 .bf16 := win0_2.stage (cfg0.slots t 2)
theorem hs2 (t : Fin cfg0.N) : (ms2 t).IsWhole := hstage0_2 ((cfg0.slots t 2).cast nbuf0_2)
/-- The buffer window 3's block lies in at point `t`. -/
abbrev ms3 (t : Fin cfg0.N) : Memref sig .tc .vmem S1024x1408 .bf16 := win0_3.stage (cfg0.slots t 3)
theorem hs3 (t : Fin cfg0.N) : (ms3 t).IsWhole := hstage0_3 ((cfg0.slots t 3).cast nbuf0_3)
/-- The buffer window 4's block lies in at point `t`. -/
abbrev ms4 (t : Fin cfg0.N) : Memref sig .tc .vmem S1408x1024 .bf16 := win0_4.stage (cfg0.slots t 4)
theorem hs4 (t : Fin cfg0.N) : (ms4 t).IsWhole := hstage0_4 ((cfg0.slots t 4).cast nbuf0_4)
/-- The buffer window 5's block lies in at point `t`. -/
abbrev ms5 (t : Fin cfg0.N) : Memref sig .tc .vmem S3x1408 .f32 := win0_5.stage (cfg0.slots t 5)
theorem hs5 (t : Fin cfg0.N) : (ms5 t).IsWhole := hstage0_5 ((cfg0.slots t 5).cast nbuf0_5)
/-- The buffer window 6's block lies in at point `t`. -/
abbrev ms6 (t : Fin cfg0.N) : Memref sig .tc .vmem S1x1408 .f32 := win0_6.stage (cfg0.slots t 6)
theorem hs6 (t : Fin cfg0.N) : (ms6 t).IsWhole := hstage0_6 ((cfg0.slots t 6).cast nbuf0_6)
/-- The buffer window 7's block lies in at point `t`. -/
abbrev ms7 (t : Fin cfg0.N) : Memref sig .tc .vmem S1x1024 .f32 := win0_7.stage (cfg0.slots t 7)
theorem hs7 (t : Fin cfg0.N) : (ms7 t).IsWhole := hstage0_7 ((cfg0.slots t 7).cast nbuf0_7)
/-- The buffer window 8's block lies in at point `t`. -/
abbrev ms8 (t : Fin cfg0.N) : Memref sig .tc .vmem S1x512x1024 .f32 := win0_8.stage (cfg0.slots t 8)
theorem hs8 (t : Fin cfg0.N) : (ms8 t).IsWhole := hstage0_8 ((cfg0.slots t 8).cast nbuf0_8)
/-- The buffer window 9's block lies in at point `t`. -/
abbrev ms9 (t : Fin cfg0.N) : Memref sig .tc .vmem S1x1x2x1408 .f32 := win0_9.stage (cfg0.slots t 9)
theorem hs9 (t : Fin cfg0.N) : (ms9 t).IsWhole := hstage0_9 ((cfg0.slots t 9).cast nbuf0_9)
/-- Kept buffer 0. -/
abbrev scM0 : Memref sig .tc .vmem S512x1024 .bf16 := Memref.whole cc0_scratch0
/-- Kept buffer 1. -/
abbrev scM1 : Memref sig .tc .vmem S512x1024 .f32 := Memref.whole cc0_scratch1
/-- Kept buffer 2. -/
abbrev scM2 : Memref sig .tc .vmem S520x1408 .f32 := Memref.whole cc0_scratch2
/-- Kept buffer 3. -/
abbrev scM3 : Memref sig .tc .vmem S2x8x1408 .f32 := Memref.whole cc0_scratch3

/-- A tile's first half of the width is at the even points, -/
theorem hcond1 : ∀ t : Fin cfg0.N, cond0_0 (grid0.coords t) ↔ t.val % 2 = 0 :=
  (by decide +kernel : ∀ t : Fin grid0.N, cond0_0 (grid0.coords t) ↔ t.val % 2 = 0)
/-- a sequence's first tile at the first two of each eight, -/
theorem hcond2 : ∀ t : Fin cfg0.N, k0_cond2 (grid0.coords t) = 1#1 ↔ t.val / 2 % 4 = 0 :=
  (by decide +kernel : ∀ t : Fin grid0.N, k0_cond2 (grid0.coords t) = 1#1 ↔ t.val / 2 % 4 = 0)
/-- and a tile's second half at the odd ones. -/
theorem hcond3 : ∀ t : Fin cfg0.N, k0_cond3 (grid0.coords t) = 1#1 ↔ t.val % 2 = 1 :=
  (by decide +kernel : ∀ t : Fin grid0.N, k0_cond3 (grid0.coords t) = 1#1 ↔ t.val % 2 = 1)
/-- The half of the width at a point. -/
theorem hhalf : ∀ t : Fin cfg0.N, (grid0.coords t 2).val = t.val % 2 :=
  (by decide +kernel : ∀ t : Fin grid0.N, (grid0.coords t 2).val = t.val % 2)

/-- The point before `t` (itself at the first). -/
def prev (t : Fin cfg0.N) : Fin cfg0.N := ⟨t.val - 1, Nat.lt_of_le_of_lt (Nat.sub_le _ _) t.isLt⟩
/-- The same half of the tile before. -/
def prev2 (t : Fin cfg0.N) : Fin cfg0.N := ⟨t.val - 2, Nat.lt_of_le_of_lt (Nat.sub_le _ _) t.isLt⟩

/-- Within a tile the rows' window does not move, -/
theorem index0_prev : ∀ t : Fin cfg0.N, t.val % 2 = 1 → win0_0.index (prev t) = win0_0.index t :=
  (by decide +kernel : ∀ t : Fin grid0.N, t.val % 2 = 1 → win0_0.index (prev t) = win0_0.index t)
/-- nor the gains', ever. -/
theorem index1_prev : ∀ t : Fin cfg0.N, win0_1.index (prev t) = win0_1.index t :=
  (by decide +kernel : ∀ t : Fin grid0.N, win0_1.index (prev t) = win0_1.index t)

theorem iblk0_prev (c : Dev nD) (t : Fin cfg0.N) (h : t.val % 2 = 1) : iblk m c 0 (prev t) = iblk m c 0 t := by
  have e := index0_prev t h
  funext y; unfold iblk; blk_simp [e]
  refine congrArg (V m c main_arg0) (funext fun a => Fin.ext ?_)
  fin_cases a <;> blk_simp [e]
theorem iblk1_prev (c : Dev nD) (t : Fin cfg0.N) : iblk m c 1 (prev t) = iblk m c 1 t := by
  have e := index1_prev t
  funext y; unfold iblk; blk_simp [e]
  refine congrArg (V m c main_v2) (funext fun a => Fin.ext ?_)
  fin_cases a <;> blk_simp [e]

/-- The normalised rows at point `t`. -/
def hnA (c : Dev nD) (t : Fin cfg0.N) : Vec F S512x1024 .bf16 := k0_pay2 (iblk m c 0 t) (iblk m c 1 t)
/-- The last rows point `t` keeps for the next tile. -/
def lastA (c : Dev nD) (t : Fin cfg0.N) : Vec F S1x8x1408 .f32 :=
  k0_pay10 (window (bufOf (k0_pay4 (F := F)) (hnA m c t) (iblk m c 2 t)) ![512, 0] S8x1408.size inb_S520x1408_S8x1408_512_0)
/-- The rows before the tile's first at point `t`: zeroes at a sequence's first tile. -/
def rowA (c : Dev nD) (t : Fin cfg0.N) : Vec F S1x8x1408 .f32 := if t.val / 2 % 4 = 0 then k0_pay4 (F := F) else lastA m c (prev2 t)
/-- The gate's rows at point `t`, after the rows before them. -/
def bufA (c : Dev nD) (t : Fin cfg0.N) : Vec F S520x1408 .f32 := bufOf (rowA m c t) (hnA m c t) (iblk m c 2 t)
/-- The sum point `t` leaves, of what it finds. -/
def accF (c : Dev nD) (t : Fin cfg0.N) (a : Vec F S512x1024 .f32) : Vec F S512x1024 .f32 :=
  accOf (bufA m c t) (hnA m c t) (iblk m c 3 t) (iblk m c 5 t) (iblk m c 6 t) (iblk m c 4 t) a
/-- The sum point `t` leaves. -/
def accA (c : Dev nD) (t : Fin cfg0.N) : Vec F S512x1024 .f32 :=
  if t.val % 2 = 0 then accF m c t (k0_pay3 (F := F)) else accF m c t (accF m c (prev t) (k0_pay3 (F := F)))
/-- What a tile's second half leaves in the output's block. -/
def outA (c : Dev nD) (t : Fin cfg0.N) : Vec F S1x512x1024 .f32 := k0_pay1 (iblk m c 0 t) (accA m c t) (iblk m c 7 t)
/-- What point `t` leaves in the second result's block. -/
def foA (c : Dev nD) (t : Fin cfg0.N) : Vec F S1x1x2x1408 .f32 := foOf (bufA m c t)

theorem hnA_prev (c : Dev nD) (t : Fin cfg0.N) (h : t.val % 2 = 1) : hnA m c (prev t) = hnA m c t := by
  unfold hnA; rw [iblk0_prev m c t h, iblk1_prev]
theorem accA_even (c : Dev nD) (t : Fin cfg0.N) (h : t.val % 2 = 0) : accA m c t = accF m c t (k0_pay3 (F := F)) := by
  unfold accA; rw [if_pos h]
theorem accA_odd (c : Dev nD) (t : Fin cfg0.N) (h : t.val % 2 = 1) : accA m c t = accF m c t (accA m c (prev t)) := by
  have h' : (prev t).val % 2 = 0 := by simp only [prev]; omega
  rw [accA_even m c (prev t) h']
  unfold accA; rw [if_neg (by omega)]

/-- The last eight rows are the gate's own, whatever stood before the tile. -/
theorem last_row (row row' : Vec F S1x8x1408 .f32) (hn : Vec F S512x1024 .bf16) (wg : Vec F S1024x1408 .bf16) :
    window (bufOf row hn wg) ![512, 0] S8x1408.size inb_S520x1408_S8x1408_512_0
      = window (bufOf row' hn wg) ![512, 0] S8x1408.size inb_S520x1408_S8x1408_512_0 := by
  have h : ∀ a : Fin 2, (![8, 0] : Fin 2 → ℕ) a ≤ (![512, 0] : Fin 2 → ℕ) a
      ∧ (![512, 0] : Fin 2 → ℕ) a + S8x1408.size a ≤ (![8, 0] : Fin 2 → ℕ) a + S512x1408.size a := by decide
  unfold bufOf
  exact (window_put_of_inside (s := S520x1408) _ _ _ _ _ inb_S520x1408_S8x1408_512_0 _ h).trans
    (window_put_of_inside (s := S520x1408) _ _ _ _ _ inb_S520x1408_S8x1408_512_0 _ h).symm

/-- Before point `n` the kept rows of each half are those its last point kept. -/
def TailOK (c : Dev nD) (n : ℕ) (d : Vec F S2x8x1408 .f32) : Prop :=
  ∀ s : Fin cfg0.N, s.val < n → n ≤ s.val + 2 →
    window d (k0_off2 (grid0.coords s)) S1x8x1408.size (k0_off2_inb (grid0.coords s)) = lastA m c s

theorem window_off (d : Vec F S2x8x1408 .f32) (i i' : grid0.Coords) (e : (i 2).val = (i' 2).val) :
    window d (k0_off2 i) S1x8x1408.size (k0_off2_inb i) = window d (k0_off2 i') S1x8x1408.size (k0_off2_inb i') := by
  have e' : k0_off2 i = k0_off2 i' := by rw [k0_off2_eq, k0_off2_eq, e]
  have h := k0_off2_inb i
  have h' := k0_off2_inb i'
  show window (s := S2x8x1408) d (k0_off2 i) S1x8x1408.size h = window (s := S2x8x1408) d (k0_off2 i') S1x8x1408.size h'
  revert h h'
  rw [e']
  intro h h'
  rfl

/-- The rows the body reads before the tile's first. -/
theorem rowOf_eq (c : Dev nD) (t : Fin cfg0.N) (d : Vec F S2x8x1408 .f32) (h : TailOK m c t.val d) : rowOf (grid0.coords t) d = rowA m c t := by
  unfold rowA
  by_cases h2 : t.val / 2 % 4 = 0
  · rw [if_pos h2]; exact rowOf_pos _ _ ((hcond2 t).mpr h2)
  · rw [if_neg h2, rowOf_neg _ _ (fun e => h2 ((hcond2 t).mp e))]
    have e : (grid0.coords t 2).val = (grid0.coords (prev2 t) 2).val := by
      rw [hhalf, hhalf]; simp only [prev2]; omega
    rw [window_off d _ _ e]
    exact h (prev2 t) (by simp only [prev2]; omega) (by simp only [prev2]; omega)

theorem window_other (d : Vec F S2x8x1408 .f32) (i i' : grid0.Coords) (w : Vec F S1x8x1408 .f32) (e : (i 2).val ≠ (i' 2).val) :
    window (put d (k0_off2 i) S1x8x1408.size w) (k0_off2 i') S1x8x1408.size (k0_off2_inb i')
      = window d (k0_off2 i') S1x8x1408.size (k0_off2_inb i') := by
  refine window_put_of_disjoint (s := S2x8x1408) d _ _ _ _ (k0_off2_inb i') w (0 : Fin 3) ?_
  rw [k0_off2_eq, k0_off2_eq]
  show (i' 2).val + 1 ≤ (i 2).val ∨ (i 2).val + 1 ≤ (i' 2).val
  omega

/-- What the body leaves there. -/
theorem tailOut_ok (c : Dev nD) (t : Fin cfg0.N) (d : Vec F S2x8x1408 .f32) (h : TailOK m c t.val d) :
    TailOK m c (t.val + 1) (tailOut (grid0.coords t) d (bufA m c t)) := by
  intro s hs hs'
  by_cases e : s = t
  · subst e
    unfold tailOut lastA bufA
    rw [last_row (k0_pay4 (F := F)) (rowA m c s)]
    exact window_put_same _ _ _ _ _
  · have hv : s.val + 1 = t.val := by
      have : s.val ≠ t.val := fun hh => e (Fin.ext hh)
      omega
    have e2 : (grid0.coords t 2).val ≠ (grid0.coords s 2).val := by rw [hhalf, hhalf]; omega
    unfold tailOut
    rw [window_other _ _ _ _ e2]
    have e3 : window (tailIn (grid0.coords t) d) (k0_off2 (grid0.coords s)) S1x8x1408.size (k0_off2_inb (grid0.coords s))
        = window d (k0_off2 (grid0.coords s)) S1x8x1408.size (k0_off2_inb (grid0.coords s)) := by
      unfold tailIn
      split
      · exact window_other _ _ _ _ e2
      · rfl
    rw [e3]
    exact h s (by omega) (by omega)

/-- The launch's invariant with the scratch as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- The invariant before position `n`: at the start every scratch at anything; after point `n` the normalised rows and the sum
    at that point's contents, and the kept rows of both halves. -/
def PhiS (c : Dev nD) : (n : ℕ) → n ≤ cfg0.N → sProp 𝕄
  | 0, _ => Pipeline.ΦA spec0 c
  | n + 1, hn => iprop(iprop(owns (c : Thread nD τ) scM0 fullShare (hnA m c ⟨n, hn⟩) ∗ owns (c : Thread nD τ) scM1 fullShare (accA m c ⟨n, hn⟩) ∗ (∃ d, owns (c : Thread nD τ) scM2 fullShare d) ∗ (∃ d, ⌜TailOK m c (n + 1) d⌝ ∗ owns (c : Thread nD τ) scM3 fullShare d)) ∗ (∃ r, prngReg c r))

theorem PhiS_succ (c : Dev nD) (t : Fin cfg0.N) :
    PhiS m c (t.val + 1) t.isLt = iprop(iprop(owns (c : Thread nD τ) scM0 fullShare (hnA m c t) ∗ owns (c : Thread nD τ) scM1 fullShare (accA m c t) ∗ (∃ d, owns (c : Thread nD τ) scM2 fullShare d) ∗ (∃ d, ⌜TailOK m c (t.val + 1) d⌝ ∗ owns (c : Thread nD τ) scM3 fullShare d)) ∗ (∃ r, prngReg c r)) := rfl

/-- At a tile's second half the rows and the sum are the first half's. -/
theorem PhiS_kept (c : Dev nD) (t : Fin cfg0.N) (h : t.val % 2 = 1) (hn : t.val ≤ cfg0.N) :
    PhiS m c t.val hn = iprop(iprop(owns (c : Thread nD τ) scM0 fullShare (hnA m c (prev t)) ∗ owns (c : Thread nD τ) scM1 fullShare (accA m c (prev t)) ∗ (∃ d, owns (c : Thread nD τ) scM2 fullShare d) ∗ (∃ d, ⌜TailOK m c t.val d⌝ ∗ owns (c : Thread nD τ) scM3 fullShare d)) ∗ (∃ r, prngReg c r)) := by
  obtain ⟨n, hn'⟩ := t
  cases n with
  | zero => exact absurd h (by decide : ¬ (0 % 2 = 1))
  | succ n => rfl

/-- The invariant with the named contents forgotten. -/
theorem PhiS_any (c : Dev nD) (n : ℕ) (h : n ≤ cfg0.N) : PhiS m c n h ⊢ (iprop(iprop((∃ d, owns (c : Thread nD τ) scM0 fullShare d) ∗ (∃ d, owns (c : Thread nD τ) scM1 fullShare d) ∗ (∃ d, owns (c : Thread nD τ) scM2 fullShare d) ∗ (∃ d, ⌜TailOK m c n d⌝ ∗ owns (c : Thread nD τ) scM3 fullShare d)) ∗ (∃ r, prngReg c r)) : sProp 𝕄) := by
  cases n with
  | zero =>
    show (Pipeline.ΦA spec0 c : sProp 𝕄) ⊢ _
    rw [PhiA0_eq]
    iintro ⟨⟨H0, H1, H2, ⟨%d, H3⟩⟩, Hg⟩
    isplitl [H0 H1 H2 H3]
    · isplitl [H0]; · iexact H0
      isplitl [H1]; · iexact H1
      isplitl [H2]; · iexact H2
      iexists d; isplitr; · ipureintro; exact fun s hs _ => absurd hs (Nat.not_lt_zero _)
      iexact H3
    iexact Hg
  | succ n =>
    show iprop(iprop(owns (c : Thread nD τ) scM0 fullShare (hnA m c ⟨n, h⟩) ∗ owns (c : Thread nD τ) scM1 fullShare (accA m c ⟨n, h⟩) ∗ (∃ d, owns (c : Thread nD τ) scM2 fullShare d) ∗ (∃ d, ⌜TailOK m c (n + 1) d⌝ ∗ owns (c : Thread nD τ) scM3 fullShare d)) ∗ (∃ r, prngReg c r)) ⊢ _
    iintro ⟨⟨H0, H1, H2, H3⟩, Hg⟩
    isplitl [H0 H1 H2 H3]
    · isplitl [H0]; · iexists _; iexact H0
      isplitl [H1]; · iexists _; iexact H1
      isplitl [H2]; · iexact H2
      iexact H3
    iexact Hg

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outA m c t
    | ⟨9, _⟩ => foA m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
/-- What the body leaves in the output, -/
theorem after0_8 (c : Dev nD) (t : Fin cfg0.N) : (dats m 0 c).after 8 t = outA m c t := by dsimp only [dats]
/-- and in the second result. -/
theorem after0_9 (c : Dev nD) (t : Fin cfg0.N) : (dats m 0 c).after 9 t = foA m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))
/-- the output's block after it: as it was at a tile's first half, -/
def post8 (c : Dev nD) (t : Fin cfg0.N) : sProp 𝕄 :=
  match cfg0.idle 8 (cfg0.grid.coords t) with
  | true =>
    match (cfg0.win 8).flush t with
    | false => iprop(∃ d, owns (c : Thread nD τ) (ms8 t) fullShare ((dats m 0 c).before 8 t d))
    | true => owns (c : Thread nD τ) (ms8 t) fullShare ((dats m 0 c).after 8 t)
  | false => owns (c : Thread nD τ) (ms8 t) fullShare ((dats m 0 c).after 8 t)
/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ post8 m c t
    ∗ owns (c : Thread nD τ) (ms9 t) fullShare ((dats m 0 c).after 9 t))

theorem idle8 (t : Fin cfg0.N) : cfg0.idle 8 (cfg0.grid.coords t) = !(k0_cond3 (grid0.coords t) == 1#1) := rfl
theorem post8_even (c : Dev nD) (t : Fin cfg0.N) (h : t.val % 2 = 0) :
    post8 m c t = iprop(∃ d, owns (c : Thread nD τ) (ms8 t) fullShare ((dats m 0 c).before 8 t d)) := by
  have e1 : cfg0.idle 8 (cfg0.grid.coords t) = true := by
    rw [idle8]
    have : ¬ k0_cond3 (grid0.coords t) = 1#1 := fun e => by have := (hcond3 t).mp e; omega
    simp [this]
  have e2 : (cfg0.win 8).flush t = false := by
    by_contra hc
    have := (flush0_8 t).mp (by simpa using hc)
    omega
  unfold post8
  rw [e1, e2]
theorem post8_odd (c : Dev nD) (t : Fin cfg0.N) (h : t.val % 2 = 1) :
    post8 m c t = owns (c : Thread nD τ) (ms8 t) fullShare ((dats m 0 c).after 8 t) := by
  have e1 : cfg0.idle 8 (cfg0.grid.coords t) = false := by
    rw [idle8]
    have : k0_cond3 (grid0.coords t) = 1#1 := (hcond3 t).mpr h
    simp [this]
  unfold post8
  rw [e1]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_9]
  rw [show (dats m 0 c).Φ t.succ = PhiS m c (t.val + 1) t.isLt from rfl, PhiS_succ, PhiS_castSucc m c t]
  by_cases h0 : t.val % 2 = 0
  · rw [post8_even m c t h0]
    refine (Laws.sep_mono_left (PhiS_any m c _ _)).trans ?_
    iintro ⟨⟨⟨⟨%Y0, HS0⟩, ⟨%Y1, HS1⟩, ⟨%Y2, HS2⟩, ⟨%D, %hD, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hb := bodyA (F := F) c Set.univ (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) scM3 (Memref.isWhole_whole _) ((hcond1 t).mpr h0) (fun e => by have := (hcond3 t).mp e; omega)
      (iblk m c 0 t) (iblk m c 1 t) (iblk m c 2 t) (iblk m c 3 t) (iblk m c 4 t) (iblk m c 5 t) (iblk m c 6 t) ((dats m 0 c).before 9 t d9) Y0 Y1 Y2 D
    rw [rowOf_eq m c t D hD] at hb
    rw [accA_even m c t h0]
    iapply (hb _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexact H9
    isplitl [HS0]; · iexact HS0
    isplitl [HS1]; · iexact HS1
    isplitl [HS2]; · iexact HS2
    isplitl [HS3]; · iexact HS3
    iintro ⟨H0, H1, H2, H3, H4, H5, H6, H9, HS0, HS1, HS2, HS3⟩
    isplitl [HS0 HS1 HS2 HS3 Hg]
    · isplitl [HS0 HS1 HS2 HS3]
      · isplitl [HS0]; · iexact HS0
        isplitl [HS1]; · iexact HS1
        isplitl [HS2]; · iexists _; iexact HS2
        iexists _; isplitr; · ipureintro; exact tailOut_ok m c t D hD
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexact H9
  · have h1 : t.val % 2 = 1 := by omega
    rw [post8_odd m c t h1, after0_8, PhiS_kept m c t h1, hnA_prev m c t h1]
    iintro ⟨⟨⟨HS0, HS1, ⟨%Y2, HS2⟩, ⟨%D, %hD, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hb := bodyB (F := F) c Set.univ (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) scM3 (Memref.isWhole_whole _) (fun e => h0 ((hcond1 t).mp e)) ((hcond3 t).mpr h1)
      (iblk m c 0 t) (iblk m c 2 t) (iblk m c 3 t) (iblk m c 4 t) (iblk m c 5 t) (iblk m c 6 t) (iblk m c 7 t) ((dats m 0 c).before 8 t d8) ((dats m 0 c).before 9 t d9) (hnA m c t) (accA m c (prev t)) Y2 D
    rw [rowOf_eq m c t D hD] at hb
    unfold outA
    rw [accA_odd m c t h1]
    iapply (hb _)
    isplitl [H0]; · iexact H0
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    iintro ⟨H0, H2, H3, H4, H5, H6, H7, H8, H9, HS0, HS1, HS2, HS3⟩
    isplitl [HS0 HS1 HS2 HS3 Hg]
    · isplitl [HS0 HS1 HS2 HS3]
      · isplitl [HS0]; · iexact HS0
        isplitl [HS1]; · iexact HS1
        isplitl [HS2]; · iexists _; iexact HS2
        iexists _; isplitr; · ipureintro; exact tailOut_ok m c t D hD
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl]
  exact Idealize.SL.BI.Entails.refl _

/-- After the last point the invariant gives the scratch back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  refine (PhiS_any m c _ _).trans ?_
  iintro ⟨⟨H0, H1, H2, ⟨%d, %hd, H3⟩⟩, Hg⟩
  isplitl [H0 H1 H2 H3]
  · isplitl [H0]; · iexact H0
    isplitl [H1]; · iexact H1
    isplitl [H2]; · iexact H2
    iexists d; iexact H3
  iexact Hg

-- the run's implicit arguments are found by unifying its conclusion with this one
set_option backward.isDefEq.respectTransparency.types false in
set_option maxHeartbeats 800000 in
/-- The launch: every fair execution of @main ends, the arrays at what the pipeline and the host lines after it leave, every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel14Ideal.Gen

end
-- ==== Proof.FfnLastValue.lean ====
/-
  What the feed-forward's kernel leaves in its two results, in plain mathematics.
-/
module

public import proofs.«01_k».proof.Proof.FfnSpec
public import proofs.«01_k».proof.Proof.FfnLastFrame
public import proofs.«01_k».proof.Proof.Gen.Kernel14Ideal.Frame
public import Idealize.ShloMosaic.Lib.Tactic.CleanTypes
public import Idealize.ShloMosaic.Lib.Pipeline.ReadBack

@[expose] public section

set_option maxRecDepth 16384

noncomputable section

namespace Cert.Kernel14Ideal.FfnLast

open Cert.Ffn Cert.Kernel14Ideal Cert.Kernel14Ideal.Gen Idealize.ShloMosaic Idealize.ShloMosaic.TcCoe Idealize.ShloMosaic.Tactic Idealize.SL.Sem
open Idealize.ShloMosaic.VecWindow

/-! ## The body's values, index by index -/

/-- A block's rows with the sum added. -/
abbrev added (x : Vec Ideal S1x512x1024 .f32) (a : Vec Ideal S512x1024 .f32) (r : Fin 512) (j : Fin 1024) : EReal := x (ix3 0 r j) + a (ix2 r j)

theorem pay1_apply (x : Vec Ideal S1x512x1024 .f32) (a : Vec Ideal S512x1024 .f32) (w : Vec Ideal S1x1024 .f32) (r : Fin 512) (j : Fin 1024) :
    k0_pay1 (F := Ideal) x a w (ix3 0 r j)
      = added x a r j * Ideal.rsqrt (Ideal.div (∑ l : Fin 1024, added x a r l * added x a r l) (Ideal.ofBits FTy.f32 1149239296#32)
          + Ideal.ofBits FTy.f32 897988541#32) * w (ix2 0 j) := by
  pointwise [k0_pay1]

theorem pay2_apply (x : Vec Ideal S1x512x1024 .f32) (g : Vec Ideal S1x1024 .f32) (r : Fin 512) (k : Fin 1024) :
    k0_pay2 (F := Ideal) x g (ix2 r k)
      = x (ix3 0 r k) * Ideal.rsqrt (Ideal.div (∑ l : Fin 1024, x (ix3 0 r l) * x (ix3 0 r l)) (Ideal.ofBits FTy.f32 1149239296#32)
          + Ideal.ofBits FTy.f32 897988541#32) * g (ix2 0 k) := by
  pointwise [k0_pay2]

theorem pay3_apply (r : Fin 512) (j : Fin 1024) : k0_pay3 (F := Ideal) (ix2 r j) = 0 := by
  pointwise [k0_pay3]

theorem pay4_apply (r : Fin 8) (f : Fin 1408) : k0_pay4 (F := Ideal) (ix3 0 r f) = 0 := by
  pointwise [k0_pay4]

theorem pay6_apply (v : Vec Ideal S1x8x1408 .f32) (r : Fin 8) (f : Fin 1408) : k0_pay6 (F := Ideal) v (ix2 r f) = v (ix3 0 r f) := by
  pointwise [k0_pay6]

theorem pay7_apply (hn : Vec Ideal S512x1024 .bf16) (w : Vec Ideal S1024x1408 .bf16) (r : Fin 512) (f : Fin 1408) :
    k0_pay7 (F := Ideal) hn w (ix2 r f) = ∑ k : Fin 1024, hn (ix2 r k) * w (ix2 k f) := by
  pointwise [k0_pay7]

theorem pay10_apply (v : Vec Ideal S8x1408 .f32) (r : Fin 8) (f : Fin 1408) : k0_pay10 (F := Ideal) v (ix3 0 r f) = v (ix2 r f) := by
  pointwise [k0_pay10]

theorem pay11_apply (v : Vec Ideal S2x1408 .f32) (r : Fin 2) (f : Fin 1408) : k0_pay11 (F := Ideal) v (ix4 0 0 r f) = v (ix2 r f) := by
  pointwise [k0_pay11]

theorem pay12_apply (hn : Vec Ideal S512x1024 .bf16) (wv : Vec Ideal S1024x1408 .bf16) (cw : Vec Ideal S3x1408 .f32) (cb : Vec Ideal S1x1408 .f32)
    (b6 b7 b8 : Vec Ideal S512x1408 .f32) (acc : Vec Ideal S512x1024 .f32) (wd : Vec Ideal S1408x1024 .bf16) (r : Fin 512) (j : Fin 1024) :
    k0_pay12 (F := Ideal) (k0_pay5 hn wv) cw (k0_pay8 cb) (k0_pay9 cw b6) b7 b8 acc wd (ix2 r j)
      = acc (ix2 r j) + ∑ f : Fin 1408,
          conv3 (cw (ix2 0 f)) (cw (ix2 1 f)) (cw (ix2 2 f)) (cb (ix2 0 f)) (b6 (ix2 r f)) (b7 (ix2 r f)) (b8 (ix2 r f))
            * Ideal.logistic (conv3 (cw (ix2 0 f)) (cw (ix2 1 f)) (cw (ix2 2 f)) (cb (ix2 0 f)) (b6 (ix2 r f)) (b7 (ix2 r f)) (b8 (ix2 r f)))
            * (∑ k : Fin 1024, hn (ix2 r k) * wv (ix2 k f)) * wd (ix2 f j) := by
  pointwise [k0_pay12, k0_pay5, k0_pay8, k0_pay9]

/-! ## The buffer of the gate's rows -/

/-- A window of rows, at an index. -/
theorem win_apply (buf : Vec Ideal S520x1408 .f32) (o n : ℕ) (inb : ∀ a : Fin 2, (![o, 0] : Fin 2 → ℕ) a + (![n, 1408] : Fin 2 → ℕ) a ≤ S520x1408.size a)
    (r : Fin n) (f : Fin 1408) (h : o + r.val < 520) :
    window (s := S520x1408) buf ![o, 0] ![n, 1408] inb (ix2 r f : (⟨2, ![n, 1408]⟩ : Shape).Idx) = buf (ix2 ⟨o + r.val, h⟩ f) := by
  refine congrArg buf (funext fun a => Fin.ext ?_)
  match a with
  | ⟨0, _⟩ => show o + 1 * r.val = o + r.val; omega
  | ⟨1, _⟩ => show 0 + 1 * f.val = f.val; omega

theorem bufOf_low (row : Vec Ideal S1x8x1408 .f32) (hn : Vec Ideal S512x1024 .bf16) (wg : Vec Ideal S1024x1408 .bf16) (r : Fin 8) (f : Fin 1408) :
    bufOf row hn wg (ix2 ⟨r.val, by omega⟩ f) = row (ix3 0 r f) := by
  unfold bufOf
  have h : ¬ ∀ a : Fin 2, (![8, 0] : Fin 2 → ℕ) a ≤ ((ix2 ⟨r.val, by omega⟩ f : S520x1408.Idx) a).val
      ∧ ((ix2 ⟨r.val, by omega⟩ f : S520x1408.Idx) a).val < (![8, 0] : Fin 2 → ℕ) a + S512x1408.size a := fun h => by
    have h0 : 8 ≤ r.val := (h 0).1
    omega
  have h' : ∀ a : Fin 2, (![0, 0] : Fin 2 → ℕ) a ≤ ((ix2 ⟨r.val, by omega⟩ f : S520x1408.Idx) a).val
      ∧ ((ix2 ⟨r.val, by omega⟩ f : S520x1408.Idx) a).val < (![0, 0] : Fin 2 → ℕ) a + S8x1408.size a := fun a => by
    match a with
    | 0 => exact ⟨Nat.zero_le _, by show r.val < 0 + 8; omega⟩
    | 1 => exact ⟨Nat.zero_le _, by show f.val < 0 + 1408; omega⟩
  refine (dif_neg h).trans ((dif_pos h').trans ?_)
  rw [← pay6_apply row r f]
  refine congrArg (k0_pay6 (F := Ideal) row) (funext fun a => Fin.ext ?_)
  match a with
  | 0 => rfl
  | 1 => rfl

theorem bufOf_high (row : Vec Ideal S1x8x1408 .f32) (hn : Vec Ideal S512x1024 .bf16) (wg : Vec Ideal S1024x1408 .bf16) (r : Fin 512) (f : Fin 1408) :
    bufOf row hn wg (ix2 ⟨8 + r.val, by omega⟩ f) = ∑ k : Fin 1024, hn (ix2 r k) * wg (ix2 k f) := by
  unfold bufOf
  have h' : ∀ a : Fin 2, (![8, 0] : Fin 2 → ℕ) a ≤ ((ix2 ⟨8 + r.val, by omega⟩ f : S520x1408.Idx) a).val
      ∧ ((ix2 ⟨8 + r.val, by omega⟩ f : S520x1408.Idx) a).val < (![8, 0] : Fin 2 → ℕ) a + S512x1408.size a := fun a => by
    match a with
    | 0 => exact ⟨by show 8 ≤ 8 + r.val; omega, by show 8 + r.val < 8 + 512; omega⟩
    | 1 => exact ⟨Nat.zero_le _, by show f.val < 0 + 1408; omega⟩
  refine (dif_pos h').trans ?_
  rw [← pay7_apply hn wg r f]
  refine congrArg (k0_pay7 (F := Ideal) hn wg) (funext fun a => Fin.ext ?_)
  match a with
  | 0 => show 8 + r.val - 8 = r.val; omega
  | 1 => rfl

theorem accOf_apply (buf : Vec Ideal S520x1408 .f32) (hn : Vec Ideal S512x1024 .bf16) (wv : Vec Ideal S1024x1408 .bf16) (cw : Vec Ideal S3x1408 .f32)
    (cb : Vec Ideal S1x1408 .f32) (wd : Vec Ideal S1408x1024 .bf16) (acc : Vec Ideal S512x1024 .f32) (r : Fin 512) (j : Fin 1024) :
    accOf buf hn wv cw cb wd acc (ix2 r j)
      = acc (ix2 r j) + ∑ f : Fin 1408,
          conv3 (cw (ix2 0 f)) (cw (ix2 1 f)) (cw (ix2 2 f)) (cb (ix2 0 f)) (buf (ix2 ⟨6 + r.val, by omega⟩ f)) (buf (ix2 ⟨7 + r.val, by omega⟩ f)) (buf (ix2 ⟨8 + r.val, by omega⟩ f))
            * Ideal.logistic (conv3 (cw (ix2 0 f)) (cw (ix2 1 f)) (cw (ix2 2 f)) (cb (ix2 0 f)) (buf (ix2 ⟨6 + r.val, by omega⟩ f)) (buf (ix2 ⟨7 + r.val, by omega⟩ f)) (buf (ix2 ⟨8 + r.val, by omega⟩ f)))
            * (∑ k : Fin 1024, hn (ix2 r k) * wv (ix2 k f)) * wd (ix2 f j) := by
  unfold accOf
  refine (pay12_apply _ _ _ _ _ _ _ _ _ r j).trans ?_
  have h6 : ∀ f : Fin 1408, window buf ![6, 0] S512x1408.size inb_S520x1408_S512x1408_6_0 (ix2 r f : S512x1408.Idx) = buf (ix2 ⟨6 + r.val, by omega⟩ f) :=
    fun f => win_apply buf 6 512 inb_S520x1408_S512x1408_6_0 r f _
  have h7 : ∀ f : Fin 1408, window buf ![7, 0] S512x1408.size inb_S520x1408_S512x1408_7_0 (ix2 r f : S512x1408.Idx) = buf (ix2 ⟨7 + r.val, by omega⟩ f) :=
    fun f => win_apply buf 7 512 inb_S520x1408_S512x1408_7_0 r f _
  have h8 : ∀ f : Fin 1408, window buf ![8, 0] S512x1408.size inb_S520x1408_S512x1408_8_0 (ix2 r f : S512x1408.Idx) = buf (ix2 ⟨8 + r.val, by omega⟩ f) :=
    fun f => win_apply buf 8 512 inb_S520x1408_S512x1408_8_0 r f _
  refine congrArg (HAdd.hAdd (α := EReal) (β := EReal) (γ := EReal) _) (Finset.sum_congr rfl fun f _ => ?_)
  rw [← h6, ← h7, ← h8]

theorem foOf_apply (buf : Vec Ideal S520x1408 .f32) (r : Fin 2) (f : Fin 1408) : foOf buf (ix4 0 0 r f) = buf (ix2 ⟨518 + r.val, by omega⟩ f) := by
  unfold foOf
  exact (pay11_apply _ r f).trans (win_apply buf 518 2 inb_S520x1408_S2x1408_518_0 r f _)

/-! ## The windows' blocks -/

variable (m : (ℓ : Loc nD τ sig) → Buf (Elt Ideal) ℓ) (c : Dev nD)

abbrev X0 : Vec Ideal S16x2048x1024 .f32 := m ((c : Thread nD τ).loc main_arg0)
abbrev X1 : Vec Ideal S1024 .f32 := m ((c : Thread nD τ).loc main_arg1)
abbrev X2 : Vec Ideal S1024x5632 .f32 := m ((c : Thread nD τ).loc main_arg2)
abbrev X3 : Vec Ideal S2816x1024 .f32 := m ((c : Thread nD τ).loc main_arg3)
abbrev X4 : Vec Ideal S3x2816 .f32 := m ((c : Thread nD τ).loc main_arg4)
abbrev X5 : Vec Ideal S2816 .f32 := m ((c : Thread nD τ).loc main_arg5)
abbrev X6 : Vec Ideal S1024 .f32 := m ((c : Thread nD τ).loc main_arg6)

theorem lt128 (t : Fin grid0.N) : t.val < 128 := lt_of_lt_of_eq t.isLt N_0

/-- The sequence of point `t`, -/
abbrev tb (t : Fin grid0.N) : Fin 16 := ⟨t.val / 8, by have := lt128 t; omega⟩
/-- the row of that sequence that row `r` of its blocks is, -/
abbrev ts (t : Fin grid0.N) (r : Fin 512) : Fin 2048 := ⟨512 * (t.val / 2 % 4) + r.val, by omega⟩
/-- and the lane that lane `f` of its half is. -/
abbrev tf (t : Fin grid0.N) (f : Fin 1408) : Fin 2816 := ⟨1408 * (t.val % 2) + f.val, by omega⟩

/-- What the region finds, of the host's lines. -/
theorem V_eq (b : Ref sig .tc) : V m c b = StableHlo.after hostOps0 (fun b => m (c, b)) b := by
  show StableHlo.after (List.flatten [hostOps0]) (fun b => m (c, b)) (Proc.devRef .tc b) = _
  rw [List.flatten_cons, List.flatten_nil, List.append_nil]

theorem V0_apply (k : Fin 1024) (j : Fin 5632) : (V m c main_v0 : Vec Ideal S1024x5632 .bf16) (ix2 k j) = X2 m c (ix2 k j) := by
  rw [V_eq]
  entry_read
  pointwise

theorem V1_apply (k : Fin 2816) (j : Fin 1024) : (V m c main_v1 : Vec Ideal S2816x1024 .bf16) (ix2 k j) = X3 m c (ix2 k j) := by
  rw [V_eq]
  entry_read
  pointwise

theorem V2_apply (k : Fin 1024) : (V m c main_v2 : Vec Ideal S1x1024 .f32) (ix2 0 k) = X1 m c (ix1 k) := by
  rw [V_eq]
  entry_read
  pointwise

theorem V3_apply (k : Fin 2816) : (V m c main_v3 : Vec Ideal S1x2816 .f32) (ix2 0 k) = X5 m c (ix1 k) := by
  rw [V_eq]
  entry_read
  pointwise

theorem V4_apply (k : Fin 1024) : (V m c main_v4 : Vec Ideal S1x1024 .f32) (ix2 0 k) = X6 m c (ix1 k) := by
  rw [V_eq]
  entry_read
  pointwise

theorem e0 : ∀ t : Fin grid0.N, win0_0.index t = ![t.val / 8, t.val / 2 % 4, 0] := by decide +kernel
theorem e1 : ∀ t : Fin grid0.N, win0_1.index t = ![0, 0] := by decide +kernel
theorem e2 : ∀ t : Fin grid0.N, win0_2.index t = ![0, t.val % 2] := by decide +kernel
theorem e3 : ∀ t : Fin grid0.N, win0_3.index t = ![0, 2 + t.val % 2] := by decide +kernel
theorem e4 : ∀ t : Fin grid0.N, win0_4.index t = ![t.val % 2, 0] := by decide +kernel
theorem e5 : ∀ t : Fin grid0.N, win0_5.index t = ![0, t.val % 2] := by decide +kernel
theorem e6 : ∀ t : Fin grid0.N, win0_6.index t = ![0, t.val % 2] := by decide +kernel
theorem e7 : ∀ t : Fin grid0.N, win0_7.index t = ![0, 0] := by decide +kernel
theorem e8 : ∀ t : Fin grid0.N, win0_8.index t = ![t.val / 8, t.val / 2 % 4, 0] := by decide +kernel
theorem e9 : ∀ t : Fin grid0.N, win0_9.index t = ![t.val / 8, t.val / 2 % 4, 0, t.val % 2] := by decide +kernel

theorem b0 (t : Fin grid0.N) (r : Fin 512) (k : Fin 1024) : (iblk m c 0 t : Vec Ideal S1x512x1024 .f32) (ix3 0 r k) = X0 m c (ix3 (tb t) (ts t r) k) := by
  rw [show X0 m c = V m c main_arg0 from (V_main_arg0 m c).symm]
  blk_ext [iblk, e0 t]

theorem b1 (t : Fin grid0.N) (k : Fin 1024) : (iblk m c 1 t : Vec Ideal S1x1024 .f32) (ix2 0 k) = X1 m c (ix1 k) := by
  rw [← V2_apply]
  blk_ext [iblk, e1 t]

theorem b2 (t : Fin grid0.N) (k : Fin 1024) (f : Fin 1408) : (iblk m c 2 t : Vec Ideal S1024x1408 .bf16) (ix2 k f) = X2 m c (ix2 k ⟨(tf t f).val, by omega⟩) := by
  rw [← V0_apply]
  blk_ext [iblk, e2 t]

theorem b3 (t : Fin grid0.N) (k : Fin 1024) (f : Fin 1408) : (iblk m c 3 t : Vec Ideal S1024x1408 .bf16) (ix2 k f) = X2 m c (ix2 k ⟨2816 + (tf t f).val, by omega⟩) := by
  rw [← V0_apply]
  blk_ext [iblk, e3 t]

theorem b4 (t : Fin grid0.N) (f : Fin 1408) (j : Fin 1024) : (iblk m c 4 t : Vec Ideal S1408x1024 .bf16) (ix2 f j) = X3 m c (ix2 (tf t f) j) := by
  rw [← V1_apply]
  blk_ext [iblk, e4 t]

theorem b5 (t : Fin grid0.N) (i : Fin 3) (f : Fin 1408) : (iblk m c 5 t : Vec Ideal S3x1408 .f32) (ix2 i f) = X4 m c (ix2 i (tf t f)) := by
  rw [show X4 m c = V m c main_arg4 from (V_main_arg4 m c).symm]
  blk_ext [iblk, e5 t]

theorem b6 (t : Fin grid0.N) (f : Fin 1408) : (iblk m c 6 t : Vec Ideal S1x1408 .f32) (ix2 0 f) = X5 m c (ix1 (tf t f)) := by
  rw [← V3_apply]
  blk_ext [iblk, e6 t]

theorem b7 (t : Fin grid0.N) (k : Fin 1024) : (iblk m c 7 t : Vec Ideal S1x1024 .f32) (ix2 0 k) = X6 m c (ix1 k) := by
  rw [← V4_apply]
  blk_ext [iblk, e7 t]

/-! ## What a point computes -/

theorem hnA_apply (t : Fin grid0.N) (r : Fin 512) (k : Fin 1024) :
    (hnA m c t : Vec Ideal S512x1024 .bf16) (ix2 r k) = normed (X0 m c) (X1 m c) (tb t) (ts t r) k := by
  unfold hnA normed
  rw [pay2_apply]
  simp only [b0, b1]

theorem gate_apply (t : Fin grid0.N) (r : Fin 512) (f : Fin 1408) :
    (∑ k : Fin 1024, (hnA m c t : Vec Ideal S512x1024 .bf16) (ix2 r k) * (iblk m c 2 t : Vec Ideal S1024x1408 .bf16) (ix2 k f))
      = up (X0 m c) (X1 m c) (X2 m c) (tb t) (ts t r) ⟨(tf t f).val, by omega⟩ := by
  unfold up
  exact Finset.sum_congr rfl fun k _ => congrArg₂ (fun a b : EReal => a * b) (hnA_apply m c t r k) (b2 m c t k f)

theorem val_apply (t : Fin grid0.N) (r : Fin 512) (f : Fin 1408) :
    (∑ k : Fin 1024, (hnA m c t : Vec Ideal S512x1024 .bf16) (ix2 r k) * (iblk m c 3 t : Vec Ideal S1024x1408 .bf16) (ix2 k f))
      = up (X0 m c) (X1 m c) (X2 m c) (tb t) (ts t r) ⟨2816 + (tf t f).val, by omega⟩ := by
  unfold up
  exact Finset.sum_congr rfl fun k _ => congrArg₂ (fun a b : EReal => a * b) (hnA_apply m c t r k) (b3 m c t k f)

/-- The gate two rows before row `n`, where it is a row of the sequence. -/
theorem past_of (b : Fin 16) (n : ℕ) (f : Fin 2816) (s : Fin 2048) (h : n = s.val + 2) :
    past (X0 m c) (X1 m c) (X2 m c) b n f = up (X0 m c) (X1 m c) (X2 m c) b s ⟨f.val, by omega⟩ := by
  unfold past
  rw [dif_pos (by omega)]
  exact congrArg (fun z => up (X0 m c) (X1 m c) (X2 m c) b z _) (Fin.ext (by show n - 2 = s.val; omega))

/-- The buffer's rows from the sixth on are the gate's, from two rows before the tile's first. -/
theorem bufA_apply (t : Fin grid0.N) (r : ℕ) (hr : 6 + r < 520) (f : Fin 1408) :
    (bufA m c t : Vec Ideal S520x1408 .f32) (ix2 ⟨6 + r, hr⟩ f) = past (X0 m c) (X1 m c) (X2 m c) (tb t) (512 * (t.val / 2 % 4) + r) (tf t f) := by
  unfold bufA
  by_cases h : r < 2
  · refine (bufOf_low _ _ _ ⟨6 + r, by omega⟩ f).trans ?_
    unfold rowA
    by_cases h0 : t.val / 2 % 4 = 0
    · rw [if_pos h0, pay4_apply]
      unfold past
      rw [dif_neg (by omega)]
    · rw [if_neg h0]
      unfold lastA
      refine (pay10_apply _ _ f).trans ((win_apply _ 512 8 inb_S520x1408_S8x1408_512_0 ⟨6 + r, by omega⟩ f (by show 512 + (6 + r) < 520; omega)).trans ?_)
      have e : (⟨512 + (6 + r), by omega⟩ : Fin 520) = ⟨8 + (⟨510 + r, by omega⟩ : Fin 512).val, by show 8 + (510 + r) < 520; omega⟩ :=
        Fin.ext (by show 512 + (6 + r) = 8 + (510 + r); omega)
      refine (congrArg (fun z => bufOf (k0_pay4 (F := Ideal)) (hnA m c (prev2 t)) (iblk m c 2 (prev2 t)) (ix2 z f)) e).trans ?_
      refine (bufOf_high _ _ _ ⟨510 + r, by omega⟩ f).trans ((gate_apply m c (prev2 t) ⟨510 + r, by omega⟩ f).trans ?_)
      have hp : (prev2 t).val = t.val - 2 := rfl
      have eb : tb (prev2 t) = tb t := Fin.ext (by show (t.val - 2) / 8 = t.val / 8; omega)
      have ef : tf (prev2 t) f = tf t f := Fin.ext (by show 1408 * ((t.val - 2) % 2) + f.val = 1408 * (t.val % 2) + f.val; omega)
      rw [eb, ← ef]
      exact (past_of m c (tb t) _ (tf (prev2 t) f) (ts (prev2 t) ⟨510 + r, by omega⟩)
        (by show 512 * (t.val / 2 % 4) + r = 512 * ((t.val - 2) / 2 % 4) + (510 + r) + 2; omega)).symm
  · have e : (⟨6 + r, hr⟩ : Fin 520) = ⟨8 + (⟨r - 2, by omega⟩ : Fin 512).val, by show 8 + (r - 2) < 520; omega⟩ :=
      Fin.ext (by show 6 + r = 8 + (r - 2); omega)
    refine (congrArg (fun z => bufOf (rowA m c t) (hnA m c t) (iblk m c 2 t) (ix2 z f)) e).trans ?_
    refine (bufOf_high _ _ _ ⟨r - 2, by omega⟩ f).trans ((gate_apply m c t ⟨r - 2, by omega⟩ f).trans ?_)
    exact (past_of m c (tb t) _ (tf t f) (ts t ⟨r - 2, by omega⟩) (by show 512 * (t.val / 2 % 4) + r = 512 * (t.val / 2 % 4) + (r - 2) + 2; omega)).symm

/-- One lane's part of the second product. -/
abbrev term (b : Fin 16) (s : Fin 2048) (j : Fin 1024) (f : Fin 2816) : EReal :=
  act (X0 m c) (X1 m c) (X2 m c) (X4 m c) (X5 m c) b s f * X3 m c (ix2 f j)

theorem accF_apply (t : Fin grid0.N) (a : Vec Ideal S512x1024 .f32) (r : Fin 512) (j : Fin 1024) :
    (accF m c t a : Vec Ideal S512x1024 .f32) (ix2 r j) = a (ix2 r j) + ∑ f : Fin 1408, term m c (tb t) (ts t r) j (tf t f) := by
  unfold accF
  refine (accOf_apply _ _ _ _ _ _ _ r j).trans ?_
  refine congrArg (HAdd.hAdd (α := EReal) (β := EReal) (γ := EReal) _) (Finset.sum_congr rfl fun f _ => ?_)
  rw [val_apply, b4, b5, b5, b5, b6]
  have p0 := bufA_apply m c t r.val (by omega) f
  have p1 := bufA_apply m c t (1 + r.val) (by omega) f
  have p2 := bufA_apply m c t (2 + r.val) (by omega) f
  have q1 : (⟨6 + (1 + r.val), by omega⟩ : Fin 520) = ⟨7 + r.val, by omega⟩ := Fin.ext (by show 6 + (1 + r.val) = 7 + r.val; omega)
  have q2 : (⟨6 + (2 + r.val), by omega⟩ : Fin 520) = ⟨8 + r.val, by omega⟩ := Fin.ext (by show 6 + (2 + r.val) = 8 + r.val; omega)
  rw [q1] at p1
  rw [q2] at p2
  rw [p0, p1, p2, show 512 * (t.val / 2 % 4) + (1 + r.val) = 1 + (512 * (t.val / 2 % 4) + r.val) from by omega,
    show 512 * (t.val / 2 % 4) + (2 + r.val) = 2 + (512 * (t.val / 2 % 4) + r.val) from by omega]
  rfl

/-- The two halves of a sum over the whole width. -/
theorem halves (T : Fin 2816 → EReal) :
    (∑ f : Fin 1408, T ⟨f.val, by omega⟩) + ∑ f : Fin 1408, T ⟨1408 + f.val, by omega⟩ = ∑ f : Fin 2816, T f :=
  (Fin.sum_univ_add (a := 1408) (b := 1408) T).symm

/-- The rows and the sum at a tile's second half. -/
theorem sumA_apply (t : Fin grid0.N) (ht : t.val % 2 = 1) (r : Fin 512) (j : Fin 1024) :
    added (iblk m c 0 t) (accA m c t) r j
      = out (X0 m c) (X1 m c) (X2 m c) (X3 m c) (X4 m c) (X5 m c) (tb t) (ts t r) j := by
  unfold added
  rw [b0, accA_odd m c t ht, accF_apply, accA_even m c (prev t) (by show (t.val - 1) % 2 = 0; omega), accF_apply, pay3_apply, zero_add]
  unfold out
  refine congrArg (HAdd.hAdd (α := EReal) (β := EReal) (γ := EReal) _) ?_
  have eb : tb (prev t) = tb t := Fin.ext (by show (t.val - 1) / 8 = t.val / 8; omega)
  have es : ts (prev t) r = ts t r := Fin.ext (by show 512 * ((t.val - 1) / 2 % 4) + r.val = 512 * (t.val / 2 % 4) + r.val; omega)
  rw [eb, es, ← halves]
  refine congrArg₂ (fun a b : EReal => a + b) (Finset.sum_congr rfl fun f _ => ?_) (Finset.sum_congr rfl fun f _ => ?_)
  · exact congrArg (term m c (tb t) (ts t r) j) (Fin.ext (by show 1408 * ((t.val - 1) % 2) + f.val = f.val; omega))
  · exact congrArg (term m c (tb t) (ts t r) j) (Fin.ext (by show 1408 * (t.val % 2) + f.val = 1408 + f.val; omega))

/-- What a tile's second half leaves. -/
theorem outA_apply (t : Fin grid0.N) (ht : t.val % 2 = 1) (r : Fin 512) (j : Fin 1024) :
    (outA m c t : Vec Ideal S1x512x1024 .f32) (ix3 0 r j)
      = outNormed (X0 m c) (X1 m c) (X2 m c) (X3 m c) (X4 m c) (X5 m c) (X6 m c) (tb t) (ts t r) j := by
  unfold outA
  refine (pay1_apply _ _ _ r j).trans ?_
  unfold outNormed
  rw [b7]
  have h := fun j => sumA_apply m c t ht r j
  generalize added (iblk m c 0 t) (accA m c t) r = u at h ⊢
  simp only [h]

theorem foA_apply (t : Fin grid0.N) (i : Fin 2) (f : Fin 1408) :
    (foA m c t : Vec Ideal S1x1x2x1408 .f32) (ix4 0 0 i f)
      = up (X0 m c) (X1 m c) (X2 m c) (tb t) (ts t ⟨510 + i.val, by omega⟩) ⟨(tf t f).val, by omega⟩ := by
  unfold foA
  refine (foOf_apply _ i f).trans ?_
  have p := bufA_apply m c t (512 + i.val) (by omega) f
  have q : (⟨6 + (512 + i.val), by omega⟩ : Fin 520) = ⟨518 + i.val, by omega⟩ := Fin.ext (by show 6 + (512 + i.val) = 518 + i.val; omega)
  rw [q] at p
  rw [p]
  exact past_of m c (tb t) _ (tf t f) (ts t ⟨510 + i.val, by omega⟩)
    (by show 512 * (t.val / 2 % 4) + (512 + i.val) = 512 * (t.val / 2 % 4) + (510 + i.val) + 2; omega)

/-! ## The arrays the pipeline leaves -/

/-- The first result. -/
def G8 : S16x2048x1024.Idx → EReal := fun i => outNormed (X0 m c) (X1 m c) (X2 m c) (X3 m c) (X4 m c) (X5 m c) (X6 m c) (i 0) (i 1) (i 2)

theorem G8_apply (b : Fin 16) (s : Fin 2048) (j : Fin 1024) :
    G8 m c (ix3 b s j) = outNormed (X0 m c) (X1 m c) (X2 m c) (X3 m c) (X4 m c) (X5 m c) (X6 m c) b s j := rfl

/-- The gate's last two rows of every tile. -/
def G9 : S16x4x2x2816.Idx → EReal := fun i =>
  up (X0 m c) (X1 m c) (X2 m c) (i 0) ⟨512 * (i 1).val + (510 + (i 2).val), by have h1 : (i 1).val < 4 := (i 1).isLt; have h2 : (i 2).val < 2 := (i 2).isLt; omega⟩
    ⟨(i 3).val, by have h3 : (i 3).val < 2816 := (i 3).isLt; omega⟩

theorem G9_apply (b : Fin 16) (n : Fin 4) (i : Fin 2) (f : Fin 2816) :
    G9 m c (ix4 b n i f) = up (X0 m c) (X1 m c) (X2 m c) b ⟨512 * n.val + (510 + i.val), by omega⟩ ⟨f.val, by omega⟩ := rfl

/-- The first result's blocks are written at a tile's second half. -/
theorem odd_of_flush : ∀ t : Fin grid0.N, win0_8.flush t = true → t.val % 2 = 1 := by decide +kernel

theorem array8 : (dats (F := Ideal) m 0 c).arrAt 8 (cfgs 0).N = G8 m c := by
  refine (dats m 0 c).arrAt_eq_of_covers 8 _ (by decide +kernel) fun t hf y => ?_
  have ht : t.val % 2 = 1 := odd_of_flush t hf
  blk_simp
  rw [after0_8]
  have key : ∀ y : S1x512x1024.Idx, (outA m c t : Vec Ideal S1x512x1024 .f32) y = G8 m c ((win0_8.blk t).view.emb y) := fun y => by
    have hemb : ∀ (r : Fin 512) (e : Fin 1024), (ix3 (tb t) (ts t r) e : S16x2048x1024.Idx) = (win0_8.blk t).view.emb (ix3 0 r e : S1x512x1024.Idx) := fun r e => by
      blk_ext [e8 t]
    have hy0 : y = ix3 0 (y 1) (y 2) := by
      idx_vars y
      exact congrArg (fun z => ix3 z y1 y2) (Subsingleton.elim y0 0)
    generalize y 1 = r at hy0
    generalize y 2 = e at hy0
    subst hy0
    exact (outA_apply m c t ht r e).trans ((G8_apply m c _ _ _).symm.trans (congrArg (G8 m c) (hemb r e)))
  exact key _

theorem array9 : (dats (F := Ideal) m 0 c).arrAt 9 (cfgs 0).N = G9 m c := by
  refine (dats m 0 c).arrAt_eq_of_covers 9 _ (by decide +kernel) fun t hf y => ?_
  blk_simp
  rw [after0_9]
  have key : ∀ y : S1x1x2x1408.Idx, (foA m c t : Vec Ideal S1x1x2x1408 .f32) y = G9 m c ((win0_9.blk t).view.emb y) := fun y => by
    have hemb : ∀ (i : Fin 2) (f : Fin 1408), (ix4 (tb t) ⟨t.val / 2 % 4, by omega⟩ i (tf t f) : S16x4x2x2816.Idx)
        = (win0_9.blk t).view.emb (ix4 0 0 i f : S1x1x2x1408.Idx) := fun i f => by
      blk_ext [e9 t]
    have hy0 : y = ix4 0 0 (y 2) (y 3) := by
      idx_vars y
      exact congrArg₂ (fun z z' => ix4 z z' y2 y3) (Subsingleton.elim y0 0) (Subsingleton.elim y1 0)
    generalize y 2 = i at hy0
    generalize y 3 = f at hy0
    subst hy0
    exact (foA_apply m c t i f).trans ((G9_apply m c (tb t) ⟨t.val / 2 % 4, by omega⟩ i (tf t f)).symm.trans (congrArg (G9 m c) (hemb i f)))
  exact key _

/-- The last tile's rows, of the rows of every tile. -/
def lastT (u : Vec Ideal S16x4x2x2816 .f32) : Vec Ideal S16x2x2816 .f32 :=
  shapeCast S16x2x2816 (extractStridedSlice S16x1x2x2816 ![0, 3, 0, 0] u slices_S16x4x2x2816_S16x1x2x2816_0_3_0_0) shapeCasts_S16x1x2x2816_S16x2x2816

/-- The host's last lines, of whatever they find. -/
theorem tail_eq (W : Valuation τ sig (Elt Ideal)) :
    StableHlo.after (hostOps1 (F := Ideal)) W (Proc.devRef .tc main_v7)
      = lastT (W (Proc.devRef .tc main_v5_1)) := by
  simp only [hostOps1]
  after_results_simp
  rfl

/-- What they find in the second array. -/
theorem found9 : Pipeline.withArrays spec0 c (V0 m c) (fun w => (dats (F := Ideal) m 0 c).arrAt w cfg0.N) (Proc.devRef .tc main_v5_1) = G9 m c :=
  (Pipeline.withArrays_arr_shared spec0 c (V0 m c) (fun w => (dats (F := Ideal) m 0 c).arrAt w cfg0.N)
    (fun w w' hne e => (dats (F := Ideal) m 0 c).arrAt_sharedIn sharedIn0 (V0 m c) (fun w => A_eq m c w) cfg0.N w w' hne e) 9).trans (array9 m c)

/-- The second result: the last tile's, after the host's lines. -/
theorem second :
    Pipeline.afterTail₀ cfgs (dats (F := Ideal) m) 0 (V0 m) [hostOps1] c main_v7
      = lastT (G9 m c) := by
  rw [← found9 m c, ← tail_eq]
  unfold Pipeline.afterTail₀
  rw [List.flatten_cons, List.flatten_nil, List.append_nil]

theorem second_apply (b : Fin 16) (i : Fin 2) (f : Fin 2816) :
    lastT (G9 m c) (ix3 b i f)
      = last (X0 m c) (X1 m c) (X2 m c) b i f := by
  have h := G9_apply m c b 3 i f
  have e : ∀ u : Vec Ideal S16x4x2x2816 .f32, lastT u (ix3 b i f) = u (ix4 b 3 i f) := fun u => by
    unfold lastT
    pointwise
  refine (e _).trans (h.trans ?_)
  unfold last
  exact congrArg (fun z => up (X0 m c) (X1 m c) (X2 m c) b z _) (Fin.ext (by show 512 * 3 + (510 + i.val) = 2046 + i.val; omega))

end Cert.Kernel14Ideal.FfnLast

end
-- ==== Proof.FfnLastRef.lean ====
/-
  The reference of the last layer's feed-forward computes it and its norm.
-/
module

public import proofs.«01_k».proof.Proof.FfnSpec
public import proofs.«01_k».proof.Proof.InProj
public import proofs.«01_k».proof.Proof.Gen.Reference14Ideal.Run
public import Idealize.ShloMosaic.Lib.Tactic.CleanTypes

@[expose] public section

set_option maxRecDepth 16384

noncomputable section

namespace Cert.Reference14Ideal.FfnLast

open Cert.Ffn Cert.Reference14Ideal Cert.Reference14Ideal.Gen Idealize.ShloMosaic Idealize.ShloMosaic.TcCoe Idealize.ShloMosaic.Tactic Idealize.SL.Sem

variable (x : FVec Ideal S16x2048x1024 .f32) (g : FVec Ideal S1024 .f32) (w : FVec Ideal S1024x5632 .f32) (d : FVec Ideal S2816x1024 .f32)
  (cw : FVec Ideal S3x2816 .f32) (cb : FVec Ideal S2816 .f32)

/-- The product with the first weights. -/
def prod : FVec Ideal S16x2048x5632 .f32 :=
  Host.dotGeneral dot_S16x2048x1024_S1024x5632_S16x2048x5632_2_0_01_1_n_n none (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) w

theorem prod_apply (b : Fin 16) (s : Fin 2048) (j : Fin 5632) : prod x g w (ix3 b s j) = up x g w b s j := by
  unfold prod
  pointwise
  rfl

/-- The gate after two rows of zeroes. -/
def padded (u : FVec Ideal S16x2048x5632 .f32) : FVec Ideal S16x2050x2816 .f32 :=
  concatenate S16x2050x2816 1 [⟨S16x2x2816, (broadcastInDim S16x2x2816 ![] bcast_S_S16x2x2816 (constant S_ .f32 0x00000000#32))⟩, ⟨S16x2048x2816, (extractStridedSlice S16x2048x2816 ![0, 0, 0] u slices_S16x2048x5632_S16x2048x2816_0_0_0)⟩] concatenates_S16x2x2816_S16x2048x2816_S16x2050x2816_d1

theorem padded_apply (b : Fin 16) (n : Fin 2050) (f : Fin 2816) : padded (prod x g w) (ix3 b n f) = past x g w b n.val f := by
  have hp := prod_apply x g w
  generalize prod x g w = u at hp ⊢
  unfold padded
  pointwise
  unfold past
  by_cases h : n.val < 2
  · rw [dif_pos h, dif_neg (by omega)]
  · rw [dif_neg h, dif_pos ⟨by omega, n.isLt⟩]
    exact hp _ _ _

/-- The convolved gate. -/
def convT (p : FVec Ideal S16x2050x2816 .f32) : FVec Ideal S16x2048x2816 .f32 :=
  addf (addf (addf (broadcastInDim S16x2048x2816 ![0, 1, 2] bcast_S1x1x2816_S16x2048x2816_0_1_2 (broadcastInDim S1x1x2816 ![2] bcast_S2816_S1x1x2816_2 cb)) (mulf (broadcastInDim S16x2048x2816 ![0, 1, 2] bcast_S1x1x2816_S16x2048x2816_0_1_2 (broadcastInDim S1x1x2816 ![2] bcast_S2816_S1x1x2816_2 (shapeCast _ (extractStridedSlice S1x2816 ![0, 0] cw slices_S3x2816_S1x2816_0_0) shapeCasts_S1x2816_S2816))) (extractStridedSlice S16x2048x2816 ![0, 0, 0] p slices_S16x2050x2816_S16x2048x2816_0_0_0)))
    (mulf (broadcastInDim S16x2048x2816 ![0, 1, 2] bcast_S1x1x2816_S16x2048x2816_0_1_2 (broadcastInDim S1x1x2816 ![2] bcast_S2816_S1x1x2816_2 (shapeCast _ (extractStridedSlice S1x2816 ![1, 0] cw slices_S3x2816_S1x2816_1_0) shapeCasts_S1x2816_S2816))) (extractStridedSlice S16x2048x2816 ![0, 1, 0] p slices_S16x2050x2816_S16x2048x2816_0_1_0)))
    (mulf (broadcastInDim S16x2048x2816 ![0, 1, 2] bcast_S1x1x2816_S16x2048x2816_0_1_2 (broadcastInDim S1x1x2816 ![2] bcast_S2816_S1x1x2816_2 (shapeCast _ (extractStridedSlice S1x2816 ![2, 0] cw slices_S3x2816_S1x2816_2_0) shapeCasts_S1x2816_S2816))) (extractStridedSlice S16x2048x2816 ![0, 2, 0] p slices_S16x2050x2816_S16x2048x2816_0_2_0))

theorem convT_apply (p : FVec Ideal S16x2050x2816 .f32) (b : Fin 16) (s : Fin 2048) (f : Fin 2816) :
    convT cw cb p (ix3 b s f) = conv3 (cw (ix2 0 f)) (cw (ix2 1 f)) (cw (ix2 2 f)) (cb (ix1 f)) (p (ix3 b ⟨s.val, by omega⟩ f)) (p (ix3 b ⟨1 + s.val, by omega⟩ f))
      (p (ix3 b ⟨2 + s.val, by omega⟩ f)) := by
  unfold convT
  pointwise

/-- The result, of the convolved gate and the product. -/
def outT (z : FVec Ideal S16x2048x2816 .f32) (u : FVec Ideal S16x2048x5632 .f32) : FVec Ideal S16x2048x1024 .f32 :=
  addf x (Host.dotGeneral dot_S16x2048x2816_S2816x1024_S16x2048x1024_2_0_01_1_n_n none (mulf (mulf z (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf z))))) (extractStridedSlice S16x2048x2816 ![0, 0, 2816] u slices_S16x2048x5632_S16x2048x2816_0_0_2816)) d)

theorem outT_apply (z : FVec Ideal S16x2048x2816 .f32) (u : FVec Ideal S16x2048x5632 .f32) (b : Fin 16) (s : Fin 2048) (j : Fin 1024) :
    outT x d z u (ix3 b s j) = x (ix3 b s j) + ∑ f : Fin 2816, z (ix3 b s f) * Ideal.logistic (z (ix3 b s f)) * u (ix3 b s ⟨2816 + f.val, by omega⟩) * d (ix2 f j) := by
  unfold outT
  pointwise
  rfl

/-- The first result. -/
theorem out_apply (b : Fin 16) (s : Fin 2048) (j : Fin 1024) :
    outT x d (convT cw cb (padded (prod x g w))) (prod x g w) (ix3 b s j) = out x g w d cw cb b s j := by
  refine (outT_apply x d _ _ b s j).trans ?_
  unfold out
  refine congrArg (fun z : EReal => x (ix3 b s j) + z) (Finset.sum_congr rfl fun f _ => congrArg (fun z : EReal => z * d (ix2 f j)) ?_)
  rw [convT_apply, prod_apply, padded_apply, padded_apply, padded_apply]
  rfl

/-- The norm of the rows `y`. -/
def normT (y : FVec Ideal S16x2048x1024 .f32) (fw : FVec Ideal S1024 .f32) : FVec Ideal S16x2048x1024 .f32 :=
  mulf (mulf y (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf y y) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 fw))

theorem normT_apply (y : FVec Ideal S16x2048x1024 .f32) (fw : FVec Ideal S1024 .f32) (b : Fin 16) (s : Fin 2048) (j : Fin 1024) :
    normT y fw (ix3 b s j) = y (ix3 b s j) * Ideal.rsqrt (Ideal.div (∑ l, y (ix3 b s l) * y (ix3 b s l)) (Ideal.ofBits FTy.f32 1149239296#32)
      + Ideal.ofBits FTy.f32 897988541#32) * fw (ix1 j) := by
  unfold normT
  pointwise

theorem outNormed_apply (fw : FVec Ideal S1024 .f32) (b : Fin 16) (s : Fin 2048) (j : Fin 1024) :
    normT (outT x d (convT cw cb (padded (prod x g w))) (prod x g w)) fw (ix3 b s j) = outNormed x g w d cw cb fw b s j := by
  refine (normT_apply _ fw b s j).trans ?_
  unfold outNormed
  simp only [out_apply]

theorem res_eq (m : (ℓ : Loc nD τ sig) → Buf (Elt Ideal) ℓ) (c : Dev nD) :
    Value.res_main_v58 m c = normT (outT (m ((c.tc : Thread nD τ).loc main_arg0)) (m ((c.tc : Thread nD τ).loc main_arg3))
      (convT (m ((c.tc : Thread nD τ).loc main_arg4)) (m ((c.tc : Thread nD τ).loc main_arg5))
        (padded (prod (m ((c.tc : Thread nD τ).loc main_arg0)) (m ((c.tc : Thread nD τ).loc main_arg1)) (m ((c.tc : Thread nD τ).loc main_arg2)))))
      (prod (m ((c.tc : Thread nD τ).loc main_arg0)) (m ((c.tc : Thread nD τ).loc main_arg1)) (m ((c.tc : Thread nD τ).loc main_arg2)))) (m ((c.tc : Thread nD τ).loc main_arg6)) := rfl

/-- The second result. -/
theorem last_apply (b : Fin 16) (i : Fin 2) (f : Fin 2816) :
    extractStridedSlice S16x2x2816 ![0, 2048, 0] (padded (prod x g w)) slices_S16x2050x2816_S16x2x2816_0_2048_0 (ix3 b i f)
      = last x g w b i f := by
  have e : extractStridedSlice S16x2x2816 ![0, 2048, 0] (padded (prod x g w)) slices_S16x2050x2816_S16x2x2816_0_2048_0 (ix3 b i f)
      = padded (prod x g w) (ix3 b ⟨2048 + i.val, by omega⟩ f) := by
    generalize padded (prod x g w) = u
    pointwise
  rw [e, padded_apply]
  unfold past last
  rw [dif_pos ⟨by show 2 ≤ 2048 + i.val; omega, by show 2048 + i.val < 2050; omega⟩]
  exact congrArg (fun z => up x g w b z _) (Fin.ext (by show 2048 + i.val - 2 = 2046 + i.val; omega))

end Cert.Reference14Ideal.FfnLast

end
-- ==== Proof.FfnLastEq.lean ====
/-
  The claims of the last layer's feed-forward: its frames, from the run at any float semantics (`FfnLastFrame`), and that the kernel's two
  results are the reference's.
-/
module

public import proofs.«01_k».proof.Defs
public import proofs.«01_k».proof.Proof.FfnLastValue
public import proofs.«01_k».proof.Proof.FfnLastRef
public import proofs.«01_k».proof.Proof.Gen.Kernel14.Frame
public import Idealize.ShloMosaic.Adequacy
public import Idealize.ShloMosaic.Init
public import Idealize.ShloMosaic.Lib.Quiescent

@[expose] public section

noncomputable section

namespace Cert.Proof

open Idealize.ShloMosaic Idealize.SL.Sem

theorem quiescent_Kernel14Ideal : Cert.quiescent_Kernel14Ideal := fun m ρ _ => Cert.Kernel14Ideal.Gen.frame (F := Ideal) m ρ

section
set_option maxRecDepth 100000
set_option maxHeartbeats 4000000
variable [Cert.Kernel14.Facts] [Cert.Kernel14Ideal.Facts]

/-- The printed body at the bits is the idealized one's. -/
theorem ffn_last_body_eq : ∀ i arg3 harg3 arg4 harg4 arg5 harg5 arg6 harg6 arg7 harg7 arg8 harg8 arg9 harg9 arg10 harg10 arg11 harg11 arg12 harg12 arg13 harg13 arg14 harg14 arg15 harg15 arg16 harg16, Cert.Kernel14Ideal.cc0_ffn (F := Bits) i arg3 harg3 arg4 harg4 arg5 harg5 arg6 harg6 arg7 harg7 arg8 harg8 arg9 harg9 arg10 harg10 arg11 harg11 arg12 harg12 arg13 harg13 arg14 harg14 arg15 harg15 arg16 harg16
    = Cert.Kernel14.cc0_ffn (F := Bits) i arg3 harg3 arg4 harg4 arg5 harg5 arg6 harg6 arg7 harg7 arg8 harg8 arg9 harg9 arg10 harg10 arg11 harg11 arg12 harg12 arg13 harg13 arg14 harg14 arg15 harg15 arg16 harg16 := fun i arg3 harg3 arg4 harg4 arg5 harg5 arg6 harg6 arg7 harg7 arg8 harg8 arg9 harg9 arg10 harg10 arg11 harg11 arg12 harg12 arg13 harg13 arg14 harg14 arg15 harg15 arg16 harg16 => rfl
theorem ffn_last_main_eq : Cert.Kernel14Ideal.main (F := Bits) = Cert.Kernel14.main (F := Bits) := by rfl
theorem ffn_last_defs0_eq : Cert.Kernel14Ideal.defs₀ (F := Bits) = Cert.Kernel14.defs₀ (F := Bits) := by
  unfold Cert.Kernel14Ideal.defs₀ Cert.Kernel14.defs₀
  refine congrArg (Defs.onTc (nD := Cert.Kernel14.nD) (τ := Cert.Kernel14.τ) (sig := Cert.Kernel14.sig) (Λ := Cert.Kernel14.Λ₀)) (funext fun l => ?_)
  match l with
  | 0 =>
    refine funext fun ⟨t, s⟩ => ?_
    exact ffn_last_body_eq _ _ _ _ _ _ _ _ _ _ _ _ _ _ _ _ _ _ _ _ _ _ _ _ _ _ _ _ _
theorem ffn_last_defs_eq : Cert.Kernel14Ideal.defs (F := Bits) = Cert.Kernel14.defs (F := Bits) := congrArg (Pipeline.defs Cert.Kernel14.pcfgs) ffn_last_defs0_eq

end

theorem quiescent_Kernel14 : Cert.quiescent_Kernel14 := fun m ρ _ => by
  rw [← ffn_last_defs_eq, ← ffn_last_main_eq]
  exact Cert.Kernel14Ideal.Gen.frame (F := Bits) m ρ

theorem quiescent_Reference14Ideal : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

theorem algebraic_Kernel14Ideal_Reference14Ideal : Cert.algebraic_Kernel14Ideal_Reference14Ideal := by
  intro m ρ m' ρ' _ hagree
  refine ⟨fun c => Cert.Kernel14Ideal.FfnLast.G8 m c, fun c => Cert.Kernel14Ideal.FfnLast.lastT (Cert.Kernel14Ideal.FfnLast.G9 m c), ?_, ?_⟩
  · refine (θ_run Cert.Kernel14Ideal.defs _ _).mono (fun r h c => ⟨?_, ?_, h.2.1 c⟩)
      (θ_run_and (Cert.Kernel14Ideal.Gen.run_main (F := Ideal) m ρ) (Cert.Kernel14Ideal.Gen.frame (F := Ideal) m ρ))
    · exact (h.1.out_eq c 8).trans (Cert.Kernel14Ideal.FfnLast.array8 m c)
    · exact ((h.1 c).2 Cert.Kernel14Ideal.main_v7 (Pipeline.mem_restRefs_of Cert.Kernel14Ideal.main_v7 (by decide) (by decide))).trans (Cert.Kernel14Ideal.FfnLast.second m c)
  · refine (θ_run Cert.Reference14Ideal.defs _ _).mono (fun _ h c => ⟨?_, ?_, (h c).2.2⟩) (Cert.Reference14Ideal.Value.run (F := Ideal) m' ρ')
    · obtain ⟨h0, h1, h2, h3, h4, h5, h6⟩ := hagree c
      refine (h c).1.trans ?_
      rw [Cert.Reference14Ideal.FfnLast.res_eq]
      funext i
      idx_vars i
      refine (Cert.Reference14Ideal.FfnLast.outNormed_apply _ _ _ _ _ _ _ _ _ _).trans ?_
      rw [h0, h1, h2, h3, h4, h5, h6]
      exact (Cert.Kernel14Ideal.FfnLast.G8_apply m c _ _ _).symm
    · obtain ⟨h0, h1, h2, h3, h4, h5, h6⟩ := hagree c
      refine (h c).2.1.trans ?_
      funext i
      idx_vars i
      refine (Cert.Reference14Ideal.FfnLast.last_apply _ _ _ _ _ _).trans ?_
      rw [h0, h1, h2]
      exact (Cert.Kernel14Ideal.FfnLast.second_apply m c _ _ _).symm

theorem preserves_Kernel14_Kernel14Ideal : Cert.preserves_Kernel14_Kernel14Ideal := trivial

end Cert.Proof

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.InProj
public import proofs.«01_k».proof.Proof.Attn
public import proofs.«01_k».proof.Proof.AttnEq
public import proofs.«01_k».proof.Proof.MergeEq
public import proofs.«01_k».proof.Proof.MemoryEq
public import proofs.«01_k».proof.Proof.CrossEq
public import proofs.«01_k».proof.Proof.FfnEq
public import proofs.«01_k».proof.Proof.KeysEq
public import proofs.«01_k».proof.Proof.ValuesEq
public import proofs.«01_k».proof.Proof.StepsEq
public import proofs.«01_k».proof.Proof.ConvStateEq
public import proofs.«01_k».proof.Proof.SampleKeysEq
public import proofs.«01_k».proof.Proof.SampleValuesEq
public import proofs.«01_k».proof.Proof.SampleConvStateEq
public import proofs.«01_k».proof.Proof.FfnLastEq

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2⟩ := hagree c
  refine (h c).1.trans ?_
  funext i
  idx_vars i
  refine (Cert.ReferenceIdeal.InProj.out_apply m' c _ _).trans ?_
  rw [h0, h1, h2]
  exact (Cert.KernelIdeal.InProj.G3_apply m c _ _).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts, facts_pre, facts_pre_query,
  fun m ρ _ => Cert.Kernel.Gen.frame m ρ, fun m ρ _ => Cert.KernelIdeal.Gen.frame m ρ, quiescent_ReferenceIdeal,
  quiescent_Kernel2, quiescent_Kernel2Ideal, quiescent_Kernel2Ideal_pre_finite , quiescent_Reference2Ideal,
  quiescent_Reference2Ideal_pre_finite ,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ,
  quiescent_Kernel5Ideal_pre_finite_query, quiescent_Reference5Ideal, quiescent_Reference5Ideal_pre_finite_query,
  quiescent_Kernel6, quiescent_Kernel6Ideal, quiescent_Reference6Ideal,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, quiescent_Reference8Ideal,
  fun m ρ _ => Cert.Kernel9.Gen.frame m ρ, fun m ρ _ => Cert.Kernel9Ideal.Gen.frame m ρ, quiescent_Reference9Ideal,
  fun m ρ _ => Cert.Kernel10.Gen.frame m ρ, fun m ρ _ => Cert.Kernel10Ideal.Gen.frame m ρ, quiescent_Reference10Ideal,
  fun m ρ _ => Cert.Kernel11.Gen.frame m ρ, fun m ρ _ => Cert.Kernel11Ideal.Gen.frame m ρ, quiescent_Reference11Ideal,
  fun m ρ _ => Cert.Kernel12.Gen.frame m ρ, fun m ρ _ => Cert.Kernel12Ideal.Gen.frame m ρ, quiescent_Reference12Ideal,
  fun m ρ _ => Cert.Kernel13.Gen.frame m ρ, fun m ρ _ => Cert.Kernel13Ideal.Gen.frame m ρ, quiescent_Reference13Ideal,
  quiescent_Kernel14, quiescent_Kernel14Ideal, quiescent_Reference14Ideal,
  (trivial : preserves_Kernel_KernelIdeal), algebraic_KernelIdeal_ReferenceIdeal,
  preserves_Kernel2_Kernel2Ideal, algebraic_Kernel2Ideal_Reference2Ideal_pre_finite,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal_pre_finite_query,
  preserves_Kernel6_Kernel6Ideal, algebraic_Kernel6Ideal_Reference6Ideal,
  (trivial : preserves_Kernel7_Kernel7Ideal), algebraic_Kernel7Ideal_Reference7Ideal,
  (trivial : preserves_Kernel8_Kernel8Ideal), algebraic_Kernel8Ideal_Reference8Ideal,
  (trivial : preserves_Kernel9_Kernel9Ideal), algebraic_Kernel9Ideal_Reference9Ideal,
  (trivial : preserves_Kernel10_Kernel10Ideal), algebraic_Kernel10Ideal_Reference10Ideal,
  (trivial : preserves_Kernel11_Kernel11Ideal), algebraic_Kernel11Ideal_Reference11Ideal,
  (trivial : preserves_Kernel12_Kernel12Ideal), algebraic_Kernel12Ideal_Reference12Ideal,
  (trivial : preserves_Kernel13_Kernel13Ideal), algebraic_Kernel13Ideal_Reference13Ideal,
  preserves_Kernel14_Kernel14Ideal, algebraic_Kernel14Ideal_Reference14Ideal⟩

end Cert.Proof

end
